-- ==== Defs.lean ====
def Pre_Kernel (m : (ℓ : Loc Cert.Kernel.nD Cert.Kernel.τ Cert.Kernel.sig) → Buf (Elt Bits) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Smlp (m : (ℓ : Loc Cert.Smlp.nD Cert.Smlp.τ Cert.Smlp.sig) → Buf (Elt Bits) ℓ) : Prop :=
  True

def Pre_SmlpIdeal (m : (ℓ : Loc Cert.SmlpIdeal.nD Cert.SmlpIdeal.τ Cert.SmlpIdeal.sig) → Buf (Elt Ideal) ℓ) : Prop :=
  True

def Pre_SmlpReferenceIdeal (m : (ℓ : Loc Cert.SmlpReferenceIdeal.nD Cert.SmlpReferenceIdeal.τ Cert.SmlpReferenceIdeal.sig) → Buf (Elt Ideal) ℓ) : Prop :=
  True

def Pre_Sin (m : (ℓ : Loc Cert.Sin.nD Cert.Sin.τ Cert.Sin.sig) → Buf (Elt Bits) ℓ) : Prop :=
  True

def Pre_SinIdeal (m : (ℓ : Loc Cert.SinIdeal.nD Cert.SinIdeal.τ Cert.SinIdeal.sig) → Buf (Elt Ideal) ℓ) : Prop :=
  True

def Pre_SinReferenceIdeal (m : (ℓ : Loc Cert.SinReferenceIdeal.nD Cert.SinReferenceIdeal.τ Cert.SinReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5))
      ∧ r.2.sem = fun _ => 0)

def quiescent_Smlp [hSmlp : Cert.Smlp.Facts] : Prop :=
  ∀ (m : (ℓ : Loc Cert.Smlp.nD Cert.Smlp.τ Cert.Smlp.sig) → Buf (Elt Bits) ℓ) (g : Dev Cert.Smlp.nD → PrngReg), Pre_Smlp m →
    θ_run (Cert.Smlp.defs (F := Bits)) (onTc (τ := Cert.Smlp.τ) (Cert.Smlp.main (F := Bits))) ⟨m, fun _ => 0, g⟩ (fun r => (∀ c : Dev Cert.Smlp.nD,
      r.2.mem ((c.tc : Thread Cert.Smlp.nD Cert.Smlp.τ).loc Cert.Smlp.main_arg0) = m ((c.tc : Thread Cert.Smlp.nD Cert.Smlp.τ).loc Cert.Smlp.main_arg0)
      ∧ r.2.mem ((c.tc : Thread Cert.Smlp.nD Cert.Smlp.τ).loc Cert.Smlp.main_arg1) = m ((c.tc : Thread Cert.Smlp.nD Cert.Smlp.τ).loc Cert.Smlp.main_arg1)
      ∧ r.2.mem ((c.tc : Thread Cert.Smlp.nD Cert.Smlp.τ).loc Cert.Smlp.main_arg2) = m ((c.tc : Thread Cert.Smlp.nD Cert.Smlp.τ).loc Cert.Smlp.main_arg2)
      ∧ r.2.mem ((c.tc : Thread Cert.Smlp.nD Cert.Smlp.τ).loc Cert.Smlp.main_arg3) = m ((c.tc : Thread Cert.Smlp.nD Cert.Smlp.τ).loc Cert.Smlp.main_arg3)
      ∧ r.2.mem ((c.tc : Thread Cert.Smlp.nD Cert.Smlp.τ).loc Cert.Smlp.main_arg4) = m ((c.tc : Thread Cert.Smlp.nD Cert.Smlp.τ).loc Cert.Smlp.main_arg4)
      ∧ r.2.mem ((c.tc : Thread Cert.Smlp.nD Cert.Smlp.τ).loc Cert.Smlp.main_arg5) = m ((c.tc : Thread Cert.Smlp.nD Cert.Smlp.τ).loc Cert.Smlp.main_arg5)
      ∧ r.2.mem ((c.tc : Thread Cert.Smlp.nD Cert.Smlp.τ).loc Cert.Smlp.main_arg6) = m ((c.tc : Thread Cert.Smlp.nD Cert.Smlp.τ).loc Cert.Smlp.main_arg6))
      ∧ r.2.sem = fun _ => 0)

def quiescent_SmlpIdeal [hSmlpIdeal : Cert.SmlpIdeal.Facts] : Prop :=
  ∀ (m : (ℓ : Loc Cert.SmlpIdeal.nD Cert.SmlpIdeal.τ Cert.SmlpIdeal.sig) → Buf (Elt Ideal) ℓ) (g : Dev Cert.SmlpIdeal.nD → PrngReg), Pre_SmlpIdeal m →
    θ_run (Cert.SmlpIdeal.defs (F := Ideal)) (onTc (τ := Cert.SmlpIdeal.τ) (Cert.SmlpIdeal.main (F := Ideal))) ⟨m, fun _ => 0, g⟩ (fun r => (∀ c : Dev Cert.SmlpIdeal.nD,
      r.2.mem ((c.tc : Thread Cert.SmlpIdeal.nD Cert.SmlpIdeal.τ).loc Cert.SmlpIdeal.main_arg0) = m ((c.tc : Thread Cert.SmlpIdeal.nD Cert.SmlpIdeal.τ).loc Cert.SmlpIdeal.main_arg0)
      ∧ r.2.mem ((c.tc : Thread Cert.SmlpIdeal.nD Cert.SmlpIdeal.τ).loc Cert.SmlpIdeal.main_arg1) = m ((c.tc : Thread Cert.SmlpIdeal.nD Cert.SmlpIdeal.τ).loc Cert.SmlpIdeal.main_arg1)
      ∧ r.2.mem ((c.tc : Thread Cert.SmlpIdeal.nD Cert.SmlpIdeal.τ).loc Cert.SmlpIdeal.main_arg2) = m ((c.tc : Thread Cert.SmlpIdeal.nD Cert.SmlpIdeal.τ).loc Cert.SmlpIdeal.main_arg2)
      ∧ r.2.mem ((c.tc : Thread Cert.SmlpIdeal.nD Cert.SmlpIdeal.τ).loc Cert.SmlpIdeal.main_arg3) = m ((c.tc : Thread Cert.SmlpIdeal.nD Cert.SmlpIdeal.τ).loc Cert.SmlpIdeal.main_arg3)
      ∧ r.2.mem ((c.tc : Thread Cert.SmlpIdeal.nD Cert.SmlpIdeal.τ).loc Cert.SmlpIdeal.main_arg4) = m ((c.tc : Thread Cert.SmlpIdeal.nD Cert.SmlpIdeal.τ).loc Cert.SmlpIdeal.main_arg4)
      ∧ r.2.mem ((c.tc : Thread Cert.SmlpIdeal.nD Cert.SmlpIdeal.τ).loc Cert.SmlpIdeal.main_arg5) = m ((c.tc : Thread Cert.SmlpIdeal.nD Cert.SmlpIdeal.τ).loc Cert.SmlpIdeal.main_arg5)
      ∧ r.2.mem ((c.tc : Thread Cert.SmlpIdeal.nD Cert.SmlpIdeal.τ).loc Cert.SmlpIdeal.main_arg6) = m ((c.tc : Thread Cert.SmlpIdeal.nD Cert.SmlpIdeal.τ).loc Cert.SmlpIdeal.main_arg6))
      ∧ r.2.sem = fun _ => 0)

def quiescent_SmlpReferenceIdeal [hSmlpReferenceIdeal : Cert.SmlpReferenceIdeal.Facts] : Prop :=
  ∀ (m : (ℓ : Loc Cert.SmlpReferenceIdeal.nD Cert.SmlpReferenceIdeal.τ Cert.SmlpReferenceIdeal.sig) → Buf (Elt Ideal) ℓ) (g : Dev Cert.SmlpReferenceIdeal.nD → PrngReg), Pre_SmlpReferenceIdeal m →
    θ_run (Cert.SmlpReferenceIdeal.defs (F := Ideal)) (onTc (τ := Cert.SmlpReferenceIdeal.τ) (Cert.SmlpReferenceIdeal.main (F := Ideal))) ⟨m, fun _ => 0, g⟩ (fun r => (∀ c : Dev Cert.SmlpReferenceIdeal.nD,
      r.2.mem ((c.tc : Thread Cert.SmlpReferenceIdeal.nD Cert.SmlpReferenceIdeal.τ).loc Cert.SmlpReferenceIdeal.main_arg0) = m ((c.tc : Thread Cert.SmlpReferenceIdeal.nD Cert.SmlpReferenceIdeal.τ).loc Cert.SmlpReferenceIdeal.main_arg0)
      ∧ r.2.mem ((c.tc : Thread Cert.SmlpReferenceIdeal.nD Cert.SmlpReferenceIdeal.τ).loc Cert.SmlpReferenceIdeal.main_arg1) = m ((c.tc : Thread Cert.SmlpReferenceIdeal.nD Cert.SmlpReferenceIdeal.τ).loc Cert.SmlpReferenceIdeal.main_arg1)
      ∧ r.2.mem ((c.tc : Thread Cert.SmlpReferenceIdeal.nD Cert.SmlpReferenceIdeal.τ).loc Cert.SmlpReferenceIdeal.main_arg2) = m ((c.tc : Thread Cert.SmlpReferenceIdeal.nD Cert.SmlpReferenceIdeal.τ).loc Cert.SmlpReferenceIdeal.main_arg2)
      ∧ r.2.mem ((c.tc : Thread Cert.SmlpReferenceIdeal.nD Cert.SmlpReferenceIdeal.τ).loc Cert.SmlpReferenceIdeal.main_arg3) = m ((c.tc : Thread Cert.SmlpReferenceIdeal.nD Cert.SmlpReferenceIdeal.τ).loc Cert.SmlpReferenceIdeal.main_arg3)
      ∧ r.2.mem ((c.tc : Thread Cert.SmlpReferenceIdeal.nD Cert.SmlpReferenceIdeal.τ).loc Cert.SmlpReferenceIdeal.main_arg4) = m ((c.tc : Thread Cert.SmlpReferenceIdeal.nD Cert.SmlpReferenceIdeal.τ).loc Cert.SmlpReferenceIdeal.main_arg4)
      ∧ r.2.mem ((c.tc : Thread Cert.SmlpReferenceIdeal.nD Cert.SmlpReferenceIdeal.τ).loc Cert.SmlpReferenceIdeal.main_arg5) = m ((c.tc : Thread Cert.SmlpReferenceIdeal.nD Cert.SmlpReferenceIdeal.τ).loc Cert.SmlpReferenceIdeal.main_arg5)
      ∧ r.2.mem ((c.tc : Thread Cert.SmlpReferenceIdeal.nD Cert.SmlpReferenceIdeal.τ).loc Cert.SmlpReferenceIdeal.main_arg6) = m ((c.tc : Thread Cert.SmlpReferenceIdeal.nD Cert.SmlpReferenceIdeal.τ).loc Cert.SmlpReferenceIdeal.main_arg6))
      ∧ r.2.sem = fun _ => 0)

def quiescent_Sin [hSin : Cert.Sin.Facts] : Prop :=
  ∀ (m : (ℓ : Loc Cert.Sin.nD Cert.Sin.τ Cert.Sin.sig) → Buf (Elt Bits) ℓ) (g : Dev Cert.Sin.nD → PrngReg), Pre_Sin m →
    θ_run (Cert.Sin.defs (F := Bits)) (onTc (τ := Cert.Sin.τ) (Cert.Sin.main (F := Bits))) ⟨m, fun _ => 0, g⟩ (fun r => (∀ c : Dev Cert.Sin.nD,
      r.2.mem ((c.tc : Thread Cert.Sin.nD Cert.Sin.τ).loc Cert.Sin.main_arg0) = m ((c.tc : Thread Cert.Sin.nD Cert.Sin.τ).loc Cert.Sin.main_arg0)
      ∧ r.2.mem ((c.tc : Thread Cert.Sin.nD Cert.Sin.τ).loc Cert.Sin.main_arg1) = m ((c.tc : Thread Cert.Sin.nD Cert.Sin.τ).loc Cert.Sin.main_arg1)
      ∧ r.2.mem ((c.tc : Thread Cert.Sin.nD Cert.Sin.τ).loc Cert.Sin.main_arg2) = m ((c.tc : Thread Cert.Sin.nD Cert.Sin.τ).loc Cert.Sin.main_arg2)
      ∧ r.2.mem ((c.tc : Thread Cert.Sin.nD Cert.Sin.τ).loc Cert.Sin.main_arg3) = m ((c.tc : Thread Cert.Sin.nD Cert.Sin.τ).loc Cert.Sin.main_arg3)
      ∧ r.2.mem ((c.tc : Thread Cert.Sin.nD Cert.Sin.τ).loc Cert.Sin.main_arg4) = m ((c.tc : Thread Cert.Sin.nD Cert.Sin.τ).loc Cert.Sin.main_arg4))
      ∧ r.2.sem = fun _ => 0)

def quiescent_SinIdeal [hSinIdeal : Cert.SinIdeal.Facts] : Prop :=
  ∀ (m : (ℓ : Loc Cert.SinIdeal.nD Cert.SinIdeal.τ Cert.SinIdeal.sig) → Buf (Elt Ideal) ℓ) (g : Dev Cert.SinIdeal.nD → PrngReg), Pre_SinIdeal m →
    θ_run (Cert.SinIdeal.defs (F := Ideal)) (onTc (τ := Cert.SinIdeal.τ) (Cert.SinIdeal.main (F := Ideal))) ⟨m, fun _ => 0, g⟩ (fun r => (∀ c : Dev Cert.SinIdeal.nD,
      r.2.mem ((c.tc : Thread Cert.SinIdeal.nD Cert.SinIdeal.τ).loc Cert.SinIdeal.main_arg0) = m ((c.tc : Thread Cert.SinIdeal.nD Cert.SinIdeal.τ).loc Cert.SinIdeal.main_arg0)
      ∧ r.2.mem ((c.tc : Thread Cert.SinIdeal.nD Cert.SinIdeal.τ).loc Cert.SinIdeal.main_arg1) = m ((c.tc : Thread Cert.SinIdeal.nD Cert.SinIdeal.τ).loc Cert.SinIdeal.main_arg1)
      ∧ r.2.mem ((c.tc : Thread Cert.SinIdeal.nD Cert.SinIdeal.τ).loc Cert.SinIdeal.main_arg2) = m ((c.tc : Thread Cert.SinIdeal.nD Cert.SinIdeal.τ).loc Cert.SinIdeal.main_arg2)
      ∧ r.2.mem ((c.tc : Thread Cert.SinIdeal.nD Cert.SinIdeal.τ).loc Cert.SinIdeal.main_arg3) = m ((c.tc : Thread Cert.SinIdeal.nD Cert.SinIdeal.τ).loc Cert.SinIdeal.main_arg3)
      ∧ r.2.mem ((c.tc : Thread Cert.SinIdeal.nD Cert.SinIdeal.τ).loc Cert.SinIdeal.main_arg4) = m ((c.tc : Thread Cert.SinIdeal.nD Cert.SinIdeal.τ).loc Cert.SinIdeal.main_arg4))
      ∧ r.2.sem = fun _ => 0)

def quiescent_SinReferenceIdeal [hSinReferenceIdeal : Cert.SinReferenceIdeal.Facts] : Prop :=
  ∀ (m : (ℓ : Loc Cert.SinReferenceIdeal.nD Cert.SinReferenceIdeal.τ Cert.SinReferenceIdeal.sig) → Buf (Elt Ideal) ℓ) (g : Dev Cert.SinReferenceIdeal.nD → PrngReg), Pre_SinReferenceIdeal m →
    θ_run (Cert.SinReferenceIdeal.defs (F := Ideal)) (onTc (τ := Cert.SinReferenceIdeal.τ) (Cert.SinReferenceIdeal.main (F := Ideal))) ⟨m, fun _ => 0, g⟩ (fun r => (∀ c : Dev Cert.SinReferenceIdeal.nD,
      r.2.mem ((c.tc : Thread Cert.SinReferenceIdeal.nD Cert.SinReferenceIdeal.τ).loc Cert.SinReferenceIdeal.main_arg0) = m ((c.tc : Thread Cert.SinReferenceIdeal.nD Cert.SinReferenceIdeal.τ).loc Cert.SinReferenceIdeal.main_arg0)
      ∧ r.2.mem ((c.tc : Thread Cert.SinReferenceIdeal.nD Cert.SinReferenceIdeal.τ).loc Cert.SinReferenceIdeal.main_arg1) = m ((c.tc : Thread Cert.SinReferenceIdeal.nD Cert.SinReferenceIdeal.τ).loc Cert.SinReferenceIdeal.main_arg1)
      ∧ r.2.mem ((c.tc : Thread Cert.SinReferenceIdeal.nD Cert.SinReferenceIdeal.τ).loc Cert.SinReferenceIdeal.main_arg2) = m ((c.tc : Thread Cert.SinReferenceIdeal.nD Cert.SinReferenceIdeal.τ).loc Cert.SinReferenceIdeal.main_arg2)
      ∧ r.2.mem ((c.tc : Thread Cert.SinReferenceIdeal.nD Cert.SinReferenceIdeal.τ).loc Cert.SinReferenceIdeal.main_arg3) = m ((c.tc : Thread Cert.SinReferenceIdeal.nD Cert.SinReferenceIdeal.τ).loc Cert.SinReferenceIdeal.main_arg3)
      ∧ r.2.mem ((c.tc : Thread Cert.SinReferenceIdeal.nD Cert.SinReferenceIdeal.τ).loc Cert.SinReferenceIdeal.main_arg4) = m ((c.tc : Thread Cert.SinReferenceIdeal.nD Cert.SinReferenceIdeal.τ).loc Cert.SinReferenceIdeal.main_arg4))
      ∧ r.2.sem = fun _ => 0)

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v10)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v20) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v34_0)) (v1 : (c : Dev Cert.InprojIdeal.nD) → Buf (Elt Ideal) ((c.tc : Thread Cert.InprojIdeal.nD Cert.InprojIdeal.τ).loc Cert.InprojIdeal.main_v34_1)) (v2 : (c : Dev Cert.InprojIdeal.nD) → Buf (Elt Ideal) ((c.tc : Thread Cert.InprojIdeal.nD Cert.InprojIdeal.τ).loc Cert.InprojIdeal.main_v34_2)) (v3 : (c : Dev Cert.InprojIdeal.nD) → Buf (Elt Ideal) ((c.tc : Thread Cert.InprojIdeal.nD Cert.InprojIdeal.τ).loc Cert.InprojIdeal.main_v34_3)) (v4 : (c : Dev Cert.InprojIdeal.nD) → Buf (Elt Ideal) ((c.tc : Thread Cert.InprojIdeal.nD Cert.InprojIdeal.τ).loc Cert.InprojIdeal.main_v34_4)) (v5 : (c : Dev Cert.InprojIdeal.nD) → Buf (Elt Ideal) ((c.tc : Thread Cert.InprojIdeal.nD Cert.InprojIdeal.τ).loc Cert.InprojIdeal.main_v34_5)) (v6 : (c : Dev Cert.InprojIdeal.nD) → Buf (Elt Ideal) ((c.tc : Thread Cert.InprojIdeal.nD Cert.InprojIdeal.τ).loc Cert.InprojIdeal.main_v34_6)) (v7 : (c : Dev Cert.InprojIdeal.nD) → Buf (Elt Ideal) ((c.tc : Thread Cert.InprojIdeal.nD Cert.InprojIdeal.τ).loc Cert.InprojIdeal.main_v34_7)) (v8 : (c : Dev Cert.InprojIdeal.nD) → Buf (Elt Ideal) ((c.tc : Thread Cert.InprojIdeal.nD Cert.InprojIdeal.τ).loc Cert.InprojIdeal.main_v34_8)) (v9 : (c : Dev Cert.InprojIdeal.nD) → Buf (Elt Ideal) ((c.tc : Thread Cert.InprojIdeal.nD Cert.InprojIdeal.τ).loc Cert.InprojIdeal.main_v34_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v34_0) = v0 c
          ∧ r.2.mem ((c.tc : Thread Cert.InprojIdeal.nD Cert.InprojIdeal.τ).loc Cert.InprojIdeal.main_v34_1) = v1 c
          ∧ r.2.mem ((c.tc : Thread Cert.InprojIdeal.nD Cert.InprojIdeal.τ).loc Cert.InprojIdeal.main_v34_2) = v2 c
          ∧ r.2.mem ((c.tc : Thread Cert.InprojIdeal.nD Cert.InprojIdeal.τ).loc Cert.InprojIdeal.main_v34_3) = v3 c
          ∧ r.2.mem ((c.tc : Thread Cert.InprojIdeal.nD Cert.InprojIdeal.τ).loc Cert.InprojIdeal.main_v34_4) = v4 c
          ∧ r.2.mem ((c.tc : Thread Cert.InprojIdeal.nD Cert.InprojIdeal.τ).loc Cert.InprojIdeal.main_v34_5) = v5 c
          ∧ r.2.mem ((c.tc : Thread Cert.InprojIdeal.nD Cert.InprojIdeal.τ).loc Cert.InprojIdeal.main_v34_6) = v6 c
          ∧ r.2.mem ((c.tc : Thread Cert.InprojIdeal.nD Cert.InprojIdeal.τ).loc Cert.InprojIdeal.main_v34_7) = v7 c
          ∧ r.2.mem ((c.tc : Thread Cert.InprojIdeal.nD Cert.InprojIdeal.τ).loc Cert.InprojIdeal.main_v34_8) = v8 c
          ∧ r.2.mem ((c.tc : Thread Cert.InprojIdeal.nD Cert.InprojIdeal.τ).loc Cert.InprojIdeal.main_v34_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v70) = v0 c
          ∧ r.2.mem ((c.tc : Thread Cert.InprojReferenceIdeal.nD Cert.InprojReferenceIdeal.τ).loc Cert.InprojReferenceIdeal.main_v71) = v1 c
          ∧ r.2.mem ((c.tc : Thread Cert.InprojReferenceIdeal.nD Cert.InprojReferenceIdeal.τ).loc Cert.InprojReferenceIdeal.main_v69) = v2 c
          ∧ r.2.mem ((c.tc : Thread Cert.InprojReferenceIdeal.nD Cert.InprojReferenceIdeal.τ).loc Cert.InprojReferenceIdeal.main_v75) = v3 c
          ∧ r.2.mem ((c.tc : Thread Cert.InprojReferenceIdeal.nD Cert.InprojReferenceIdeal.τ).loc Cert.InprojReferenceIdeal.main_v77) = v4 c
          ∧ r.2.mem ((c.tc : Thread Cert.InprojReferenceIdeal.nD Cert.InprojReferenceIdeal.τ).loc Cert.InprojReferenceIdeal.main_v79) = v5 c
          ∧ r.2.mem ((c.tc : Thread Cert.InprojReferenceIdeal.nD Cert.InprojReferenceIdeal.τ).loc Cert.InprojReferenceIdeal.main_v80) = v6 c
          ∧ r.2.mem ((c.tc : Thread Cert.InprojReferenceIdeal.nD Cert.InprojReferenceIdeal.τ).loc Cert.InprojReferenceIdeal.main_v82) = v7 c
          ∧ r.2.mem ((c.tc : Thread Cert.InprojReferenceIdeal.nD Cert.InprojReferenceIdeal.τ).loc Cert.InprojReferenceIdeal.main_v84) = v8 c
          ∧ r.2.mem ((c.tc : Thread Cert.InprojReferenceIdeal.nD Cert.InprojReferenceIdeal.τ).loc Cert.InprojReferenceIdeal.main_v86) = v9 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5))

def preserves_Smlp_SmlpIdeal : Prop :=
  True

def algebraic_SmlpIdeal_SmlpReferenceIdeal [hSmlpIdeal : Cert.SmlpIdeal.Facts] [hSmlpReferenceIdeal : Cert.SmlpReferenceIdeal.Facts] : Prop :=
  ∀ (m : (ℓ : Loc Cert.SmlpIdeal.nD Cert.SmlpIdeal.τ Cert.SmlpIdeal.sig) → Buf (Elt Ideal) ℓ) (g : Dev Cert.SmlpIdeal.nD → PrngReg)
    (m' : (ℓ : Loc Cert.SmlpReferenceIdeal.nD Cert.SmlpReferenceIdeal.τ Cert.SmlpReferenceIdeal.sig) → Buf (Elt Ideal) ℓ) (g' : Dev Cert.SmlpReferenceIdeal.nD → PrngReg), Pre_SmlpIdeal m →
    (∀ c : Dev Cert.SmlpIdeal.nD,
      m' ((c.tc : Thread Cert.SmlpReferenceIdeal.nD Cert.SmlpReferenceIdeal.τ).loc Cert.SmlpReferenceIdeal.main_arg0) = m ((c.tc : Thread Cert.SmlpIdeal.nD Cert.SmlpIdeal.τ).loc Cert.SmlpIdeal.main_arg0)
      ∧ m' ((c.tc : Thread Cert.SmlpReferenceIdeal.nD Cert.SmlpReferenceIdeal.τ).loc Cert.SmlpReferenceIdeal.main_arg1) = m ((c.tc : Thread Cert.SmlpIdeal.nD Cert.SmlpIdeal.τ).loc Cert.SmlpIdeal.main_arg1)
      ∧ m' ((c.tc : Thread Cert.SmlpReferenceIdeal.nD Cert.SmlpReferenceIdeal.τ).loc Cert.SmlpReferenceIdeal.main_arg2) = m ((c.tc : Thread Cert.SmlpIdeal.nD Cert.SmlpIdeal.τ).loc Cert.SmlpIdeal.main_arg2)
      ∧ m' ((c.tc : Thread Cert.SmlpReferenceIdeal.nD Cert.SmlpReferenceIdeal.τ).loc Cert.SmlpReferenceIdeal.main_arg3) = m ((c.tc : Thread Cert.SmlpIdeal.nD Cert.SmlpIdeal.τ).loc Cert.SmlpIdeal.main_arg3)
      ∧ m' ((c.tc : Thread Cert.SmlpReferenceIdeal.nD Cert.SmlpReferenceIdeal.τ).loc Cert.SmlpReferenceIdeal.main_arg4) = m ((c.tc : Thread Cert.SmlpIdeal.nD Cert.SmlpIdeal.τ).loc Cert.SmlpIdeal.main_arg4)
      ∧ m' ((c.tc : Thread Cert.SmlpReferenceIdeal.nD Cert.SmlpReferenceIdeal.τ).loc Cert.SmlpReferenceIdeal.main_arg5) = m ((c.tc : Thread Cert.SmlpIdeal.nD Cert.SmlpIdeal.τ).loc Cert.SmlpIdeal.main_arg5)
      ∧ m' ((c.tc : Thread Cert.SmlpReferenceIdeal.nD Cert.SmlpReferenceIdeal.τ).loc Cert.SmlpReferenceIdeal.main_arg6) = m ((c.tc : Thread Cert.SmlpIdeal.nD Cert.SmlpIdeal.τ).loc Cert.SmlpIdeal.main_arg6)) →
    ∃ (v0 : (c : Dev Cert.SmlpIdeal.nD) → Buf (Elt Ideal) ((c.tc : Thread Cert.SmlpIdeal.nD Cert.SmlpIdeal.τ).loc Cert.SmlpIdeal.main_v6)),
      θ_run (Cert.SmlpIdeal.defs (F := Ideal)) (onTc (τ := Cert.SmlpIdeal.τ) (Cert.SmlpIdeal.main (F := Ideal))) ⟨m, fun _ => 0, g⟩ (fun r => ∀ c : Dev Cert.SmlpIdeal.nD,
          r.2.mem ((c.tc : Thread Cert.SmlpIdeal.nD Cert.SmlpIdeal.τ).loc Cert.SmlpIdeal.main_v6) = v0 c
          ∧ r.2.mem ((c.tc : Thread Cert.SmlpIdeal.nD Cert.SmlpIdeal.τ).loc Cert.SmlpIdeal.main_arg0) = m ((c.tc : Thread Cert.SmlpIdeal.nD Cert.SmlpIdeal.τ).loc Cert.SmlpIdeal.main_arg0)
          ∧ r.2.mem ((c.tc : Thread Cert.SmlpIdeal.nD Cert.SmlpIdeal.τ).loc Cert.SmlpIdeal.main_arg1) = m ((c.tc : Thread Cert.SmlpIdeal.nD Cert.SmlpIdeal.τ).loc Cert.SmlpIdeal.main_arg1)
          ∧ r.2.mem ((c.tc : Thread Cert.SmlpIdeal.nD Cert.SmlpIdeal.τ).loc Cert.SmlpIdeal.main_arg2) = m ((c.tc : Thread Cert.SmlpIdeal.nD Cert.SmlpIdeal.τ).loc Cert.SmlpIdeal.main_arg2)
          ∧ r.2.mem ((c.tc : Thread Cert.SmlpIdeal.nD Cert.SmlpIdeal.τ).loc Cert.SmlpIdeal.main_arg3) = m ((c.tc : Thread Cert.SmlpIdeal.nD Cert.SmlpIdeal.τ).loc Cert.SmlpIdeal.main_arg3)
          ∧ r.2.mem ((c.tc : Thread Cert.SmlpIdeal.nD Cert.SmlpIdeal.τ).loc Cert.SmlpIdeal.main_arg4) = m ((c.tc : Thread Cert.SmlpIdeal.nD Cert.SmlpIdeal.τ).loc Cert.SmlpIdeal.main_arg4)
          ∧ r.2.mem ((c.tc : Thread Cert.SmlpIdeal.nD Cert.SmlpIdeal.τ).loc Cert.SmlpIdeal.main_arg5) = m ((c.tc : Thread Cert.SmlpIdeal.nD Cert.SmlpIdeal.τ).loc Cert.SmlpIdeal.main_arg5)
          ∧ r.2.mem ((c.tc : Thread Cert.SmlpIdeal.nD Cert.SmlpIdeal.τ).loc Cert.SmlpIdeal.main_arg6) = m ((c.tc : Thread Cert.SmlpIdeal.nD Cert.SmlpIdeal.τ).loc Cert.SmlpIdeal.main_arg6))
      ∧ θ_run (Cert.SmlpReferenceIdeal.defs (F := Ideal)) (onTc (τ := Cert.SmlpReferenceIdeal.τ) (Cert.SmlpReferenceIdeal.main (F := Ideal))) ⟨m', fun _ => 0, g'⟩ (fun r => ∀ c : Dev Cert.SmlpReferenceIdeal.nD,
          r.2.mem ((c.tc : Thread Cert.SmlpReferenceIdeal.nD Cert.SmlpReferenceIdeal.τ).loc Cert.SmlpReferenceIdeal.main_v20) = v0 c
          ∧ r.2.mem ((c.tc : Thread Cert.SmlpReferenceIdeal.nD Cert.SmlpReferenceIdeal.τ).loc Cert.SmlpReferenceIdeal.main_arg0) = m' ((c.tc : Thread Cert.SmlpReferenceIdeal.nD Cert.SmlpReferenceIdeal.τ).loc Cert.SmlpReferenceIdeal.main_arg0)
          ∧ r.2.mem ((c.tc : Thread Cert.SmlpReferenceIdeal.nD Cert.SmlpReferenceIdeal.τ).loc Cert.SmlpReferenceIdeal.main_arg1) = m' ((c.tc : Thread Cert.SmlpReferenceIdeal.nD Cert.SmlpReferenceIdeal.τ).loc Cert.SmlpReferenceIdeal.main_arg1)
          ∧ r.2.mem ((c.tc : Thread Cert.SmlpReferenceIdeal.nD Cert.SmlpReferenceIdeal.τ).loc Cert.SmlpReferenceIdeal.main_arg2) = m' ((c.tc : Thread Cert.SmlpReferenceIdeal.nD Cert.SmlpReferenceIdeal.τ).loc Cert.SmlpReferenceIdeal.main_arg2)
          ∧ r.2.mem ((c.tc : Thread Cert.SmlpReferenceIdeal.nD Cert.SmlpReferenceIdeal.τ).loc Cert.SmlpReferenceIdeal.main_arg3) = m' ((c.tc : Thread Cert.SmlpReferenceIdeal.nD Cert.SmlpReferenceIdeal.τ).loc Cert.SmlpReferenceIdeal.main_arg3)
          ∧ r.2.mem ((c.tc : Thread Cert.SmlpReferenceIdeal.nD Cert.SmlpReferenceIdeal.τ).loc Cert.SmlpReferenceIdeal.main_arg4) = m' ((c.tc : Thread Cert.SmlpReferenceIdeal.nD Cert.SmlpReferenceIdeal.τ).loc Cert.SmlpReferenceIdeal.main_arg4)
          ∧ r.2.mem ((c.tc : Thread Cert.SmlpReferenceIdeal.nD Cert.SmlpReferenceIdeal.τ).loc Cert.SmlpReferenceIdeal.main_arg5) = m' ((c.tc : Thread Cert.SmlpReferenceIdeal.nD Cert.SmlpReferenceIdeal.τ).loc Cert.SmlpReferenceIdeal.main_arg5)
          ∧ r.2.mem ((c.tc : Thread Cert.SmlpReferenceIdeal.nD Cert.SmlpReferenceIdeal.τ).loc Cert.SmlpReferenceIdeal.main_arg6) = m' ((c.tc : Thread Cert.SmlpReferenceIdeal.nD Cert.SmlpReferenceIdeal.τ).loc Cert.SmlpReferenceIdeal.main_arg6))

def preserves_Sin_SinIdeal : Prop :=
  True

def algebraic_SinIdeal_SinReferenceIdeal [hSinIdeal : Cert.SinIdeal.Facts] [hSinReferenceIdeal : Cert.SinReferenceIdeal.Facts] : Prop :=
  ∀ (m : (ℓ : Loc Cert.SinIdeal.nD Cert.SinIdeal.τ Cert.SinIdeal.sig) → Buf (Elt Ideal) ℓ) (g : Dev Cert.SinIdeal.nD → PrngReg)
    (m' : (ℓ : Loc Cert.SinReferenceIdeal.nD Cert.SinReferenceIdeal.τ Cert.SinReferenceIdeal.sig) → Buf (Elt Ideal) ℓ) (g' : Dev Cert.SinReferenceIdeal.nD → PrngReg), Pre_SinIdeal m →
    (∀ c : Dev Cert.SinIdeal.nD,
      m' ((c.tc : Thread Cert.SinReferenceIdeal.nD Cert.SinReferenceIdeal.τ).loc Cert.SinReferenceIdeal.main_arg0) = m ((c.tc : Thread Cert.SinIdeal.nD Cert.SinIdeal.τ).loc Cert.SinIdeal.main_arg0)
      ∧ m' ((c.tc : Thread Cert.SinReferenceIdeal.nD Cert.SinReferenceIdeal.τ).loc Cert.SinReferenceIdeal.main_arg1) = m ((c.tc : Thread Cert.SinIdeal.nD Cert.SinIdeal.τ).loc Cert.SinIdeal.main_arg1)
      ∧ m' ((c.tc : Thread Cert.SinReferenceIdeal.nD Cert.SinReferenceIdeal.τ).loc Cert.SinReferenceIdeal.main_arg2) = m ((c.tc : Thread Cert.SinIdeal.nD Cert.SinIdeal.τ).loc Cert.SinIdeal.main_arg2)
      ∧ m' ((c.tc : Thread Cert.SinReferenceIdeal.nD Cert.SinReferenceIdeal.τ).loc Cert.SinReferenceIdeal.main_arg3) = m ((c.tc : Thread Cert.SinIdeal.nD Cert.SinIdeal.τ).loc Cert.SinIdeal.main_arg3)
      ∧ m' ((c.tc : Thread Cert.SinReferenceIdeal.nD Cert.SinReferenceIdeal.τ).loc Cert.SinReferenceIdeal.main_arg4) = m ((c.tc : Thread Cert.SinIdeal.nD Cert.SinIdeal.τ).loc Cert.SinIdeal.main_arg4)) →
    ∃ (v0 : (c : Dev Cert.SinIdeal.nD) → Buf (Elt Ideal) ((c.tc : Thread Cert.SinIdeal.nD Cert.SinIdeal.τ).loc Cert.SinIdeal.main_v26_0)) (v1 : (c : Dev Cert.SinIdeal.nD) → Buf (Elt Ideal) ((c.tc : Thread Cert.SinIdeal.nD Cert.SinIdeal.τ).loc Cert.SinIdeal.main_v26_1)) (v2 : (c : Dev Cert.SinIdeal.nD) → Buf (Elt Ideal) ((c.tc : Thread Cert.SinIdeal.nD Cert.SinIdeal.τ).loc Cert.SinIdeal.main_v26_2)) (v3 : (c : Dev Cert.SinIdeal.nD) → Buf (Elt Ideal) ((c.tc : Thread Cert.SinIdeal.nD Cert.SinIdeal.τ).loc Cert.SinIdeal.main_v26_3)) (v4 : (c : Dev Cert.SinIdeal.nD) → Buf (Elt Ideal) ((c.tc : Thread Cert.SinIdeal.nD Cert.SinIdeal.τ).loc Cert.SinIdeal.main_v26_4)) (v5 : (c : Dev Cert.SinIdeal.nD) → Buf (Elt Ideal) ((c.tc : Thread Cert.SinIdeal.nD Cert.SinIdeal.τ).loc Cert.SinIdeal.main_v26_5)) (v6 : (c : Dev Cert.SinIdeal.nD) → Buf (Elt Ideal) ((c.tc : Thread Cert.SinIdeal.nD Cert.SinIdeal.τ).loc Cert.SinIdeal.main_v26_6)),
      θ_run (Cert.SinIdeal.defs (F := Ideal)) (onTc (τ := Cert.SinIdeal.τ) (Cert.SinIdeal.main (F := Ideal))) ⟨m, fun _ => 0, g⟩ (fun r => ∀ c : Dev Cert.SinIdeal.nD,
          r.2.mem ((c.tc : Thread Cert.SinIdeal.nD Cert.SinIdeal.τ).loc Cert.SinIdeal.main_v26_0) = v0 c
          ∧ r.2.mem ((c.tc : Thread Cert.SinIdeal.nD Cert.SinIdeal.τ).loc Cert.SinIdeal.main_v26_1) = v1 c
          ∧ r.2.mem ((c.tc : Thread Cert.SinIdeal.nD Cert.SinIdeal.τ).loc Cert.SinIdeal.main_v26_2) = v2 c
          ∧ r.2.mem ((c.tc : Thread Cert.SinIdeal.nD Cert.SinIdeal.τ).loc Cert.SinIdeal.main_v26_3) = v3 c
          ∧ r.2.mem ((c.tc : Thread Cert.SinIdeal.nD Cert.SinIdeal.τ).loc Cert.SinIdeal.main_v26_4) = v4 c
          ∧ r.2.mem ((c.tc : Thread Cert.SinIdeal.nD Cert.SinIdeal.τ).loc Cert.SinIdeal.main_v26_5) = v5 c
          ∧ r.2.mem ((c.tc : Thread Cert.SinIdeal.nD Cert.SinIdeal.τ).loc Cert.SinIdeal.main_v26_6) = v6 c
          ∧ r.2.mem ((c.tc : Thread Cert.SinIdeal.nD Cert.SinIdeal.τ).loc Cert.SinIdeal.main_arg0) = m ((c.tc : Thread Cert.SinIdeal.nD Cert.SinIdeal.τ).loc Cert.SinIdeal.main_arg0)
          ∧ r.2.mem ((c.tc : Thread Cert.SinIdeal.nD Cert.SinIdeal.τ).loc Cert.SinIdeal.main_arg1) = m ((c.tc : Thread Cert.SinIdeal.nD Cert.SinIdeal.τ).loc Cert.SinIdeal.main_arg1)
          ∧ r.2.mem ((c.tc : Thread Cert.SinIdeal.nD Cert.SinIdeal.τ).loc Cert.SinIdeal.main_arg2) = m ((c.tc : Thread Cert.SinIdeal.nD Cert.SinIdeal.τ).loc Cert.SinIdeal.main_arg2)
          ∧ r.2.mem ((c.tc : Thread Cert.SinIdeal.nD Cert.SinIdeal.τ).loc Cert.SinIdeal.main_arg3) = m ((c.tc : Thread Cert.SinIdeal.nD Cert.SinIdeal.τ).loc Cert.SinIdeal.main_arg3)
          ∧ r.2.mem ((c.tc : Thread Cert.SinIdeal.nD Cert.SinIdeal.τ).loc Cert.SinIdeal.main_arg4) = m ((c.tc : Thread Cert.SinIdeal.nD Cert.SinIdeal.τ).loc Cert.SinIdeal.main_arg4))
      ∧ θ_run (Cert.SinReferenceIdeal.defs (F := Ideal)) (onTc (τ := Cert.SinReferenceIdeal.τ) (Cert.SinReferenceIdeal.main (F := Ideal))) ⟨m', fun _ => 0, g'⟩ (fun r => ∀ c : Dev Cert.SinReferenceIdeal.nD,
          r.2.mem ((c.tc : Thread Cert.SinReferenceIdeal.nD Cert.SinReferenceIdeal.τ).loc Cert.SinReferenceIdeal.main_v38) = v0 c
          ∧ r.2.mem ((c.tc : Thread Cert.SinReferenceIdeal.nD Cert.SinReferenceIdeal.τ).loc Cert.SinReferenceIdeal.main_v16) = v1 c
          ∧ r.2.mem ((c.tc : Thread Cert.SinReferenceIdeal.nD Cert.SinReferenceIdeal.τ).loc Cert.SinReferenceIdeal.main_v55) = v2 c
          ∧ r.2.mem ((c.tc : Thread Cert.SinReferenceIdeal.nD Cert.SinReferenceIdeal.τ).loc Cert.SinReferenceIdeal.main_v56) = v3 c
          ∧ r.2.mem ((c.tc : Thread Cert.SinReferenceIdeal.nD Cert.SinReferenceIdeal.τ).loc Cert.SinReferenceIdeal.main_v14) = v4 c
          ∧ r.2.mem ((c.tc : Thread Cert.SinReferenceIdeal.nD Cert.SinReferenceIdeal.τ).loc Cert.SinReferenceIdeal.main_v17) = v5 c
          ∧ r.2.mem ((c.tc : Thread Cert.SinReferenceIdeal.nD Cert.SinReferenceIdeal.τ).loc Cert.SinReferenceIdeal.main_v42) = v6 c
          ∧ r.2.mem ((c.tc : Thread Cert.SinReferenceIdeal.nD Cert.SinReferenceIdeal.τ).loc Cert.SinReferenceIdeal.main_arg0) = m' ((c.tc : Thread Cert.SinReferenceIdeal.nD Cert.SinReferenceIdeal.τ).loc Cert.SinReferenceIdeal.main_arg0)
          ∧ r.2.mem ((c.tc : Thread Cert.SinReferenceIdeal.nD Cert.SinReferenceIdeal.τ).loc Cert.SinReferenceIdeal.main_arg1) = m' ((c.tc : Thread Cert.SinReferenceIdeal.nD Cert.SinReferenceIdeal.τ).loc Cert.SinReferenceIdeal.main_arg1)
          ∧ r.2.mem ((c.tc : Thread Cert.SinReferenceIdeal.nD Cert.SinReferenceIdeal.τ).loc Cert.SinReferenceIdeal.main_arg2) = m' ((c.tc : Thread Cert.SinReferenceIdeal.nD Cert.SinReferenceIdeal.τ).loc Cert.SinReferenceIdeal.main_arg2)
          ∧ r.2.mem ((c.tc : Thread Cert.SinReferenceIdeal.nD Cert.SinReferenceIdeal.τ).loc Cert.SinReferenceIdeal.main_arg3) = m' ((c.tc : Thread Cert.SinReferenceIdeal.nD Cert.SinReferenceIdeal.τ).loc Cert.SinReferenceIdeal.main_arg3)
          ∧ r.2.mem ((c.tc : Thread Cert.SinReferenceIdeal.nD Cert.SinReferenceIdeal.τ).loc Cert.SinReferenceIdeal.main_arg4) = m' ((c.tc : Thread Cert.SinReferenceIdeal.nD Cert.SinReferenceIdeal.τ).loc Cert.SinReferenceIdeal.main_arg4))

def Claim : Prop :=
  ∃ (hKernel : Cert.Kernel.Facts) (hMlp : Cert.Mlp.Facts) (hMlpIdeal : Cert.MlpIdeal.Facts) (hMlpReferenceIdeal : Cert.MlpReferenceIdeal.Facts) (hInproj : Cert.Inproj.Facts) (hInprojIdeal : Cert.InprojIdeal.Facts) (hInprojReferenceIdeal : Cert.InprojReferenceIdeal.Facts) (hSmlp : Cert.Smlp.Facts) (hSmlpIdeal : Cert.SmlpIdeal.Facts) (hSmlpReferenceIdeal : Cert.SmlpReferenceIdeal.Facts) (hSin : Cert.Sin.Facts) (hSinIdeal : Cert.SinIdeal.Facts) (hSinReferenceIdeal : Cert.SinReferenceIdeal.Facts),
    quiescent_Kernel (hKernel := hKernel)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Smlp (hSmlp := hSmlp)
    ∧ quiescent_SmlpIdeal (hSmlpIdeal := hSmlpIdeal)
    ∧ quiescent_SmlpReferenceIdeal (hSmlpReferenceIdeal := hSmlpReferenceIdeal)
    ∧ quiescent_Sin (hSin := hSin)
    ∧ quiescent_SinIdeal (hSinIdeal := hSinIdeal)
    ∧ quiescent_SinReferenceIdeal (hSinReferenceIdeal := hSinReferenceIdeal)
    ∧ preserves_Mlp_MlpIdeal
    ∧ algebraic_MlpIdeal_MlpReferenceIdeal (hMlpIdeal := hMlpIdeal) (hMlpReferenceIdeal := hMlpReferenceIdeal)
    ∧ preserves_Inproj_InprojIdeal
    ∧ algebraic_InprojIdeal_InprojReferenceIdeal (hInprojIdeal := hInprojIdeal) (hInprojReferenceIdeal := hInprojReferenceIdeal)
    ∧ preserves_Smlp_SmlpIdeal
    ∧ algebraic_SmlpIdeal_SmlpReferenceIdeal (hSmlpIdeal := hSmlpIdeal) (hSmlpReferenceIdeal := hSmlpReferenceIdeal)
    ∧ preserves_Sin_SinIdeal
    ∧ algebraic_SinIdeal_SinReferenceIdeal (hSinIdeal := hSinIdeal) (hSinReferenceIdeal := hSinReferenceIdeal)
-- ==== Kernel.lean ====
abbrev S512x32768 : Shape := ⟨2, ![512, 32768]⟩
abbrev S8x32768 : Shape := ⟨2, ![8, 32768]⟩
abbrev S32768x64 : Shape := ⟨2, ![32768, 64]⟩
abbrev S32768x128 : Shape := ⟨2, ![32768, 128]⟩
abbrev S128x32768 : Shape := ⟨2, ![128, 32768]⟩
abbrev S128x128x256 : Shape := ⟨3, ![128, 128, 256]⟩
abbrev S16x8x128x512 : Shape := ⟨4, ![16, 8, 128, 512]⟩
abbrev S512x128 : Shape := ⟨2, ![512, 128]⟩
abbrev S8x128 : Shape := ⟨2, ![8, 128]⟩
abbrev S2048x64 : Shape := ⟨2, ![2048, 64]⟩
abbrev S2048x128 : Shape := ⟨2, ![2048, 128]⟩
abbrev S8x128x256 : Shape := ⟨3, ![8, 128, 256]⟩
abbrev S1x1x128x512 : Shape := ⟨4, ![1, 1, 128, 512]⟩
abbrev S2x64x1024 : Shape := ⟨3, ![2, 64, 1024]⟩
abbrev S2x2x128x512 : Shape := ⟨4, ![2, 2, 128, 512]⟩
abbrev S2x8x128 : Shape := ⟨3, ![2, 8, 128]⟩
abbrev S9x256x128 : Shape := ⟨3, ![9, 256, 128]⟩
abbrev S9x32x8x128 : Shape := ⟨4, ![9, 32, 8, 128]⟩
abbrev S9x2x2x128x512 : Shape := ⟨5, ![9, 2, 2, 128, 512]⟩
abbrev S9x2x80x512 : Shape := ⟨4, ![9, 2, 80, 512]⟩
abbrev S64x128 : Shape := ⟨2, ![64, 128]⟩
abbrev S64x1024 : Shape := ⟨2, ![64, 1024]⟩
abbrev S1x64x1024 : Shape := ⟨3, ![1, 64, 1024]⟩
abbrev S64x512 : Shape := ⟨2, ![64, 512]⟩
abbrev S128x512 : Shape := ⟨2, ![128, 512]⟩
abbrev S1x8x128 : Shape := ⟨3, ![1, 8, 128]⟩
abbrev S128x128 : Shape := ⟨2, ![128, 128]⟩
abbrev S8x512 : Shape := ⟨2, ![8, 512]⟩
abbrev S128x64 : Shape := ⟨2, ![128, 64]⟩
abbrev S1x64x256 : Shape := ⟨3, ![1, 64, 256]⟩
abbrev S64x256 : Shape := ⟨2, ![64, 256]⟩
abbrev S128x256 : Shape := ⟨2, ![128, 256]⟩
abbrev S1x128 : Shape := ⟨2, ![1, 128]⟩
abbrev S1x128x128 : Shape := ⟨3, ![1, 128, 128]⟩
abbrev S1x256x128 : Shape := ⟨3, ![1, 256, 128]⟩
abbrev S256x128 : Shape := ⟨2, ![256, 128]⟩
abbrev S1x1x8x128 : Shape := ⟨4, ![1, 1, 8, 128]⟩
abbrev S1x1x1x128x512 : Shape := ⟨5, ![1, 1, 1, 128, 512]⟩
abbrev S16x8x512 : Shape := ⟨3, ![16, 8, 512]⟩
abbrev S128 : Shape := ⟨1, ![128]⟩
abbrev S32x8x128 : Shape := ⟨3, ![32, 8, 128]⟩
abbrev S1x1x128 : Shape := ⟨3, ![1, 1, 128]⟩
abbrev S1 : Shape := ⟨1, ![1]⟩
abbrev S1x1x1 : Shape := ⟨3, ![1, 1, 1]⟩
abbrev S512 : Shape := ⟨1, ![512]⟩
abbrev S1x512 : Shape := ⟨2, ![1, 512]⟩
abbrev S16x128 : Shape := ⟨2, ![16, 128]⟩
abbrev S80x256 : Shape := ⟨2, ![80, 256]⟩
abbrev S1x1x1x128x256 : Shape := ⟨5, ![1, 1, 1, 128, 256]⟩
abbrev S1x256 : Shape := ⟨2, ![1, 256]⟩
abbrev S1x64x128 : Shape := ⟨3, ![1, 64, 128]⟩
abbrev S80x128 : Shape := ⟨2, ![80, 128]⟩
abbrev S1x1x80x256 : Shape := ⟨4, ![1, 1, 80, 256]⟩
abbrev S1x1x128x128 : Shape := ⟨4, ![1, 1, 128, 128]⟩
abbrev S1x1x256 : Shape := ⟨3, ![1, 1, 256]⟩

abbrev nBuf : Space → Nat
  | .hbm => 10
  | .vmem => 30
  | .smem => 0
  | _ => 0

abbrev bufTy : (tb : Table) → Fin (tcTables nBuf tb) → BufTy
  | .hbm, ⟨0, _⟩ => ⟨S512x32768, .bf16⟩
  | .hbm, ⟨1, _⟩ => ⟨S512x32768, .bf16⟩
  | .hbm, ⟨2, _⟩ => ⟨S8x32768, .f32⟩
  | .hbm, ⟨3, _⟩ => ⟨S32768x64, .bf16⟩
  | .hbm, ⟨4, _⟩ => ⟨S32768x128, .bf16⟩
  | .hbm, ⟨5, _⟩ => ⟨S128x32768, .bf16⟩
  | .hbm, ⟨6, _⟩ => ⟨S128x128x256, .bf16⟩
  | .hbm, ⟨7, _⟩ => ⟨S128x128x256, .bf16⟩
  | .hbm, ⟨8, _⟩ => ⟨S16x8x128x512, .bf16⟩
  | .hbm, ⟨9, _⟩ => ⟨S16x8x128x512, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S2048x64, .bf16⟩
  | .local _ .vmem, ⟨13, _⟩ => ⟨S2048x64, .bf16⟩
  | .local _ .vmem, ⟨14, _⟩ => ⟨S2048x128, .bf16⟩
  | .local _ .vmem, ⟨15, _⟩ => ⟨S2048x128, .bf16⟩
  | .local _ .vmem, ⟨16, _⟩ => ⟨S8x128x256, .bf16⟩
  | .local _ .vmem, ⟨17, _⟩ => ⟨S8x128x256, .bf16⟩
  | .local _ .vmem, ⟨18, _⟩ => ⟨S1x1x128x512, .bf16⟩
  | .local _ .vmem, ⟨19, _⟩ => ⟨S1x1x128x512, .bf16⟩
  | .local _ .vmem, ⟨20, _⟩ => ⟨S1x1x128x512, .bf16⟩
  | .local _ .vmem, ⟨21, _⟩ => ⟨S1x1x128x512, .bf16⟩
  | .local _ .vmem, ⟨22, _⟩ => ⟨S2x64x1024, .bf16⟩
  | .local _ .vmem, ⟨23, _⟩ => ⟨S2x2x128x512, .bf16⟩
  | .local _ .vmem, ⟨24, _⟩ => ⟨S2x8x128, .f32⟩
  | .local _ .vmem, ⟨25, _⟩ => ⟨S9x256x128, .f32⟩
  | .local _ .vmem, ⟨26, _⟩ => ⟨S9x32x8x128, .i32⟩
  | .local _ .vmem, ⟨27, _⟩ => ⟨S9x256x128, .f32⟩
  | .local _ .vmem, ⟨28, _⟩ => ⟨S9x2x2x128x512, .f32⟩
  | .local _ .vmem, ⟨29, _⟩ => ⟨S9x2x80x512, .f32⟩
  | _, _ => ⟨S512x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [BitOps F]

abbrev grid0 : Pipeline.Grid := ⟨2, ![16, 8], ![false, false]⟩

def k0_off1 (i : grid0.Coords) (c0_i32_94 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v92 : BitVec 1 := Scalar.cmpi .sle v18 c0_i32_94
  let c1_i32_95 : BitVec 32 := 1#32
  let c0_i32_96 : BitVec 32 := 0#32
  let v93 : BitVec 32 := Scalar.select v92 c1_i32_95 c0_i32_96
  let v97 : Index := Scalar.indexCast v93
  let c0_99 : Index := 0#32
  let c0_100 : Index := 0#32
  ![v97.toNat, 0, 0]
def k0_mult1 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_94 : BitVec 32 := 0#32
  let v92 : BitVec 1 := Scalar.cmpi .sle v18 c0_i32_94
  let c0_i32_97 : BitVec 32 := 0#32
  let v94 : BitVec 32 := Scalar.subi c0_i32_97 v18
  let c0_i32_98 : BitVec 32 := 0#32
  let v95 : BitVec 32 := Scalar.select v92 v94 c0_i32_98
  let c256_i32 : BitVec 32 := 256#32
  let v100 : BitVec 32 := Scalar.muli v95 c256_i32
  let c0_i32_101 : BitVec 32 := 0#32
  let v101 : BitVec 32 := Scalar.addi v100 c0_i32_101
  v101
def k0_off2 (i : grid0.Coords) (c0_i32_94 : BitVec 32) (c0_i32_97 : BitVec 32) (c0_i32_98 : BitVec 32) (c0_i32_101 : BitVec 32) : Fin 2 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v92 : BitVec 1 := Scalar.cmpi .sle v18 c0_i32_94
  let v94 : BitVec 32 := Scalar.subi c0_i32_97 v18
  let v95 : BitVec 32 := Scalar.select v92 v94 c0_i32_98
  let c256_i32 : BitVec 32 := 256#32
  let v100 : BitVec 32 := Scalar.muli v95 c256_i32
  let v101 : BitVec 32 := Scalar.addi v100 c0_i32_101
  let v102 : BitVec 32 := v101
  let v103 : Index := Scalar.indexCast v102
  let c0_102 : Index := 0#32
  ![v103.toNat, 0]
def k0_off2_at (r : Fin 18) : BitVec 32 × BitVec 32 × BitVec 32 × BitVec 32 :=
  if r.val < 9 then
    if r.val < 4 then
      if r.val < 2 then
        if r.val < 1 then
          (0#32, 0#32, 0#32, 0#32)
        else
          (0#32, 0#32, 0#32, 128#32)
      else
        if r.val < 3 then
          (1#32, 1#32, 1#32, 0#32)
        else
          (1#32, 1#32, 1#32, 128#32)
    else
      if r.val < 6 then
        if r.val < 5 then
          (2#32, 2#32, 2#32, 0#32)
        else
          (2#32, 2#32, 2#32, 128#32)
      else
        if r.val < 7 then
          (3#32, 3#32, 3#32, 0#32)
        else
          if r.val < 8 then
            (3#32, 3#32, 3#32, 128#32)
          else
            (4#32, 4#32, 4#32, 0#32)
  else
    if r.val < 13 then
      if r.val < 11 then
        if r.val < 10 then
          (4#32, 4#32, 4#32, 128#32)
        else
          (5#32, 5#32, 5#32, 0#32)
      else
        if r.val < 12 then
          (5#32, 5#32, 5#32, 128#32)
        else
          (6#32, 6#32, 6#32, 0#32)
    else
      if r.val < 15 then
        if r.val < 14 then
          (6#32, 6#32, 6#32, 128#32)
        else
          (7#32, 7#32, 7#32, 0#32)
      else
        if r.val < 16 then
          (7#32, 7#32, 7#32, 128#32)
        else
          if r.val < 17 then
            (8#32, 8#32, 8#32, 0#32)
          else
            (8#32, 8#32, 8#32, 128#32)
def k0_off3 (i : grid0.Coords) (c0_i32_94 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v92 : BitVec 1 := Scalar.cmpi .sle v18 c0_i32_94
  let c1_i32_95 : BitVec 32 := 1#32
  let c0_i32_96 : BitVec 32 := 0#32
  let v93 : BitVec 32 := Scalar.select v92 c1_i32_95 c0_i32_96
  let v106 : Index := Scalar.indexCast v93
  let c0_104 : Index := 0#32
  let c0_105 : Index := 0#32
  ![v106.toNat, 0, 0]
def k0_off4 (i : grid0.Coords) (c0_i32_94 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v92 : BitVec 1 := Scalar.cmpi .sle v18 c0_i32_94
  let c1_i32_95 : BitVec 32 := 1#32
  let c0_i32_96 : BitVec 32 := 0#32
  let v93 : BitVec 32 := Scalar.select v92 c1_i32_95 c0_i32_96
  let v124 : Index := Scalar.indexCast v93
  let c0_109 : Index := 0#32
  let c256_110 : Index := 256#32
  ![v124.toNat, 0, 256]
def k0_off5 (i : grid0.Coords) (c0_i32_94 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v92 : BitVec 1 := Scalar.cmpi .sle v18 c0_i32_94
  let c1_i32_95 : BitVec 32 := 1#32
  let c0_i32_96 : BitVec 32 := 0#32
  let v93 : BitVec 32 := Scalar.select v92 c1_i32_95 c0_i32_96
  let v142 : Index := Scalar.indexCast v93
  let c0_114 : Index := 0#32
  let c512 : Index := 512#32
  ![v142.toNat, 0, 512]
def k0_off6 (i : grid0.Coords) (c0_i32_94 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v92 : BitVec 1 := Scalar.cmpi .sle v18 c0_i32_94
  let c1_i32_95 : BitVec 32 := 1#32
  let c0_i32_96 : BitVec 32 := 0#32
  let v93 : BitVec 32 := Scalar.select v92 c1_i32_95 c0_i32_96
  let v160 : Index := Scalar.indexCast v93
  let c0_118 : Index := 0#32
  let c768 : Index := 768#32
  ![v160.toNat, 0, 768]
def k0_mult2 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_94 : BitVec 32 := 0#32
  let v92 : BitVec 1 := Scalar.cmpi .sle v18 c0_i32_94
  let c0_i32_97 : BitVec 32 := 0#32
  let v94 : BitVec 32 := Scalar.subi c0_i32_97 v18
  let c0_i32_98 : BitVec 32 := 0#32
  let v95 : BitVec 32 := Scalar.select v92 v94 c0_i32_98
  let c256_i32_128 : BitVec 32 := 256#32
  let v191 : BitVec 32 := Scalar.muli v95 c256_i32_128
  let c128_i32_129 : BitVec 32 := 128#32
  let v192 : BitVec 32 := Scalar.addi v191 c128_i32_129
  v192
def k0_mult3 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_492 : BitVec 32 := 0#32
  let v1138 : BitVec 1 := Scalar.cmpi .sle v18 c0_i32_492
  let c0_i32_495 : BitVec 32 := 0#32
  let v1140 : BitVec 32 := Scalar.subi c0_i32_495 v18
  let c0_i32_496 : BitVec 32 := 0#32
  let v1141 : BitVec 32 := Scalar.select v1138 v1140 c0_i32_496
  let c256_i32_497 : BitVec 32 := 256#32
  let v1142 : BitVec 32 := Scalar.muli v1141 c256_i32_497
  let c0_i32_498 : BitVec 32 := 0#32
  let v1143 : BitVec 32 := Scalar.addi v1142 c0_i32_498
  v1143
def k0_off7 (i : grid0.Coords) (c0_i32_492 : BitVec 32) (c0_i32_495 : BitVec 32) (c0_i32_496 : BitVec 32) (c0_i32_498 : BitVec 32) : Fin 2 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1138 : BitVec 1 := Scalar.cmpi .sle v18 c0_i32_492
  let v1140 : BitVec 32 := Scalar.subi c0_i32_495 v18
  let v1141 : BitVec 32 := Scalar.select v1138 v1140 c0_i32_496
  let c256_i32_497 : BitVec 32 := 256#32
  let v1142 : BitVec 32 := Scalar.muli v1141 c256_i32_497
  let v1143 : BitVec 32 := Scalar.addi v1142 c0_i32_498
  let v1144 : BitVec 32 := v1143
  let v1145 : Index := Scalar.indexCast v1144
  let c0_499 : Index := 0#32
  ![v1145.toNat, 0]
def k0_off7_at (r : Fin 18) : BitVec 32 × BitVec 32 × BitVec 32 × BitVec 32 :=
  if r.val < 9 then
    if r.val < 4 then
      if r.val < 2 then
        if r.val < 1 then
          (0#32, 0#32, 0#32, 0#32)
        else
          (0#32, 0#32, 0#32, 128#32)
      else
        if r.val < 3 then
          (1#32, 1#32, 1#32, 0#32)
        else
          (1#32, 1#32, 1#32, 128#32)
    else
      if r.val < 6 then
        if r.val < 5 then
          (2#32, 2#32, 2#32, 0#32)
        else
          (2#32, 2#32, 2#32, 128#32)
      else
        if r.val < 7 then
          (3#32, 3#32, 3#32, 0#32)
        else
          if r.val < 8 then
            (3#32, 3#32, 3#32, 128#32)
          else
            (4#32, 4#32, 4#32, 0#32)
  else
    if r.val < 13 then
      if r.val < 11 then
        if r.val < 10 then
          (4#32, 4#32, 4#32, 128#32)
        else
          (5#32, 5#32, 5#32, 0#32)
      else
        if r.val < 12 then
          (5#32, 5#32, 5#32, 128#32)
        else
          (6#32, 6#32, 6#32, 0#32)
    else
      if r.val < 15 then
        if r.val < 14 then
          (6#32, 6#32, 6#32, 128#32)
        else
          (7#32, 7#32, 7#32, 0#32)
      else
        if r.val < 16 then
          (7#32, 7#32, 7#32, 128#32)
        else
          if r.val < 17 then
            (8#32, 8#32, 8#32, 0#32)
          else
            (8#32, 8#32, 8#32, 128#32)
def k0_off8 (i : grid0.Coords) (c0_i32_492 : BitVec 32) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1138 : BitVec 1 := Scalar.cmpi .sle v18 c0_i32_492
  let c1_i32_493 : BitVec 32 := 1#32
  let c0_i32_494 : BitVec 32 := 0#32
  let v1139 : BitVec 32 := Scalar.select v1138 c1_i32_493 c0_i32_494
  let v1147 : Index := Scalar.indexCast v1139
  let c0_500 : Index := 0#32
  let c0_501 : Index := 0#32
  let c0_502 : Index := 0#32
  ![v1147.toNat, 0, 0, 0]
def k0_mult4 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_510 : BitVec 32 := 0#32
  let v1160 : BitVec 1 := Scalar.cmpi .sle v18 c0_i32_510
  let c0_i32_513 : BitVec 32 := 0#32
  let v1162 : BitVec 32 := Scalar.subi c0_i32_513 v18
  let c0_i32_514 : BitVec 32 := 0#32
  let v1163 : BitVec 32 := Scalar.select v1160 v1162 c0_i32_514
  let c256_i32_515 : BitVec 32 := 256#32
  let v1164 : BitVec 32 := Scalar.muli v1163 c256_i32_515
  let c0_i32_516 : BitVec 32 := 0#32
  let v1165 : BitVec 32 := Scalar.addi v1164 c0_i32_516
  v1165
def k0_off9 (i : grid0.Coords) (c0_i32_510 : BitVec 32) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v1160 : BitVec 1 := Scalar.cmpi .sle v18 c0_i32_510
  let c1_i32_511 : BitVec 32 := 1#32
  let c0_i32_512 : BitVec 32 := 0#32
  let v1161 : BitVec 32 := Scalar.select v1160 c1_i32_511 c0_i32_512
  let v1169 : Index := Scalar.indexCast v1161
  let c1_518 : Index := 1#32
  let c0_519 : Index := 0#32
  let c0_520 : Index := 0#32
  ![v1169.toNat, 1, 0, 0]
def k0_mult5 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_528 : BitVec 32 := 0#32
  let v1182 : BitVec 1 := Scalar.cmpi .sle v18 c0_i32_528
  let c0_i32_531 : BitVec 32 := 0#32
  let v1184 : BitVec 32 := Scalar.subi c0_i32_531 v18
  let c0_i32_532 : BitVec 32 := 0#32
  let v1185 : BitVec 32 := Scalar.select v1182 v1184 c0_i32_532
  let c256_i32_533 : BitVec 32 := 256#32
  let v1186 : BitVec 32 := Scalar.muli v1185 c256_i32_533
  let c128_i32_534 : BitVec 32 := 128#32
  let v1187 : BitVec 32 := Scalar.addi v1186 c128_i32_534
  v1187
def k0_mult6 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_546 : BitVec 32 := 0#32
  let v1204 : BitVec 1 := Scalar.cmpi .sle v18 c0_i32_546
  let c0_i32_549 : BitVec 32 := 0#32
  let v1206 : BitVec 32 := Scalar.subi c0_i32_549 v18
  let c0_i32_550 : BitVec 32 := 0#32
  let v1207 : BitVec 32 := Scalar.select v1204 v1206 c0_i32_550
  let c256_i32_551 : BitVec 32 := 256#32
  let v1208 : BitVec 32 := Scalar.muli v1207 c256_i32_551
  let c128_i32_552 : BitVec 32 := 128#32
  let v1209 : BitVec 32 := Scalar.addi v1208 c128_i32_552
  v1209
def k0_mult7 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_564 : BitVec 32 := 1#32
  let v1226 : BitVec 1 := Scalar.cmpi .sle v18 c1_i32_564
  let c1_i32_567 : BitVec 32 := 1#32
  let v1228 : BitVec 32 := Scalar.subi c1_i32_567 v18
  let c1_i32_568 : BitVec 32 := 1#32
  let v1229 : BitVec 32 := Scalar.select v1226 v1228 c1_i32_568
  let c256_i32_571 : BitVec 32 := 256#32
  let v1234 : BitVec 32 := Scalar.muli v1229 c256_i32_571
  let c0_i32_572 : BitVec 32 := 0#32
  let v1235 : BitVec 32 := Scalar.addi v1234 c0_i32_572
  v1235
def k0_mult8 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_564 : BitVec 32 := 1#32
  let v1226 : BitVec 1 := Scalar.cmpi .sle v18 c1_i32_564
  let c1_i32_567 : BitVec 32 := 1#32
  let v1228 : BitVec 32 := Scalar.subi c1_i32_567 v18
  let c1_i32_568 : BitVec 32 := 1#32
  let v1229 : BitVec 32 := Scalar.select v1226 v1228 c1_i32_568
  let c256_i32_602 : BitVec 32 := 256#32
  let v1325 : BitVec 32 := Scalar.muli v1229 c256_i32_602
  let c128_i32_603 : BitVec 32 := 128#32
  let v1326 : BitVec 32 := Scalar.addi v1325 c128_i32_603
  v1326
def k0_mult9 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_1006 : BitVec 32 := 1#32
  let v2272 : BitVec 1 := Scalar.cmpi .sle v18 c1_i32_1006
  let c1_i32_1009 : BitVec 32 := 1#32
  let v2274 : BitVec 32 := Scalar.subi c1_i32_1009 v18
  let c1_i32_1010 : BitVec 32 := 1#32
  let v2275 : BitVec 32 := Scalar.select v2272 v2274 c1_i32_1010
  let c256_i32_1011 : BitVec 32 := 256#32
  let v2276 : BitVec 32 := Scalar.muli v2275 c256_i32_1011
  let c0_i32_1012 : BitVec 32 := 0#32
  let v2277 : BitVec 32 := Scalar.addi v2276 c0_i32_1012
  v2277
def k0_mult10 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_1024 : BitVec 32 := 1#32
  let v2294 : BitVec 1 := Scalar.cmpi .sle v18 c1_i32_1024
  let c1_i32_1027 : BitVec 32 := 1#32
  let v2296 : BitVec 32 := Scalar.subi c1_i32_1027 v18
  let c1_i32_1028 : BitVec 32 := 1#32
  let v2297 : BitVec 32 := Scalar.select v2294 v2296 c1_i32_1028
  let c256_i32_1029 : BitVec 32 := 256#32
  let v2298 : BitVec 32 := Scalar.muli v2297 c256_i32_1029
  let c0_i32_1030 : BitVec 32 := 0#32
  let v2299 : BitVec 32 := Scalar.addi v2298 c0_i32_1030
  v2299
def k0_mult11 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_1042 : BitVec 32 := 1#32
  let v2316 : BitVec 1 := Scalar.cmpi .sle v18 c1_i32_1042
  let c1_i32_1045 : BitVec 32 := 1#32
  let v2318 : BitVec 32 := Scalar.subi c1_i32_1045 v18
  let c1_i32_1046 : BitVec 32 := 1#32
  let v2319 : BitVec 32 := Scalar.select v2316 v2318 c1_i32_1046
  let c256_i32_1047 : BitVec 32 := 256#32
  let v2320 : BitVec 32 := Scalar.muli v2319 c256_i32_1047
  let c128_i32_1048 : BitVec 32 := 128#32
  let v2321 : BitVec 32 := Scalar.addi v2320 c128_i32_1048
  v2321
def k0_mult12 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_1060 : BitVec 32 := 1#32
  let v2338 : BitVec 1 := Scalar.cmpi .sle v18 c1_i32_1060
  let c1_i32_1063 : BitVec 32 := 1#32
  let v2340 : BitVec 32 := Scalar.subi c1_i32_1063 v18
  let c1_i32_1064 : BitVec 32 := 1#32
  let v2341 : BitVec 32 := Scalar.select v2338 v2340 c1_i32_1064
  let c256_i32_1065 : BitVec 32 := 256#32
  let v2342 : BitVec 32 := Scalar.muli v2341 c256_i32_1065
  let c128_i32_1066 : BitVec 32 := 128#32
  let v2343 : BitVec 32 := Scalar.addi v2342 c128_i32_1066
  v2343
def k0_mult13 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_1078 : BitVec 32 := 2#32
  let v2360 : BitVec 1 := Scalar.cmpi .sle v18 c2_i32_1078
  let c2_i32_1081 : BitVec 32 := 2#32
  let v2362 : BitVec 32 := Scalar.subi c2_i32_1081 v18
  let c2_i32_1082 : BitVec 32 := 2#32
  let v2363 : BitVec 32 := Scalar.select v2360 v2362 c2_i32_1082
  let c256_i32_1085 : BitVec 32 := 256#32
  let v2368 : BitVec 32 := Scalar.muli v2363 c256_i32_1085
  let c0_i32_1086 : BitVec 32 := 0#32
  let v2369 : BitVec 32 := Scalar.addi v2368 c0_i32_1086
  v2369
def k0_mult14 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_1078 : BitVec 32 := 2#32
  let v2360 : BitVec 1 := Scalar.cmpi .sle v18 c2_i32_1078
  let c2_i32_1081 : BitVec 32 := 2#32
  let v2362 : BitVec 32 := Scalar.subi c2_i32_1081 v18
  let c2_i32_1082 : BitVec 32 := 2#32
  let v2363 : BitVec 32 := Scalar.select v2360 v2362 c2_i32_1082
  let c256_i32_1116 : BitVec 32 := 256#32
  let v2459 : BitVec 32 := Scalar.muli v2363 c256_i32_1116
  let c128_i32_1117 : BitVec 32 := 128#32
  let v2460 : BitVec 32 := Scalar.addi v2459 c128_i32_1117
  v2460
def k0_mult15 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_1520 : BitVec 32 := 2#32
  let v3406 : BitVec 1 := Scalar.cmpi .sle v18 c2_i32_1520
  let c2_i32_1523 : BitVec 32 := 2#32
  let v3408 : BitVec 32 := Scalar.subi c2_i32_1523 v18
  let c2_i32_1524 : BitVec 32 := 2#32
  let v3409 : BitVec 32 := Scalar.select v3406 v3408 c2_i32_1524
  let c256_i32_1525 : BitVec 32 := 256#32
  let v3410 : BitVec 32 := Scalar.muli v3409 c256_i32_1525
  let c0_i32_1526 : BitVec 32 := 0#32
  let v3411 : BitVec 32 := Scalar.addi v3410 c0_i32_1526
  v3411
def k0_mult16 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_1538 : BitVec 32 := 2#32
  let v3428 : BitVec 1 := Scalar.cmpi .sle v18 c2_i32_1538
  let c2_i32_1541 : BitVec 32 := 2#32
  let v3430 : BitVec 32 := Scalar.subi c2_i32_1541 v18
  let c2_i32_1542 : BitVec 32 := 2#32
  let v3431 : BitVec 32 := Scalar.select v3428 v3430 c2_i32_1542
  let c256_i32_1543 : BitVec 32 := 256#32
  let v3432 : BitVec 32 := Scalar.muli v3431 c256_i32_1543
  let c0_i32_1544 : BitVec 32 := 0#32
  let v3433 : BitVec 32 := Scalar.addi v3432 c0_i32_1544
  v3433
def k0_mult17 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_1556 : BitVec 32 := 2#32
  let v3450 : BitVec 1 := Scalar.cmpi .sle v18 c2_i32_1556
  let c2_i32_1559 : BitVec 32 := 2#32
  let v3452 : BitVec 32 := Scalar.subi c2_i32_1559 v18
  let c2_i32_1560 : BitVec 32 := 2#32
  let v3453 : BitVec 32 := Scalar.select v3450 v3452 c2_i32_1560
  let c256_i32_1561 : BitVec 32 := 256#32
  let v3454 : BitVec 32 := Scalar.muli v3453 c256_i32_1561
  let c128_i32_1562 : BitVec 32 := 128#32
  let v3455 : BitVec 32 := Scalar.addi v3454 c128_i32_1562
  v3455
def k0_mult18 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_1574 : BitVec 32 := 2#32
  let v3472 : BitVec 1 := Scalar.cmpi .sle v18 c2_i32_1574
  let c2_i32_1577 : BitVec 32 := 2#32
  let v3474 : BitVec 32 := Scalar.subi c2_i32_1577 v18
  let c2_i32_1578 : BitVec 32 := 2#32
  let v3475 : BitVec 32 := Scalar.select v3472 v3474 c2_i32_1578
  let c256_i32_1579 : BitVec 32 := 256#32
  let v3476 : BitVec 32 := Scalar.muli v3475 c256_i32_1579
  let c128_i32_1580 : BitVec 32 := 128#32
  let v3477 : BitVec 32 := Scalar.addi v3476 c128_i32_1580
  v3477
def k0_mult19 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c3_i32 : BitVec 32 := 3#32
  let v3494 : BitVec 1 := Scalar.cmpi .sle v18 c3_i32
  let c3_i32_1594 : BitVec 32 := 3#32
  let v3496 : BitVec 32 := Scalar.subi c3_i32_1594 v18
  let c3_i32_1595 : BitVec 32 := 3#32
  let v3497 : BitVec 32 := Scalar.select v3494 v3496 c3_i32_1595
  let c256_i32_1598 : BitVec 32 := 256#32
  let v3502 : BitVec 32 := Scalar.muli v3497 c256_i32_1598
  let c0_i32_1599 : BitVec 32 := 0#32
  let v3503 : BitVec 32 := Scalar.addi v3502 c0_i32_1599
  v3503
def k0_mult20 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c3_i32 : BitVec 32 := 3#32
  let v3494 : BitVec 1 := Scalar.cmpi .sle v18 c3_i32
  let c3_i32_1594 : BitVec 32 := 3#32
  let v3496 : BitVec 32 := Scalar.subi c3_i32_1594 v18
  let c3_i32_1595 : BitVec 32 := 3#32
  let v3497 : BitVec 32 := Scalar.select v3494 v3496 c3_i32_1595
  let c256_i32_1629 : BitVec 32 := 256#32
  let v3593 : BitVec 32 := Scalar.muli v3497 c256_i32_1629
  let c128_i32_1630 : BitVec 32 := 128#32
  let v3594 : BitVec 32 := Scalar.addi v3593 c128_i32_1630
  v3594
def k0_mult21 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c3_i32_2033 : BitVec 32 := 3#32
  let v4540 : BitVec 1 := Scalar.cmpi .sle v18 c3_i32_2033
  let c3_i32_2036 : BitVec 32 := 3#32
  let v4542 : BitVec 32 := Scalar.subi c3_i32_2036 v18
  let c3_i32_2037 : BitVec 32 := 3#32
  let v4543 : BitVec 32 := Scalar.select v4540 v4542 c3_i32_2037
  let c256_i32_2038 : BitVec 32 := 256#32
  let v4544 : BitVec 32 := Scalar.muli v4543 c256_i32_2038
  let c0_i32_2039 : BitVec 32 := 0#32
  let v4545 : BitVec 32 := Scalar.addi v4544 c0_i32_2039
  v4545
def k0_mult22 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c3_i32_2051 : BitVec 32 := 3#32
  let v4562 : BitVec 1 := Scalar.cmpi .sle v18 c3_i32_2051
  let c3_i32_2054 : BitVec 32 := 3#32
  let v4564 : BitVec 32 := Scalar.subi c3_i32_2054 v18
  let c3_i32_2055 : BitVec 32 := 3#32
  let v4565 : BitVec 32 := Scalar.select v4562 v4564 c3_i32_2055
  let c256_i32_2056 : BitVec 32 := 256#32
  let v4566 : BitVec 32 := Scalar.muli v4565 c256_i32_2056
  let c0_i32_2057 : BitVec 32 := 0#32
  let v4567 : BitVec 32 := Scalar.addi v4566 c0_i32_2057
  v4567
def k0_mult23 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c3_i32_2069 : BitVec 32 := 3#32
  let v4584 : BitVec 1 := Scalar.cmpi .sle v18 c3_i32_2069
  let c3_i32_2072 : BitVec 32 := 3#32
  let v4586 : BitVec 32 := Scalar.subi c3_i32_2072 v18
  let c3_i32_2073 : BitVec 32 := 3#32
  let v4587 : BitVec 32 := Scalar.select v4584 v4586 c3_i32_2073
  let c256_i32_2074 : BitVec 32 := 256#32
  let v4588 : BitVec 32 := Scalar.muli v4587 c256_i32_2074
  let c128_i32_2075 : BitVec 32 := 128#32
  let v4589 : BitVec 32 := Scalar.addi v4588 c128_i32_2075
  v4589
def k0_mult24 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c3_i32_2087 : BitVec 32 := 3#32
  let v4606 : BitVec 1 := Scalar.cmpi .sle v18 c3_i32_2087
  let c3_i32_2090 : BitVec 32 := 3#32
  let v4608 : BitVec 32 := Scalar.subi c3_i32_2090 v18
  let c3_i32_2091 : BitVec 32 := 3#32
  let v4609 : BitVec 32 := Scalar.select v4606 v4608 c3_i32_2091
  let c256_i32_2092 : BitVec 32 := 256#32
  let v4610 : BitVec 32 := Scalar.muli v4609 c256_i32_2092
  let c128_i32_2093 : BitVec 32 := 128#32
  let v4611 : BitVec 32 := Scalar.addi v4610 c128_i32_2093
  v4611
def k0_mult25 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c4_i32_2105 : BitVec 32 := 4#32
  let v4628 : BitVec 1 := Scalar.cmpi .sle v18 c4_i32_2105
  let c4_i32_2108 : BitVec 32 := 4#32
  let v4630 : BitVec 32 := Scalar.subi c4_i32_2108 v18
  let c4_i32_2109 : BitVec 32 := 4#32
  let v4631 : BitVec 32 := Scalar.select v4628 v4630 c4_i32_2109
  let c256_i32_2112 : BitVec 32 := 256#32
  let v4636 : BitVec 32 := Scalar.muli v4631 c256_i32_2112
  let c0_i32_2113 : BitVec 32 := 0#32
  let v4637 : BitVec 32 := Scalar.addi v4636 c0_i32_2113
  v4637
def k0_mult26 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c4_i32_2105 : BitVec 32 := 4#32
  let v4628 : BitVec 1 := Scalar.cmpi .sle v18 c4_i32_2105
  let c4_i32_2108 : BitVec 32 := 4#32
  let v4630 : BitVec 32 := Scalar.subi c4_i32_2108 v18
  let c4_i32_2109 : BitVec 32 := 4#32
  let v4631 : BitVec 32 := Scalar.select v4628 v4630 c4_i32_2109
  let c256_i32_2143 : BitVec 32 := 256#32
  let v4727 : BitVec 32 := Scalar.muli v4631 c256_i32_2143
  let c128_i32_2144 : BitVec 32 := 128#32
  let v4728 : BitVec 32 := Scalar.addi v4727 c128_i32_2144
  v4728
def k0_mult27 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c4_i32_2547 : BitVec 32 := 4#32
  let v5674 : BitVec 1 := Scalar.cmpi .sle v18 c4_i32_2547
  let c4_i32_2550 : BitVec 32 := 4#32
  let v5676 : BitVec 32 := Scalar.subi c4_i32_2550 v18
  let c4_i32_2551 : BitVec 32 := 4#32
  let v5677 : BitVec 32 := Scalar.select v5674 v5676 c4_i32_2551
  let c256_i32_2552 : BitVec 32 := 256#32
  let v5678 : BitVec 32 := Scalar.muli v5677 c256_i32_2552
  let c0_i32_2553 : BitVec 32 := 0#32
  let v5679 : BitVec 32 := Scalar.addi v5678 c0_i32_2553
  v5679
def k0_mult28 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c4_i32_2565 : BitVec 32 := 4#32
  let v5696 : BitVec 1 := Scalar.cmpi .sle v18 c4_i32_2565
  let c4_i32_2568 : BitVec 32 := 4#32
  let v5698 : BitVec 32 := Scalar.subi c4_i32_2568 v18
  let c4_i32_2569 : BitVec 32 := 4#32
  let v5699 : BitVec 32 := Scalar.select v5696 v5698 c4_i32_2569
  let c256_i32_2570 : BitVec 32 := 256#32
  let v5700 : BitVec 32 := Scalar.muli v5699 c256_i32_2570
  let c0_i32_2571 : BitVec 32 := 0#32
  let v5701 : BitVec 32 := Scalar.addi v5700 c0_i32_2571
  v5701
def k0_mult29 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c4_i32_2583 : BitVec 32 := 4#32
  let v5718 : BitVec 1 := Scalar.cmpi .sle v18 c4_i32_2583
  let c4_i32_2586 : BitVec 32 := 4#32
  let v5720 : BitVec 32 := Scalar.subi c4_i32_2586 v18
  let c4_i32_2587 : BitVec 32 := 4#32
  let v5721 : BitVec 32 := Scalar.select v5718 v5720 c4_i32_2587
  let c256_i32_2588 : BitVec 32 := 256#32
  let v5722 : BitVec 32 := Scalar.muli v5721 c256_i32_2588
  let c128_i32_2589 : BitVec 32 := 128#32
  let v5723 : BitVec 32 := Scalar.addi v5722 c128_i32_2589
  v5723
def k0_mult30 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c4_i32_2601 : BitVec 32 := 4#32
  let v5740 : BitVec 1 := Scalar.cmpi .sle v18 c4_i32_2601
  let c4_i32_2604 : BitVec 32 := 4#32
  let v5742 : BitVec 32 := Scalar.subi c4_i32_2604 v18
  let c4_i32_2605 : BitVec 32 := 4#32
  let v5743 : BitVec 32 := Scalar.select v5740 v5742 c4_i32_2605
  let c256_i32_2606 : BitVec 32 := 256#32
  let v5744 : BitVec 32 := Scalar.muli v5743 c256_i32_2606
  let c128_i32_2607 : BitVec 32 := 128#32
  let v5745 : BitVec 32 := Scalar.addi v5744 c128_i32_2607
  v5745
def k0_mult31 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c5_i32 : BitVec 32 := 5#32
  let v5762 : BitVec 1 := Scalar.cmpi .sle v18 c5_i32
  let c5_i32_2621 : BitVec 32 := 5#32
  let v5764 : BitVec 32 := Scalar.subi c5_i32_2621 v18
  let c5_i32_2622 : BitVec 32 := 5#32
  let v5765 : BitVec 32 := Scalar.select v5762 v5764 c5_i32_2622
  let c256_i32_2625 : BitVec 32 := 256#32
  let v5770 : BitVec 32 := Scalar.muli v5765 c256_i32_2625
  let c0_i32_2626 : BitVec 32 := 0#32
  let v5771 : BitVec 32 := Scalar.addi v5770 c0_i32_2626
  v5771
def k0_mult32 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c5_i32 : BitVec 32 := 5#32
  let v5762 : BitVec 1 := Scalar.cmpi .sle v18 c5_i32
  let c5_i32_2621 : BitVec 32 := 5#32
  let v5764 : BitVec 32 := Scalar.subi c5_i32_2621 v18
  let c5_i32_2622 : BitVec 32 := 5#32
  let v5765 : BitVec 32 := Scalar.select v5762 v5764 c5_i32_2622
  let c256_i32_2656 : BitVec 32 := 256#32
  let v5861 : BitVec 32 := Scalar.muli v5765 c256_i32_2656
  let c128_i32_2657 : BitVec 32 := 128#32
  let v5862 : BitVec 32 := Scalar.addi v5861 c128_i32_2657
  v5862
def k0_mult33 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c5_i32_3060 : BitVec 32 := 5#32
  let v6808 : BitVec 1 := Scalar.cmpi .sle v18 c5_i32_3060
  let c5_i32_3063 : BitVec 32 := 5#32
  let v6810 : BitVec 32 := Scalar.subi c5_i32_3063 v18
  let c5_i32_3064 : BitVec 32 := 5#32
  let v6811 : BitVec 32 := Scalar.select v6808 v6810 c5_i32_3064
  let c256_i32_3065 : BitVec 32 := 256#32
  let v6812 : BitVec 32 := Scalar.muli v6811 c256_i32_3065
  let c0_i32_3066 : BitVec 32 := 0#32
  let v6813 : BitVec 32 := Scalar.addi v6812 c0_i32_3066
  v6813
def k0_mult34 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c5_i32_3078 : BitVec 32 := 5#32
  let v6830 : BitVec 1 := Scalar.cmpi .sle v18 c5_i32_3078
  let c5_i32_3081 : BitVec 32 := 5#32
  let v6832 : BitVec 32 := Scalar.subi c5_i32_3081 v18
  let c5_i32_3082 : BitVec 32 := 5#32
  let v6833 : BitVec 32 := Scalar.select v6830 v6832 c5_i32_3082
  let c256_i32_3083 : BitVec 32 := 256#32
  let v6834 : BitVec 32 := Scalar.muli v6833 c256_i32_3083
  let c0_i32_3084 : BitVec 32 := 0#32
  let v6835 : BitVec 32 := Scalar.addi v6834 c0_i32_3084
  v6835
def k0_mult35 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c5_i32_3096 : BitVec 32 := 5#32
  let v6852 : BitVec 1 := Scalar.cmpi .sle v18 c5_i32_3096
  let c5_i32_3099 : BitVec 32 := 5#32
  let v6854 : BitVec 32 := Scalar.subi c5_i32_3099 v18
  let c5_i32_3100 : BitVec 32 := 5#32
  let v6855 : BitVec 32 := Scalar.select v6852 v6854 c5_i32_3100
  let c256_i32_3101 : BitVec 32 := 256#32
  let v6856 : BitVec 32 := Scalar.muli v6855 c256_i32_3101
  let c128_i32_3102 : BitVec 32 := 128#32
  let v6857 : BitVec 32 := Scalar.addi v6856 c128_i32_3102
  v6857
def k0_mult36 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c5_i32_3114 : BitVec 32 := 5#32
  let v6874 : BitVec 1 := Scalar.cmpi .sle v18 c5_i32_3114
  let c5_i32_3117 : BitVec 32 := 5#32
  let v6876 : BitVec 32 := Scalar.subi c5_i32_3117 v18
  let c5_i32_3118 : BitVec 32 := 5#32
  let v6877 : BitVec 32 := Scalar.select v6874 v6876 c5_i32_3118
  let c256_i32_3119 : BitVec 32 := 256#32
  let v6878 : BitVec 32 := Scalar.muli v6877 c256_i32_3119
  let c128_i32_3120 : BitVec 32 := 128#32
  let v6879 : BitVec 32 := Scalar.addi v6878 c128_i32_3120
  v6879
def k0_mult37 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c6_i32 : BitVec 32 := 6#32
  let v6896 : BitVec 1 := Scalar.cmpi .sle v18 c6_i32
  let c6_i32_3134 : BitVec 32 := 6#32
  let v6898 : BitVec 32 := Scalar.subi c6_i32_3134 v18
  let c6_i32_3135 : BitVec 32 := 6#32
  let v6899 : BitVec 32 := Scalar.select v6896 v6898 c6_i32_3135
  let c256_i32_3138 : BitVec 32 := 256#32
  let v6904 : BitVec 32 := Scalar.muli v6899 c256_i32_3138
  let c0_i32_3139 : BitVec 32 := 0#32
  let v6905 : BitVec 32 := Scalar.addi v6904 c0_i32_3139
  v6905
def k0_mult38 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c6_i32 : BitVec 32 := 6#32
  let v6896 : BitVec 1 := Scalar.cmpi .sle v18 c6_i32
  let c6_i32_3134 : BitVec 32 := 6#32
  let v6898 : BitVec 32 := Scalar.subi c6_i32_3134 v18
  let c6_i32_3135 : BitVec 32 := 6#32
  let v6899 : BitVec 32 := Scalar.select v6896 v6898 c6_i32_3135
  let c256_i32_3169 : BitVec 32 := 256#32
  let v6995 : BitVec 32 := Scalar.muli v6899 c256_i32_3169
  let c128_i32_3170 : BitVec 32 := 128#32
  let v6996 : BitVec 32 := Scalar.addi v6995 c128_i32_3170
  v6996
def k0_mult39 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c6_i32_3573 : BitVec 32 := 6#32
  let v7942 : BitVec 1 := Scalar.cmpi .sle v18 c6_i32_3573
  let c6_i32_3576 : BitVec 32 := 6#32
  let v7944 : BitVec 32 := Scalar.subi c6_i32_3576 v18
  let c6_i32_3577 : BitVec 32 := 6#32
  let v7945 : BitVec 32 := Scalar.select v7942 v7944 c6_i32_3577
  let c256_i32_3578 : BitVec 32 := 256#32
  let v7946 : BitVec 32 := Scalar.muli v7945 c256_i32_3578
  let c0_i32_3579 : BitVec 32 := 0#32
  let v7947 : BitVec 32 := Scalar.addi v7946 c0_i32_3579
  v7947
def k0_mult40 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c6_i32_3591 : BitVec 32 := 6#32
  let v7964 : BitVec 1 := Scalar.cmpi .sle v18 c6_i32_3591
  let c6_i32_3594 : BitVec 32 := 6#32
  let v7966 : BitVec 32 := Scalar.subi c6_i32_3594 v18
  let c6_i32_3595 : BitVec 32 := 6#32
  let v7967 : BitVec 32 := Scalar.select v7964 v7966 c6_i32_3595
  let c256_i32_3596 : BitVec 32 := 256#32
  let v7968 : BitVec 32 := Scalar.muli v7967 c256_i32_3596
  let c0_i32_3597 : BitVec 32 := 0#32
  let v7969 : BitVec 32 := Scalar.addi v7968 c0_i32_3597
  v7969
def k0_mult41 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c6_i32_3609 : BitVec 32 := 6#32
  let v7986 : BitVec 1 := Scalar.cmpi .sle v18 c6_i32_3609
  let c6_i32_3612 : BitVec 32 := 6#32
  let v7988 : BitVec 32 := Scalar.subi c6_i32_3612 v18
  let c6_i32_3613 : BitVec 32 := 6#32
  let v7989 : BitVec 32 := Scalar.select v7986 v7988 c6_i32_3613
  let c256_i32_3614 : BitVec 32 := 256#32
  let v7990 : BitVec 32 := Scalar.muli v7989 c256_i32_3614
  let c128_i32_3615 : BitVec 32 := 128#32
  let v7991 : BitVec 32 := Scalar.addi v7990 c128_i32_3615
  v7991
def k0_mult42 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c6_i32_3627 : BitVec 32 := 6#32
  let v8008 : BitVec 1 := Scalar.cmpi .sle v18 c6_i32_3627
  let c6_i32_3630 : BitVec 32 := 6#32
  let v8010 : BitVec 32 := Scalar.subi c6_i32_3630 v18
  let c6_i32_3631 : BitVec 32 := 6#32
  let v8011 : BitVec 32 := Scalar.select v8008 v8010 c6_i32_3631
  let c256_i32_3632 : BitVec 32 := 256#32
  let v8012 : BitVec 32 := Scalar.muli v8011 c256_i32_3632
  let c128_i32_3633 : BitVec 32 := 128#32
  let v8013 : BitVec 32 := Scalar.addi v8012 c128_i32_3633
  v8013
def k0_mult43 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c7_i32 : BitVec 32 := 7#32
  let v8030 : BitVec 1 := Scalar.cmpi .sle v18 c7_i32
  let c7_i32_3647 : BitVec 32 := 7#32
  let v8032 : BitVec 32 := Scalar.subi c7_i32_3647 v18
  let c7_i32_3648 : BitVec 32 := 7#32
  let v8033 : BitVec 32 := Scalar.select v8030 v8032 c7_i32_3648
  let c256_i32_3651 : BitVec 32 := 256#32
  let v8038 : BitVec 32 := Scalar.muli v8033 c256_i32_3651
  let c0_i32_3652 : BitVec 32 := 0#32
  let v8039 : BitVec 32 := Scalar.addi v8038 c0_i32_3652
  v8039
def k0_mult44 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c7_i32 : BitVec 32 := 7#32
  let v8030 : BitVec 1 := Scalar.cmpi .sle v18 c7_i32
  let c7_i32_3647 : BitVec 32 := 7#32
  let v8032 : BitVec 32 := Scalar.subi c7_i32_3647 v18
  let c7_i32_3648 : BitVec 32 := 7#32
  let v8033 : BitVec 32 := Scalar.select v8030 v8032 c7_i32_3648
  let c256_i32_3682 : BitVec 32 := 256#32
  let v8129 : BitVec 32 := Scalar.muli v8033 c256_i32_3682
  let c128_i32_3683 : BitVec 32 := 128#32
  let v8130 : BitVec 32 := Scalar.addi v8129 c128_i32_3683
  v8130
def k0_mult45 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c7_i32_4086 : BitVec 32 := 7#32
  let v9076 : BitVec 1 := Scalar.cmpi .sle v18 c7_i32_4086
  let c7_i32_4089 : BitVec 32 := 7#32
  let v9078 : BitVec 32 := Scalar.subi c7_i32_4089 v18
  let c7_i32_4090 : BitVec 32 := 7#32
  let v9079 : BitVec 32 := Scalar.select v9076 v9078 c7_i32_4090
  let c256_i32_4091 : BitVec 32 := 256#32
  let v9080 : BitVec 32 := Scalar.muli v9079 c256_i32_4091
  let c0_i32_4092 : BitVec 32 := 0#32
  let v9081 : BitVec 32 := Scalar.addi v9080 c0_i32_4092
  v9081
def k0_mult46 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c7_i32_4104 : BitVec 32 := 7#32
  let v9098 : BitVec 1 := Scalar.cmpi .sle v18 c7_i32_4104
  let c7_i32_4107 : BitVec 32 := 7#32
  let v9100 : BitVec 32 := Scalar.subi c7_i32_4107 v18
  let c7_i32_4108 : BitVec 32 := 7#32
  let v9101 : BitVec 32 := Scalar.select v9098 v9100 c7_i32_4108
  let c256_i32_4109 : BitVec 32 := 256#32
  let v9102 : BitVec 32 := Scalar.muli v9101 c256_i32_4109
  let c0_i32_4110 : BitVec 32 := 0#32
  let v9103 : BitVec 32 := Scalar.addi v9102 c0_i32_4110
  v9103
def k0_mult47 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c7_i32_4122 : BitVec 32 := 7#32
  let v9120 : BitVec 1 := Scalar.cmpi .sle v18 c7_i32_4122
  let c7_i32_4125 : BitVec 32 := 7#32
  let v9122 : BitVec 32 := Scalar.subi c7_i32_4125 v18
  let c7_i32_4126 : BitVec 32 := 7#32
  let v9123 : BitVec 32 := Scalar.select v9120 v9122 c7_i32_4126
  let c256_i32_4127 : BitVec 32 := 256#32
  let v9124 : BitVec 32 := Scalar.muli v9123 c256_i32_4127
  let c128_i32_4128 : BitVec 32 := 128#32
  let v9125 : BitVec 32 := Scalar.addi v9124 c128_i32_4128
  v9125
def k0_mult48 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c7_i32_4140 : BitVec 32 := 7#32
  let v9142 : BitVec 1 := Scalar.cmpi .sle v18 c7_i32_4140
  let c7_i32_4143 : BitVec 32 := 7#32
  let v9144 : BitVec 32 := Scalar.subi c7_i32_4143 v18
  let c7_i32_4144 : BitVec 32 := 7#32
  let v9145 : BitVec 32 := Scalar.select v9142 v9144 c7_i32_4144
  let c256_i32_4145 : BitVec 32 := 256#32
  let v9146 : BitVec 32 := Scalar.muli v9145 c256_i32_4145
  let c128_i32_4146 : BitVec 32 := 128#32
  let v9147 : BitVec 32 := Scalar.addi v9146 c128_i32_4146
  v9147
def k0_mult49 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32_4158 : BitVec 32 := 8#32
  let v9164 : BitVec 1 := Scalar.cmpi .sle v18 c8_i32_4158
  let c8_i32_4161 : BitVec 32 := 8#32
  let v9166 : BitVec 32 := Scalar.subi c8_i32_4161 v18
  let c8_i32_4162 : BitVec 32 := 8#32
  let v9167 : BitVec 32 := Scalar.select v9164 v9166 c8_i32_4162
  let c256_i32_4165 : BitVec 32 := 256#32
  let v9172 : BitVec 32 := Scalar.muli v9167 c256_i32_4165
  let c0_i32_4166 : BitVec 32 := 0#32
  let v9173 : BitVec 32 := Scalar.addi v9172 c0_i32_4166
  v9173
def k0_mult50 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32_4158 : BitVec 32 := 8#32
  let v9164 : BitVec 1 := Scalar.cmpi .sle v18 c8_i32_4158
  let c8_i32_4161 : BitVec 32 := 8#32
  let v9166 : BitVec 32 := Scalar.subi c8_i32_4161 v18
  let c8_i32_4162 : BitVec 32 := 8#32
  let v9167 : BitVec 32 := Scalar.select v9164 v9166 c8_i32_4162
  let c256_i32_4196 : BitVec 32 := 256#32
  let v9263 : BitVec 32 := Scalar.muli v9167 c256_i32_4196
  let c128_i32_4197 : BitVec 32 := 128#32
  let v9264 : BitVec 32 := Scalar.addi v9263 c128_i32_4197
  v9264
def k0_mult51 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32_4600 : BitVec 32 := 8#32
  let v10210 : BitVec 1 := Scalar.cmpi .sle v18 c8_i32_4600
  let c8_i32_4603 : BitVec 32 := 8#32
  let v10212 : BitVec 32 := Scalar.subi c8_i32_4603 v18
  let c8_i32_4604 : BitVec 32 := 8#32
  let v10213 : BitVec 32 := Scalar.select v10210 v10212 c8_i32_4604
  let c256_i32_4605 : BitVec 32 := 256#32
  let v10214 : BitVec 32 := Scalar.muli v10213 c256_i32_4605
  let c0_i32_4606 : BitVec 32 := 0#32
  let v10215 : BitVec 32 := Scalar.addi v10214 c0_i32_4606
  v10215
def k0_mult52 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32_4618 : BitVec 32 := 8#32
  let v10232 : BitVec 1 := Scalar.cmpi .sle v18 c8_i32_4618
  let c8_i32_4621 : BitVec 32 := 8#32
  let v10234 : BitVec 32 := Scalar.subi c8_i32_4621 v18
  let c8_i32_4622 : BitVec 32 := 8#32
  let v10235 : BitVec 32 := Scalar.select v10232 v10234 c8_i32_4622
  let c256_i32_4623 : BitVec 32 := 256#32
  let v10236 : BitVec 32 := Scalar.muli v10235 c256_i32_4623
  let c0_i32_4624 : BitVec 32 := 0#32
  let v10237 : BitVec 32 := Scalar.addi v10236 c0_i32_4624
  v10237
def k0_mult53 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32_4636 : BitVec 32 := 8#32
  let v10254 : BitVec 1 := Scalar.cmpi .sle v18 c8_i32_4636
  let c8_i32_4639 : BitVec 32 := 8#32
  let v10256 : BitVec 32 := Scalar.subi c8_i32_4639 v18
  let c8_i32_4640 : BitVec 32 := 8#32
  let v10257 : BitVec 32 := Scalar.select v10254 v10256 c8_i32_4640
  let c256_i32_4641 : BitVec 32 := 256#32
  let v10258 : BitVec 32 := Scalar.muli v10257 c256_i32_4641
  let c128_i32_4642 : BitVec 32 := 128#32
  let v10259 : BitVec 32 := Scalar.addi v10258 c128_i32_4642
  v10259
def k0_mult54 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32_4654 : BitVec 32 := 8#32
  let v10276 : BitVec 1 := Scalar.cmpi .sle v18 c8_i32_4654
  let c8_i32_4657 : BitVec 32 := 8#32
  let v10278 : BitVec 32 := Scalar.subi c8_i32_4657 v18
  let c8_i32_4658 : BitVec 32 := 8#32
  let v10279 : BitVec 32 := Scalar.select v10276 v10278 c8_i32_4658
  let c256_i32_4659 : BitVec 32 := 256#32
  let v10280 : BitVec 32 := Scalar.muli v10279 c256_i32_4659
  let c128_i32_4660 : BitVec 32 := 128#32
  let v10281 : BitVec 32 := Scalar.addi v10280 c128_i32_4660
  v10281
@[reducible] def k0_t1_loop : Scf.Loop 32 :=
  let c0_i32_4675 : BitVec 32 := 0#32
  let c32_i32 : BitVec 32 := 32#32
  let v10302 : BitVec 32 := Scalar.addi c0_i32_4675 c32_i32
  let c1_i32_4676 : BitVec 32 := 1#32
  ⟨c0_i32_4675, v10302, c1_i32_4676⟩
def k0_off10 (k0_t1 : Fin k0_t1_loop.trips) : Fin 4 → Nat :=
  let c0_6234 : Index := 0#32
  let c0_i32_4675 : BitVec 32 := 0#32
  let c1_i32_4676 : BitVec 32 := 1#32
  let arg21 : BitVec 32 := Scf.iv c0_i32_4675 c1_i32_4676 k0_t1
  let v12629 : Index := Scalar.indexCast arg21
  let c0_6235 : Index := 0#32
  let c0_6236 : Index := 0#32
  ![0, v12629.toNat, 0, 0]
def k0_off11 (k0_t1 : Fin k0_t1_loop.trips) : Fin 4 → Nat :=
  let c1_6237 : Index := 1#32
  let c0_i32_4675 : BitVec 32 := 0#32
  let c1_i32_4676 : BitVec 32 := 1#32
  let arg21 : BitVec 32 := Scf.iv c0_i32_4675 c1_i32_4676 k0_t1
  let v12633 : Index := Scalar.indexCast arg21
  let c0_6238 : Index := 0#32
  let c0_6239 : Index := 0#32
  ![1, v12633.toNat, 0, 0]
def k0_off12 (k0_t1 : Fin k0_t1_loop.trips) : Fin 4 → Nat :=
  let c2_6240 : Index := 2#32
  let c0_i32_4675 : BitVec 32 := 0#32
  let c1_i32_4676 : BitVec 32 := 1#32
  let arg21 : BitVec 32 := Scf.iv c0_i32_4675 c1_i32_4676 k0_t1
  let v12637 : Index := Scalar.indexCast arg21
  let c0_6241 : Index := 0#32
  let c0_6242 : Index := 0#32
  ![2, v12637.toNat, 0, 0]
def k0_off13 (k0_t1 : Fin k0_t1_loop.trips) : Fin 4 → Nat :=
  let c3_6243 : Index := 3#32
  let c0_i32_4675 : BitVec 32 := 0#32
  let c1_i32_4676 : BitVec 32 := 1#32
  let arg21 : BitVec 32 := Scf.iv c0_i32_4675 c1_i32_4676 k0_t1
  let v12641 : Index := Scalar.indexCast arg21
  let c0_6244 : Index := 0#32
  let c0_6245 : Index := 0#32
  ![3, v12641.toNat, 0, 0]
def k0_off14 (k0_t1 : Fin k0_t1_loop.trips) : Fin 4 → Nat :=
  let c4_6246 : Index := 4#32
  let c0_i32_4675 : BitVec 32 := 0#32
  let c1_i32_4676 : BitVec 32 := 1#32
  let arg21 : BitVec 32 := Scf.iv c0_i32_4675 c1_i32_4676 k0_t1
  let v12645 : Index := Scalar.indexCast arg21
  let c0_6247 : Index := 0#32
  let c0_6248 : Index := 0#32
  ![4, v12645.toNat, 0, 0]
def k0_off15 (k0_t1 : Fin k0_t1_loop.trips) : Fin 4 → Nat :=
  let c5_6249 : Index := 5#32
  let c0_i32_4675 : BitVec 32 := 0#32
  let c1_i32_4676 : BitVec 32 := 1#32
  let arg21 : BitVec 32 := Scf.iv c0_i32_4675 c1_i32_4676 k0_t1
  let v12649 : Index := Scalar.indexCast arg21
  let c0_6250 : Index := 0#32
  let c0_6251 : Index := 0#32
  ![5, v12649.toNat, 0, 0]
def k0_off16 (k0_t1 : Fin k0_t1_loop.trips) : Fin 4 → Nat :=
  let c6_6252 : Index := 6#32
  let c0_i32_4675 : BitVec 32 := 0#32
  let c1_i32_4676 : BitVec 32 := 1#32
  let arg21 : BitVec 32 := Scf.iv c0_i32_4675 c1_i32_4676 k0_t1
  let v12653 : Index := Scalar.indexCast arg21
  let c0_6253 : Index := 0#32
  let c0_6254 : Index := 0#32
  ![6, v12653.toNat, 0, 0]
def k0_off17 (k0_t1 : Fin k0_t1_loop.trips) : Fin 4 → Nat :=
  let c7_6255 : Index := 7#32
  let c0_i32_4675 : BitVec 32 := 0#32
  let c1_i32_4676 : BitVec 32 := 1#32
  let arg21 : BitVec 32 := Scf.iv c0_i32_4675 c1_i32_4676 k0_t1
  let v12657 : Index := Scalar.indexCast arg21
  let c0_6256 : Index := 0#32
  let c0_6257 : Index := 0#32
  ![7, v12657.toNat, 0, 0]
def k0_off18 (k0_t1 : Fin k0_t1_loop.trips) : Fin 4 → Nat :=
  let c8_6258 : Index := 8#32
  let c0_i32_4675 : BitVec 32 := 0#32
  let c1_i32_4676 : BitVec 32 := 1#32
  let arg21 : BitVec 32 := Scf.iv c0_i32_4675 c1_i32_4676 k0_t1
  let v12661 : Index := Scalar.indexCast arg21
  let c0_6259 : Index := 0#32
  let c0_6260 : Index := 0#32
  ![8, v12661.toNat, 0, 0]
@[reducible] def k0_t2_loop : Scf.Loop 32 :=
  let c0_i32_6234 : BitVec 32 := 0#32
  let c32_i32_6235 : BitVec 32 := 32#32
  let v12629 : BitVec 32 := Scalar.addi c0_i32_6234 c32_i32_6235
  let c1_i32_6236 : BitVec 32 := 1#32
  ⟨c0_i32_6234, v12629, c1_i32_6236⟩
@[reducible] def k0_t3_loop : Scf.Loop 32 :=
  let c0_i32_6234 : BitVec 32 := 0#32
  let c11_i32 : BitVec 32 := 11#32
  let v12629 : BitVec 32 := Scalar.addi c0_i32_6234 c11_i32
  let c1_i32_6235 : BitVec 32 := 1#32
  ⟨c0_i32_6234, v12629, c1_i32_6235⟩
def k0_off19 (i : grid0.Coords) (c0_i32_4967 : BitVec 32) (c0_i32_4968 : BitVec 32) (c0_i32_4969 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v10915 : BitVec 1 := Scalar.cmpi .sle v18 c0_i32_4967
  let v10916 : BitVec 32 := Scalar.subi c0_i32_4968 v18
  let v10917 : BitVec 32 := Scalar.select v10915 v10916 c0_i32_4969
  let v10930 : Index := Scalar.indexCast v10917
  let c0_4979 : Index := 0#32
  let c0_4980 : Index := 0#32
  ![v10930.toNat, 0, 0]
def k0_off19_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def k0_off20 (i : grid0.Coords) (c0_i32_4967 : BitVec 32) (c0_i32_4968 : BitVec 32) (c0_i32_4969 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v10915 : BitVec 1 := Scalar.cmpi .sle v18 c0_i32_4967
  let v10916 : BitVec 32 := Scalar.subi c0_i32_4968 v18
  let v10917 : BitVec 32 := Scalar.select v10915 v10916 c0_i32_4969
  let v10947 : Index := Scalar.indexCast v10917
  let c0_4990 : Index := 0#32
  let c128_4991 : Index := 128#32
  ![v10947.toNat, 0, 128]
def k0_off20_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def k0_off21 (i : grid0.Coords) (c0_i32_4967 : BitVec 32) (c0_i32_4968 : BitVec 32) (c0_i32_4969 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v10915 : BitVec 1 := Scalar.cmpi .sle v18 c0_i32_4967
  let v10916 : BitVec 32 := Scalar.subi c0_i32_4968 v18
  let v10917 : BitVec 32 := Scalar.select v10915 v10916 c0_i32_4969
  let v11007 : Index := Scalar.indexCast v10917
  let c64_5033 : Index := 64#32
  let c0_5034 : Index := 0#32
  ![v11007.toNat, 64, 0]
def k0_off21_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def k0_off22 (i : grid0.Coords) (c0_i32_4967 : BitVec 32) (c0_i32_4968 : BitVec 32) (c0_i32_4969 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v10915 : BitVec 1 := Scalar.cmpi .sle v18 c0_i32_4967
  let v10916 : BitVec 32 := Scalar.subi c0_i32_4968 v18
  let v10917 : BitVec 32 := Scalar.select v10915 v10916 c0_i32_4969
  let v11024 : Index := Scalar.indexCast v10917
  let c64_5044 : Index := 64#32
  let c128_5045 : Index := 128#32
  ![v11024.toNat, 64, 128]
def k0_off22_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def k0_off23 (i : grid0.Coords) (c0_i32_6518 : BitVec 32) (c0_i32_6519 : BitVec 32) (c0_i32_6520 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v13025 : BitVec 1 := Scalar.cmpi .sle v18 c0_i32_6518
  let v13026 : BitVec 32 := Scalar.subi c0_i32_6519 v18
  let v13027 : BitVec 32 := Scalar.select v13025 v13026 c0_i32_6520
  let v13040 : Index := Scalar.indexCast v13027
  let c0_6530 : Index := 0#32
  let c0_6531 : Index := 0#32
  ![v13040.toNat, 0, 0]
def k0_off23_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def k0_off24 (i : grid0.Coords) (c0_i32_6518 : BitVec 32) (c0_i32_6519 : BitVec 32) (c0_i32_6520 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v13025 : BitVec 1 := Scalar.cmpi .sle v18 c0_i32_6518
  let v13026 : BitVec 32 := Scalar.subi c0_i32_6519 v18
  let v13027 : BitVec 32 := Scalar.select v13025 v13026 c0_i32_6520
  let v13057 : Index := Scalar.indexCast v13027
  let c0_6541 : Index := 0#32
  let c128_6542 : Index := 128#32
  ![v13057.toNat, 0, 128]
def k0_off24_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def k0_off25 (i : grid0.Coords) (c0_i32_6518 : BitVec 32) (c0_i32_6519 : BitVec 32) (c0_i32_6520 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v13025 : BitVec 1 := Scalar.cmpi .sle v18 c0_i32_6518
  let v13026 : BitVec 32 := Scalar.subi c0_i32_6519 v18
  let v13027 : BitVec 32 := Scalar.select v13025 v13026 c0_i32_6520
  let v13117 : Index := Scalar.indexCast v13027
  let c64_6584 : Index := 64#32
  let c0_6585 : Index := 0#32
  ![v13117.toNat, 64, 0]
def k0_off25_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def k0_off26 (i : grid0.Coords) (c0_i32_6518 : BitVec 32) (c0_i32_6519 : BitVec 32) (c0_i32_6520 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v13025 : BitVec 1 := Scalar.cmpi .sle v18 c0_i32_6518
  let v13026 : BitVec 32 := Scalar.subi c0_i32_6519 v18
  let v13027 : BitVec 32 := Scalar.select v13025 v13026 c0_i32_6520
  let v13134 : Index := Scalar.indexCast v13027
  let c64_6595 : Index := 64#32
  let c128_6596 : Index := 128#32
  ![v13134.toNat, 64, 128]
def k0_off26_at (r : Fin 9) : BitVec 32 × BitVec 32 × BitVec 32 :=
  if r.val < 4 then
    if r.val < 2 then
      if r.val < 1 then
        (0#32, 0#32, 0#32)
      else
        (1#32, 1#32, 1#32)
    else
      if r.val < 3 then
        (2#32, 2#32, 2#32)
      else
        (3#32, 3#32, 3#32)
  else
    if r.val < 6 then
      if r.val < 5 then
        (4#32, 4#32, 4#32)
      else
        (5#32, 5#32, 5#32)
    else
      if r.val < 7 then
        (6#32, 6#32, 6#32)
      else
        if r.val < 8 then
          (7#32, 7#32, 7#32)
        else
          (8#32, 8#32, 8#32)
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![c0_i32.toNat, v3.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![c0_i32.toNat, v3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![c0_i32.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Mlp.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16x16x128x512 : Shape := ⟨4, ![16, 16, 128, 512]⟩
abbrev S16x8x128x512 : Shape := ⟨4, ![16, 8, 128, 512]⟩
abbrev S1x1024 : Shape := ⟨2, ![1, 1024]⟩
abbrev S512x1024 : Shape := ⟨2, ![512, 1024]⟩
abbrev S1x4x128x512 : Shape := ⟨4, ![1, 4, 128, 512]⟩
abbrev S512x512 : Shape := ⟨2, ![512, 512]⟩
abbrev S1x1x128x512 : Shape := ⟨4, ![1, 1, 128, 512]⟩
abbrev S128x512 : Shape := ⟨2, ![128, 512]⟩
abbrev S512 : Shape := ⟨1, ![512]⟩
abbrev S512x1 : Shape := ⟨2, ![512, 1]⟩

abbrev nBuf : Space → Nat
  | .hbm => 18
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S32768x512, .bf16⟩
  | .hbm, ⟨8, _⟩ => ⟨S16x16x128x512, .bf16⟩
  | .hbm, ⟨9, _⟩ => ⟨S16x8x128x512, .bf16⟩
  | .hbm, ⟨10, _⟩ => ⟨S16x8x128x512, .bf16⟩
  | .hbm, ⟨11, _⟩ => ⟨S16x8x128x512, .bf16⟩
  | .hbm, ⟨12, _⟩ => ⟨S32768x512, .bf16⟩
  | .hbm, ⟨13, _⟩ => ⟨S1024x1024, .bf16⟩
  | .hbm, ⟨14, _⟩ => ⟨S1x1024, .f32⟩
  | .hbm, ⟨15, _⟩ => ⟨S1024x4096, .bf16⟩
  | .hbm, ⟨16, _⟩ => ⟨S4096x1024, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x4x128x512, .bf16⟩
  | .local _ .vmem, ⟨3, _⟩ => ⟨S1x4x128x512, .bf16⟩
  | .local _ .vmem, ⟨4, _⟩ => ⟨S1x4x128x512, .bf16⟩
  | .local _ .vmem, ⟨5, _⟩ => ⟨S1x4x128x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.minsi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.subi c3_i32 v26
  let c0_i32_10 : BitVec 32 := 0#32
  let c1_i32_11 : BitVec 32 := 1#32
  let v28 : BitVec 32 := Scalar.maxsi c0_i32_10 v27
  let v29 : BitVec 32 := Scalar.minsi c1_i32_11 v28
  let c0_i32_12 : BitVec 32 := 0#32
  let c0_i32_13 : BitVec 32 := 0#32
  let c0_i32_14 : BitVec 32 := 0#32
  ![v16.toNat, v29.toNat, c0_i32_12.toNat, c0_i32_13.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlpReferenceIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x4096, .f32⟩
  | .hbm, ⟨27, _⟩ => ⟨S_, .f32⟩
  | .hbm, ⟨28, _⟩ => ⟨S32768x4096, .f32⟩
  | .hbm, ⟨29, _⟩ => ⟨S32768x4096, .f32⟩
  | .hbm, ⟨30, _⟩ => ⟨S32768x4096, .f32⟩
  | .hbm, ⟨31, _⟩ => ⟨S32768x1024, .f32⟩
  | .hbm, ⟨32, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x3400 : Shape := ⟨2, ![1024, 3400]⟩
abbrev S64 : Shape := ⟨1, ![64]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S_ : Shape := ⟨0, ![]⟩
abbrev S1024x2304 : Shape := ⟨2, ![1024, 2304]⟩
abbrev S1024x1360 : Shape := ⟨2, ![1024, 1360]⟩
abbrev S1360x1024 : Shape := ⟨2, ![1360, 1024]⟩
abbrev S1024x120 : Shape := ⟨2, ![1024, 120]⟩
abbrev S1024x1280 : Shape := ⟨2, ![1024, 1280]⟩
abbrev S1x64 : Shape := ⟨2, ![1, 64]⟩
abbrev S8x64 : Shape := ⟨2, ![8, 64]⟩
abbrev S512 : Shape := ⟨1, ![512]⟩
abbrev S512x1 : Shape := ⟨2, ![512, 1]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S128x1 : Shape := ⟨2, ![128, 1]⟩
abbrev S64x1 : Shape := ⟨2, ![64, 1]⟩
abbrev S32768x128 : Shape := ⟨2, ![32768, 128]⟩
abbrev S32768x64 : Shape := ⟨2, ![32768, 64]⟩
abbrev S32768x2048 : Shape := ⟨2, ![32768, 2048]⟩
abbrev S512x32768 : Shape := ⟨2, ![512, 32768]⟩
abbrev S128x32768 : Shape := ⟨2, ![128, 32768]⟩
abbrev S8x32768 : Shape := ⟨2, ![8, 32768]⟩
abbrev S16x128x2048 : Shape := ⟨3, ![16, 128, 2048]⟩
abbrev S16x64x2048 : Shape := ⟨3, ![16, 64, 2048]⟩
abbrev S512x1024 : Shape := ⟨2, ![512, 1024]⟩
abbrev S512x128 : Shape := ⟨2, ![512, 128]⟩
abbrev S512x64 : Shape := ⟨2, ![512, 64]⟩
abbrev S512x2048 : Shape := ⟨2, ![512, 2048]⟩
abbrev S512x512 : Shape := ⟨2, ![512, 512]⟩
abbrev S128x512 : Shape := ⟨2, ![128, 512]⟩
abbrev S8x512 : Shape := ⟨2, ![8, 512]⟩
abbrev S1x128x512 : Shape := ⟨3, ![1, 128, 512]⟩
abbrev S1x64x512 : Shape := ⟨3, ![1, 64, 512]⟩
abbrev S512x2304 : Shape := ⟨2, ![512, 2304]⟩
abbrev S1360x512 : Shape := ⟨2, ![1360, 512]⟩
abbrev S64x512 : Shape := ⟨2, ![64, 512]⟩
abbrev S1x512 : Shape := ⟨2, ![1, 512]⟩

abbrev nBuf : Space → Nat
  | .hbm => 54
  | .vmem => 30
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3400, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1024x512, .f32⟩
  | .hbm, ⟨7, _⟩ => ⟨S1024x128, .f32⟩
  | .hbm, ⟨8, _⟩ => ⟨S1024x128, .f32⟩
  | .hbm, ⟨9, _⟩ => ⟨S1024x512, .f32⟩
  | .hbm, ⟨10, _⟩ => ⟨S1024x64, .f32⟩
  | .hbm, ⟨11, _⟩ => ⟨S1024x8, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x64, .f32⟩
  | .hbm, ⟨18, _⟩ => ⟨S1024x2304, .f32⟩
  | .hbm, ⟨19, _⟩ => ⟨S1024x2304, .bf16⟩
  | .hbm, ⟨20, _⟩ => ⟨S_, .f32⟩
  | .hbm, ⟨21, _⟩ => ⟨S1024x8, .f32⟩
  | .hbm, ⟨22, _⟩ => ⟨S1024x1360, .f32⟩
  | .hbm, ⟨23, _⟩ => ⟨S1360x1024, .f32⟩
  | .hbm, ⟨24, _⟩ => ⟨S1360x1024, .bf16⟩
  | .hbm, ⟨25, _⟩ => ⟨S_, .f32⟩
  | .hbm, ⟨26, _⟩ => ⟨S1024x120, .f32⟩
  | .hbm, ⟨27, _⟩ => ⟨S1024x1280, .f32⟩
  | .hbm, ⟨28, _⟩ => ⟨S1024x1280, .bf16⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S1x64, .f32⟩
  | .hbm, ⟨33, _⟩ => ⟨S8x64, .f32⟩
  | .hbm, ⟨34, _⟩ => ⟨S512, .f32⟩
  | .hbm, ⟨35, _⟩ => ⟨S512x1, .f32⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S1x64, .f32⟩
  | .hbm, ⟨41, _⟩ => ⟨S1x1024, .f32⟩
  | .hbm, ⟨42, _⟩ => ⟨S128x1, .f32⟩
  | .hbm, ⟨43, _⟩ => ⟨S64x1, .f32⟩
  | .hbm, ⟨44, _⟩ => ⟨S32768x128, .bf16⟩
  | .hbm, ⟨45, _⟩ => ⟨S32768x64, .bf16⟩
  | .hbm, ⟨46, _⟩ => ⟨S32768x2048, .f32⟩
  | .hbm, ⟨47, _⟩ => ⟨S512x32768, .bf16⟩
  | .hbm, ⟨48, _⟩ => ⟨S512x32768, .bf16⟩
  | .hbm, ⟨49, _⟩ => ⟨S128x32768, .bf16⟩
  | .hbm, ⟨50, _⟩ => ⟨S8x32768, .f32⟩
  | .hbm, ⟨51, _⟩ => ⟨S16x128x2048, .f32⟩
  | .hbm, ⟨52, _⟩ => ⟨S16x128x2048, .f32⟩
  | .hbm, ⟨53, _⟩ => ⟨S16x64x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1360x1024, .bf16⟩
  | .local _ .vmem, ⟨5, _⟩ => ⟨S1x128, .f32⟩
  | .local _ .vmem, ⟨6, _⟩ => ⟨S1x64, .f32⟩
  | .local _ .vmem, ⟨7, _⟩ => ⟨S512x1, .f32⟩
  | .local _ .vmem, ⟨8, _⟩ => ⟨S128x1, .f32⟩
  | .local _ .vmem, ⟨9, _⟩ => ⟨S64x1, .f32⟩
  | .local _ .vmem, ⟨10, _⟩ => ⟨S512x128, .bf16⟩
  | .local _ .vmem, ⟨11, _⟩ => ⟨S512x128, .bf16⟩
  | .local _ .vmem, ⟨12, _⟩ => ⟨S512x64, .bf16⟩
  | .local _ .vmem, ⟨13, _⟩ => ⟨S512x64, .bf16⟩
  | .local _ .vmem, ⟨14, _⟩ => ⟨S512x2048, .f32⟩
  | .local _ .vmem, ⟨15, _⟩ => ⟨S512x2048, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S128x512, .bf16⟩
  | .local _ .vmem, ⟨21, _⟩ => ⟨S128x512, .bf16⟩
  | .local _ .vmem, ⟨22, _⟩ => ⟨S8x512, .f32⟩
  | .local _ .vmem, ⟨23, _⟩ => ⟨S8x512, .f32⟩
  | .local _ .vmem, ⟨24, _⟩ => ⟨S1x128x512, .f32⟩
  | .local _ .vmem, ⟨25, _⟩ => ⟨S1x128x512, .f32⟩
  | .local _ .vmem, ⟨26, _⟩ => ⟨S1x128x512, .f32⟩
  | .local _ .vmem, ⟨27, _⟩ => ⟨S1x128x512, .f32⟩
  | .local _ .vmem, ⟨28, _⟩ => ⟨S1x64x512, .f32⟩
  | .local _ .vmem, ⟨29, _⟩ => ⟨S1x64x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34_0 : Ref sig .tc := ⟨.hbm, 44, rfl⟩
abbrev main_v34_1 : Ref sig .tc := ⟨.hbm, 45, rfl⟩
abbrev main_v34_2 : Ref sig .tc := ⟨.hbm, 46, rfl⟩
abbrev main_v34_3 : Ref sig .tc := ⟨.hbm, 47, rfl⟩
abbrev main_v34_4 : Ref sig .tc := ⟨.hbm, 48, rfl⟩
abbrev main_v34_5 : Ref sig .tc := ⟨.hbm, 49, rfl⟩
abbrev main_v34_6 : Ref sig .tc := ⟨.hbm, 50, rfl⟩
abbrev main_v34_7 : Ref sig .tc := ⟨.hbm, 51, rfl⟩
abbrev main_v34_8 : Ref sig .tc := ⟨.hbm, 52, rfl⟩
abbrev main_v34_9 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1360x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InprojReferenceIdeal.lean ====
abbrev S32768x1024 : Shape := ⟨2, ![32768, 1024]⟩
abbrev S1024 : Shape := ⟨1, ![1024]⟩
abbrev S1024x3400 : Shape := ⟨2, ![1024, 3400]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3400 : Shape := ⟨2, ![32768, 3400]⟩
abbrev S32768x512 : Shape := ⟨2, ![32768, 512]⟩
abbrev S32768x128 : Shape := ⟨2, ![32768, 128]⟩
abbrev S32768x64 : Shape := ⟨2, ![32768, 64]⟩
abbrev S32768x8 : Shape := ⟨2, ![32768, 8]⟩
abbrev S32768x8x64 : Shape := ⟨3, ![32768, 8, 64]⟩
abbrev S32768x8x1 : Shape := ⟨3, ![32768, 8, 1]⟩
abbrev S1x1x64 : Shape := ⟨3, ![1, 1, 64]⟩
abbrev S32768x2x64 : Shape := ⟨3, ![32768, 2, 64]⟩
abbrev S32768x2 : Shape := ⟨2, ![32768, 2]⟩
abbrev S32768x2x1 : Shape := ⟨3, ![32768, 2, 1]⟩
abbrev S1x64 : Shape := ⟨2, ![1, 64]⟩
abbrev S32768x2048 : Shape := ⟨2, ![32768, 2048]⟩
abbrev S512x32768 : Shape := ⟨2, ![512, 32768]⟩
abbrev S128x32768 : Shape := ⟨2, ![128, 32768]⟩
abbrev S8x32768 : Shape := ⟨2, ![8, 32768]⟩
abbrev S16x2048x128 : Shape := ⟨3, ![16, 2048, 128]⟩
abbrev S16x128x2048 : Shape := ⟨3, ![16, 128, 2048]⟩
abbrev S16x2048x64 : Shape := ⟨3, ![16, 2048, 64]⟩
abbrev S16x64x2048 : Shape := ⟨3, ![16, 64, 2048]⟩

abbrev nBuf : Space → Nat
  | .hbm => 107
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3400, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x3400, .f32⟩
  | .hbm, ⟨23, _⟩ => ⟨S32768x512, .f32⟩
  | .hbm, ⟨24, _⟩ => ⟨S32768x128, .f32⟩
  | .hbm, ⟨25, _⟩ => ⟨S32768x128, .f32⟩
  | .hbm, ⟨26, _⟩ => ⟨S32768x512, .f32⟩
  | .hbm, ⟨27, _⟩ => ⟨S32768x64, .f32⟩
  | .hbm, ⟨28, _⟩ => ⟨S32768x8, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x8x64, .f32⟩
  | .hbm, ⟨34, _⟩ => ⟨S32768x8x64, .f32⟩
  | .hbm, ⟨35, _⟩ => ⟨S_, .f32⟩
  | .hbm, ⟨36, _⟩ => ⟨S32768x8, .f32⟩
  | .hbm, ⟨37, _⟩ => ⟨S32768x8x1, .f32⟩
  | .hbm, ⟨38, _⟩ => ⟨S_, .f32⟩
  | .hbm, ⟨39, _⟩ => ⟨S32768x8x1, .f32⟩
  | .hbm, ⟨40, _⟩ => ⟨S32768x8x1, .f32⟩
  | .hbm, ⟨41, _⟩ => ⟨S_, .f32⟩
  | .hbm, ⟨42, _⟩ => ⟨S32768x8x1, .f32⟩
  | .hbm, ⟨43, _⟩ => ⟨S32768x8x1, .f32⟩
  | .hbm, ⟨44, _⟩ => ⟨S32768x8x1, .f32⟩
  | .hbm, ⟨45, _⟩ => ⟨S32768x8x64, .f32⟩
  | .hbm, ⟨46, _⟩ => ⟨S32768x8x64, .f32⟩
  | .hbm, ⟨47, _⟩ => ⟨S1x1x64, .f32⟩
  | .hbm, ⟨48, _⟩ => ⟨S32768x8x64, .f32⟩
  | .hbm, ⟨49, _⟩ => ⟨S32768x8x64, .f32⟩
  | .hbm, ⟨50, _⟩ => ⟨S32768x512, .f32⟩
  | .hbm, ⟨51, _⟩ => ⟨S32768x2x64, .f32⟩
  | .hbm, ⟨52, _⟩ => ⟨S32768x2x64, .f32⟩
  | .hbm, ⟨53, _⟩ => ⟨S_, .f32⟩
  | .hbm, ⟨54, _⟩ => ⟨S32768x2, .f32⟩
  | .hbm, ⟨55, _⟩ => ⟨S32768x2x1, .f32⟩
  | .hbm, ⟨56, _⟩ => ⟨S_, .f32⟩
  | .hbm, ⟨57, _⟩ => ⟨S32768x2x1, .f32⟩
  | .hbm, ⟨58, _⟩ => ⟨S32768x2x1, .f32⟩
  | .hbm, ⟨59, _⟩ => ⟨S_, .f32⟩
  | .hbm, ⟨60, _⟩ => ⟨S32768x2x1, .f32⟩
  | .hbm, ⟨61, _⟩ => ⟨S32768x2x1, .f32⟩
  | .hbm, ⟨62, _⟩ => ⟨S32768x2x1, .f32⟩
  | .hbm, ⟨63, _⟩ => ⟨S32768x2x64, .f32⟩
  | .hbm, ⟨64, _⟩ => ⟨S32768x2x64, .f32⟩
  | .hbm, ⟨65, _⟩ => ⟨S1x1x64, .f32⟩
  | .hbm, ⟨66, _⟩ => ⟨S32768x2x64, .f32⟩
  | .hbm, ⟨67, _⟩ => ⟨S32768x2x64, .f32⟩
  | .hbm, ⟨68, _⟩ => ⟨S32768x128, .f32⟩
  | .hbm, ⟨69, _⟩ => ⟨S32768x64, .f32⟩
  | .hbm, ⟨70, _⟩ => ⟨S_, .f32⟩
  | .hbm, ⟨71, _⟩ => ⟨S32768, .f32⟩
  | .hbm, ⟨72, _⟩ => ⟨S32768x1, .f32⟩
  | .hbm, ⟨73, _⟩ => ⟨S_, .f32⟩
  | .hbm, ⟨74, _⟩ => ⟨S32768x1, .f32⟩
  | .hbm, ⟨75, _⟩ => ⟨S32768x1, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S32768x1, .f32⟩
  | .hbm, ⟨80, _⟩ => ⟨S32768x64, .f32⟩
  | .hbm, ⟨81, _⟩ => ⟨S32768x64, .f32⟩
  | .hbm, ⟨82, _⟩ => ⟨S1x64, .f32⟩
  | .hbm, ⟨83, _⟩ => ⟨S32768x64, .f32⟩
  | .hbm, ⟨84, _⟩ => ⟨S32768x64, .f32⟩
  | .hbm, ⟨85, _⟩ => ⟨S_, .f32⟩
  | .hbm, ⟨86, _⟩ => ⟨S32768x8, .f32⟩
  | .hbm, ⟨87, _⟩ => ⟨S32768x8, .f32⟩
  | .hbm, ⟨88, _⟩ => ⟨S32768x2048, .f32⟩
  | .hbm, ⟨89, _⟩ => ⟨S32768x128, .bf16⟩
  | .hbm, ⟨90, _⟩ => ⟨S32768x64, .bf16⟩
  | .hbm, ⟨91, _⟩ => ⟨S_, .f32⟩
  | .hbm, ⟨92, _⟩ => ⟨S32768x512, .f32⟩
  | .hbm, ⟨93, _⟩ => ⟨S32768x512, .f32⟩
  | .hbm, ⟨94, _⟩ => ⟨S512x32768, .f32⟩
  | .hbm, ⟨95, _⟩ => ⟨S512x32768, .bf16⟩
  | .hbm, ⟨96, _⟩ => ⟨S512x32768, .f32⟩
  | .hbm, ⟨97, _⟩ => ⟨S512x32768, .bf16⟩
  | .hbm, ⟨98, _⟩ => ⟨S128x32768, .f32⟩
  | .hbm, ⟨99, _⟩ => ⟨S128x32768, .bf16⟩
  | .hbm, ⟨100, _⟩ => ⟨S8x32768, .f32⟩
  | .hbm, ⟨101, _⟩ => ⟨S16x2048x128, .f32⟩
  | .hbm, ⟨102, _⟩ => ⟨S16x128x2048, .f32⟩
  | .hbm, ⟨103, _⟩ => ⟨S16x2048x128, .f32⟩
  | .hbm, ⟨104, _⟩ => ⟨S16x128x2048, .f32⟩
  | .hbm, ⟨105, _⟩ => ⟨S16x2048x64, .f32⟩
  | .hbm, ⟨106, _⟩ => ⟨S16x64x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_12 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== Smlp.lean ====
abbrev S32x1024 : Shape := ⟨2, ![32, 1024]⟩
abbrev S32x512 : Shape := ⟨2, ![32, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1x32x512 : Shape := ⟨4, ![1, 1, 32, 512]⟩
abbrev S1x1024 : Shape := ⟨2, ![1, 1024]⟩
abbrev S32 : Shape := ⟨1, ![32]⟩
abbrev S32x1 : Shape := ⟨2, ![32, 1]⟩

abbrev nBuf : Space → Nat
  | .hbm => 14
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1x1x32x512, .f32⟩
  | .hbm, ⟨8, _⟩ => ⟨S32x512, .bf16⟩
  | .hbm, ⟨9, _⟩ => ⟨S1024x1024, .bf16⟩
  | .hbm, ⟨10, _⟩ => ⟨S1x1024, .f32⟩
  | .hbm, ⟨11, _⟩ => ⟨S1024x4096, .bf16⟩
  | .hbm, ⟨12, _⟩ => ⟨S4096x1024, .bf16⟩
  | .hbm, ⟨13, _⟩ => ⟨S32x1024, .f32⟩
  | .local _ .vmem, ⟨0, _⟩ => ⟨S32x1024, .f32⟩
  | .local _ .vmem, ⟨1, _⟩ => ⟨S1x1x32x512, .f32⟩
  | .local _ .vmem, ⟨2, _⟩ => ⟨S1x1x32x512, .f32⟩
  | .local _ .vmem, ⟨3, _⟩ => ⟨S32x512, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SmlpReferenceIdeal.lean ====
abbrev S32x1024 : Shape := ⟨2, ![32, 1024]⟩
abbrev S32x512 : Shape := ⟨2, ![32, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x4096 : Shape := ⟨2, ![32, 4096]⟩

abbrev nBuf : Space → Nat
  | .hbm => 33
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x512, .f32⟩
  | .hbm, ⟨2, _⟩ => ⟨S32x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S_, .f32⟩
  | .hbm, ⟨18, _⟩ => ⟨S32x1, .f32⟩
  | .hbm, ⟨19, _⟩ => ⟨S32x1, .f32⟩
  | .hbm, ⟨20, _⟩ => ⟨S32x1, .f32⟩
  | .hbm, ⟨21, _⟩ => ⟨S32x1024, .f32⟩
  | .hbm, ⟨22, _⟩ => ⟨S32x1024, .f32⟩
  | .hbm, ⟨23, _⟩ => ⟨S1x1024, .f32⟩
  | .hbm, ⟨24, _⟩ => ⟨S32x1024, .f32⟩
  | .hbm, ⟨25, _⟩ => ⟨S32x1024, .f32⟩
  | .hbm, ⟨26, _⟩ => ⟨S32x4096, .f32⟩
  | .hbm, ⟨27, _⟩ => ⟨S_, .f32⟩
  | .hbm, ⟨28, _⟩ => ⟨S32x4096, .f32⟩
  | .hbm, ⟨29, _⟩ => ⟨S32x4096, .f32⟩
  | .hbm, ⟨30, _⟩ => ⟨S32x4096, .f32⟩
  | .hbm, ⟨31, _⟩ => ⟨S32x1024, .f32⟩
  | .hbm, ⟨32, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Sin.lean ====
abbrev S32x1024 : Shape := ⟨2, ![32, 1024]⟩
abbrev S1024 : Shape := ⟨1, ![1024]⟩
abbrev S1024x3400 : Shape := ⟨2, ![1024, 3400]⟩
abbrev S64 : Shape := ⟨1, ![64]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S_ : Shape := ⟨0, ![]⟩
abbrev S1024x2304 : Shape := ⟨2, ![1024, 2304]⟩
abbrev S1024x1360 : Shape := ⟨2, ![1024, 1360]⟩
abbrev S1360x1024 : Shape := ⟨2, ![1360, 1024]⟩
abbrev S1024x120 : Shape := ⟨2, ![1024, 120]⟩
abbrev S1024x1280 : Shape := ⟨2, ![1024, 1280]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S32x128 : Shape := ⟨2, ![32, 128]⟩
abbrev S32x64 : Shape := ⟨2, ![32, 64]⟩
abbrev S32x2048 : Shape := ⟨2, ![32, 2048]⟩
abbrev S32x512 : Shape := ⟨2, ![32, 512]⟩
abbrev S32 : Shape := ⟨1, ![32]⟩
abbrev S32x1 : Shape := ⟨2, ![32, 1]⟩
abbrev S32x2304 : Shape := ⟨2, ![32, 2304]⟩
abbrev S32x1280 : Shape := ⟨2, ![32, 1280]⟩

abbrev nBuf : Space → Nat
  | .hbm => 41
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3400, .f32⟩
  | .hbm, ⟨3, _⟩ => ⟨S64, .f32⟩
  | .hbm, ⟨4, _⟩ => ⟨S64, .f32⟩
  | .hbm, ⟨5, _⟩ => ⟨S1024x512, .f32⟩
  | .hbm, ⟨6, _⟩ => ⟨S1024x128, .f32⟩
  | .hbm, ⟨7, _⟩ => ⟨S1024x128, .f32⟩
  | .hbm, ⟨8, _⟩ => ⟨S1024x512, .f32⟩
  | .hbm, ⟨9, _⟩ => ⟨S1024x64, .f32⟩
  | .hbm, ⟨10, _⟩ => ⟨S1024x8, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x64, .f32⟩
  | .hbm, ⟨17, _⟩ => ⟨S1024x2304, .f32⟩
  | .hbm, ⟨18, _⟩ => ⟨S1024x2304, .bf16⟩
  | .hbm, ⟨19, _⟩ => ⟨S_, .f32⟩
  | .hbm, ⟨20, _⟩ => ⟨S1024x8, .f32⟩
  | .hbm, ⟨21, _⟩ => ⟨S1024x1360, .f32⟩
  | .hbm, ⟨22, _⟩ => ⟨S1360x1024, .f32⟩
  | .hbm, ⟨23, _⟩ => ⟨S1360x1024, .bf16⟩
  | .hbm, ⟨24, _⟩ => ⟨S_, .f32⟩
  | .hbm, ⟨25, _⟩ => ⟨S1024x120, .f32⟩
  | .hbm, ⟨26, _⟩ => ⟨S1024x1280, .f32⟩
  | .hbm, ⟨27, _⟩ => ⟨S1024x1280, .bf16⟩
  | .hbm, ⟨28, _⟩ => ⟨S1x64, .f32⟩
  | .hbm, ⟨29, _⟩ => ⟨S2x64, .f32⟩
  | .hbm, ⟨30, _⟩ => ⟨S128, .f32⟩
  | .hbm, ⟨31, _⟩ => ⟨S1x128, .f32⟩
  | .hbm, ⟨32, _⟩ => ⟨S1x1024, .f32⟩
  | .hbm, ⟨33, _⟩ => ⟨S1x64, .f32⟩
  | .hbm, ⟨34, _⟩ => ⟨S32x128, .f32⟩
  | .hbm, ⟨35, _⟩ => ⟨S32x128, .f32⟩
  | .hbm, ⟨36, _⟩ => ⟨S32x64, .f32⟩
  | .hbm, ⟨37, _⟩ => ⟨S32x2048, .f32⟩
  | .hbm, ⟨38, _⟩ => ⟨S32x512, .f32⟩
  | .hbm, ⟨39, _⟩ => ⟨S32x512, .f32⟩
  | .hbm, ⟨40, _⟩ => ⟨S32x128, .f32⟩
  | .local _ .vmem, ⟨0, _⟩ => ⟨S32x1024, .f32⟩
  | .local _ .vmem, ⟨1, _⟩ => ⟨S1x1024, .f32⟩
  | .local _ .vmem, ⟨2, _⟩ => ⟨S1024x2304, .bf16⟩
  | .local _ .vmem, ⟨3, _⟩ => ⟨S1024x1280, .bf16⟩
  | .local _ .vmem, ⟨4, _⟩ => ⟨S1x128, .f32⟩
  | .local _ .vmem, ⟨5, _⟩ => ⟨S1x64, .f32⟩
  | .local _ .vmem, ⟨6, _⟩ => ⟨S32x128, .f32⟩
  | .local _ .vmem, ⟨7, _⟩ => ⟨S32x128, .f32⟩
  | .local _ .vmem, ⟨8, _⟩ => ⟨S32x64, .f32⟩
  | .local _ .vmem, ⟨9, _⟩ => ⟨S32x2048, .f32⟩
  | .local _ .vmem, ⟨10, _⟩ => ⟨S32x512, .f32⟩
  | .local _ .vmem, ⟨11, _⟩ => ⟨S32x512, .f32⟩
  | .local _ .vmem, ⟨12, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev main_v26_4 : Ref sig .tc := ⟨.hbm, 38, rfl⟩
abbrev main_v26_5 : Ref sig .tc := ⟨.hbm, 39, rfl⟩
abbrev main_v26_6 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SinReferenceIdeal.lean ====
abbrev S32x1024 : Shape := ⟨2, ![32, 1024]⟩
abbrev S1024 : Shape := ⟨1, ![1024]⟩
abbrev S1024x3400 : Shape := ⟨2, ![1024, 3400]⟩
abbrev S64 : Shape := ⟨1, ![64]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x3400 : Shape := ⟨2, ![32, 3400]⟩
abbrev S32x512 : Shape := ⟨2, ![32, 512]⟩
abbrev S32x128 : Shape := ⟨2, ![32, 128]⟩
abbrev S32x64 : Shape := ⟨2, ![32, 64]⟩
abbrev S32x8 : Shape := ⟨2, ![32, 8]⟩
abbrev S32x2x64 : Shape := ⟨3, ![32, 2, 64]⟩
abbrev S32x2 : Shape := ⟨2, ![32, 2]⟩
abbrev S32x2x1 : Shape := ⟨3, ![32, 2, 1]⟩
abbrev S1x1x64 : Shape := ⟨3, ![1, 1, 64]⟩
abbrev S32x120 : Shape := ⟨2, ![32, 120]⟩
abbrev S1x64 : Shape := ⟨2, ![1, 64]⟩
abbrev S32x2048 : Shape := ⟨2, ![32, 2048]⟩

abbrev nBuf : Space → Nat
  | .hbm => 73
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3400, .f32⟩
  | .hbm, ⟨3, _⟩ => ⟨S64, .f32⟩
  | .hbm, ⟨4, _⟩ => ⟨S64, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S32x3400, .f32⟩
  | .hbm, ⟨22, _⟩ => ⟨S32x512, .f32⟩
  | .hbm, ⟨23, _⟩ => ⟨S32x128, .f32⟩
  | .hbm, ⟨24, _⟩ => ⟨S32x128, .f32⟩
  | .hbm, ⟨25, _⟩ => ⟨S32x512, .f32⟩
  | .hbm, ⟨26, _⟩ => ⟨S32x64, .f32⟩
  | .hbm, ⟨27, _⟩ => ⟨S32x8, .f32⟩
  | .hbm, ⟨28, _⟩ => ⟨S32x512, .f32⟩
  | .hbm, ⟨29, _⟩ => ⟨S32x512, .f32⟩
  | .hbm, ⟨30, _⟩ => ⟨S32x512, .f32⟩
  | .hbm, ⟨31, _⟩ => ⟨S32x512, .f32⟩
  | .hbm, ⟨32, _⟩ => ⟨S32x2x64, .f32⟩
  | .hbm, ⟨33, _⟩ => ⟨S32x2x64, .f32⟩
  | .hbm, ⟨34, _⟩ => ⟨S_, .f32⟩
  | .hbm, ⟨35, _⟩ => ⟨S32x2, .f32⟩
  | .hbm, ⟨36, _⟩ => ⟨S32x2x1, .f32⟩
  | .hbm, ⟨37, _⟩ => ⟨S_, .f32⟩
  | .hbm, ⟨38, _⟩ => ⟨S32x2x1, .f32⟩
  | .hbm, ⟨39, _⟩ => ⟨S32x2x1, .f32⟩
  | .hbm, ⟨40, _⟩ => ⟨S_, .f32⟩
  | .hbm, ⟨41, _⟩ => ⟨S32x2x1, .f32⟩
  | .hbm, ⟨42, _⟩ => ⟨S32x2x1, .f32⟩
  | .hbm, ⟨43, _⟩ => ⟨S32x2x1, .f32⟩
  | .hbm, ⟨44, _⟩ => ⟨S32x2x64, .f32⟩
  | .hbm, ⟨45, _⟩ => ⟨S32x2x64, .f32⟩
  | .hbm, ⟨46, _⟩ => ⟨S1x1x64, .f32⟩
  | .hbm, ⟨47, _⟩ => ⟨S32x2x64, .f32⟩
  | .hbm, ⟨48, _⟩ => ⟨S32x2x64, .f32⟩
  | .hbm, ⟨49, _⟩ => ⟨S32x128, .f32⟩
  | .hbm, ⟨50, _⟩ => ⟨S_, .f32⟩
  | .hbm, ⟨51, _⟩ => ⟨S32x8, .f32⟩
  | .hbm, ⟨52, _⟩ => ⟨S32x8, .f32⟩
  | .hbm, ⟨53, _⟩ => ⟨S_, .f32⟩
  | .hbm, ⟨54, _⟩ => ⟨S32x120, .f32⟩
  | .hbm, ⟨55, _⟩ => ⟨S32x128, .f32⟩
  | .hbm, ⟨56, _⟩ => ⟨S32x64, .f32⟩
  | .hbm, ⟨57, _⟩ => ⟨S_, .f32⟩
  | .hbm, ⟨58, _⟩ => ⟨S32, .f32⟩
  | .hbm, ⟨59, _⟩ => ⟨S32x1, .f32⟩
  | .hbm, ⟨60, _⟩ => ⟨S_, .f32⟩
  | .hbm, ⟨61, _⟩ => ⟨S32x1, .f32⟩
  | .hbm, ⟨62, _⟩ => ⟨S32x1, .f32⟩
  | .hbm, ⟨63, _⟩ => ⟨S_, .f32⟩
  | .hbm, ⟨64, _⟩ => ⟨S32x1, .f32⟩
  | .hbm, ⟨65, _⟩ => ⟨S32x1, .f32⟩
  | .hbm, ⟨66, _⟩ => ⟨S32x1, .f32⟩
  | .hbm, ⟨67, _⟩ => ⟨S32x64, .f32⟩
  | .hbm, ⟨68, _⟩ => ⟨S32x64, .f32⟩
  | .hbm, ⟨69, _⟩ => ⟨S1x64, .f32⟩
  | .hbm, ⟨70, _⟩ => ⟨S32x64, .f32⟩
  | .hbm, ⟨71, _⟩ => ⟨S32x64, .f32⟩
  | .hbm, ⟨72, _⟩ => ⟨S32x2048, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Proof.Keeps.lean ====
/-
  Hand-written, untrusted. Programs that give back what they were handed: `Keeps c R e` says that, run on core `c` from the
  resources `R`, the program `e` neither faults nor waits and ends with `R` again, whatever its result. Loads and stores through
  a memref that `R` owns keep `R` as long as `R` says nothing of the contents stored over; sequencing, branching and counted
  loops of programs that keep `R` keep it too. With it the frame of a long straight-line body is one term per statement.
-/
module

public import proofs.«01_k».proof.Proof.Gen.Kernel.Frame
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- From `R` the program runs to its end on core `c` and hands `R` back. -/
def Keeps (c : Dev nD) (R : sProp 𝕄) {α : Type} (e : Prog (TpuEff nD τ sig (Elt F) Λ₀ .tc) α) : Prop :=
  R ⊢ wp frame (wpE (defs₀ (F := F)) Variants.none (c : Thread nD τ) none) Set.univ e (fun _ => R)

variable {c : Dev nD} {R : sProp (MT nD τ sig Unit (Elt F) ℕ (UR sig nD τ) ℕ)}
variable {α β : Type}

theorem Keeps.pure (x : α) : Keeps (F := F) c R (Pure.pure x) := by
  unfold Keeps; rw [wp_pure]; exact BI.fupd_intro

theorem Keeps.bind {p : Prog (TpuEff nD τ sig (Elt F) Λ₀ .tc) α} {k : α → Prog (TpuEff nD τ sig (Elt F) Λ₀ .tc) β}
    (hp : Keeps c R p) (hk : ∀ x, Keeps c R (k x)) : Keeps c R (p >>= k) := by
  unfold Keeps at *; rw [wp_bind]
  exact hp.trans (wp_mono _ _ _ hk)

theorem Keeps.ite {q : Prop} [Decidable q] {a b : Prog (TpuEff nD τ sig (Elt F) Λ₀ .tc) α}
    (ha : Keeps c R a) (hb : Keeps c R b) : Keeps c R (if q then a else b) := by
  split <;> assumption

theorem Keeps.for {w : Nat} {σ : Type} (l : Scf.Loop w) (hok : l.OK) (init : σ)
    {body : Fin l.trips → σ → Prog (TpuEff nD τ sig (Elt F) Λ₀ .tc) σ}
    (hb : ∀ k acc, Keeps c R (body k acc)) : Keeps c R (Scf.Loop.for l hok init body) := by
  unfold Keeps Scf.Loop.for
  refine BIBase.Entails.trans ?_ (Scf.wp_for _ _ _ l.lb l.ub l.st hok init body (fun _ _ => R) hb)
  iintro H
  isplitl [H]
  · iexact H
  iintro %acc H
  iexact H

/-- Every load through `M` keeps `R`. -/
def Loads (c : Dev nD) (R : sProp 𝕄) {sp : CoreSpace} {s : Shape} {e : EltTy} (M : Memref sig .tc sp s e) : Prop :=
  ∀ (r : LoadRect s) (hl : M.view.LoadsAt r), Keeps (F := F) c R (Prog.lift (.load M r hl))

/-- Every store through `M` keeps `R`. -/
def Stores (c : Dev nD) (R : sProp 𝕄) {sp : CoreSpace} {s : Shape} {e : EltTy} (M : Memref sig .tc sp s e) : Prop :=
  ∀ (r : Rect s) (w : r.shape.Idx → Elt F e) (Mk : Finset r.shape.Idx) (hx : (M.access r).Stores Mk)
    (hm : Mk = Finset.univ ∨ ∀ a, r.stride a = 1), Keeps (F := F) c R (Prog.lift (.store M r w Mk hx hm))

/-- A memref owned at contents `X` beside `P`: loads through it keep both. -/
theorem loads_of {sp : CoreSpace} {s : Shape} {e : EltTy} {M : Memref sig .tc sp s e} {X : s.Idx → Elt F e} {P : sProp 𝕄}
    (hin : R ⊢ iprop(owns (c : Thread nD τ) M fullShare X ∗ P)) (hout : iprop(owns (c : Thread nD τ) M fullShare X ∗ P) ⊢ R) :
    Loads (F := F) c R M := by
  intro r hl
  unfold Keeps
  refine hin.trans ?_
  unfold owns
  iintro ⟨⟨%f, %hf, H⟩, HP⟩
  iapply (wp_load Variants.none (c : Thread nD τ) none Set.univ (S := M.view.set) (M.view.setOn_subset_set _)) $$ H
  iintro H
  rw [wp_ret]
  imodintro
  iapply hout
  unfold owns
  isplitl [H]
  · iexists f; isplitr
    · ipureintro; exact hf
    iexact H
  iexact HP

/-- A memref owned at some contents beside `P`: stores through it keep both. -/
theorem stores_of {sp : CoreSpace} {s : Shape} {e : EltTy} {M : Memref sig .tc sp s e} {P : sProp 𝕄}
    (hin : R ⊢ iprop((∃ X, owns (c : Thread nD τ) M fullShare X) ∗ P))
    (hout : iprop((∃ X, owns (c : Thread nD τ) M fullShare X) ∗ P) ⊢ R) :
    Stores (F := F) c R M := by
  intro r w Mk hx hm
  unfold Keeps
  refine hin.trans ?_
  unfold owns
  iintro ⟨⟨%X, %f, %hf, H⟩, HP⟩
  iapply (wp_store (m := M) (r := r) Variants.none (c : Thread nD τ) none Set.univ (S := M.view.set) (f := f) (M.setOn_access_subset r Mk)) $$ H
  iintro H
  rw [wp_ret]
  imodintro
  iapply hout
  unfold owns
  isplitl [H]
  · iexists (M.view.read (Elt F) ((M.access r).write (Elt F) f w Mk)); iexists ((M.access r).write (Elt F) f w Mk); isplitr
    · ipureintro; rfl
    iexact H
  iexact HP

/-- A memref owned at some contents beside `P`: loads through it keep both. -/
theorem loads_some {sp : CoreSpace} {s : Shape} {e : EltTy} {M : Memref sig .tc sp s e} {P : sProp 𝕄}
    (hin : R ⊢ iprop((∃ X, owns (c : Thread nD τ) M fullShare X) ∗ P))
    (hout : iprop((∃ X, owns (c : Thread nD τ) M fullShare X) ∗ P) ⊢ R) :
    Loads (F := F) c R M := by
  intro r hl
  unfold Keeps
  refine hin.trans ?_
  unfold owns
  iintro ⟨⟨%X, %f, %hf, H⟩, HP⟩
  iapply (wp_load Variants.none (c : Thread nD τ) none Set.univ (S := M.view.set) (M.view.setOn_subset_set _)) $$ H
  iintro H
  rw [wp_ret]
  imodintro
  iapply hout
  unfold owns
  isplitl [H]
  · iexists X; iexists f; isplitr
    · ipureintro; exact hf
    iexact H
  iexact HP

end Cert.Kernel.Hand

end
-- ==== Proof.Parts1.lean ====
/-
  Hand-written, untrusted. The attention body part by part: each part of its text keeps what it was handed (part 1 of the list).
-/
module

public import proofs.«01_k».proof.Proof.Keeps

@[expose] public section

set_option maxRecDepth 16384
set_option maxHeartbeats 400000

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]
variable {c : Dev nD} {R : sProp (MT nD τ sig Unit (Elt F) ℕ (UR sig nD τ) ℕ)} {i : grid0.Coords}
variable {a2 : Memref sig .tc .vmem S512x128 .bf16} {h2 : a2.IsWhole}
variable {a3 : Memref sig .tc .vmem S512x128 .bf16} {h3 : a3.IsWhole}
variable {a4 : Memref sig .tc .vmem S512x128 .bf16} {h4 : a4.IsWhole}
variable {a5 : Memref sig .tc .vmem S512x128 .bf16} {h5 : a5.IsWhole}
variable {a6 : Memref sig .tc .vmem S8x128 .f32} {h6 : a6.IsWhole}
variable {a7 : Memref sig .tc .vmem S8x128 .f32} {h7 : a7.IsWhole}
variable {a8 : Memref sig .tc .vmem S2048x64 .bf16} {h8 : a8.IsWhole}
variable {a9 : Memref sig .tc .vmem S2048x128 .bf16} {h9 : a9.IsWhole}
variable {a10 : Memref sig .tc .vmem S8x128x256 .bf16} {h10 : a10.IsWhole}
variable {a11 : Memref sig .tc .vmem S1x1x128x512 .bf16} {h11 : a11.IsWhole}
variable {a12 : Memref sig .tc .vmem S1x1x128x512 .bf16} {h12 : a12.IsWhole}
variable {a13 : Memref sig .tc .vmem S2x64x1024 .bf16} {h13 : a13.IsWhole}
variable {a14 : Memref sig .tc .vmem S2x2x128x512 .bf16} {h14 : a14.IsWhole}
variable {a15 : Memref sig .tc .vmem S2x8x128 .f32} {h15 : a15.IsWhole}
variable {a16 : Memref sig .tc .vmem S9x256x128 .f32} {h16 : a16.IsWhole}
variable {a17 : Memref sig .tc .vmem S9x32x8x128 .i32} {h17 : a17.IsWhole}
variable {a18 : Memref sig .tc .vmem S9x256x128 .f32} {h18 : a18.IsWhole}
variable {a19 : Memref sig .tc .vmem S9x2x2x128x512 .f32} {h19 : a19.IsWhole}
variable {a20 : Memref sig .tc .vmem S9x2x80x512 .f32} {h20 : a20.IsWhole}

/-- What a frame of the body asks of `R`: every operand may be loaded and every output and scratch buffer stored to. -/
structure Held (c : Dev nD) (R : sProp (MT nD τ sig Unit (Elt F) ℕ (UR sig nD τ) ℕ))
    (a2 : Memref sig .tc .vmem S512x128 .bf16)
    (a3 : Memref sig .tc .vmem S512x128 .bf16)
    (a4 : Memref sig .tc .vmem S512x128 .bf16)
    (a5 : Memref sig .tc .vmem S512x128 .bf16)
    (a6 : Memref sig .tc .vmem S8x128 .f32)
    (a7 : Memref sig .tc .vmem S8x128 .f32)
    (a8 : Memref sig .tc .vmem S2048x64 .bf16)
    (a9 : Memref sig .tc .vmem S2048x128 .bf16)
    (a10 : Memref sig .tc .vmem S8x128x256 .bf16)
    (a11 : Memref sig .tc .vmem S1x1x128x512 .bf16)
    (a12 : Memref sig .tc .vmem S1x1x128x512 .bf16)
    (a13 : Memref sig .tc .vmem S2x64x1024 .bf16)
    (a14 : Memref sig .tc .vmem S2x2x128x512 .bf16)
    (a15 : Memref sig .tc .vmem S2x8x128 .f32)
    (a16 : Memref sig .tc .vmem S9x256x128 .f32)
    (a17 : Memref sig .tc .vmem S9x32x8x128 .i32)
    (a18 : Memref sig .tc .vmem S9x256x128 .f32)
    (a19 : Memref sig .tc .vmem S9x2x2x128x512 .f32)
    (a20 : Memref sig .tc .vmem S9x2x80x512 .f32)
    : Prop where
  l2 : Loads (F := F) c R a2
  l3 : Loads (F := F) c R a3
  l4 : Loads (F := F) c R a4
  l5 : Loads (F := F) c R a5
  l6 : Loads (F := F) c R a6
  l7 : Loads (F := F) c R a7
  l8 : Loads (F := F) c R a8
  l9 : Loads (F := F) c R a9
  l10 : Loads (F := F) c R a10
  l11 : Loads (F := F) c R a11
  l12 : Loads (F := F) c R a12
  l13 : Loads (F := F) c R a13
  l14 : Loads (F := F) c R a14
  l15 : Loads (F := F) c R a15
  l16 : Loads (F := F) c R a16
  l17 : Loads (F := F) c R a17
  l18 : Loads (F := F) c R a18
  l19 : Loads (F := F) c R a19
  l20 : Loads (F := F) c R a20
  s11 : Stores (F := F) c R a11
  s12 : Stores (F := F) c R a12
  s13 : Stores (F := F) c R a13
  s14 : Stores (F := F) c R a14
  s15 : Stores (F := F) c R a15
  s16 : Stores (F := F) c R a16
  s17 : Stores (F := F) c R a17
  s18 : Stores (F := F) c R a18
  s19 : Stores (F := F) c R a19
  s20 : Stores (F := F) c R a20

theorem p1 (H : Held (F := F) c R a2 a3 a4 a5 a6 a7 a8 a9 a10 a11 a12 a13 a14 a15 a16 a17 a18 a19 a20) (x0 x1 x2 x3 x4 x5 x6 x7 x8 x9 x10) : Keeps (F := F) c R (k0_part1 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10) :=
  Keeps.bind (H.l17 _ _) fun _ => (.bind (H.l17 _ _) fun _ => (.bind (H.l17 _ _) fun _ => (.bind (H.l17 _ _) fun _ => (.bind (H.l17 _ _) fun _ => (.bind (H.l17 _ _) fun _ => (.bind (H.l17 _ _) fun _ => (.bind (H.l17 _ _) fun _ => (.pure _))))))))

theorem p2 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part2 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.bind (H.l17 _ _) fun _ => (.pure _)

theorem p3 (H : Held (F := F) c R a2 a3 a4 a5 a6 a7 a8 a9 a10 a11 a12 a13 a14 a15 a16 a17 a18 a19 a20) (x0 x1 x2 x3 x4 x5 x6 x7 x8 x9 x10 x11 x12 x13 x14 x15) : Keeps (F := F) c R (k0_part3 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14 x15) :=
  Keeps.pure _

theorem p4 (H : Held (F := F) c R a2 a3 a4 a5 a6 a7 a8 a9 a10 a11 a12 a13 a14 a15 a16 a17 a18 a19 a20) (x0 x1 x2 x3 x4 x5 x6) : Keeps (F := F) c R (k0_part4 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l16 _ _) fun _ => (.pure _)

theorem p5 (H : Held (F := F) c R a2 a3 a4 a5 a6 a7 a8 a9 a10 a11 a12 a13 a14 a15 a16 a17 a18 a19 a20) (x0 x1 x2 x3 x4 x5 x6) : Keeps (F := F) c R (k0_part5 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l16 _ _) fun _ => (.bind (H.l16 _ _) fun _ => (.bind (H.l16 _ _) fun _ => (.pure _)))

theorem p6 (H : Held (F := F) c R a2 a3 a4 a5 a6 a7 a8 a9 a10 a11 a12 a13 a14 a15 a16 a17 a18 a19 a20) (x0 x1 x2 x3 x4 x5 x6 x7 x8) : Keeps (F := F) c R (k0_part6 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l16 _ _) fun _ => (.bind (H.l16 _ _) fun _ => (.bind (H.l16 _ _) fun _ => (.pure _)))

theorem p7 (H : Held (F := F) c R a2 a3 a4 a5 a6 a7 a8 a9 a10 a11 a12 a13 a14 a15 a16 a17 a18 a19 a20) (x0 x1 x2 x3 x4 x5 x6 x7 x8 x9) : Keeps (F := F) c R (k0_part7 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.bind (H.l16 _ _) fun _ => (.bind (H.l16 _ _) fun _ => (.pure _))

theorem p8 (H : Held (F := F) c R a2 a3 a4 a5 a6 a7 a8 a9 a10 a11 a12 a13 a14 a15 a16 a17 a18 a19 a20) (x0 x1 x2) : Keeps (F := F) c R (k0_part8 i a2 h2 a3 h3 a4 h4 a5 h5 a6 h6 a7 h7 a8 h8 a9 h9 a10 h10 a11 h11 a12 h12 a13 h13 a14 h14 a15 h15 a16 h16 a17 h17 a18 h18 a19 h19 a20 h20 x0 x1 x2) :=
  Keeps.bind (.for _ _ _ fun _ _ => (.bind (p4 H _ _ _ _ _ _ _) fun _ => (.bind (p5 H _ _ _ _ _ _ _) fun _ => (.bind (p6 H _ _ _ _ _ _ _ _ _) fun _ => (.bind (p7 H _ _ _ _ _ _ _ _ _ _) fun _ => (.pure _)))))) fun _ => (.bind (H.l16 _ _) fun _ => (.pure _))

theorem p9 (H : Held (F := F) c R a2 a3 a4 a5 a6 a7 a8 a9 a10 a11 a12 a13 a14 a15 a16 a17 a18 a19 a20) (x0 x1 x2 x3 x4 x5 x6) : Keeps (F := F) c R (k0_part9 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l16 _ _) fun _ => (.bind (H.l16 _ _) fun _ => (.bind (H.l16 _ _) fun _ => (.pure _)))

theorem p10 (H : Held (F := F) c R a2 a3 a4 a5 a6 a7 a8 a9 a10 a11 a12 a13 a14 a15 a16 a17 a18 a19 a20) (x0 x1 x2 x3 x4 x5 x6 x7 x8 x9) : Keeps (F := F) c R (k0_part10 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.bind (H.l16 _ _) fun _ => (.bind (H.l16 _ _) fun _ => (.bind (H.l16 _ _) fun _ => (.pure _)))

theorem p11 (H : Held (F := F) c R a2 a3 a4 a5 a6 a7 a8 a9 a10 a11 a12 a13 a14 a15 a16 a17 a18 a19 a20) (x0 x1 x2 x3 x4 x5 x6 x7 x8) : Keeps (F := F) c R (k0_part11 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l16 _ _) fun _ => (.bind (H.l16 _ _) fun _ => (.pure _))

theorem p12 (H : Held (F := F) c R a2 a3 a4 a5 a6 a7 a8 a9 a10 a11 a12 a13 a14 a15 a16 a17 a18 a19 a20) (x0 x1 x2 x3 x4 x5 x6 x7 x8 x9) : Keeps (F := F) c R (k0_part12 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.bind (H.l16 _ _) fun _ => (.bind (H.l16 _ _) fun _ => (.pure _))

theorem p13 (H : Held (F := F) c R a2 a3 a4 a5 a6 a7 a8 a9 a10 a11 a12 a13 a14 a15 a16 a17 a18 a19 a20) (x0 x1 x2 x3 x4 x5 x6 x7 x8 x9 x10 x11 x12) : Keeps (F := F) c R (k0_part13 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12) :=
  Keeps.bind (H.l16 _ _) fun _ => (.pure _)

theorem p14 (H : Held (F := F) c R a2 a3 a4 a5 a6 a7 a8 a9 a10 a11 a12 a13 a14 a15 a16 a17 a18 a19 a20) (x0 x1 x2 x3 x4 x5 x6 x7 x8 x9 x10 x11) : Keeps (F := F) c R (k0_part14 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11) :=
  Keeps.bind (H.l16 _ _) fun _ => (.bind (H.l16 _ _) fun _ => (.pure _))

theorem p15 (H : Held (F := F) c R a2 a3 a4 a5 a6 a7 a8 a9 a10 a11 a12 a13 a14 a15 a16 a17 a18 a19 a20) (x0 x1 x2 x3 x4 x5 x6 x7 x8 x9 x10 x11) : Keeps (F := F) c R (k0_part15 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11) :=
  Keeps.bind (H.l16 _ _) fun _ => (.bind (H.l16 _ _) fun _ => (.pure _))

theorem p16 (H : Held (F := F) c R a2 a3 a4 a5 a6 a7 a8 a9 a10 a11 a12 a13 a14 a15 a16 a17 a18 a19 a20) (x0 x1 x2 x3 x4 x5 x6 x7 x8 x9 x10 x11) : Keeps (F := F) c R (k0_part16 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11) :=
  Keeps.bind (H.l16 _ _) fun _ => (.bind (H.l16 _ _) fun _ => (.pure _))

theorem p17 (H : Held (F := F) c R a2 a3 a4 a5 a6 a7 a8 a9 a10 a11 a12 a13 a14 a15 a16 a17 a18 a19 a20) (x0 x1) : Keeps (F := F) c R (k0_part17 i a2 h2 a3 h3 a4 h4 a5 h5 a6 h6 a7 h7 a8 h8 a9 h9 a10 h10 a11 h11 a12 h12 a13 h13 a14 h14 a15 h15 a16 h16 a17 h17 a18 h18 a19 h19 a20 h20 x0 x1) :=
  Keeps.bind (H.l18 _ _) fun _ => (.bind (H.l19 _ _) fun _ => (.bind (H.l19 _ _) fun _ => (.bind (H.l18 _ _) fun _ => (.bind (H.l19 _ _) fun _ => (.pure _)))))

theorem p18 (H : Held (F := F) c R a2 a3 a4 a5 a6 a7 a8 a9 a10 a11 a12 a13 a14 a15 a16 a17 a18 a19 a20) (x0 x1 x2 x3 x4 x5 x6 x7) : Keeps (F := F) c R (k0_part18 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l19 _ _) fun _ => (.bind (H.l18 _ _) fun _ => (.bind (H.l19 _ _) fun _ => (.bind (H.l19 _ _) fun _ => (.bind (H.l18 _ _) fun _ => (.pure _)))))

theorem p19 (H : Held (F := F) c R a2 a3 a4 a5 a6 a7 a8 a9 a10 a11 a12 a13 a14 a15 a16 a17 a18 a19 a20) (x0 x1 x2 x3 x4 x5 x6 x7) : Keeps (F := F) c R (k0_part19 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l19 _ _) fun _ => (.bind (H.l19 _ _) fun _ => (.bind (H.l18 _ _) fun _ => (.bind (H.l19 _ _) fun _ => (.bind (H.l19 _ _) fun _ => (.pure _)))))

theorem p20 (H : Held (F := F) c R a2 a3 a4 a5 a6 a7 a8 a9 a10 a11 a12 a13 a14 a15 a16 a17 a18 a19 a20) (x0 x1 x2 x3 x4 x5 x6 x7) : Keeps (F := F) c R (k0_part20 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l18 _ _) fun _ => (.bind (H.l19 _ _) fun _ => (.bind (H.l19 _ _) fun _ => (.bind (H.l18 _ _) fun _ => (.bind (H.l19 _ _) fun _ => (.pure _)))))

theorem p21 (H : Held (F := F) c R a2 a3 a4 a5 a6 a7 a8 a9 a10 a11 a12 a13 a14 a15 a16 a17 a18 a19 a20) (x0 x1 x2 x3 x4 x5 x6 x7 x8) : Keeps (F := F) c R (k0_part21 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l19 _ _) fun _ => (.bind (H.l18 _ _) fun _ => (.bind (H.l19 _ _) fun _ => (.bind (H.l19 _ _) fun _ => (.pure _))))

theorem p22 (H : Held (F := F) c R a2 a3 a4 a5 a6 a7 a8 a9 a10 a11 a12 a13 a14 a15 a16 a17 a18 a19 a20) (x0 x1 x2 x3 x4 x5) : Keeps (F := F) c R (k0_part22 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l18 _ _) fun _ => (.bind (H.l19 _ _) fun _ => (.bind (H.l19 _ _) fun _ => (.bind (H.l18 _ _) fun _ => (.bind (H.l19 _ _) fun _ => (.pure _)))))

theorem p23 (H : Held (F := F) c R a2 a3 a4 a5 a6 a7 a8 a9 a10 a11 a12 a13 a14 a15 a16 a17 a18 a19 a20) (x0 x1 x2 x3 x4 x5 x6 x7) : Keeps (F := F) c R (k0_part23 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l19 _ _) fun _ => (.bind (H.l18 _ _) fun _ => (.bind (H.l19 _ _) fun _ => (.bind (H.l19 _ _) fun _ => (.bind (H.l18 _ _) fun _ => (.bind (H.l19 _ _) fun _ => (.pure _))))))

theorem p24 (H : Held (F := F) c R a2 a3 a4 a5 a6 a7 a8 a9 a10 a11 a12 a13 a14 a15 a16 a17 a18 a19 a20) (x0 x1 x2 x3 x4 x5 x6 x7 x8) : Keeps (F := F) c R (k0_part24 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l19 _ _) fun _ => (.bind (H.l18 _ _) fun _ => (.bind (H.l19 _ _) fun _ => (.bind (H.l19 _ _) fun _ => (.pure _))))

theorem p25 (H : Held (F := F) c R a2 a3 a4 a5 a6 a7 a8 a9 a10 a11 a12 a13 a14 a15 a16 a17 a18 a19 a20) (x0 x1 x2 x3 x4 x5 x6 x7) : Keeps (F := F) c R (k0_part25 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l18 _ _) fun _ => (.bind (H.l19 _ _) fun _ => (.bind (H.l19 _ _) fun _ => (.bind (H.l18 _ _) fun _ => (.bind (H.l19 _ _) fun _ => (.pure _)))))

theorem p26 (H : Held (F := F) c R a2 a3 a4 a5 a6 a7 a8 a9 a10 a11 a12 a13 a14 a15 a16 a17 a18 a19 a20) (x0 x1 x2 x3 x4 x5 x6 x7 x8) : Keeps (F := F) c R (k0_part26 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l19 _ _) fun _ => (.bind (H.l18 _ _) fun _ => (.bind (H.l19 _ _) fun _ => (.bind (H.l19 _ _) fun _ => (.bind (H.l18 _ _) fun _ => (.pure _)))))

theorem p27 (H : Held (F := F) c R a2 a3 a4 a5 a6 a7 a8 a9 a10 a11 a12 a13 a14 a15 a16 a17 a18 a19 a20) (x0 x1 x2 x3 x4 x5 x6) : Keeps (F := F) c R (k0_part27 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l19 _ _) fun _ => (.bind (H.l19 _ _) fun _ => (.bind (H.l18 _ _) fun _ => (.bind (H.l19 _ _) fun _ => (.bind (H.l19 _ _) fun _ => (.pure _)))))

theorem p28 (H : Held (F := F) c R a2 a3 a4 a5 a6 a7 a8 a9 a10 a11 a12 a13 a14 a15 a16 a17 a18 a19 a20) (x0 x1 x2 x3 x4 x5 x6 x7) : Keeps (F := F) c R (k0_part28 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l18 _ _) fun _ => (.bind (H.l19 _ _) fun _ => (.bind (H.l10 _ _) fun _ => (.pure _)))

theorem p29 (H : Held (F := F) c R a2 a3 a4 a5 a6 a7 a8 a9 a10 a11 a12 a13 a14 a15 a16 a17 a18 a19 a20) (x0 x1 x2 x3) : Keeps (F := F) c R (k0_part29 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.bind (H.l10 _ _) fun _ => (.pure _))))))))

theorem p30 (H : Held (F := F) c R a2 a3 a4 a5 a6 a7 a8 a9 a10 a11 a12 a13 a14 a15 a16 a17 a18 a19 a20) (x0 x1 x2 x3 x4 x5 x6 x7 x8) : Keeps (F := F) c R (k0_part30 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _)))))))

theorem p31 (H : Held (F := F) c R a2 a3 a4 a5 a6 a7 a8 a9 a10 a11 a12 a13 a14 a15 a16 a17 a18 a19 a20) (x0 x1 x2 x3 x4) : Keeps (F := F) c R (k0_part31 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _))))))))

theorem p32 (H : Held (F := F) c R a2 a3 a4 a5 a6 a7 a8 a9 a10 a11 a12 a13 a14 a15 a16 a17 a18 a19 a20) (x0 x1 x2 x3 x4 x5 x6 x7 x8) : Keeps (F := F) c R (k0_part32 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.pure _))))))

theorem p33 (H : Held (F := F) c R a2 a3 a4 a5 a6 a7 a8 a9 a10 a11 a12 a13 a14 a15 a16 a17 a18 a19 a20) (x0 x1 x2 x3) : Keeps (F := F) c R (k0_part33 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l18 _ _) fun _ => (.bind (H.l19 _ _) fun _ => (.bind (H.l10 _ _) fun _ => (.bind (H.l18 _ _) fun _ => (.bind (H.l19 _ _) fun _ => (.bind (H.l10 _ _) fun _ => (.pure _))))))

theorem p34 (H : Held (F := F) c R a2 a3 a4 a5 a6 a7 a8 a9 a10 a11 a12 a13 a14 a15 a16 a17 a18 a19 a20) (x0 x1 x2 x3) : Keeps (F := F) c R (k0_part34 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.bind (H.l10 _ _) fun _ => (.pure _))))))))

theorem p35 (H : Held (F := F) c R a2 a3 a4 a5 a6 a7 a8 a9 a10 a11 a12 a13 a14 a15 a16 a17 a18 a19 a20) (x0 x1 x2 x3 x4 x5 x6 x7) : Keeps (F := F) c R (k0_part35 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _)))))))

theorem p36 (H : Held (F := F) c R a2 a3 a4 a5 a6 a7 a8 a9 a10 a11 a12 a13 a14 a15 a16 a17 a18 a19 a20) (x0 x1 x2 x3 x4) : Keeps (F := F) c R (k0_part36 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _))))))))

theorem p37 (H : Held (F := F) c R a2 a3 a4 a5 a6 a7 a8 a9 a10 a11 a12 a13 a14 a15 a16 a17 a18 a19 a20) (x0 x1 x2 x3 x4 x5 x6 x7 x8) : Keeps (F := F) c R (k0_part37 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.pure _))))))

theorem p38 (H : Held (F := F) c R a2 a3 a4 a5 a6 a7 a8 a9 a10 a11 a12 a13 a14 a15 a16 a17 a18 a19 a20) (x0 x1 x2 x3 x4) : Keeps (F := F) c R (k0_part38 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _)))))))

theorem p39 (H : Held (F := F) c R a2 a3 a4 a5 a6 a7 a8 a9 a10 a11 a12 a13 a14 a15 a16 a17 a18 a19 a20) (x0 x1 x2 x3 x4 x5 x6 x7) : Keeps (F := F) c R (k0_part39 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _))))))))

theorem p40 (H : Held (F := F) c R a2 a3 a4 a5 a6 a7 a8 a9 a10 a11 a12 a13 a14 a15 a16 a17 a18 a19 a20) (x0 x1 x2 x3 x4) : Keeps (F := F) c R (k0_part40 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.pure _)))))))

theorem p41 (H : Held (F := F) c R a2 a3 a4 a5 a6 a7 a8 a9 a10 a11 a12 a13 a14 a15 a16 a17 a18 a19 a20) (x0 x1 x2 x3 x4 x5) : Keeps (F := F) c R (k0_part41 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l19 _ _) fun _ => (.bind (H.l10 _ _) fun _ => (.bind (H.l18 _ _) fun _ => (.bind (H.l19 _ _) fun _ => (.bind (H.l10 _ _) fun _ => (.bind (H.l20 _ _) fun _ => (.bind (H.s20 _ _ _ _ _) fun _ => (.pure _)))))))

theorem p42 (H : Held (F := F) c R a2 a3 a4 a5 a6 a7 a8 a9 a10 a11 a12 a13 a14 a15 a16 a17 a18 a19 a20) (x0 x1 x2 x3 x4) : Keeps (F := F) c R (k0_part42 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l18 _ _) fun _ => (.bind (H.l19 _ _) fun _ => (.bind (H.l10 _ _) fun _ => (.bind (H.l18 _ _) fun _ => (.bind (H.l19 _ _) fun _ => (.bind (H.l10 _ _) fun _ => (.pure _))))))

theorem p43 (H : Held (F := F) c R a2 a3 a4 a5 a6 a7 a8 a9 a10 a11 a12 a13 a14 a15 a16 a17 a18 a19 a20) (x0 x1 x2 x3 x4) : Keeps (F := F) c R (k0_part43 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _)))))))

theorem p44 (H : Held (F := F) c R a2 a3 a4 a5 a6 a7 a8 a9 a10 a11 a12 a13 a14 a15 a16 a17 a18 a19 a20) (x0 x1 x2 x3 x4 x5 x6) : Keeps (F := F) c R (k0_part44 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _))))))))

theorem p45 (H : Held (F := F) c R a2 a3 a4 a5 a6 a7 a8 a9 a10 a11 a12 a13 a14 a15 a16 a17 a18 a19 a20) (x0 x1 x2 x3 x4) : Keeps (F := F) c R (k0_part45 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.pure _)))))))

theorem p46 (H : Held (F := F) c R a2 a3 a4 a5 a6 a7 a8 a9 a10 a11 a12 a13 a14 a15 a16 a17 a18 a19 a20) (x0 x1 x2 x3 x4 x5 x6 x7) : Keeps (F := F) c R (k0_part46 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l19 _ _) fun _ => (.bind (H.l10 _ _) fun _ => (.bind (H.l20 _ _) fun _ => (.bind (H.s20 _ _ _ _ _) fun _ => (.bind (H.l18 _ _) fun _ => (.bind (H.l19 _ _) fun _ => (.bind (H.l10 _ _) fun _ => (.pure _)))))))

theorem p47 (H : Held (F := F) c R a2 a3 a4 a5 a6 a7 a8 a9 a10 a11 a12 a13 a14 a15 a16 a17 a18 a19 a20) (x0 x1 x2 x3 x4 x5) : Keeps (F := F) c R (k0_part47 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _)))))))

theorem p48 (H : Held (F := F) c R a2 a3 a4 a5 a6 a7 a8 a9 a10 a11 a12 a13 a14 a15 a16 a17 a18 a19 a20) (x0 x1 x2 x3 x4 x5 x6 x7) : Keeps (F := F) c R (k0_part48 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.pure _)))))))

theorem p49 (H : Held (F := F) c R a2 a3 a4 a5 a6 a7 a8 a9 a10 a11 a12 a13 a14 a15 a16 a17 a18 a19 a20) (x0 x1 x2 x3 x4) : Keeps (F := F) c R (k0_part49 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l19 _ _) fun _ => (.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.pure _))))))))

theorem p50 (H : Held (F := F) c R a2 a3 a4 a5 a6 a7 a8 a9 a10 a11 a12 a13 a14 a15 a16 a17 a18 a19 a20) (x0 x1 x2 x3 x4) : Keeps (F := F) c R (k0_part50 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l19 _ _) fun _ => (.bind (H.l10 _ _) fun _ => (.bind (H.l18 _ _) fun _ => (.bind (H.l19 _ _) fun _ => (.bind (H.l10 _ _) fun _ => (.bind (H.l20 _ _) fun _ => (.bind (H.s20 _ _ _ _ _) fun _ => (.pure _)))))))

theorem p51 (H : Held (F := F) c R a2 a3 a4 a5 a6 a7 a8 a9 a10 a11 a12 a13 a14 a15 a16 a17 a18 a19 a20) (x0 x1 x2 x3) : Keeps (F := F) c R (k0_part51 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l18 _ _) fun _ => (.bind (H.l19 _ _) fun _ => (.bind (H.l10 _ _) fun _ => (.bind (H.l18 _ _) fun _ => (.bind (H.l19 _ _) fun _ => (.bind (H.l10 _ _) fun _ => (.pure _))))))

theorem p52 (H : Held (F := F) c R a2 a3 a4 a5 a6 a7 a8 a9 a10 a11 a12 a13 a14 a15 a16 a17 a18 a19 a20) (x0 x1 x2 x3 x4 x5) : Keeps (F := F) c R (k0_part52 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _)))))))

theorem p53 (H : Held (F := F) c R a2 a3 a4 a5 a6 a7 a8 a9 a10 a11 a12 a13 a14 a15 a16 a17 a18 a19 a20) (x0 x1 x2 x3 x4 x5 x6) : Keeps (F := F) c R (k0_part53 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.pure _)))))))

theorem p54 (H : Held (F := F) c R a2 a3 a4 a5 a6 a7 a8 a9 a10 a11 a12 a13 a14 a15 a16 a17 a18 a19 a20) (x0 x1 x2 x3 x4) : Keeps (F := F) c R (k0_part54 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l19 _ _) fun _ => (.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.pure _))))))))

theorem p55 (H : Held (F := F) c R a2 a3 a4 a5 a6 a7 a8 a9 a10 a11 a12 a13 a14 a15 a16 a17 a18 a19 a20) (x0 x1 x2 x3 x4 x5 x6 x7) : Keeps (F := F) c R (k0_part55 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l19 _ _) fun _ => (.bind (H.l10 _ _) fun _ => (.bind (H.l20 _ _) fun _ => (.bind (H.s20 _ _ _ _ _) fun _ => (.bind (H.l18 _ _) fun _ => (.bind (H.l19 _ _) fun _ => (.pure _))))))

theorem p56 (H : Held (F := F) c R a2 a3 a4 a5 a6 a7 a8 a9 a10 a11 a12 a13 a14 a15 a16 a17 a18 a19 a20) (x0 x1 x2 x3 x4) : Keeps (F := F) c R (k0_part56 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _))))))))

theorem p57 (H : Held (F := F) c R a2 a3 a4 a5 a6 a7 a8 a9 a10 a11 a12 a13 a14 a15 a16 a17 a18 a19 a20) (x0 x1 x2 x3 x4 x5 x6 x7 x8) : Keeps (F := F) c R (k0_part57 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.pure _)))))))

theorem p58 (H : Held (F := F) c R a2 a3 a4 a5 a6 a7 a8 a9 a10 a11 a12 a13 a14 a15 a16 a17 a18 a19 a20) (x0 x1 x2 x3 x4) : Keeps (F := F) c R (k0_part58 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l19 _ _) fun _ => (.bind (H.l10 _ _) fun _ => (.bind (H.l18 _ _) fun _ => (.bind (H.l19 _ _) fun _ => (.bind (H.l10 _ _) fun _ => (.bind (H.l20 _ _) fun _ => (.bind (H.s20 _ _ _ _ _) fun _ => (.pure _)))))))

theorem p59 (H : Held (F := F) c R a2 a3 a4 a5 a6 a7 a8 a9 a10 a11 a12 a13 a14 a15 a16 a17 a18 a19 a20) (x0 x1 x2 x3) : Keeps (F := F) c R (k0_part59 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l18 _ _) fun _ => (.bind (H.l19 _ _) fun _ => (.bind (H.l10 _ _) fun _ => (.bind (H.l18 _ _) fun _ => (.bind (H.l19 _ _) fun _ => (.bind (H.l10 _ _) fun _ => (.pure _))))))

theorem p60 (H : Held (F := F) c R a2 a3 a4 a5 a6 a7 a8 a9 a10 a11 a12 a13 a14 a15 a16 a17 a18 a19 a20) (x0 x1 x2 x3 x4) : Keeps (F := F) c R (k0_part60 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _)))))))

theorem p61 (H : Held (F := F) c R a2 a3 a4 a5 a6 a7 a8 a9 a10 a11 a12 a13 a14 a15 a16 a17 a18 a19 a20) (x0 x1 x2 x3 x4) : Keeps (F := F) c R (k0_part61 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _))))))))

theorem p62 (H : Held (F := F) c R a2 a3 a4 a5 a6 a7 a8 a9 a10 a11 a12 a13 a14 a15 a16 a17 a18 a19 a20) (x0 x1 x2 x3 x4 x5 x6 x7 x8) : Keeps (F := F) c R (k0_part62 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.pure _)))))))

theorem p63 (H : Held (F := F) c R a2 a3 a4 a5 a6 a7 a8 a9 a10 a11 a12 a13 a14 a15 a16 a17 a18 a19 a20) (x0 x1 x2 x3 x4) : Keeps (F := F) c R (k0_part63 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l19 _ _) fun _ => (.bind (H.l10 _ _) fun _ => (.bind (H.l20 _ _) fun _ => (.bind (H.s20 _ _ _ _ _) fun _ => (.bind (H.l18 _ _) fun _ => (.bind (H.l19 _ _) fun _ => (.bind (H.l10 _ _) fun _ => (.pure _)))))))

theorem p64 (H : Held (F := F) c R a2 a3 a4 a5 a6 a7 a8 a9 a10 a11 a12 a13 a14 a15 a16 a17 a18 a19 a20) (x0 x1 x2 x3 x4 x5 x6) : Keeps (F := F) c R (k0_part64 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _)))))))

theorem p65 (H : Held (F := F) c R a2 a3 a4 a5 a6 a7 a8 a9 a10 a11 a12 a13 a14 a15 a16 a17 a18 a19 a20) (x0 x1 x2 x3 x4 x5) : Keeps (F := F) c R (k0_part65 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.pure _)))))))

theorem p66 (H : Held (F := F) c R a2 a3 a4 a5 a6 a7 a8 a9 a10 a11 a12 a13 a14 a15 a16 a17 a18 a19 a20) (x0 x1 x2 x3 x4 x5 x6 x7) : Keeps (F := F) c R (k0_part66 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l19 _ _) fun _ => (.bind (H.l10 _ _) fun _ => (.bind (H.l18 _ _) fun _ => (.bind (H.l19 _ _) fun _ => (.bind (H.l10 _ _) fun _ => (.bind (H.l20 _ _) fun _ => (.bind (H.s20 _ _ _ _ _) fun _ => (.pure _)))))))

theorem p67 (H : Held (F := F) c R a2 a3 a4 a5 a6 a7 a8 a9 a10 a11 a12 a13 a14 a15 a16 a17 a18 a19 a20) (x0 x1 x2 x3) : Keeps (F := F) c R (k0_part67 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l18 _ _) fun _ => (.bind (H.l19 _ _) fun _ => (.bind (H.l10 _ _) fun _ => (.bind (H.l18 _ _) fun _ => (.bind (H.l19 _ _) fun _ => (.bind (H.l10 _ _) fun _ => (.bind (H.l20 _ _) fun _ => (.pure _)))))))

theorem p68 (H : Held (F := F) c R a2 a3 a4 a5 a6 a7 a8 a9 a10 a11 a12 a13 a14 a15 a16 a17 a18 a19 a20) (x0 x1 x2 x3) : Keeps (F := F) c R (k0_part68 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.s20 _ _ _ _ _) fun _ => (.bind (H.l18 _ _) fun _ => (.bind (H.l19 _ _) fun _ => (.bind (H.l10 _ _) fun _ => (.bind (H.l18 _ _) fun _ => (.bind (H.l19 _ _) fun _ => (.bind (H.l10 _ _) fun _ => (.pure _)))))))

theorem p69 (H : Held (F := F) c R a2 a3 a4 a5 a6 a7 a8 a9 a10 a11 a12 a13 a14 a15 a16 a17 a18 a19 a20) (x0) : Keeps (F := F) c R (k0_part69 i a2 h2 a3 h3 a4 h4 a5 h5 a6 h6 a7 h7 a8 h8 a9 h9 a10 h10 a11 h11 a12 h12 a13 h13 a14 h14 a15 h15 a16 h16 a17 h17 a18 h18 a19 h19 a20 h20 x0) :=
  Keeps.bind (H.l20 _ _) fun _ => (.bind (H.s20 _ _ _ _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.pure _)))))))))

theorem p70 (H : Held (F := F) c R a2 a3 a4 a5 a6 a7 a8 a9 a10 a11 a12 a13 a14 a15 a16 a17 a18 a19 a20) (x0 x1) : Keeps (F := F) c R (k0_part70 i a2 h2 a3 h3 a4 h4 a5 h5 a6 h6 a7 h7 a8 h8 a9 h9 a10 h10 a11 h11 a12 h12 a13 h13 a14 h14 a15 h15 a16 h16 a17 h17 a18 h18 a19 h19 a20 h20 x0 x1) :=
  Keeps.bind (H.l20 _ _) fun _ => (.bind (H.l20 _ _) fun _ => (.bind (H.l20 _ _) fun _ => (.bind (H.l20 _ _) fun _ => (.bind (H.l20 _ _) fun _ => (.bind (H.l20 _ _) fun _ => (.pure _))))))

theorem p71 (H : Held (F := F) c R a2 a3 a4 a5 a6 a7 a8 a9 a10 a11 a12 a13 a14 a15 a16 a17 a18 a19 a20) (x0 x1) : Keeps (F := F) c R (k0_part71 i a2 h2 a3 h3 a4 h4 a5 h5 a6 h6 a7 h7 a8 h8 a9 h9 a10 h10 a11 h11 a12 h12 a13 h13 a14 h14 a15 h15 a16 h16 a17 h17 a18 h18 a19 h19 a20 h20 x0 x1) :=
  Keeps.bind (H.l11 _ _) fun _ => (.bind (H.s11 _ _ _ _ _) fun _ => (.bind (H.l12 _ _) fun _ => (.bind (H.s12 _ _ _ _ _) fun _ => (.bind (H.l20 _ _) fun _ => (.bind (H.l20 _ _) fun _ => (.bind (H.l20 _ _) fun _ => (.bind (H.l20 _ _) fun _ => (.bind (H.l20 _ _) fun _ => (.pure _)))))))))

theorem p72 (H : Held (F := F) c R a2 a3 a4 a5 a6 a7 a8 a9 a10 a11 a12 a13 a14 a15 a16 a17 a18 a19 a20) (x0 x1 x2) : Keeps (F := F) c R (k0_part72 i a2 h2 a3 h3 a4 h4 a5 h5 a6 h6 a7 h7 a8 h8 a9 h9 a10 h10 a11 h11 a12 h12 a13 h13 a14 h14 a15 h15 a16 h16 a17 h17 a18 h18 a19 h19 a20 h20 x0 x1 x2) :=
  Keeps.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.pure _)))))))

theorem p73 (H : Held (F := F) c R a2 a3 a4 a5 a6 a7 a8 a9 a10 a11 a12 a13 a14 a15 a16 a17 a18 a19 a20) (x0 x1 x2 x3) : Keeps (F := F) c R (k0_part73 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l20 _ _) fun _ => (.bind (H.l11 _ _) fun _ => (.bind (H.s11 _ _ _ _ _) fun _ => (.bind (H.l12 _ _) fun _ => (.bind (H.s12 _ _ _ _ _) fun _ => (.bind (H.l20 _ _) fun _ => (.bind (H.l20 _ _) fun _ => (.pure _)))))))

theorem p74 (H : Held (F := F) c R a2 a3 a4 a5 a6 a7 a8 a9 a10 a11 a12 a13 a14 a15 a16 a17 a18 a19 a20) (x0 x1) : Keeps (F := F) c R (k0_part74 i a2 h2 a3 h3 a4 h4 a5 h5 a6 h6 a7 h7 a8 h8 a9 h9 a10 h10 a11 h11 a12 h12 a13 h13 a14 h14 a15 h15 a16 h16 a17 h17 a18 h18 a19 h19 a20 h20 x0 x1) :=
  Keeps.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.pure _))))))))

theorem p75 (H : Held (F := F) c R a2 a3 a4 a5 a6 a7 a8 a9 a10 a11 a12 a13 a14 a15 a16 a17 a18 a19 a20) (x0 x1 x2 x3) : Keeps (F := F) c R (k0_part75 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l20 _ _) fun _ => (.bind (H.l20 _ _) fun _ => (.bind (H.l20 _ _) fun _ => (.bind (H.l11 _ _) fun _ => (.bind (H.s11 _ _ _ _ _) fun _ => (.pure _)))))

theorem p76 (H : Held (F := F) c R a2 a3 a4 a5 a6 a7 a8 a9 a10 a11 a12 a13 a14 a15 a16 a17 a18 a19 a20) (x0) : Keeps (F := F) c R (k0_part76 i a2 h2 a3 h3 a4 h4 a5 h5 a6 h6 a7 h7 a8 h8 a9 h9 a10 h10 a11 h11 a12 h12 a13 h13 a14 h14 a15 h15 a16 h16 a17 h17 a18 h18 a19 h19 a20 h20 x0) :=
  Keeps.bind (H.l12 _ _) fun _ => (.bind (H.s12 _ _ _ _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.pure _))))))))))

theorem p77 (H : Held (F := F) c R a2 a3 a4 a5 a6 a7 a8 a9 a10 a11 a12 a13 a14 a15 a16 a17 a18 a19 a20) (x0 x1) : Keeps (F := F) c R (k0_part77 i a2 h2 a3 h3 a4 h4 a5 h5 a6 h6 a7 h7 a8 h8 a9 h9 a10 h10 a11 h11 a12 h12 a13 h13 a14 h14 a15 h15 a16 h16 a17 h17 a18 h18 a19 h19 a20 h20 x0 x1) :=
  Keeps.bind (H.l20 _ _) fun _ => (.bind (H.l20 _ _) fun _ => (.bind (H.l20 _ _) fun _ => (.bind (H.l20 _ _) fun _ => (.bind (H.l20 _ _) fun _ => (.pure _)))))

theorem p78 (H : Held (F := F) c R a2 a3 a4 a5 a6 a7 a8 a9 a10 a11 a12 a13 a14 a15 a16 a17 a18 a19 a20) (x0 x1) : Keeps (F := F) c R (k0_part78 i a2 h2 a3 h3 a4 h4 a5 h5 a6 h6 a7 h7 a8 h8 a9 h9 a10 h10 a11 h11 a12 h12 a13 h13 a14 h14 a15 h15 a16 h16 a17 h17 a18 h18 a19 h19 a20 h20 x0 x1) := by
  delta k0_part78
  dsimp only
  refine .bind (p17 H _ _) fun _ => ?_
  refine .bind (p18 H _ _ _ _ _ _ _ _) fun _ => ?_
  refine .bind (p19 H _ _ _ _ _ _ _ _) fun _ => ?_
  refine .bind (p20 H _ _ _ _ _ _ _ _) fun _ => ?_
  refine .bind (p21 H _ _ _ _ _ _ _ _ _) fun _ => ?_
  refine .bind (p22 H _ _ _ _ _ _) fun _ => ?_
  refine .bind (p23 H _ _ _ _ _ _ _ _) fun _ => ?_
  refine .bind (p24 H _ _ _ _ _ _ _ _ _) fun _ => ?_
  refine .bind (p25 H _ _ _ _ _ _ _ _) fun _ => ?_
  refine .bind (p26 H _ _ _ _ _ _ _ _ _) fun _ => ?_
  refine .bind (p27 H _ _ _ _ _ _ _) fun _ => ?_
  refine .bind (p28 H _ _ _ _ _ _ _ _) fun _ => ?_
  refine .bind (p29 H _ _ _ _) fun _ => ?_
  refine .bind (p30 H _ _ _ _ _ _ _ _ _) fun _ => ?_
  refine .bind (p31 H _ _ _ _ _) fun _ => ?_
  refine .bind (p32 H _ _ _ _ _ _ _ _ _) fun _ => ?_
  refine .bind (p33 H _ _ _ _) fun _ => ?_
  refine .bind (p34 H _ _ _ _) fun _ => ?_
  refine .bind (p35 H _ _ _ _ _ _ _ _) fun _ => ?_
  refine .bind (p36 H _ _ _ _ _) fun _ => ?_
  refine .bind (p37 H _ _ _ _ _ _ _ _ _) fun _ => ?_
  refine .bind (p38 H _ _ _ _ _) fun _ => ?_
  refine .bind (p39 H _ _ _ _ _ _ _ _) fun _ => ?_
  refine .bind (p40 H _ _ _ _ _) fun _ => ?_
  refine .bind (p41 H _ _ _ _ _ _) fun _ => ?_
  refine .bind (p42 H _ _ _ _ _) fun _ => ?_
  refine .bind (p43 H _ _ _ _ _) fun _ => ?_
  refine .bind (p44 H _ _ _ _ _ _ _) fun _ => ?_
  refine .bind (p45 H _ _ _ _ _) fun _ => ?_
  refine .bind (p46 H _ _ _ _ _ _ _ _) fun _ => ?_
  refine .bind (p47 H _ _ _ _ _ _) fun _ => ?_
  refine .bind (p48 H _ _ _ _ _ _ _ _) fun _ => ?_
  refine .bind (p49 H _ _ _ _ _) fun _ => ?_
  refine .bind (p50 H _ _ _ _ _) fun _ => ?_
  refine .bind (p51 H _ _ _ _) fun _ => ?_
  refine .bind (p52 H _ _ _ _ _ _) fun _ => ?_
  refine .bind (p53 H _ _ _ _ _ _ _) fun _ => ?_
  refine .bind (p54 H _ _ _ _ _) fun _ => ?_
  refine .bind (p55 H _ _ _ _ _ _ _ _) fun _ => ?_
  refine .bind (p56 H _ _ _ _ _) fun _ => ?_
  refine .bind (p57 H _ _ _ _ _ _ _ _ _) fun _ => ?_
  refine .bind (p58 H _ _ _ _ _) fun _ => ?_
  refine .bind (p59 H _ _ _ _) fun _ => ?_
  refine .bind (p60 H _ _ _ _ _) fun _ => ?_
  refine .bind (p61 H _ _ _ _ _) fun _ => ?_
  refine .bind (p62 H _ _ _ _ _ _ _ _ _) fun _ => ?_
  refine .bind (p63 H _ _ _ _ _) fun _ => ?_
  refine .bind (p64 H _ _ _ _ _ _ _) fun _ => ?_
  refine .bind (p65 H _ _ _ _ _ _) fun _ => ?_
  refine .bind (p66 H _ _ _ _ _ _ _ _) fun _ => ?_
  refine .bind (p67 H _ _ _ _) fun _ => ?_
  refine .bind (p68 H _ _ _ _) fun _ => ?_
  refine .bind (p69 H _) fun _ => ?_
  refine .bind (p70 H _ _) fun _ => ?_
  refine .bind (p71 H _ _) fun _ => ?_
  refine .bind (p72 H _ _ _) fun _ => ?_
  refine .bind (p73 H _ _ _ _) fun _ => ?_
  refine .bind (p74 H _ _) fun _ => ?_
  refine .bind (p75 H _ _ _ _) fun _ => ?_
  exact p76 H _

theorem p79 (H : Held (F := F) c R a2 a3 a4 a5 a6 a7 a8 a9 a10 a11 a12 a13 a14 a15 a16 a17 a18 a19 a20) : Keeps (F := F) c R (k0_part79 i a2 h2 a3 h3 a4 h4 a5 h5 a6 h6 a7 h7 a8 h8 a9 h9 a10 h10 a11 h11 a12 h12 a13 h13 a14 h14 a15 h15 a16 h16 a17 h17 a18 h18 a19 h19 a20 h20) :=
  Keeps.bind (H.l2 _ _) fun _ => (.bind (H.l2 _ _) fun _ => (.bind (H.l2 _ _) fun _ => (.bind (H.l2 _ _) fun _ => (.bind (H.l2 _ _) fun _ => (.bind (H.l2 _ _) fun _ => (.bind (H.l2 _ _) fun _ => (.bind (H.l2 _ _) fun _ => (.bind (H.l13 _ _) fun _ => (.pure _)))))))))

theorem p80 (H : Held (F := F) c R a2 a3 a4 a5 a6 a7 a8 a9 a10 a11 a12 a13 a14 a15 a16 a17 a18 a19 a20) (x0) : Keeps (F := F) c R (k0_part80 i a2 h2 a3 h3 a4 h4 a5 h5 a6 h6 a7 h7 a8 h8 a9 h9 a10 h10 a11 h11 a12 h12 a13 h13 a14 h14 a15 h15 a16 h16 a17 h17 a18 h18 a19 h19 a20 h20 x0) :=
  Keeps.bind (H.s13 _ _ _ _ _) fun _ => (.bind (H.l4 _ _) fun _ => (.bind (H.l4 _ _) fun _ => (.bind (H.l4 _ _) fun _ => (.bind (H.l4 _ _) fun _ => (.bind (H.l4 _ _) fun _ => (.bind (H.l4 _ _) fun _ => (.bind (H.l4 _ _) fun _ => (.bind (H.l4 _ _) fun _ => (.bind (H.l14 _ _) fun _ => (.bind (H.s14 _ _ _ _ _) fun _ => (.bind (H.l14 _ _) fun _ => (.bind (H.s14 _ _ _ _ _) fun _ => (.bind (H.l6 _ _) fun _ => (.bind (H.l15 _ _) fun _ => (.bind (H.s15 _ _ _ _ _) fun _ => (.pure _))))))))))))))))

theorem p81 (H : Held (F := F) c R a2 a3 a4 a5 a6 a7 a8 a9 a10 a11 a12 a13 a14 a15 a16 a17 a18 a19 a20) : Keeps (F := F) c R (k0_part81 i a2 h2 a3 h3 a4 h4 a5 h5 a6 h6 a7 h7 a8 h8 a9 h9 a10 h10 a11 h11 a12 h12 a13 h13 a14 h14 a15 h15 a16 h16 a17 h17 a18 h18 a19 h19 a20 h20) :=
  Keeps.bind (H.l3 _ _) fun _ => (.bind (H.l3 _ _) fun _ => (.bind (H.l3 _ _) fun _ => (.bind (H.l3 _ _) fun _ => (.bind (H.l3 _ _) fun _ => (.bind (H.l3 _ _) fun _ => (.bind (H.l3 _ _) fun _ => (.bind (H.l3 _ _) fun _ => (.bind (H.l13 _ _) fun _ => (.bind (H.s13 _ _ _ _ _) fun _ => (.bind (H.l5 _ _) fun _ => (.bind (H.l5 _ _) fun _ => (.bind (H.l5 _ _) fun _ => (.bind (H.l5 _ _) fun _ => (.bind (H.l5 _ _) fun _ => (.bind (H.l5 _ _) fun _ => (.bind (H.l5 _ _) fun _ => (.bind (H.l5 _ _) fun _ => (.pure _))))))))))))))))))

theorem p82 (H : Held (F := F) c R a2 a3 a4 a5 a6 a7 a8 a9 a10 a11 a12 a13 a14 a15 a16 a17 a18 a19 a20) (x0 x1 x2 x3 x4 x5) : Keeps (F := F) c R (k0_part82 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l14 _ _) fun _ => (.bind (H.s14 _ _ _ _ _) fun _ => (.bind (H.l14 _ _) fun _ => (.bind (H.s14 _ _ _ _ _) fun _ => (.bind (H.l7 _ _) fun _ => (.bind (H.l15 _ _) fun _ => (.bind (H.s15 _ _ _ _ _) fun _ => (.bind (H.l15 _ _) fun _ => (.bind (H.l8 _ _) fun _ => (.bind (H.l13 _ _) fun _ => (.pure _))))))))))

theorem p83 (H : Held (F := F) c R a2 a3 a4 a5 a6 a7 a8 a9 a10 a11 a12 a13 a14 a15 a16 a17 a18 a19 a20) (x0 x1 x2 x3 x4) : Keeps (F := F) c R (k0_part83 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l13 _ _) fun _ => (.bind (H.l13 _ _) fun _ => (.pure _))

theorem p84 (H : Held (F := F) c R a2 a3 a4 a5 a6 a7 a8 a9 a10 a11 a12 a13 a14 a15 a16 a17 a18 a19 a20) (x0 x1 x2 x3 x4 x5 x6 x7 x8) : Keeps (F := F) c R (k0_part84 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l13 _ _) fun _ => (.bind (H.l16 _ _) fun _ => (.bind (H.s16 _ _ _ _ _) fun _ => (.bind (H.l8 _ _) fun _ => (.pure _))))

theorem p85 (H : Held (F := F) c R a2 a3 a4 a5 a6 a7 a8 a9 a10 a11 a12 a13 a14 a15 a16 a17 a18 a19 a20) (x0 x1 x2 x3) : Keeps (F := F) c R (k0_part85 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l13 _ _) fun _ => (.bind (H.l13 _ _) fun _ => (.bind (H.l13 _ _) fun _ => (.pure _)))

theorem p86 (H : Held (F := F) c R a2 a3 a4 a5 a6 a7 a8 a9 a10 a11 a12 a13 a14 a15 a16 a17 a18 a19 a20) (x0 x1 x2 x3 x4 x5 x6 x7 x8) : Keeps (F := F) c R (k0_part86 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l13 _ _) fun _ => (.bind (H.l16 _ _) fun _ => (.bind (H.s16 _ _ _ _ _) fun _ => (.bind (H.l16 _ _) fun _ => (.pure _))))

theorem p87 (H : Held (F := F) c R a2 a3 a4 a5 a6 a7 a8 a9 a10 a11 a12 a13 a14 a15 a16 a17 a18 a19 a20) (x0 x1) : Keeps (F := F) c R (k0_part87 i a2 h2 a3 h3 a4 h4 a5 h5 a6 h6 a7 h7 a8 h8 a9 h9 a10 h10 a11 h11 a12 h12 a13 h13 a14 h14 a15 h15 a16 h16 a17 h17 a18 h18 a19 h19 a20 h20 x0 x1) :=
  Keeps.pure _

theorem p88 (H : Held (F := F) c R a2 a3 a4 a5 a6 a7 a8 a9 a10 a11 a12 a13 a14 a15 a16 a17 a18 a19 a20) (x0 x1 x2 x3 x4 x5 x6 x7 x8 x9) : Keeps (F := F) c R (k0_part88 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p89 (H : Held (F := F) c R a2 a3 a4 a5 a6 a7 a8 a9 a10 a11 a12 a13 a14 a15 a16 a17 a18 a19 a20) (x0 x1 x2 x3 x4 x5 x6 x7 x8 x9) : Keeps (F := F) c R (k0_part89 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p90 (H : Held (F := F) c R a2 a3 a4 a5 a6 a7 a8 a9 a10 a11 a12 a13 a14 a15 a16 a17 a18 a19 a20) (x0 x1 x2 x3 x4 x5 x6 x7 x8 x9) : Keeps (F := F) c R (k0_part90 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p91 (H : Held (F := F) c R a2 a3 a4 a5 a6 a7 a8 a9 a10 a11 a12 a13 a14 a15 a16 a17 a18 a19 a20) (x0 x1 x2 x3 x4 x5 x6 x7 x8 x9) : Keeps (F := F) c R (k0_part91 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p92 (H : Held (F := F) c R a2 a3 a4 a5 a6 a7 a8 a9 a10 a11 a12 a13 a14 a15 a16 a17 a18 a19 a20) (x0 x1 x2 x3 x4 x5 x6 x7 x8 x9) : Keeps (F := F) c R (k0_part92 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p93 (H : Held (F := F) c R a2 a3 a4 a5 a6 a7 a8 a9 a10 a11 a12 a13 a14 a15 a16 a17 a18 a19 a20) (x0 x1 x2 x3 x4 x5 x6 x7 x8 x9) : Keeps (F := F) c R (k0_part93 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p94 (H : Held (F := F) c R a2 a3 a4 a5 a6 a7 a8 a9 a10 a11 a12 a13 a14 a15 a16 a17 a18 a19 a20) (x0 x1 x2 x3 x4 x5 x6 x7 x8 x9) : Keeps (F := F) c R (k0_part94 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p95 (H : Held (F := F) c R a2 a3 a4 a5 a6 a7 a8 a9 a10 a11 a12 a13 a14 a15 a16 a17 a18 a19 a20) (x0 x1 x2 x3 x4 x5 x6 x7 x8 x9) : Keeps (F := F) c R (k0_part95 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p96 (H : Held (F := F) c R a2 a3 a4 a5 a6 a7 a8 a9 a10 a11 a12 a13 a14 a15 a16 a17 a18 a19 a20) (x0 x1 x2 x3 x4 x5 x6 x7 x8 x9) : Keeps (F := F) c R (k0_part96 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p97 (H : Held (F := F) c R a2 a3 a4 a5 a6 a7 a8 a9 a10 a11 a12 a13 a14 a15 a16 a17 a18 a19 a20) (x0 x1 x2 x3 x4 x5 x6 x7 x8 x9) : Keeps (F := F) c R (k0_part97 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p98 (H : Held (F := F) c R a2 a3 a4 a5 a6 a7 a8 a9 a10 a11 a12 a13 a14 a15 a16 a17 a18 a19 a20) (x0 x1 x2 x3 x4 x5 x6 x7 x8 x9) : Keeps (F := F) c R (k0_part98 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p99 (H : Held (F := F) c R a2 a3 a4 a5 a6 a7 a8 a9 a10 a11 a12 a13 a14 a15 a16 a17 a18 a19 a20) (x0 x1 x2 x3 x4 x5 x6 x7 x8 x9) : Keeps (F := F) c R (k0_part99 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p100 (H : Held (F := F) c R a2 a3 a4 a5 a6 a7 a8 a9 a10 a11 a12 a13 a14 a15 a16 a17 a18 a19 a20) (x0 x1 x2 x3 x4 x5 x6 x7 x8 x9) : Keeps (F := F) c R (k0_part100 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

end Cert.Kernel.Hand

end
-- ==== Proof.Parts2.lean ====
/-
  Hand-written, untrusted. The attention body part by part: each part of its text keeps what it was handed (part 2 of the list).
-/
module

public import proofs.«01_k».proof.Proof.Parts1

@[expose] public section

set_option maxRecDepth 16384
set_option maxHeartbeats 400000

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]
variable {c : Dev nD} {R : sProp (MT nD τ sig Unit (Elt F) ℕ (UR sig nD τ) ℕ)} {i : grid0.Coords}
variable {a2 : Memref sig .tc .vmem S512x128 .bf16} {h2 : a2.IsWhole}
variable {a3 : Memref sig .tc .vmem S512x128 .bf16} {h3 : a3.IsWhole}
variable {a4 : Memref sig .tc .vmem S512x128 .bf16} {h4 : a4.IsWhole}
variable {a5 : Memref sig .tc .vmem S512x128 .bf16} {h5 : a5.IsWhole}
variable {a6 : Memref sig .tc .vmem S8x128 .f32} {h6 : a6.IsWhole}
variable {a7 : Memref sig .tc .vmem S8x128 .f32} {h7 : a7.IsWhole}
variable {a8 : Memref sig .tc .vmem S2048x64 .bf16} {h8 : a8.IsWhole}
variable {a9 : Memref sig .tc .vmem S2048x128 .bf16} {h9 : a9.IsWhole}
variable {a10 : Memref sig .tc .vmem S8x128x256 .bf16} {h10 : a10.IsWhole}
variable {a11 : Memref sig .tc .vmem S1x1x128x512 .bf16} {h11 : a11.IsWhole}
variable {a12 : Memref sig .tc .vmem S1x1x128x512 .bf16} {h12 : a12.IsWhole}
variable {a13 : Memref sig .tc .vmem S2x64x1024 .bf16} {h13 : a13.IsWhole}
variable {a14 : Memref sig .tc .vmem S2x2x128x512 .bf16} {h14 : a14.IsWhole}
variable {a15 : Memref sig .tc .vmem S2x8x128 .f32} {h15 : a15.IsWhole}
variable {a16 : Memref sig .tc .vmem S9x256x128 .f32} {h16 : a16.IsWhole}
variable {a17 : Memref sig .tc .vmem S9x32x8x128 .i32} {h17 : a17.IsWhole}
variable {a18 : Memref sig .tc .vmem S9x256x128 .f32} {h18 : a18.IsWhole}
variable {a19 : Memref sig .tc .vmem S9x2x2x128x512 .f32} {h19 : a19.IsWhole}
variable {a20 : Memref sig .tc .vmem S9x2x80x512 .f32} {h20 : a20.IsWhole}

theorem p101 (H : Held (F := F) c R a2 a3 a4 a5 a6 a7 a8 a9 a10 a11 a12 a13 a14 a15 a16 a17 a18 a19 a20) (x0 x1 x2 x3 x4 x5 x6 x7 x8 x9) : Keeps (F := F) c R (k0_part101 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p102 (H : Held (F := F) c R a2 a3 a4 a5 a6 a7 a8 a9 a10 a11 a12 a13 a14 a15 a16 a17 a18 a19 a20) (x0 x1 x2 x3 x4 x5 x6 x7 x8 x9) : Keeps (F := F) c R (k0_part102 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p103 (H : Held (F := F) c R a2 a3 a4 a5 a6 a7 a8 a9 a10 a11 a12 a13 a14 a15 a16 a17 a18 a19 a20) (x0 x1 x2 x3 x4 x5 x6 x7 x8) : Keeps (F := F) c R (k0_part103 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))

theorem p104 (H : Held (F := F) c R a2 a3 a4 a5 a6 a7 a8 a9 a10 a11 a12 a13 a14 a15 a16 a17 a18 a19 a20) (x0 x1 x2 x3 x4 x5 x6) : Keeps (F := F) c R (k0_part104 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))

theorem p105 (H : Held (F := F) c R a2 a3 a4 a5 a6 a7 a8 a9 a10 a11 a12 a13 a14 a15 a16 a17 a18 a19 a20) (x0 x1 x2 x3 x4 x5 x6 x7) : Keeps (F := F) c R (k0_part105 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))))

theorem p106 (H : Held (F := F) c R a2 a3 a4 a5 a6 a7 a8 a9 a10 a11 a12 a13 a14 a15 a16 a17 a18 a19 a20) (x0 x1 x2 x3 x4 x5 x6) : Keeps (F := F) c R (k0_part106 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))

theorem p107 (H : Held (F := F) c R a2 a3 a4 a5 a6 a7 a8 a9 a10 a11 a12 a13 a14 a15 a16 a17 a18 a19 a20) (x0 x1 x2 x3 x4 x5 x6 x7) : Keeps (F := F) c R (k0_part107 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))

theorem p108 (H : Held (F := F) c R a2 a3 a4 a5 a6 a7 a8 a9 a10 a11 a12 a13 a14 a15 a16 a17 a18 a19 a20) (x0 x1 x2 x3 x4 x5) : Keeps (F := F) c R (k0_part108 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l9 _ _) fun _ => (.bind (H.l14 _ _) fun _ => (.bind (H.l19 _ _) fun _ => (.bind (H.s19 _ _ _ _ _) fun _ => (.bind (H.l9 _ _) fun _ => (.bind (H.l14 _ _) fun _ => (.pure _))))))

theorem p109 (H : Held (F := F) c R a2 a3 a4 a5 a6 a7 a8 a9 a10 a11 a12 a13 a14 a15 a16 a17 a18 a19 a20) (x0 x1 x2 x3 x4 x5) : Keeps (F := F) c R (k0_part109 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l19 _ _) fun _ => (.bind (H.s19 _ _ _ _ _) fun _ => (.bind (H.l9 _ _) fun _ => (.bind (H.l14 _ _) fun _ => (.bind (H.l19 _ _) fun _ => (.bind (H.s19 _ _ _ _ _) fun _ => (.pure _))))))

theorem p110 (H : Held (F := F) c R a2 a3 a4 a5 a6 a7 a8 a9 a10 a11 a12 a13 a14 a15 a16 a17 a18 a19 a20) (x0 x1 x2 x3 x4 x5 x6 x7) : Keeps (F := F) c R (k0_part110 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l9 _ _) fun _ => (.bind (H.l14 _ _) fun _ => (.bind (H.l19 _ _) fun _ => (.bind (H.s19 _ _ _ _ _) fun _ => (.bind (H.l15 _ _) fun _ => (.bind (H.l8 _ _) fun _ => (.pure _))))))

theorem p111 (H : Held (F := F) c R a2 a3 a4 a5 a6 a7 a8 a9 a10 a11 a12 a13 a14 a15 a16 a17 a18 a19 a20) (x0 x1 x2 x3) : Keeps (F := F) c R (k0_part111 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l13 _ _) fun _ => (.bind (H.l13 _ _) fun _ => (.bind (H.l13 _ _) fun _ => (.pure _)))

theorem p112 (H : Held (F := F) c R a2 a3 a4 a5 a6 a7 a8 a9 a10 a11 a12 a13 a14 a15 a16 a17 a18 a19 a20) (x0 x1 x2 x3 x4 x5 x6 x7 x8 x9 x10) : Keeps (F := F) c R (k0_part112 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10) :=
  Keeps.bind (H.l13 _ _) fun _ => (.bind (H.l16 _ _) fun _ => (.bind (H.s16 _ _ _ _ _) fun _ => (.pure _)))

theorem p113 (H : Held (F := F) c R a2 a3 a4 a5 a6 a7 a8 a9 a10 a11 a12 a13 a14 a15 a16 a17 a18 a19 a20) (x0 x1) : Keeps (F := F) c R (k0_part113 i a2 h2 a3 h3 a4 h4 a5 h5 a6 h6 a7 h7 a8 h8 a9 h9 a10 h10 a11 h11 a12 h12 a13 h13 a14 h14 a15 h15 a16 h16 a17 h17 a18 h18 a19 h19 a20 h20 x0 x1) :=
  Keeps.bind (H.l8 _ _) fun _ => (.bind (H.l13 _ _) fun _ => (.bind (H.l13 _ _) fun _ => (.bind (H.l13 _ _) fun _ => (.pure _))))

theorem p114 (H : Held (F := F) c R a2 a3 a4 a5 a6 a7 a8 a9 a10 a11 a12 a13 a14 a15 a16 a17 a18 a19 a20) (x0 x1 x2 x3 x4 x5 x6 x7 x8 x9 x10) : Keeps (F := F) c R (k0_part114 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10) :=
  Keeps.bind (H.l13 _ _) fun _ => (.bind (H.l16 _ _) fun _ => (.bind (H.s16 _ _ _ _ _) fun _ => (.pure _)))

theorem p115 (H : Held (F := F) c R a2 a3 a4 a5 a6 a7 a8 a9 a10 a11 a12 a13 a14 a15 a16 a17 a18 a19 a20) : Keeps (F := F) c R (k0_part115 i a2 h2 a3 h3 a4 h4 a5 h5 a6 h6 a7 h7 a8 h8 a9 h9 a10 h10 a11 h11 a12 h12 a13 h13 a14 h14 a15 h15 a16 h16 a17 h17 a18 h18 a19 h19 a20 h20) :=
  Keeps.bind (H.l16 _ _) fun _ => (.pure _)

theorem p116 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part116 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p117 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part117 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p118 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part118 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p119 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part119 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p120 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part120 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p121 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part121 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p122 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part122 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p123 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part123 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p124 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part124 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p125 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part125 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p126 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part126 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p127 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part127 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p128 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part128 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p129 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part129 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p130 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part130 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p131 (H : Held (F := F) c R a2 a3 a4 a5 a6 a7 a8 a9 a10 a11 a12 a13 a14 a15 a16 a17 a18 a19 a20) (x0 x1 x2 x3 x4 x5 x6 x7 x8 x9 x10 x11) : Keeps (F := F) c R (k0_part131 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11) :=
  Keeps.bind (H.l17 _ _) fun _ => (.bind (H.s17 _ _ _ _ _) fun _ => (.bind (H.l17 _ _) fun _ => (.bind (H.s17 _ _ _ _ _) fun _ => (.pure _))))

theorem p132 (H : Held (F := F) c R a2 a3 a4 a5 a6 a7 a8 a9 a10 a11 a12 a13 a14 a15 a16 a17 a18 a19 a20) (x0 x1 x2 x3 x4 x5 x6) : Keeps (F := F) c R (k0_part132 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.pure _)))))))))))))))

theorem p133 (H : Held (F := F) c R a2 a3 a4 a5 a6 a7 a8 a9 a10 a11 a12 a13 a14 a15 a16 a17 a18 a19 a20) (x0 x1 x2 x3 x4 x5 x6 x7) : Keeps (F := F) c R (k0_part133 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _)))))))))))))))

theorem p134 (H : Held (F := F) c R a2 a3 a4 a5 a6 a7 a8 a9 a10 a11 a12 a13 a14 a15 a16 a17 a18 a19 a20) (x0 x1 x2 x3 x4 x5 x6) : Keeps (F := F) c R (k0_part134 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.pure _)))))))))))))))

theorem p135 (H : Held (F := F) c R a2 a3 a4 a5 a6 a7 a8 a9 a10 a11 a12 a13 a14 a15 a16 a17 a18 a19 a20) (x0 x1 x2 x3 x4 x5 x6 x7 x8) : Keeps (F := F) c R (k0_part135 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _)))))))))))))))

theorem p136 (H : Held (F := F) c R a2 a3 a4 a5 a6 a7 a8 a9 a10 a11 a12 a13 a14 a15 a16 a17 a18 a19 a20) (x0 x1 x2 x3 x4) : Keeps (F := F) c R (k0_part136 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l9 _ _) fun _ => (.bind (H.l14 _ _) fun _ => (.bind (H.l19 _ _) fun _ => (.bind (H.s19 _ _ _ _ _) fun _ => (.bind (H.l9 _ _) fun _ => (.pure _)))))

theorem p137 (H : Held (F := F) c R a2 a3 a4 a5 a6 a7 a8 a9 a10 a11 a12 a13 a14 a15 a16 a17 a18 a19 a20) (x0 x1 x2 x3 x4 x5 x6) : Keeps (F := F) c R (k0_part137 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l14 _ _) fun _ => (.bind (H.l19 _ _) fun _ => (.bind (H.s19 _ _ _ _ _) fun _ => (.bind (H.l9 _ _) fun _ => (.bind (H.l14 _ _) fun _ => (.bind (H.l19 _ _) fun _ => (.bind (H.s19 _ _ _ _ _) fun _ => (.pure _)))))))

theorem p138 (H : Held (F := F) c R a2 a3 a4 a5 a6 a7 a8 a9 a10 a11 a12 a13 a14 a15 a16 a17 a18 a19 a20) (x0 x1 x2 x3 x4 x5 x6 x7) : Keeps (F := F) c R (k0_part138 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l9 _ _) fun _ => (.bind (H.l14 _ _) fun _ => (.bind (H.l19 _ _) fun _ => (.bind (H.s19 _ _ _ _ _) fun _ => (.bind (H.l15 _ _) fun _ => (.pure _)))))

theorem p139 (H : Held (F := F) c R a2 a3 a4 a5 a6 a7 a8 a9 a10 a11 a12 a13 a14 a15 a16 a17 a18 a19 a20) (x0 x1 x2 x3) : Keeps (F := F) c R (k0_part139 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l8 _ _) fun _ => (.bind (H.l13 _ _) fun _ => (.bind (H.l13 _ _) fun _ => (.bind (H.l13 _ _) fun _ => (.pure _))))

theorem p140 (H : Held (F := F) c R a2 a3 a4 a5 a6 a7 a8 a9 a10 a11 a12 a13 a14 a15 a16 a17 a18 a19 a20) (x0 x1 x2 x3 x4 x5 x6 x7 x8) : Keeps (F := F) c R (k0_part140 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l13 _ _) fun _ => (.bind (H.l16 _ _) fun _ => (.bind (H.s16 _ _ _ _ _) fun _ => (.pure _)))

theorem p141 (H : Held (F := F) c R a2 a3 a4 a5 a6 a7 a8 a9 a10 a11 a12 a13 a14 a15 a16 a17 a18 a19 a20) (x0 x1 x2) : Keeps (F := F) c R (k0_part141 i a2 h2 a3 h3 a4 h4 a5 h5 a6 h6 a7 h7 a8 h8 a9 h9 a10 h10 a11 h11 a12 h12 a13 h13 a14 h14 a15 h15 a16 h16 a17 h17 a18 h18 a19 h19 a20 h20 x0 x1 x2) :=
  Keeps.bind (H.l8 _ _) fun _ => (.bind (H.l13 _ _) fun _ => (.bind (H.l13 _ _) fun _ => (.bind (H.l13 _ _) fun _ => (.pure _))))

theorem p142 (H : Held (F := F) c R a2 a3 a4 a5 a6 a7 a8 a9 a10 a11 a12 a13 a14 a15 a16 a17 a18 a19 a20) (x0 x1 x2 x3 x4 x5 x6 x7 x8) : Keeps (F := F) c R (k0_part142 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l13 _ _) fun _ => (.bind (H.l16 _ _) fun _ => (.pure _))

theorem p143 (H : Held (F := F) c R a2 a3 a4 a5 a6 a7 a8 a9 a10 a11 a12 a13 a14 a15 a16 a17 a18 a19 a20) (x0 x1) : Keeps (F := F) c R (k0_part143 i a2 h2 a3 h3 a4 h4 a5 h5 a6 h6 a7 h7 a8 h8 a9 h9 a10 h10 a11 h11 a12 h12 a13 h13 a14 h14 a15 h15 a16 h16 a17 h17 a18 h18 a19 h19 a20 h20 x0 x1) :=
  Keeps.bind (H.s16 _ _ _ _ _) fun _ => (.bind (H.l16 _ _) fun _ => (.pure _))

theorem p144 (H : Held (F := F) c R a2 a3 a4 a5 a6 a7 a8 a9 a10 a11 a12 a13 a14 a15 a16 a17 a18 a19 a20) (x0 x1 x2 x3 x4 x5 x6 x7 x8 x9) : Keeps (F := F) c R (k0_part144 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p145 (H : Held (F := F) c R a2 a3 a4 a5 a6 a7 a8 a9 a10 a11 a12 a13 a14 a15 a16 a17 a18 a19 a20) (x0 x1 x2 x3 x4 x5 x6 x7 x8 x9) : Keeps (F := F) c R (k0_part145 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p146 (H : Held (F := F) c R a2 a3 a4 a5 a6 a7 a8 a9 a10 a11 a12 a13 a14 a15 a16 a17 a18 a19 a20) (x0 x1 x2 x3 x4 x5 x6 x7 x8 x9) : Keeps (F := F) c R (k0_part146 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p147 (H : Held (F := F) c R a2 a3 a4 a5 a6 a7 a8 a9 a10 a11 a12 a13 a14 a15 a16 a17 a18 a19 a20) (x0 x1 x2 x3 x4 x5 x6 x7 x8 x9) : Keeps (F := F) c R (k0_part147 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p148 (H : Held (F := F) c R a2 a3 a4 a5 a6 a7 a8 a9 a10 a11 a12 a13 a14 a15 a16 a17 a18 a19 a20) (x0 x1 x2 x3 x4 x5 x6 x7 x8 x9) : Keeps (F := F) c R (k0_part148 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p149 (H : Held (F := F) c R a2 a3 a4 a5 a6 a7 a8 a9 a10 a11 a12 a13 a14 a15 a16 a17 a18 a19 a20) (x0 x1 x2 x3 x4 x5 x6 x7 x8 x9) : Keeps (F := F) c R (k0_part149 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p150 (H : Held (F := F) c R a2 a3 a4 a5 a6 a7 a8 a9 a10 a11 a12 a13 a14 a15 a16 a17 a18 a19 a20) (x0 x1 x2 x3 x4 x5 x6 x7 x8 x9) : Keeps (F := F) c R (k0_part150 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p151 (H : Held (F := F) c R a2 a3 a4 a5 a6 a7 a8 a9 a10 a11 a12 a13 a14 a15 a16 a17 a18 a19 a20) (x0 x1 x2 x3 x4 x5 x6 x7 x8 x9) : Keeps (F := F) c R (k0_part151 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p152 (H : Held (F := F) c R a2 a3 a4 a5 a6 a7 a8 a9 a10 a11 a12 a13 a14 a15 a16 a17 a18 a19 a20) (x0 x1 x2 x3 x4 x5 x6 x7 x8 x9) : Keeps (F := F) c R (k0_part152 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p153 (H : Held (F := F) c R a2 a3 a4 a5 a6 a7 a8 a9 a10 a11 a12 a13 a14 a15 a16 a17 a18 a19 a20) (x0 x1 x2 x3 x4 x5 x6 x7 x8 x9) : Keeps (F := F) c R (k0_part153 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p154 (H : Held (F := F) c R a2 a3 a4 a5 a6 a7 a8 a9 a10 a11 a12 a13 a14 a15 a16 a17 a18 a19 a20) (x0 x1 x2 x3 x4 x5 x6 x7 x8 x9) : Keeps (F := F) c R (k0_part154 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p155 (H : Held (F := F) c R a2 a3 a4 a5 a6 a7 a8 a9 a10 a11 a12 a13 a14 a15 a16 a17 a18 a19 a20) (x0 x1 x2 x3 x4 x5 x6 x7 x8 x9) : Keeps (F := F) c R (k0_part155 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p156 (H : Held (F := F) c R a2 a3 a4 a5 a6 a7 a8 a9 a10 a11 a12 a13 a14 a15 a16 a17 a18 a19 a20) (x0 x1 x2 x3 x4 x5 x6 x7 x8 x9) : Keeps (F := F) c R (k0_part156 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p157 (H : Held (F := F) c R a2 a3 a4 a5 a6 a7 a8 a9 a10 a11 a12 a13 a14 a15 a16 a17 a18 a19 a20) (x0 x1 x2 x3 x4 x5 x6 x7 x8 x9) : Keeps (F := F) c R (k0_part157 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p158 (H : Held (F := F) c R a2 a3 a4 a5 a6 a7 a8 a9 a10 a11 a12 a13 a14 a15 a16 a17 a18 a19 a20) (x0 x1 x2 x3 x4 x5 x6 x7 x8 x9) : Keeps (F := F) c R (k0_part158 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p159 (H : Held (F := F) c R a2 a3 a4 a5 a6 a7 a8 a9 a10 a11 a12 a13 a14 a15 a16 a17 a18 a19 a20) (x0 x1 x2 x3 x4 x5 x6 x7 x8) : Keeps (F := F) c R (k0_part159 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l17 _ _) fun _ => (.bind (H.s17 _ _ _ _ _) fun _ => (.pure _))

theorem p160 (H : Held (F := F) c R a2 a3 a4 a5 a6 a7 a8 a9 a10 a11 a12 a13 a14 a15 a16 a17 a18 a19 a20) (x0 x1 x2 x3 x4 x5 x6 x7) : Keeps (F := F) c R (k0_part160 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))))

theorem p161 (H : Held (F := F) c R a2 a3 a4 a5 a6 a7 a8 a9 a10 a11 a12 a13 a14 a15 a16 a17 a18 a19 a20) (x0 x1 x2 x3 x4 x5 x6) : Keeps (F := F) c R (k0_part161 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))

theorem p162 (H : Held (F := F) c R a2 a3 a4 a5 a6 a7 a8 a9 a10 a11 a12 a13 a14 a15 a16 a17 a18 a19 a20) (x0 x1 x2 x3 x4 x5 x6 x7) : Keeps (F := F) c R (k0_part162 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))))

theorem p163 (H : Held (F := F) c R a2 a3 a4 a5 a6 a7 a8 a9 a10 a11 a12 a13 a14 a15 a16 a17 a18 a19 a20) (x0 x1 x2 x3 x4 x5 x6) : Keeps (F := F) c R (k0_part163 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))

theorem p164 (H : Held (F := F) c R a2 a3 a4 a5 a6 a7 a8 a9 a10 a11 a12 a13 a14 a15 a16 a17 a18 a19 a20) (x0 x1 x2 x3 x4) : Keeps (F := F) c R (k0_part164 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l17 _ _) fun _ => (.bind (H.s17 _ _ _ _ _) fun _ => (.bind (H.l9 _ _) fun _ => (.bind (H.l14 _ _) fun _ => (.bind (H.l19 _ _) fun _ => (.bind (H.s19 _ _ _ _ _) fun _ => (.pure _))))))

theorem p165 (H : Held (F := F) c R a2 a3 a4 a5 a6 a7 a8 a9 a10 a11 a12 a13 a14 a15 a16 a17 a18 a19 a20) (x0 x1 x2 x3 x4 x5) : Keeps (F := F) c R (k0_part165 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l9 _ _) fun _ => (.bind (H.l14 _ _) fun _ => (.bind (H.l19 _ _) fun _ => (.bind (H.s19 _ _ _ _ _) fun _ => (.bind (H.l9 _ _) fun _ => (.bind (H.l14 _ _) fun _ => (.bind (H.l19 _ _) fun _ => (.bind (H.s19 _ _ _ _ _) fun _ => (.pure _))))))))

theorem p166 (H : Held (F := F) c R a2 a3 a4 a5 a6 a7 a8 a9 a10 a11 a12 a13 a14 a15 a16 a17 a18 a19 a20) (x0 x1 x2 x3 x4 x5 x6 x7 x8 x9) : Keeps (F := F) c R (k0_part166 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.bind (H.l9 _ _) fun _ => (.bind (H.l14 _ _) fun _ => (.bind (H.l19 _ _) fun _ => (.bind (H.s19 _ _ _ _ _) fun _ => (.pure _))))

theorem p167 (H : Held (F := F) c R a2 a3 a4 a5 a6 a7 a8 a9 a10 a11 a12 a13 a14 a15 a16 a17 a18 a19 a20) (x0 x1) : Keeps (F := F) c R (k0_part167 i a2 h2 a3 h3 a4 h4 a5 h5 a6 h6 a7 h7 a8 h8 a9 h9 a10 h10 a11 h11 a12 h12 a13 h13 a14 h14 a15 h15 a16 h16 a17 h17 a18 h18 a19 h19 a20 h20 x0 x1) :=
  Keeps.bind (H.l15 _ _) fun _ => (.bind (H.l8 _ _) fun _ => (.bind (H.l13 _ _) fun _ => (.bind (H.l13 _ _) fun _ => (.pure _))))

theorem p168 (H : Held (F := F) c R a2 a3 a4 a5 a6 a7 a8 a9 a10 a11 a12 a13 a14 a15 a16 a17 a18 a19 a20) (x0 x1 x2 x3 x4 x5 x6 x7) : Keeps (F := F) c R (k0_part168 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l13 _ _) fun _ => (.bind (H.l13 _ _) fun _ => (.pure _))

theorem p169 (H : Held (F := F) c R a2 a3 a4 a5 a6 a7 a8 a9 a10 a11 a12 a13 a14 a15 a16 a17 a18 a19 a20) (x0 x1 x2 x3) : Keeps (F := F) c R (k0_part169 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l16 _ _) fun _ => (.bind (H.s16 _ _ _ _ _) fun _ => (.bind (H.l8 _ _) fun _ => (.bind (H.l13 _ _) fun _ => (.bind (H.l13 _ _) fun _ => (.pure _)))))

theorem p170 (H : Held (F := F) c R a2 a3 a4 a5 a6 a7 a8 a9 a10 a11 a12 a13 a14 a15 a16 a17 a18 a19 a20) (x0 x1 x2 x3 x4 x5 x6 x7 x8 x9) : Keeps (F := F) c R (k0_part170 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.bind (H.l13 _ _) fun _ => (.bind (H.l13 _ _) fun _ => (.pure _))

theorem p171 (H : Held (F := F) c R a2 a3 a4 a5 a6 a7 a8 a9 a10 a11 a12 a13 a14 a15 a16 a17 a18 a19 a20) (x0 x1 x2) : Keeps (F := F) c R (k0_part171 i a2 h2 a3 h3 a4 h4 a5 h5 a6 h6 a7 h7 a8 h8 a9 h9 a10 h10 a11 h11 a12 h12 a13 h13 a14 h14 a15 h15 a16 h16 a17 h17 a18 h18 a19 h19 a20 h20 x0 x1 x2) :=
  Keeps.bind (H.l16 _ _) fun _ => (.bind (H.s16 _ _ _ _ _) fun _ => (.bind (H.l16 _ _) fun _ => (.pure _)))

theorem p172 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part172 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p173 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part173 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p174 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part174 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p175 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part175 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p176 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part176 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p177 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part177 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p178 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part178 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p179 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part179 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p180 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part180 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p181 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part181 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p182 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part182 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p183 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part183 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p184 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part184 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p185 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part185 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p186 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part186 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p187 (H : Held (F := F) c R a2 a3 a4 a5 a6 a7 a8 a9 a10 a11 a12 a13 a14 a15 a16 a17 a18 a19 a20) (x0 x1 x2 x3 x4 x5 x6 x7 x8 x9 x10 x11) : Keeps (F := F) c R (k0_part187 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11) :=
  Keeps.bind (H.l17 _ _) fun _ => (.pure _)

theorem p188 (H : Held (F := F) c R a2 a3 a4 a5 a6 a7 a8 a9 a10 a11 a12 a13 a14 a15 a16 a17 a18 a19 a20) (x0 x1 x2 x3 x4 x5 x6 x7) : Keeps (F := F) c R (k0_part188 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _)))))))))))))))

theorem p189 (H : Held (F := F) c R a2 a3 a4 a5 a6 a7 a8 a9 a10 a11 a12 a13 a14 a15 a16 a17 a18 a19 a20) (x0 x1 x2 x3 x4 x5 x6) : Keeps (F := F) c R (k0_part189 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.pure _)))))))))))))))

theorem p190 (H : Held (F := F) c R a2 a3 a4 a5 a6 a7 a8 a9 a10 a11 a12 a13 a14 a15 a16 a17 a18 a19 a20) (x0 x1 x2 x3 x4 x5 x6 x7) : Keeps (F := F) c R (k0_part190 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _)))))))))))))))

theorem p191 (H : Held (F := F) c R a2 a3 a4 a5 a6 a7 a8 a9 a10 a11 a12 a13 a14 a15 a16 a17 a18 a19 a20) (x0 x1 x2 x3 x4 x5 x6) : Keeps (F := F) c R (k0_part191 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.pure _)))))))))))))))

theorem p192 (H : Held (F := F) c R a2 a3 a4 a5 a6 a7 a8 a9 a10 a11 a12 a13 a14 a15 a16 a17 a18 a19 a20) (x0 x1 x2 x3 x4 x5) : Keeps (F := F) c R (k0_part192 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.s17 _ _ _ _ _) fun _ => (.bind (H.l17 _ _) fun _ => (.bind (H.s17 _ _ _ _ _) fun _ => (.bind (H.l9 _ _) fun _ => (.bind (H.l14 _ _) fun _ => (.bind (H.l19 _ _) fun _ => (.bind (H.s19 _ _ _ _ _) fun _ => (.pure _)))))))

theorem p193 (H : Held (F := F) c R a2 a3 a4 a5 a6 a7 a8 a9 a10 a11 a12 a13 a14 a15 a16 a17 a18 a19 a20) (x0 x1 x2 x3 x4 x5 x6) : Keeps (F := F) c R (k0_part193 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l9 _ _) fun _ => (.bind (H.l14 _ _) fun _ => (.bind (H.l19 _ _) fun _ => (.bind (H.s19 _ _ _ _ _) fun _ => (.bind (H.l9 _ _) fun _ => (.bind (H.l14 _ _) fun _ => (.pure _))))))

theorem p194 (H : Held (F := F) c R a2 a3 a4 a5 a6 a7 a8 a9 a10 a11 a12 a13 a14 a15 a16 a17 a18 a19 a20) (x0 x1 x2 x3 x4 x5 x6 x7) : Keeps (F := F) c R (k0_part194 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l19 _ _) fun _ => (.bind (H.s19 _ _ _ _ _) fun _ => (.bind (H.l9 _ _) fun _ => (.bind (H.l14 _ _) fun _ => (.bind (H.l19 _ _) fun _ => (.bind (H.s19 _ _ _ _ _) fun _ => (.pure _))))))

theorem p195 (H : Held (F := F) c R a2 a3 a4 a5 a6 a7 a8 a9 a10 a11 a12 a13 a14 a15 a16 a17 a18 a19 a20) (x0 x1 x2 x3 x4 x5) : Keeps (F := F) c R (k0_part195 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l15 _ _) fun _ => (.bind (H.l8 _ _) fun _ => (.bind (H.l13 _ _) fun _ => (.bind (H.l13 _ _) fun _ => (.pure _))))

theorem p196 (H : Held (F := F) c R a2 a3 a4 a5 a6 a7 a8 a9 a10 a11 a12 a13 a14 a15 a16 a17 a18 a19 a20) (x0 x1 x2 x3 x4 x5 x6 x7 x8) : Keeps (F := F) c R (k0_part196 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l13 _ _) fun _ => (.bind (H.l13 _ _) fun _ => (.pure _))

theorem p197 (H : Held (F := F) c R a2 a3 a4 a5 a6 a7 a8 a9 a10 a11 a12 a13 a14 a15 a16 a17 a18 a19 a20) (x0 x1 x2 x3 x4 x5 x6) : Keeps (F := F) c R (k0_part197 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l16 _ _) fun _ => (.bind (H.s16 _ _ _ _ _) fun _ => (.bind (H.l8 _ _) fun _ => (.bind (H.l13 _ _) fun _ => (.bind (H.l13 _ _) fun _ => (.pure _)))))

theorem p198 (H : Held (F := F) c R a2 a3 a4 a5 a6 a7 a8 a9 a10 a11 a12 a13 a14 a15 a16 a17 a18 a19 a20) (x0 x1 x2 x3 x4 x5 x6) : Keeps (F := F) c R (k0_part198 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l13 _ _) fun _ => (.bind (H.l13 _ _) fun _ => (.pure _))

theorem p199 (H : Held (F := F) c R a2 a3 a4 a5 a6 a7 a8 a9 a10 a11 a12 a13 a14 a15 a16 a17 a18 a19 a20) (x0 x1 x2 x3) : Keeps (F := F) c R (k0_part199 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l16 _ _) fun _ => (.bind (H.s16 _ _ _ _ _) fun _ => (.bind (H.l16 _ _) fun _ => (.pure _)))

theorem p200 (H : Held (F := F) c R a2 a3 a4 a5 a6 a7 a8 a9 a10 a11 a12 a13 a14 a15 a16 a17 a18 a19 a20) (x0 x1 x2 x3 x4 x5 x6 x7 x8 x9) : Keeps (F := F) c R (k0_part200 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

end Cert.Kernel.Hand

end
-- ==== Proof.Parts3.lean ====
/-
  Hand-written, untrusted. The attention body part by part: each part of its text keeps what it was handed (part 3 of the list).
-/
module

public import proofs.«01_k».proof.Proof.Parts2

@[expose] public section

set_option maxRecDepth 16384
set_option maxHeartbeats 400000

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]
variable {c : Dev nD} {R : sProp (MT nD τ sig Unit (Elt F) ℕ (UR sig nD τ) ℕ)} {i : grid0.Coords}
variable {a2 : Memref sig .tc .vmem S512x128 .bf16} {h2 : a2.IsWhole}
variable {a3 : Memref sig .tc .vmem S512x128 .bf16} {h3 : a3.IsWhole}
variable {a4 : Memref sig .tc .vmem S512x128 .bf16} {h4 : a4.IsWhole}
variable {a5 : Memref sig .tc .vmem S512x128 .bf16} {h5 : a5.IsWhole}
variable {a6 : Memref sig .tc .vmem S8x128 .f32} {h6 : a6.IsWhole}
variable {a7 : Memref sig .tc .vmem S8x128 .f32} {h7 : a7.IsWhole}
variable {a8 : Memref sig .tc .vmem S2048x64 .bf16} {h8 : a8.IsWhole}
variable {a9 : Memref sig .tc .vmem S2048x128 .bf16} {h9 : a9.IsWhole}
variable {a10 : Memref sig .tc .vmem S8x128x256 .bf16} {h10 : a10.IsWhole}
variable {a11 : Memref sig .tc .vmem S1x1x128x512 .bf16} {h11 : a11.IsWhole}
variable {a12 : Memref sig .tc .vmem S1x1x128x512 .bf16} {h12 : a12.IsWhole}
variable {a13 : Memref sig .tc .vmem S2x64x1024 .bf16} {h13 : a13.IsWhole}
variable {a14 : Memref sig .tc .vmem S2x2x128x512 .bf16} {h14 : a14.IsWhole}
variable {a15 : Memref sig .tc .vmem S2x8x128 .f32} {h15 : a15.IsWhole}
variable {a16 : Memref sig .tc .vmem S9x256x128 .f32} {h16 : a16.IsWhole}
variable {a17 : Memref sig .tc .vmem S9x32x8x128 .i32} {h17 : a17.IsWhole}
variable {a18 : Memref sig .tc .vmem S9x256x128 .f32} {h18 : a18.IsWhole}
variable {a19 : Memref sig .tc .vmem S9x2x2x128x512 .f32} {h19 : a19.IsWhole}
variable {a20 : Memref sig .tc .vmem S9x2x80x512 .f32} {h20 : a20.IsWhole}

theorem p201 (H : Held (F := F) c R a2 a3 a4 a5 a6 a7 a8 a9 a10 a11 a12 a13 a14 a15 a16 a17 a18 a19 a20) (x0 x1 x2 x3 x4 x5 x6 x7 x8 x9) : Keeps (F := F) c R (k0_part201 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p202 (H : Held (F := F) c R a2 a3 a4 a5 a6 a7 a8 a9 a10 a11 a12 a13 a14 a15 a16 a17 a18 a19 a20) (x0 x1 x2 x3 x4 x5 x6 x7 x8 x9) : Keeps (F := F) c R (k0_part202 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p203 (H : Held (F := F) c R a2 a3 a4 a5 a6 a7 a8 a9 a10 a11 a12 a13 a14 a15 a16 a17 a18 a19 a20) (x0 x1 x2 x3 x4 x5 x6 x7 x8 x9) : Keeps (F := F) c R (k0_part203 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p204 (H : Held (F := F) c R a2 a3 a4 a5 a6 a7 a8 a9 a10 a11 a12 a13 a14 a15 a16 a17 a18 a19 a20) (x0 x1 x2 x3 x4 x5 x6 x7 x8 x9) : Keeps (F := F) c R (k0_part204 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p205 (H : Held (F := F) c R a2 a3 a4 a5 a6 a7 a8 a9 a10 a11 a12 a13 a14 a15 a16 a17 a18 a19 a20) (x0 x1 x2 x3 x4 x5 x6 x7 x8 x9) : Keeps (F := F) c R (k0_part205 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p206 (H : Held (F := F) c R a2 a3 a4 a5 a6 a7 a8 a9 a10 a11 a12 a13 a14 a15 a16 a17 a18 a19 a20) (x0 x1 x2 x3 x4 x5 x6 x7 x8 x9) : Keeps (F := F) c R (k0_part206 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p207 (H : Held (F := F) c R a2 a3 a4 a5 a6 a7 a8 a9 a10 a11 a12 a13 a14 a15 a16 a17 a18 a19 a20) (x0 x1 x2 x3 x4 x5 x6 x7 x8 x9) : Keeps (F := F) c R (k0_part207 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p208 (H : Held (F := F) c R a2 a3 a4 a5 a6 a7 a8 a9 a10 a11 a12 a13 a14 a15 a16 a17 a18 a19 a20) (x0 x1 x2 x3 x4 x5 x6 x7 x8 x9) : Keeps (F := F) c R (k0_part208 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p209 (H : Held (F := F) c R a2 a3 a4 a5 a6 a7 a8 a9 a10 a11 a12 a13 a14 a15 a16 a17 a18 a19 a20) (x0 x1 x2 x3 x4 x5 x6 x7 x8 x9) : Keeps (F := F) c R (k0_part209 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p210 (H : Held (F := F) c R a2 a3 a4 a5 a6 a7 a8 a9 a10 a11 a12 a13 a14 a15 a16 a17 a18 a19 a20) (x0 x1 x2 x3 x4 x5 x6 x7 x8 x9) : Keeps (F := F) c R (k0_part210 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p211 (H : Held (F := F) c R a2 a3 a4 a5 a6 a7 a8 a9 a10 a11 a12 a13 a14 a15 a16 a17 a18 a19 a20) (x0 x1 x2 x3 x4 x5 x6 x7 x8 x9) : Keeps (F := F) c R (k0_part211 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p212 (H : Held (F := F) c R a2 a3 a4 a5 a6 a7 a8 a9 a10 a11 a12 a13 a14 a15 a16 a17 a18 a19 a20) (x0 x1 x2 x3 x4 x5 x6 x7 x8 x9) : Keeps (F := F) c R (k0_part212 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p213 (H : Held (F := F) c R a2 a3 a4 a5 a6 a7 a8 a9 a10 a11 a12 a13 a14 a15 a16 a17 a18 a19 a20) (x0 x1 x2 x3 x4 x5 x6 x7 x8 x9) : Keeps (F := F) c R (k0_part213 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p214 (H : Held (F := F) c R a2 a3 a4 a5 a6 a7 a8 a9 a10 a11 a12 a13 a14 a15 a16 a17 a18 a19 a20) (x0 x1 x2 x3 x4 x5 x6 x7 x8 x9) : Keeps (F := F) c R (k0_part214 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p215 (H : Held (F := F) c R a2 a3 a4 a5 a6 a7 a8 a9 a10 a11 a12 a13 a14 a15 a16 a17 a18 a19 a20) (x0 x1 x2 x3 x4 x5 x6 x7 x8 x9) : Keeps (F := F) c R (k0_part215 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p216 (H : Held (F := F) c R a2 a3 a4 a5 a6 a7 a8 a9 a10 a11 a12 a13 a14 a15 a16 a17 a18 a19 a20) (x0 x1 x2 x3 x4 x5 x6) : Keeps (F := F) c R (k0_part216 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))

theorem p217 (H : Held (F := F) c R a2 a3 a4 a5 a6 a7 a8 a9 a10 a11 a12 a13 a14 a15 a16 a17 a18 a19 a20) (x0 x1 x2 x3 x4 x5 x6 x7) : Keeps (F := F) c R (k0_part217 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))))

theorem p218 (H : Held (F := F) c R a2 a3 a4 a5 a6 a7 a8 a9 a10 a11 a12 a13 a14 a15 a16 a17 a18 a19 a20) (x0 x1 x2 x3 x4 x5 x6) : Keeps (F := F) c R (k0_part218 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))

theorem p219 (H : Held (F := F) c R a2 a3 a4 a5 a6 a7 a8 a9 a10 a11 a12 a13 a14 a15 a16 a17 a18 a19 a20) (x0 x1 x2 x3 x4 x5 x6 x7) : Keeps (F := F) c R (k0_part219 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))))

theorem p220 (H : Held (F := F) c R a2 a3 a4 a5 a6 a7 a8 a9 a10 a11 a12 a13 a14 a15 a16 a17 a18 a19 a20) (x0 x1 x2 x3 x4 x5) : Keeps (F := F) c R (k0_part220 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l17 _ _) fun _ => (.bind (H.s17 _ _ _ _ _) fun _ => (.bind (H.l17 _ _) fun _ => (.bind (H.s17 _ _ _ _ _) fun _ => (.bind (H.l9 _ _) fun _ => (.bind (H.l14 _ _) fun _ => (.bind (H.l19 _ _) fun _ => (.bind (H.s19 _ _ _ _ _) fun _ => (.pure _))))))))

theorem p221 (H : Held (F := F) c R a2 a3 a4 a5 a6 a7 a8 a9 a10 a11 a12 a13 a14 a15 a16 a17 a18 a19 a20) (x0 x1 x2 x3 x4 x5) : Keeps (F := F) c R (k0_part221 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l9 _ _) fun _ => (.bind (H.l14 _ _) fun _ => (.bind (H.l19 _ _) fun _ => (.bind (H.s19 _ _ _ _ _) fun _ => (.bind (H.l9 _ _) fun _ => (.bind (H.l14 _ _) fun _ => (.pure _))))))

theorem p222 (H : Held (F := F) c R a2 a3 a4 a5 a6 a7 a8 a9 a10 a11 a12 a13 a14 a15 a16 a17 a18 a19 a20) (x0 x1 x2 x3 x4 x5 x6 x7 x8) : Keeps (F := F) c R (k0_part222 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l19 _ _) fun _ => (.bind (H.s19 _ _ _ _ _) fun _ => (.bind (H.l9 _ _) fun _ => (.bind (H.l14 _ _) fun _ => (.bind (H.l19 _ _) fun _ => (.bind (H.s19 _ _ _ _ _) fun _ => (.pure _))))))

theorem p223 (H : Held (F := F) c R a2 a3 a4 a5 a6 a7 a8 a9 a10 a11 a12 a13 a14 a15 a16 a17 a18 a19 a20) (x0 x1 x2) : Keeps (F := F) c R (k0_part223 i a2 h2 a3 h3 a4 h4 a5 h5 a6 h6 a7 h7 a8 h8 a9 h9 a10 h10 a11 h11 a12 h12 a13 h13 a14 h14 a15 h15 a16 h16 a17 h17 a18 h18 a19 h19 a20 h20 x0 x1 x2) :=
  Keeps.bind (H.l15 _ _) fun _ => (.bind (H.l8 _ _) fun _ => (.bind (H.l13 _ _) fun _ => (.bind (H.l13 _ _) fun _ => (.pure _))))

theorem p224 (H : Held (F := F) c R a2 a3 a4 a5 a6 a7 a8 a9 a10 a11 a12 a13 a14 a15 a16 a17 a18 a19 a20) (x0 x1 x2 x3 x4 x5 x6 x7) : Keeps (F := F) c R (k0_part224 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l13 _ _) fun _ => (.bind (H.l13 _ _) fun _ => (.pure _))

theorem p225 (H : Held (F := F) c R a2 a3 a4 a5 a6 a7 a8 a9 a10 a11 a12 a13 a14 a15 a16 a17 a18 a19 a20) (x0 x1 x2 x3 x4 x5 x6 x7 x8) : Keeps (F := F) c R (k0_part225 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l16 _ _) fun _ => (.bind (H.s16 _ _ _ _ _) fun _ => (.bind (H.l8 _ _) fun _ => (.bind (H.l13 _ _) fun _ => (.bind (H.l13 _ _) fun _ => (.pure _)))))

theorem p226 (H : Held (F := F) c R a2 a3 a4 a5 a6 a7 a8 a9 a10 a11 a12 a13 a14 a15 a16 a17 a18 a19 a20) (x0 x1 x2 x3 x4 x5 x6) : Keeps (F := F) c R (k0_part226 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l13 _ _) fun _ => (.bind (H.l13 _ _) fun _ => (.pure _))

theorem p227 (H : Held (F := F) c R a2 a3 a4 a5 a6 a7 a8 a9 a10 a11 a12 a13 a14 a15 a16 a17 a18 a19 a20) (x0 x1 x2 x3 x4) : Keeps (F := F) c R (k0_part227 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l16 _ _) fun _ => (.bind (H.s16 _ _ _ _ _) fun _ => (.bind (H.l16 _ _) fun _ => (.pure _)))

theorem p228 (H : Held (F := F) c R a2 a3 a4 a5 a6 a7 a8 a9 a10 a11 a12 a13 a14 a15 a16 a17 a18 a19 a20) (x0 x1 x2 x3 x4 x5 x6 x7 x8 x9 x10) : Keeps (F := F) c R (k0_part228 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10) :=
  Keeps.pure _

theorem p229 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part229 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p230 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part230 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p231 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part231 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p232 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part232 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p233 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part233 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p234 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part234 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p235 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part235 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p236 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part236 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p237 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part237 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p238 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part238 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p239 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part239 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p240 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part240 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p241 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part241 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p242 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part242 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p243 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part243 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p244 (H : Held (F := F) c R a2 a3 a4 a5 a6 a7 a8 a9 a10 a11 a12 a13 a14 a15 a16 a17 a18 a19 a20) (x0 x1 x2 x3 x4 x5 x6 x7 x8 x9) : Keeps (F := F) c R (k0_part244 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.pure _)))))))))))))

theorem p245 (H : Held (F := F) c R a2 a3 a4 a5 a6 a7 a8 a9 a10 a11 a12 a13 a14 a15 a16 a17 a18 a19 a20) (x0 x1 x2 x3 x4 x5 x6 x7) : Keeps (F := F) c R (k0_part245 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _)))))))))))))))

theorem p246 (H : Held (F := F) c R a2 a3 a4 a5 a6 a7 a8 a9 a10 a11 a12 a13 a14 a15 a16 a17 a18 a19 a20) (x0 x1 x2 x3 x4 x5 x6) : Keeps (F := F) c R (k0_part246 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.pure _)))))))))))))))

theorem p247 (H : Held (F := F) c R a2 a3 a4 a5 a6 a7 a8 a9 a10 a11 a12 a13 a14 a15 a16 a17 a18 a19 a20) (x0 x1 x2 x3 x4 x5 x6 x7) : Keeps (F := F) c R (k0_part247 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _)))))))))))))))

theorem p248 (H : Held (F := F) c R a2 a3 a4 a5 a6 a7 a8 a9 a10 a11 a12 a13 a14 a15 a16 a17 a18 a19 a20) (x0 x1 x2 x3 x4) : Keeps (F := F) c R (k0_part248 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l9 _ _) fun _ => (.bind (H.l14 _ _) fun _ => (.bind (H.l19 _ _) fun _ => (.bind (H.s19 _ _ _ _ _) fun _ => (.pure _))))))))))

theorem p249 (H : Held (F := F) c R a2 a3 a4 a5 a6 a7 a8 a9 a10 a11 a12 a13 a14 a15 a16 a17 a18 a19 a20) (x0 x1 x2 x3 x4 x5 x6 x7 x8) : Keeps (F := F) c R (k0_part249 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l9 _ _) fun _ => (.bind (H.l14 _ _) fun _ => (.bind (H.l19 _ _) fun _ => (.bind (H.s19 _ _ _ _ _) fun _ => (.pure _))))

theorem p250 (H : Held (F := F) c R a2 a3 a4 a5 a6 a7 a8 a9 a10 a11 a12 a13 a14 a15 a16 a17 a18 a19 a20) (x0 x1 x2 x3 x4 x5) : Keeps (F := F) c R (k0_part250 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l9 _ _) fun _ => (.bind (H.l14 _ _) fun _ => (.bind (H.l19 _ _) fun _ => (.bind (H.s19 _ _ _ _ _) fun _ => (.bind (H.l9 _ _) fun _ => (.bind (H.l14 _ _) fun _ => (.bind (H.l19 _ _) fun _ => (.bind (H.s19 _ _ _ _ _) fun _ => (.pure _))))))))

theorem p251 (H : Held (F := F) c R a2 a3 a4 a5 a6 a7 a8 a9 a10 a11 a12 a13 a14 a15 a16 a17 a18 a19 a20) (x0 x1 x2 x3 x4 x5 x6 x7) : Keeps (F := F) c R (k0_part251 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l15 _ _) fun _ => (.bind (H.l8 _ _) fun _ => (.bind (H.l13 _ _) fun _ => (.bind (H.l13 _ _) fun _ => (.pure _))))

theorem p252 (H : Held (F := F) c R a2 a3 a4 a5 a6 a7 a8 a9 a10 a11 a12 a13 a14 a15 a16 a17 a18 a19 a20) (x0 x1 x2 x3 x4 x5) : Keeps (F := F) c R (k0_part252 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l13 _ _) fun _ => (.bind (H.l13 _ _) fun _ => (.pure _))

theorem p253 (H : Held (F := F) c R a2 a3 a4 a5 a6 a7 a8 a9 a10 a11 a12 a13 a14 a15 a16 a17 a18 a19 a20) (x0 x1 x2 x3 x4 x5 x6 x7 x8) : Keeps (F := F) c R (k0_part253 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l16 _ _) fun _ => (.bind (H.s16 _ _ _ _ _) fun _ => (.bind (H.l8 _ _) fun _ => (.bind (H.l13 _ _) fun _ => (.pure _))))

theorem p254 (H : Held (F := F) c R a2 a3 a4 a5 a6 a7 a8 a9 a10 a11 a12 a13 a14 a15 a16 a17 a18 a19 a20) (x0 x1 x2 x3) : Keeps (F := F) c R (k0_part254 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l13 _ _) fun _ => (.bind (H.l13 _ _) fun _ => (.bind (H.l13 _ _) fun _ => (.pure _)))

theorem p255 (H : Held (F := F) c R a2 a3 a4 a5 a6 a7 a8 a9 a10 a11 a12 a13 a14 a15 a16 a17 a18 a19 a20) (x0 x1 x2 x3 x4 x5 x6 x7) : Keeps (F := F) c R (k0_part255 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l16 _ _) fun _ => (.bind (H.s16 _ _ _ _ _) fun _ => (.bind (H.l16 _ _) fun _ => (.pure _)))

theorem p256 (H : Held (F := F) c R a2 a3 a4 a5 a6 a7 a8 a9 a10 a11 a12 a13 a14 a15 a16 a17 a18 a19 a20) (x0 x1 x2 x3 x4 x5 x6 x7 x8) : Keeps (F := F) c R (k0_part256 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.pure _

theorem p257 (H : Held (F := F) c R a2 a3 a4 a5 a6 a7 a8 a9 a10 a11 a12 a13 a14 a15 a16 a17 a18 a19 a20) (x0 x1 x2 x3 x4 x5 x6 x7 x8 x9) : Keeps (F := F) c R (k0_part257 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p258 (H : Held (F := F) c R a2 a3 a4 a5 a6 a7 a8 a9 a10 a11 a12 a13 a14 a15 a16 a17 a18 a19 a20) (x0 x1 x2 x3 x4 x5 x6 x7 x8 x9) : Keeps (F := F) c R (k0_part258 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p259 (H : Held (F := F) c R a2 a3 a4 a5 a6 a7 a8 a9 a10 a11 a12 a13 a14 a15 a16 a17 a18 a19 a20) (x0 x1 x2 x3 x4 x5 x6 x7 x8 x9) : Keeps (F := F) c R (k0_part259 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p260 (H : Held (F := F) c R a2 a3 a4 a5 a6 a7 a8 a9 a10 a11 a12 a13 a14 a15 a16 a17 a18 a19 a20) (x0 x1 x2 x3 x4 x5 x6 x7 x8 x9) : Keeps (F := F) c R (k0_part260 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p261 (H : Held (F := F) c R a2 a3 a4 a5 a6 a7 a8 a9 a10 a11 a12 a13 a14 a15 a16 a17 a18 a19 a20) (x0 x1 x2 x3 x4 x5 x6 x7 x8 x9) : Keeps (F := F) c R (k0_part261 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p262 (H : Held (F := F) c R a2 a3 a4 a5 a6 a7 a8 a9 a10 a11 a12 a13 a14 a15 a16 a17 a18 a19 a20) (x0 x1 x2 x3 x4 x5 x6 x7 x8 x9) : Keeps (F := F) c R (k0_part262 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p263 (H : Held (F := F) c R a2 a3 a4 a5 a6 a7 a8 a9 a10 a11 a12 a13 a14 a15 a16 a17 a18 a19 a20) (x0 x1 x2 x3 x4 x5 x6 x7 x8 x9) : Keeps (F := F) c R (k0_part263 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p264 (H : Held (F := F) c R a2 a3 a4 a5 a6 a7 a8 a9 a10 a11 a12 a13 a14 a15 a16 a17 a18 a19 a20) (x0 x1 x2 x3 x4 x5 x6 x7 x8 x9) : Keeps (F := F) c R (k0_part264 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p265 (H : Held (F := F) c R a2 a3 a4 a5 a6 a7 a8 a9 a10 a11 a12 a13 a14 a15 a16 a17 a18 a19 a20) (x0 x1 x2 x3 x4 x5 x6 x7 x8 x9) : Keeps (F := F) c R (k0_part265 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p266 (H : Held (F := F) c R a2 a3 a4 a5 a6 a7 a8 a9 a10 a11 a12 a13 a14 a15 a16 a17 a18 a19 a20) (x0 x1 x2 x3 x4 x5 x6 x7 x8 x9) : Keeps (F := F) c R (k0_part266 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p267 (H : Held (F := F) c R a2 a3 a4 a5 a6 a7 a8 a9 a10 a11 a12 a13 a14 a15 a16 a17 a18 a19 a20) (x0 x1 x2 x3 x4 x5 x6 x7 x8 x9) : Keeps (F := F) c R (k0_part267 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p268 (H : Held (F := F) c R a2 a3 a4 a5 a6 a7 a8 a9 a10 a11 a12 a13 a14 a15 a16 a17 a18 a19 a20) (x0 x1 x2 x3 x4 x5 x6 x7 x8 x9) : Keeps (F := F) c R (k0_part268 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p269 (H : Held (F := F) c R a2 a3 a4 a5 a6 a7 a8 a9 a10 a11 a12 a13 a14 a15 a16 a17 a18 a19 a20) (x0 x1 x2 x3 x4 x5 x6 x7 x8 x9) : Keeps (F := F) c R (k0_part269 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p270 (H : Held (F := F) c R a2 a3 a4 a5 a6 a7 a8 a9 a10 a11 a12 a13 a14 a15 a16 a17 a18 a19 a20) (x0 x1 x2 x3 x4 x5 x6 x7 x8 x9) : Keeps (F := F) c R (k0_part270 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p271 (H : Held (F := F) c R a2 a3 a4 a5 a6 a7 a8 a9 a10 a11 a12 a13 a14 a15 a16 a17 a18 a19 a20) (x0 x1 x2 x3 x4 x5 x6 x7 x8 x9) : Keeps (F := F) c R (k0_part271 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p272 (H : Held (F := F) c R a2 a3 a4 a5 a6 a7 a8 a9 a10 a11 a12 a13 a14 a15 a16 a17 a18 a19 a20) (x0 x1 x2 x3 x4 x5 x6 x7) : Keeps (F := F) c R (k0_part272 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))

theorem p273 (H : Held (F := F) c R a2 a3 a4 a5 a6 a7 a8 a9 a10 a11 a12 a13 a14 a15 a16 a17 a18 a19 a20) (x0 x1 x2 x3 x4 x5 x6) : Keeps (F := F) c R (k0_part273 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))

theorem p274 (H : Held (F := F) c R a2 a3 a4 a5 a6 a7 a8 a9 a10 a11 a12 a13 a14 a15 a16 a17 a18 a19 a20) (x0 x1 x2 x3 x4 x5 x6 x7) : Keeps (F := F) c R (k0_part274 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))))

theorem p275 (H : Held (F := F) c R a2 a3 a4 a5 a6 a7 a8 a9 a10 a11 a12 a13 a14 a15 a16 a17 a18 a19 a20) (x0 x1 x2 x3 x4 x5 x6) : Keeps (F := F) c R (k0_part275 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))

theorem p276 (H : Held (F := F) c R a2 a3 a4 a5 a6 a7 a8 a9 a10 a11 a12 a13 a14 a15 a16 a17 a18 a19 a20) (x0 x1 x2 x3 x4) : Keeps (F := F) c R (k0_part276 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l9 _ _) fun _ => (.bind (H.l14 _ _) fun _ => (.bind (H.l19 _ _) fun _ => (.pure _)))))))))))

theorem p277 (H : Held (F := F) c R a2 a3 a4 a5 a6 a7 a8 a9 a10 a11 a12 a13 a14 a15 a16 a17 a18 a19 a20) (x0 x1 x2 x3 x4 x5 x6 x7) : Keeps (F := F) c R (k0_part277 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.s19 _ _ _ _ _) fun _ => (.bind (H.l9 _ _) fun _ => (.bind (H.l14 _ _) fun _ => (.bind (H.l19 _ _) fun _ => (.bind (H.s19 _ _ _ _ _) fun _ => (.pure _)))))

theorem p278 (H : Held (F := F) c R a2 a3 a4 a5 a6 a7 a8 a9 a10 a11 a12 a13 a14 a15 a16 a17 a18 a19 a20) (x0 x1 x2 x3 x4 x5 x6 x7) : Keeps (F := F) c R (k0_part278 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l9 _ _) fun _ => (.bind (H.l14 _ _) fun _ => (.bind (H.l19 _ _) fun _ => (.bind (H.s19 _ _ _ _ _) fun _ => (.bind (H.l9 _ _) fun _ => (.bind (H.l14 _ _) fun _ => (.pure _))))))

theorem p279 (H : Held (F := F) c R a2 a3 a4 a5 a6 a7 a8 a9 a10 a11 a12 a13 a14 a15 a16 a17 a18 a19 a20) (x0 x1 x2 x3 x4 x5 x6 x7) : Keeps (F := F) c R (k0_part279 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l19 _ _) fun _ => (.bind (H.s19 _ _ _ _ _) fun _ => (.bind (H.l15 _ _) fun _ => (.bind (H.l8 _ _) fun _ => (.bind (H.l13 _ _) fun _ => (.pure _)))))

theorem p280 (H : Held (F := F) c R a2 a3 a4 a5 a6 a7 a8 a9 a10 a11 a12 a13 a14 a15 a16 a17 a18 a19 a20) (x0 x1 x2 x3) : Keeps (F := F) c R (k0_part280 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l13 _ _) fun _ => (.bind (H.l13 _ _) fun _ => (.bind (H.l13 _ _) fun _ => (.pure _)))

theorem p281 (H : Held (F := F) c R a2 a3 a4 a5 a6 a7 a8 a9 a10 a11 a12 a13 a14 a15 a16 a17 a18 a19 a20) (x0 x1 x2 x3 x4 x5 x6 x7 x8) : Keeps (F := F) c R (k0_part281 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l16 _ _) fun _ => (.bind (H.s16 _ _ _ _ _) fun _ => (.bind (H.l8 _ _) fun _ => (.bind (H.l13 _ _) fun _ => (.pure _))))

theorem p282 (H : Held (F := F) c R a2 a3 a4 a5 a6 a7 a8 a9 a10 a11 a12 a13 a14 a15 a16 a17 a18 a19 a20) (x0 x1 x2 x3 x4 x5) : Keeps (F := F) c R (k0_part282 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l13 _ _) fun _ => (.bind (H.l13 _ _) fun _ => (.bind (H.l13 _ _) fun _ => (.pure _)))

theorem p283 (H : Held (F := F) c R a2 a3 a4 a5 a6 a7 a8 a9 a10 a11 a12 a13 a14 a15 a16 a17 a18 a19 a20) (x0 x1 x2 x3 x4 x5 x6 x7) : Keeps (F := F) c R (k0_part283 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l16 _ _) fun _ => (.bind (H.s16 _ _ _ _ _) fun _ => (.bind (H.l16 _ _) fun _ => (.pure _)))

theorem p284 (H : Held (F := F) c R a2 a3 a4 a5 a6 a7 a8 a9 a10 a11 a12 a13 a14 a15 a16 a17 a18 a19 a20) (x0 x1 x2 x3 x4) : Keeps (F := F) c R (k0_part284 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.pure _

theorem p285 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part285 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p286 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part286 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p287 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part287 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p288 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part288 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p289 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part289 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p290 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part290 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p291 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part291 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p292 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part292 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p293 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part293 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p294 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part294 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p295 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part295 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p296 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part296 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p297 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part297 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p298 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part298 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p299 (H : Held (F := F) c R a2 a3 a4 a5 a6 a7 a8 a9 a10 a11 a12 a13 a14 a15 a16 a17 a18 a19 a20) (x0 x1 x2 x3 x4 x5 x6 x7 x8 x9 x10 x11 x12 x13) : Keeps (F := F) c R (k0_part299 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13) :=
  Keeps.pure _

theorem p300 (H : Held (F := F) c R a2 a3 a4 a5 a6 a7 a8 a9 a10 a11 a12 a13 a14 a15 a16 a17 a18 a19 a20) (x0 x1 x2 x3 x4 x5 x6 x7 x8 x9 x10) : Keeps (F := F) c R (k0_part300 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))

end Cert.Kernel.Hand

end
-- ==== Proof.Parts4.lean ====
/-
  Hand-written, untrusted. The attention body part by part: each part of its text keeps what it was handed (part 4 of the list).
-/
module

public import proofs.«01_k».proof.Proof.Parts3

@[expose] public section

set_option maxRecDepth 16384
set_option maxHeartbeats 400000

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]
variable {c : Dev nD} {R : sProp (MT nD τ sig Unit (Elt F) ℕ (UR sig nD τ) ℕ)} {i : grid0.Coords}
variable {a2 : Memref sig .tc .vmem S512x128 .bf16} {h2 : a2.IsWhole}
variable {a3 : Memref sig .tc .vmem S512x128 .bf16} {h3 : a3.IsWhole}
variable {a4 : Memref sig .tc .vmem S512x128 .bf16} {h4 : a4.IsWhole}
variable {a5 : Memref sig .tc .vmem S512x128 .bf16} {h5 : a5.IsWhole}
variable {a6 : Memref sig .tc .vmem S8x128 .f32} {h6 : a6.IsWhole}
variable {a7 : Memref sig .tc .vmem S8x128 .f32} {h7 : a7.IsWhole}
variable {a8 : Memref sig .tc .vmem S2048x64 .bf16} {h8 : a8.IsWhole}
variable {a9 : Memref sig .tc .vmem S2048x128 .bf16} {h9 : a9.IsWhole}
variable {a10 : Memref sig .tc .vmem S8x128x256 .bf16} {h10 : a10.IsWhole}
variable {a11 : Memref sig .tc .vmem S1x1x128x512 .bf16} {h11 : a11.IsWhole}
variable {a12 : Memref sig .tc .vmem S1x1x128x512 .bf16} {h12 : a12.IsWhole}
variable {a13 : Memref sig .tc .vmem S2x64x1024 .bf16} {h13 : a13.IsWhole}
variable {a14 : Memref sig .tc .vmem S2x2x128x512 .bf16} {h14 : a14.IsWhole}
variable {a15 : Memref sig .tc .vmem S2x8x128 .f32} {h15 : a15.IsWhole}
variable {a16 : Memref sig .tc .vmem S9x256x128 .f32} {h16 : a16.IsWhole}
variable {a17 : Memref sig .tc .vmem S9x32x8x128 .i32} {h17 : a17.IsWhole}
variable {a18 : Memref sig .tc .vmem S9x256x128 .f32} {h18 : a18.IsWhole}
variable {a19 : Memref sig .tc .vmem S9x2x2x128x512 .f32} {h19 : a19.IsWhole}
variable {a20 : Memref sig .tc .vmem S9x2x80x512 .f32} {h20 : a20.IsWhole}

theorem p301 (H : Held (F := F) c R a2 a3 a4 a5 a6 a7 a8 a9 a10 a11 a12 a13 a14 a15 a16 a17 a18 a19 a20) (x0 x1 x2 x3 x4 x5 x6) : Keeps (F := F) c R (k0_part301 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.pure _)))))))))))))))

theorem p302 (H : Held (F := F) c R a2 a3 a4 a5 a6 a7 a8 a9 a10 a11 a12 a13 a14 a15 a16 a17 a18 a19 a20) (x0 x1 x2 x3 x4 x5 x6 x7) : Keeps (F := F) c R (k0_part302 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _)))))))))))))))

theorem p303 (H : Held (F := F) c R a2 a3 a4 a5 a6 a7 a8 a9 a10 a11 a12 a13 a14 a15 a16 a17 a18 a19 a20) (x0 x1 x2 x3 x4 x5 x6) : Keeps (F := F) c R (k0_part303 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.pure _)))))))))))))))

theorem p304 (H : Held (F := F) c R a2 a3 a4 a5 a6 a7 a8 a9 a10 a11 a12 a13 a14 a15 a16 a17 a18 a19 a20) (x0 x1 x2 x3 x4 x5) : Keeps (F := F) c R (k0_part304 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l9 _ _) fun _ => (.bind (H.l14 _ _) fun _ => (.pure _)))))))))))

theorem p305 (H : Held (F := F) c R a2 a3 a4 a5 a6 a7 a8 a9 a10 a11 a12 a13 a14 a15 a16 a17 a18 a19 a20) (x0 x1 x2 x3 x4 x5 x6 x7) : Keeps (F := F) c R (k0_part305 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l19 _ _) fun _ => (.bind (H.s19 _ _ _ _ _) fun _ => (.bind (H.l9 _ _) fun _ => (.bind (H.l14 _ _) fun _ => (.bind (H.l19 _ _) fun _ => (.bind (H.s19 _ _ _ _ _) fun _ => (.pure _))))))

theorem p306 (H : Held (F := F) c R a2 a3 a4 a5 a6 a7 a8 a9 a10 a11 a12 a13 a14 a15 a16 a17 a18 a19 a20) (x0 x1 x2 x3 x4 x5 x6) : Keeps (F := F) c R (k0_part306 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l9 _ _) fun _ => (.bind (H.l14 _ _) fun _ => (.bind (H.l19 _ _) fun _ => (.bind (H.s19 _ _ _ _ _) fun _ => (.bind (H.l9 _ _) fun _ => (.bind (H.l14 _ _) fun _ => (.pure _))))))

theorem p307 (H : Held (F := F) c R a2 a3 a4 a5 a6 a7 a8 a9 a10 a11 a12 a13 a14 a15 a16 a17 a18 a19 a20) (x0 x1 x2 x3 x4 x5 x6 x7 x8) : Keeps (F := F) c R (k0_part307 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l19 _ _) fun _ => (.bind (H.s19 _ _ _ _ _) fun _ => (.bind (H.l15 _ _) fun _ => (.bind (H.l8 _ _) fun _ => (.bind (H.l13 _ _) fun _ => (.pure _)))))

theorem p308 (H : Held (F := F) c R a2 a3 a4 a5 a6 a7 a8 a9 a10 a11 a12 a13 a14 a15 a16 a17 a18 a19 a20) (x0 x1 x2 x3 x4 x5) : Keeps (F := F) c R (k0_part308 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l13 _ _) fun _ => (.bind (H.l13 _ _) fun _ => (.bind (H.l13 _ _) fun _ => (.pure _)))

theorem p309 (H : Held (F := F) c R a2 a3 a4 a5 a6 a7 a8 a9 a10 a11 a12 a13 a14 a15 a16 a17 a18 a19 a20) (x0 x1 x2 x3 x4 x5 x6 x7 x8) : Keeps (F := F) c R (k0_part309 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l16 _ _) fun _ => (.bind (H.s16 _ _ _ _ _) fun _ => (.bind (H.l8 _ _) fun _ => (.bind (H.l13 _ _) fun _ => (.pure _))))

theorem p310 (H : Held (F := F) c R a2 a3 a4 a5 a6 a7 a8 a9 a10 a11 a12 a13 a14 a15 a16 a17 a18 a19 a20) (x0 x1 x2 x3 x4 x5) : Keeps (F := F) c R (k0_part310 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l13 _ _) fun _ => (.bind (H.l13 _ _) fun _ => (.bind (H.l13 _ _) fun _ => (.pure _)))

theorem p311 (H : Held (F := F) c R a2 a3 a4 a5 a6 a7 a8 a9 a10 a11 a12 a13 a14 a15 a16 a17 a18 a19 a20) (x0 x1 x2 x3 x4 x5 x6 x7) : Keeps (F := F) c R (k0_part311 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l16 _ _) fun _ => (.bind (H.s16 _ _ _ _ _) fun _ => (.bind (H.l16 _ _) fun _ => (.pure _)))

theorem p312 (H : Held (F := F) c R a2 a3 a4 a5 a6 a7 a8 a9 a10 a11 a12 a13 a14 a15 a16 a17 a18 a19 a20) (x0 x1 x2 x3) : Keeps (F := F) c R (k0_part312 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.pure _

theorem p313 (H : Held (F := F) c R a2 a3 a4 a5 a6 a7 a8 a9 a10 a11 a12 a13 a14 a15 a16 a17 a18 a19 a20) (x0 x1 x2 x3 x4 x5 x6 x7 x8 x9) : Keeps (F := F) c R (k0_part313 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p314 (H : Held (F := F) c R a2 a3 a4 a5 a6 a7 a8 a9 a10 a11 a12 a13 a14 a15 a16 a17 a18 a19 a20) (x0 x1 x2 x3 x4 x5 x6 x7 x8 x9) : Keeps (F := F) c R (k0_part314 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p315 (H : Held (F := F) c R a2 a3 a4 a5 a6 a7 a8 a9 a10 a11 a12 a13 a14 a15 a16 a17 a18 a19 a20) (x0 x1 x2 x3 x4 x5 x6 x7 x8 x9) : Keeps (F := F) c R (k0_part315 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p316 (H : Held (F := F) c R a2 a3 a4 a5 a6 a7 a8 a9 a10 a11 a12 a13 a14 a15 a16 a17 a18 a19 a20) (x0 x1 x2 x3 x4 x5 x6 x7 x8 x9) : Keeps (F := F) c R (k0_part316 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p317 (H : Held (F := F) c R a2 a3 a4 a5 a6 a7 a8 a9 a10 a11 a12 a13 a14 a15 a16 a17 a18 a19 a20) (x0 x1 x2 x3 x4 x5 x6 x7 x8 x9) : Keeps (F := F) c R (k0_part317 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p318 (H : Held (F := F) c R a2 a3 a4 a5 a6 a7 a8 a9 a10 a11 a12 a13 a14 a15 a16 a17 a18 a19 a20) (x0 x1 x2 x3 x4 x5 x6 x7 x8 x9) : Keeps (F := F) c R (k0_part318 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p319 (H : Held (F := F) c R a2 a3 a4 a5 a6 a7 a8 a9 a10 a11 a12 a13 a14 a15 a16 a17 a18 a19 a20) (x0 x1 x2 x3 x4 x5 x6 x7 x8 x9) : Keeps (F := F) c R (k0_part319 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p320 (H : Held (F := F) c R a2 a3 a4 a5 a6 a7 a8 a9 a10 a11 a12 a13 a14 a15 a16 a17 a18 a19 a20) (x0 x1 x2 x3 x4 x5 x6 x7 x8 x9) : Keeps (F := F) c R (k0_part320 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p321 (H : Held (F := F) c R a2 a3 a4 a5 a6 a7 a8 a9 a10 a11 a12 a13 a14 a15 a16 a17 a18 a19 a20) (x0 x1 x2 x3 x4 x5 x6 x7 x8 x9) : Keeps (F := F) c R (k0_part321 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p322 (H : Held (F := F) c R a2 a3 a4 a5 a6 a7 a8 a9 a10 a11 a12 a13 a14 a15 a16 a17 a18 a19 a20) (x0 x1 x2 x3 x4 x5 x6 x7 x8 x9) : Keeps (F := F) c R (k0_part322 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p323 (H : Held (F := F) c R a2 a3 a4 a5 a6 a7 a8 a9 a10 a11 a12 a13 a14 a15 a16 a17 a18 a19 a20) (x0 x1 x2 x3 x4 x5 x6 x7 x8 x9) : Keeps (F := F) c R (k0_part323 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p324 (H : Held (F := F) c R a2 a3 a4 a5 a6 a7 a8 a9 a10 a11 a12 a13 a14 a15 a16 a17 a18 a19 a20) (x0 x1 x2 x3 x4 x5 x6 x7 x8 x9) : Keeps (F := F) c R (k0_part324 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p325 (H : Held (F := F) c R a2 a3 a4 a5 a6 a7 a8 a9 a10 a11 a12 a13 a14 a15 a16 a17 a18 a19 a20) (x0 x1 x2 x3 x4 x5 x6 x7 x8 x9) : Keeps (F := F) c R (k0_part325 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p326 (H : Held (F := F) c R a2 a3 a4 a5 a6 a7 a8 a9 a10 a11 a12 a13 a14 a15 a16 a17 a18 a19 a20) (x0 x1 x2 x3 x4 x5 x6 x7 x8 x9) : Keeps (F := F) c R (k0_part326 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p327 (H : Held (F := F) c R a2 a3 a4 a5 a6 a7 a8 a9 a10 a11 a12 a13 a14 a15 a16 a17 a18 a19 a20) (x0 x1 x2 x3 x4 x5 x6 x7 x8 x9) : Keeps (F := F) c R (k0_part327 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.pure _

theorem p328 (H : Held (F := F) c R a2 a3 a4 a5 a6 a7 a8 a9 a10 a11 a12 a13 a14 a15 a16 a17 a18 a19 a20) (x0 x1 x2 x3 x4 x5 x6 x7) : Keeps (F := F) c R (k0_part328 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))

theorem p329 (H : Held (F := F) c R a2 a3 a4 a5 a6 a7 a8 a9 a10 a11 a12 a13 a14 a15 a16 a17 a18 a19 a20) (x0 x1 x2 x3 x4 x5 x6 x7) : Keeps (F := F) c R (k0_part329 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))))

theorem p330 (H : Held (F := F) c R a2 a3 a4 a5 a6 a7 a8 a9 a10 a11 a12 a13 a14 a15 a16 a17 a18 a19 a20) (x0 x1 x2 x3 x4 x5 x6) : Keeps (F := F) c R (k0_part330 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))

theorem p331 (H : Held (F := F) c R a2 a3 a4 a5 a6 a7 a8 a9 a10 a11 a12 a13 a14 a15 a16 a17 a18 a19 a20) (x0 x1 x2 x3 x4 x5 x6 x7) : Keeps (F := F) c R (k0_part331 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.pure _))))))))))))))))

theorem p332 (H : Held (F := F) c R a2 a3 a4 a5 a6 a7 a8 a9 a10 a11 a12 a13 a14 a15 a16 a17 a18 a19 a20) (x0 x1 x2 x3 x4 x5) : Keeps (F := F) c R (k0_part332 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l17 _ _) fun _ => (.bind (H.s17 _ _ _ _ _) fun _ => (.bind (H.l9 _ _) fun _ => (.pure _)))))))))))

theorem p333 (H : Held (F := F) c R a2 a3 a4 a5 a6 a7 a8 a9 a10 a11 a12 a13 a14 a15 a16 a17 a18 a19 a20) (x0 x1 x2 x3 x4 x5 x6) : Keeps (F := F) c R (k0_part333 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l14 _ _) fun _ => (.bind (H.l19 _ _) fun _ => (.bind (H.s19 _ _ _ _ _) fun _ => (.bind (H.l9 _ _) fun _ => (.bind (H.l14 _ _) fun _ => (.bind (H.l19 _ _) fun _ => (.bind (H.s19 _ _ _ _ _) fun _ => (.pure _)))))))

theorem p334 (H : Held (F := F) c R a2 a3 a4 a5 a6 a7 a8 a9 a10 a11 a12 a13 a14 a15 a16 a17 a18 a19 a20) (x0 x1 x2 x3 x4 x5 x6) : Keeps (F := F) c R (k0_part334 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l9 _ _) fun _ => (.bind (H.l14 _ _) fun _ => (.bind (H.l19 _ _) fun _ => (.bind (H.s19 _ _ _ _ _) fun _ => (.bind (H.l9 _ _) fun _ => (.pure _)))))

theorem p335 (H : Held (F := F) c R a2 a3 a4 a5 a6 a7 a8 a9 a10 a11 a12 a13 a14 a15 a16 a17 a18 a19 a20) (x0 x1 x2 x3 x4 x5 x6) : Keeps (F := F) c R (k0_part335 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l14 _ _) fun _ => (.bind (H.l19 _ _) fun _ => (.bind (H.s19 _ _ _ _ _) fun _ => (.bind (.for _ _ _ fun _ _ => (.bind (p1 H _ _ _ _ _ _ _ _ _ _ _) fun _ => (.bind (p2 H _ _ _ _ _ _ _ _ _ _ _ _ _ _) fun _ => (.bind (p3 H _ _ _ _ _ _ _ _ _ _ _ _ _ _ _ _) fun _ => (.pure _))))) fun _ => (.pure _))))

theorem p336 (H : Held (F := F) c R a2 a3 a4 a5 a6 a7 a8 a9 a10 a11 a12 a13 a14 a15 a16 a17 a18 a19 a20) (x0 x1 x2 x3) : Keeps (F := F) c R (k0_part336 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l16 _ _) fun _ => (.bind (H.l16 _ _) fun _ => (.bind (H.l16 _ _) fun _ => (.pure _)))

theorem p337 (H : Held (F := F) c R a2 a3 a4 a5 a6 a7 a8 a9 a10 a11 a12 a13 a14 a15 a16 a17 a18 a19 a20) (x0 x1 x2 x3 x4 x5 x6 x7) : Keeps (F := F) c R (k0_part337 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l16 _ _) fun _ => (.bind (H.l16 _ _) fun _ => (.pure _))

theorem p338 (H : Held (F := F) c R a2 a3 a4 a5 a6 a7 a8 a9 a10 a11 a12 a13 a14 a15 a16 a17 a18 a19 a20) (x0 x1 x2 x3 x4 x5 x6) : Keeps (F := F) c R (k0_part338 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l16 _ _) fun _ => (.bind (H.l16 _ _) fun _ => (.bind (H.l16 _ _) fun _ => (.pure _)))

theorem p339 (H : Held (F := F) c R a2 a3 a4 a5 a6 a7 a8 a9 a10 a11 a12 a13 a14 a15 a16 a17 a18 a19 a20) (x0 x1 x2 x3 x4 x5 x6 x7) : Keeps (F := F) c R (k0_part339 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l16 _ _) fun _ => (.bind (H.l16 _ _) fun _ => (.bind (H.l16 _ _) fun _ => (.pure _)))

theorem p340 (H : Held (F := F) c R a2 a3 a4 a5 a6 a7 a8 a9 a10 a11 a12 a13 a14 a15 a16 a17 a18 a19 a20) (x0 x1 x2 x3 x4 x5 x6 x7 x8) : Keeps (F := F) c R (k0_part340 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l16 _ _) fun _ => (.bind (H.l16 _ _) fun _ => (.pure _))

theorem p341 (H : Held (F := F) c R a2 a3 a4 a5 a6 a7 a8 a9 a10 a11 a12 a13 a14 a15 a16 a17 a18 a19 a20) (x0 x1 x2 x3 x4 x5 x6) : Keeps (F := F) c R (k0_part341 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l16 _ _) fun _ => (.bind (H.l16 _ _) fun _ => (.bind (H.l16 _ _) fun _ => (.pure _)))

theorem p342 (H : Held (F := F) c R a2 a3 a4 a5 a6 a7 a8 a9 a10 a11 a12 a13 a14 a15 a16 a17 a18 a19 a20) (x0 x1 x2 x3 x4 x5 x6 x7 x8) : Keeps (F := F) c R (k0_part342 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l16 _ _) fun _ => (.bind (H.l16 _ _) fun _ => (.pure _))

theorem p343 (H : Held (F := F) c R a2 a3 a4 a5 a6 a7 a8 a9 a10 a11 a12 a13 a14 a15 a16 a17 a18 a19 a20) (x0 x1 x2 x3 x4 x5 x6 x7 x8 x9 x10 x11 x12) : Keeps (F := F) c R (k0_part343 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12) := by
  delta k0_part343
  dsimp only
  refine Keeps.ite ?_ ?_
  · refine .bind (.pure _) fun _ => ?_
    exact .pure _
  · refine .bind (p8 H _ _ _) fun _ => ?_
    refine .bind (p9 H _ _ _ _ _ _ _) fun _ => ?_
    refine .bind (p10 H _ _ _ _ _ _ _ _ _ _) fun _ => ?_
    refine .bind (p11 H _ _ _ _ _ _ _ _ _) fun _ => ?_
    refine .bind (.pure _) fun _ => ?_
    exact .pure _

theorem p344 (H : Held (F := F) c R a2 a3 a4 a5 a6 a7 a8 a9 a10 a11 a12 a13 a14 a15 a16 a17 a18 a19 a20) (x0 x1 x2 x3 x4 x5 x6 x7 x8 x9 x10) : Keeps (F := F) c R (k0_part344 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10) := by
  delta k0_part344
  dsimp only
  refine Keeps.ite ?_ ?_
  · refine .bind (.for _ _ _ fun _ _ => ?_) fun _ => ?_
    · refine .bind (p12 H _ _ _ _ _ _ _ _ _ _) fun _ => ?_
      refine .bind (p13 H _ _ _ _ _ _ _ _ _ _ _ _ _) fun _ => ?_
      refine .bind (p14 H _ _ _ _ _ _ _ _ _ _ _ _) fun _ => ?_
      refine .bind (p15 H _ _ _ _ _ _ _ _ _ _ _ _) fun _ => ?_
      refine .bind (p16 H _ _ _ _ _ _ _ _ _ _ _ _) fun _ => ?_
      exact .pure _
    · refine .bind (.pure _) fun _ => ?_
      exact .pure _
  · refine .bind (.pure _) fun _ => ?_
    exact .pure _

theorem p345 (H : Held (F := F) c R a2 a3 a4 a5 a6 a7 a8 a9 a10 a11 a12 a13 a14 a15 a16 a17 a18 a19 a20) (x0 x1 x2 x3 x4 x5 x6 x7) : Keeps (F := F) c R (k0_part345 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l16 _ _) fun _ => (.bind (H.l18 _ _) fun _ => (.bind (H.s18 _ _ _ _ _) fun _ => (.bind (H.l16 _ _) fun _ => (.pure _))))

theorem p346 (H : Held (F := F) c R a2 a3 a4 a5 a6 a7 a8 a9 a10 a11 a12 a13 a14 a15 a16 a17 a18 a19 a20) (x0 x1 x2 x3 x4 x5 x6 x7 x8 x9) : Keeps (F := F) c R (k0_part346 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.bind (H.l18 _ _) fun _ => (.bind (H.s18 _ _ _ _ _) fun _ => (.bind (H.l16 _ _) fun _ => (.bind (H.l18 _ _) fun _ => (.bind (H.s18 _ _ _ _ _) fun _ => (.pure _)))))

theorem p347 (H : Held (F := F) c R a2 a3 a4 a5 a6 a7 a8 a9 a10 a11 a12 a13 a14 a15 a16 a17 a18 a19 a20) (x0 x1 x2 x3 x4 x5 x6 x7 x8) : Keeps (F := F) c R (k0_part347 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l16 _ _) fun _ => (.bind (H.l18 _ _) fun _ => (.bind (H.s18 _ _ _ _ _) fun _ => (.bind (H.l16 _ _) fun _ => (.pure _))))

theorem p348 (H : Held (F := F) c R a2 a3 a4 a5 a6 a7 a8 a9 a10 a11 a12 a13 a14 a15 a16 a17 a18 a19 a20) (x0 x1 x2 x3 x4 x5 x6) : Keeps (F := F) c R (k0_part348 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l18 _ _) fun _ => (.bind (H.s18 _ _ _ _ _) fun _ => (.bind (H.l16 _ _) fun _ => (.bind (H.l18 _ _) fun _ => (.bind (H.s18 _ _ _ _ _) fun _ => (.bind (H.l16 _ _) fun _ => (.pure _))))))

theorem p349 (H : Held (F := F) c R a2 a3 a4 a5 a6 a7 a8 a9 a10 a11 a12 a13 a14 a15 a16 a17 a18 a19 a20) (x0 x1 x2 x3 x4 x5 x6 x7 x8 x9) : Keeps (F := F) c R (k0_part349 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9) :=
  Keeps.bind (H.l18 _ _) fun _ => (.bind (H.s18 _ _ _ _ _) fun _ => (.bind (H.l16 _ _) fun _ => (.bind (H.l18 _ _) fun _ => (.bind (H.s18 _ _ _ _ _) fun _ => (.pure _)))))

theorem p350 (H : Held (F := F) c R a2 a3 a4 a5 a6 a7 a8 a9 a10 a11 a12 a13 a14 a15 a16 a17 a18 a19 a20) (x0 x1 x2 x3 x4 x5 x6 x7 x8 x9 x10 x11) : Keeps (F := F) c R (k0_part350 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11) :=
  Keeps.bind (H.l16 _ _) fun _ => (.bind (H.l18 _ _) fun _ => (.bind (H.s18 _ _ _ _ _) fun _ => (.pure _)))

theorem p351 (H : Held (F := F) c R a2 a3 a4 a5 a6 a7 a8 a9 a10 a11 a12 a13 a14 a15 a16 a17 a18 a19 a20) (x0 x1 x2 x3) : Keeps (F := F) c R (k0_part351 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l18 _ _) fun _ => (.bind (H.l19 _ _) fun _ => (.bind (H.l10 _ _) fun _ => (.bind (H.l18 _ _) fun _ => (.bind (H.l19 _ _) fun _ => (.bind (H.l10 _ _) fun _ => (.bind (H.l20 _ _) fun _ => (.pure _)))))))

theorem p352 (H : Held (F := F) c R a2 a3 a4 a5 a6 a7 a8 a9 a10 a11 a12 a13 a14 a15 a16 a17 a18 a19 a20) (x0 x1 x2 x3) : Keeps (F := F) c R (k0_part352 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.s20 _ _ _ _ _) fun _ => (.bind (H.l18 _ _) fun _ => (.bind (H.l19 _ _) fun _ => (.bind (H.l10 _ _) fun _ => (.bind (H.l18 _ _) fun _ => (.bind (H.l19 _ _) fun _ => (.bind (H.l10 _ _) fun _ => (.pure _)))))))

theorem p353 (H : Held (F := F) c R a2 a3 a4 a5 a6 a7 a8 a9 a10 a11 a12 a13 a14 a15 a16 a17 a18 a19 a20) (x0 x1 x2 x3 x4 x5) : Keeps (F := F) c R (k0_part353 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.bind (H.l10 _ _) fun _ => (.pure _))))))))

theorem p354 (H : Held (F := F) c R a2 a3 a4 a5 a6 a7 a8 a9 a10 a11 a12 a13 a14 a15 a16 a17 a18 a19 a20) (x0 x1 x2 x3 x4 x5) : Keeps (F := F) c R (k0_part354 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _)))))))

theorem p355 (H : Held (F := F) c R a2 a3 a4 a5 a6 a7 a8 a9 a10 a11 a12 a13 a14 a15 a16 a17 a18 a19 a20) (x0 x1 x2 x3 x4 x5 x6 x7) : Keeps (F := F) c R (k0_part355 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.pure _))))))

theorem p356 (H : Held (F := F) c R a2 a3 a4 a5 a6 a7 a8 a9 a10 a11 a12 a13 a14 a15 a16 a17 a18 a19 a20) (x0 x1 x2 x3) : Keeps (F := F) c R (k0_part356 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.bind (H.l10 _ _) fun _ => (.pure _))))))))

theorem p357 (H : Held (F := F) c R a2 a3 a4 a5 a6 a7 a8 a9 a10 a11 a12 a13 a14 a15 a16 a17 a18 a19 a20) (x0 x1 x2 x3 x4 x5 x6 x7 x8) : Keeps (F := F) c R (k0_part357 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _)))))))

theorem p358 (H : Held (F := F) c R a2 a3 a4 a5 a6 a7 a8 a9 a10 a11 a12 a13 a14 a15 a16 a17 a18 a19 a20) (x0 x1 x2 x3 x4) : Keeps (F := F) c R (k0_part358 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _))))))))

theorem p359 (H : Held (F := F) c R a2 a3 a4 a5 a6 a7 a8 a9 a10 a11 a12 a13 a14 a15 a16 a17 a18 a19 a20) (x0 x1 x2 x3 x4 x5 x6 x7 x8) : Keeps (F := F) c R (k0_part359 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.pure _))))))

theorem p360 (H : Held (F := F) c R a2 a3 a4 a5 a6 a7 a8 a9 a10 a11 a12 a13 a14 a15 a16 a17 a18 a19 a20) (x0 x1 x2 x3) : Keeps (F := F) c R (k0_part360 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l18 _ _) fun _ => (.bind (H.l19 _ _) fun _ => (.bind (H.l10 _ _) fun _ => (.bind (H.l18 _ _) fun _ => (.bind (H.l19 _ _) fun _ => (.bind (H.l10 _ _) fun _ => (.pure _))))))

theorem p361 (H : Held (F := F) c R a2 a3 a4 a5 a6 a7 a8 a9 a10 a11 a12 a13 a14 a15 a16 a17 a18 a19 a20) (x0 x1 x2 x3) : Keeps (F := F) c R (k0_part361 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.bind (H.l10 _ _) fun _ => (.pure _))))))))

theorem p362 (H : Held (F := F) c R a2 a3 a4 a5 a6 a7 a8 a9 a10 a11 a12 a13 a14 a15 a16 a17 a18 a19 a20) (x0 x1 x2 x3 x4 x5 x6 x7) : Keeps (F := F) c R (k0_part362 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _)))))))

theorem p363 (H : Held (F := F) c R a2 a3 a4 a5 a6 a7 a8 a9 a10 a11 a12 a13 a14 a15 a16 a17 a18 a19 a20) (x0 x1 x2 x3 x4) : Keeps (F := F) c R (k0_part363 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _))))))))

theorem p364 (H : Held (F := F) c R a2 a3 a4 a5 a6 a7 a8 a9 a10 a11 a12 a13 a14 a15 a16 a17 a18 a19 a20) (x0 x1 x2 x3 x4 x5 x6 x7 x8) : Keeps (F := F) c R (k0_part364 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.pure _))))))

theorem p365 (H : Held (F := F) c R a2 a3 a4 a5 a6 a7 a8 a9 a10 a11 a12 a13 a14 a15 a16 a17 a18 a19 a20) (x0 x1 x2 x3 x4) : Keeps (F := F) c R (k0_part365 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _)))))))

theorem p366 (H : Held (F := F) c R a2 a3 a4 a5 a6 a7 a8 a9 a10 a11 a12 a13 a14 a15 a16 a17 a18 a19 a20) (x0 x1 x2 x3 x4 x5 x6 x7) : Keeps (F := F) c R (k0_part366 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _))))))))

theorem p367 (H : Held (F := F) c R a2 a3 a4 a5 a6 a7 a8 a9 a10 a11 a12 a13 a14 a15 a16 a17 a18 a19 a20) (x0 x1 x2 x3 x4) : Keeps (F := F) c R (k0_part367 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.pure _)))))))

theorem p368 (H : Held (F := F) c R a2 a3 a4 a5 a6 a7 a8 a9 a10 a11 a12 a13 a14 a15 a16 a17 a18 a19 a20) (x0 x1 x2 x3 x4 x5) : Keeps (F := F) c R (k0_part368 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l19 _ _) fun _ => (.bind (H.l10 _ _) fun _ => (.bind (H.l18 _ _) fun _ => (.bind (H.l19 _ _) fun _ => (.bind (H.l10 _ _) fun _ => (.bind (H.l20 _ _) fun _ => (.bind (H.s20 _ _ _ _ _) fun _ => (.pure _)))))))

theorem p369 (H : Held (F := F) c R a2 a3 a4 a5 a6 a7 a8 a9 a10 a11 a12 a13 a14 a15 a16 a17 a18 a19 a20) (x0 x1 x2 x3 x4) : Keeps (F := F) c R (k0_part369 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l18 _ _) fun _ => (.bind (H.l19 _ _) fun _ => (.bind (H.l10 _ _) fun _ => (.bind (H.l18 _ _) fun _ => (.bind (H.l19 _ _) fun _ => (.bind (H.l10 _ _) fun _ => (.pure _))))))

theorem p370 (H : Held (F := F) c R a2 a3 a4 a5 a6 a7 a8 a9 a10 a11 a12 a13 a14 a15 a16 a17 a18 a19 a20) (x0 x1 x2 x3 x4) : Keeps (F := F) c R (k0_part370 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _)))))))

theorem p371 (H : Held (F := F) c R a2 a3 a4 a5 a6 a7 a8 a9 a10 a11 a12 a13 a14 a15 a16 a17 a18 a19 a20) (x0 x1 x2 x3 x4 x5 x6) : Keeps (F := F) c R (k0_part371 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _))))))))

theorem p372 (H : Held (F := F) c R a2 a3 a4 a5 a6 a7 a8 a9 a10 a11 a12 a13 a14 a15 a16 a17 a18 a19 a20) (x0 x1 x2 x3 x4) : Keeps (F := F) c R (k0_part372 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.pure _)))))))

theorem p373 (H : Held (F := F) c R a2 a3 a4 a5 a6 a7 a8 a9 a10 a11 a12 a13 a14 a15 a16 a17 a18 a19 a20) (x0 x1 x2 x3 x4 x5 x6 x7) : Keeps (F := F) c R (k0_part373 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l19 _ _) fun _ => (.bind (H.l10 _ _) fun _ => (.bind (H.l20 _ _) fun _ => (.bind (H.s20 _ _ _ _ _) fun _ => (.bind (H.l18 _ _) fun _ => (.bind (H.l19 _ _) fun _ => (.bind (H.l10 _ _) fun _ => (.pure _)))))))

theorem p374 (H : Held (F := F) c R a2 a3 a4 a5 a6 a7 a8 a9 a10 a11 a12 a13 a14 a15 a16 a17 a18 a19 a20) (x0 x1 x2 x3 x4 x5) : Keeps (F := F) c R (k0_part374 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _)))))))

theorem p375 (H : Held (F := F) c R a2 a3 a4 a5 a6 a7 a8 a9 a10 a11 a12 a13 a14 a15 a16 a17 a18 a19 a20) (x0 x1 x2 x3 x4 x5 x6 x7) : Keeps (F := F) c R (k0_part375 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.pure _)))))))

theorem p376 (H : Held (F := F) c R a2 a3 a4 a5 a6 a7 a8 a9 a10 a11 a12 a13 a14 a15 a16 a17 a18 a19 a20) (x0 x1 x2 x3 x4) : Keeps (F := F) c R (k0_part376 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l19 _ _) fun _ => (.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.pure _))))))))

theorem p377 (H : Held (F := F) c R a2 a3 a4 a5 a6 a7 a8 a9 a10 a11 a12 a13 a14 a15 a16 a17 a18 a19 a20) (x0 x1 x2 x3 x4) : Keeps (F := F) c R (k0_part377 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l19 _ _) fun _ => (.bind (H.l10 _ _) fun _ => (.bind (H.l18 _ _) fun _ => (.bind (H.l19 _ _) fun _ => (.bind (H.l10 _ _) fun _ => (.bind (H.l20 _ _) fun _ => (.bind (H.s20 _ _ _ _ _) fun _ => (.pure _)))))))

theorem p378 (H : Held (F := F) c R a2 a3 a4 a5 a6 a7 a8 a9 a10 a11 a12 a13 a14 a15 a16 a17 a18 a19 a20) (x0 x1 x2 x3) : Keeps (F := F) c R (k0_part378 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l18 _ _) fun _ => (.bind (H.l19 _ _) fun _ => (.bind (H.l10 _ _) fun _ => (.bind (H.l18 _ _) fun _ => (.bind (H.l19 _ _) fun _ => (.bind (H.l10 _ _) fun _ => (.pure _))))))

theorem p379 (H : Held (F := F) c R a2 a3 a4 a5 a6 a7 a8 a9 a10 a11 a12 a13 a14 a15 a16 a17 a18 a19 a20) (x0 x1 x2 x3 x4 x5) : Keeps (F := F) c R (k0_part379 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _)))))))

theorem p380 (H : Held (F := F) c R a2 a3 a4 a5 a6 a7 a8 a9 a10 a11 a12 a13 a14 a15 a16 a17 a18 a19 a20) (x0 x1 x2 x3 x4 x5 x6) : Keeps (F := F) c R (k0_part380 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.pure _)))))))

theorem p381 (H : Held (F := F) c R a2 a3 a4 a5 a6 a7 a8 a9 a10 a11 a12 a13 a14 a15 a16 a17 a18 a19 a20) (x0 x1 x2 x3 x4) : Keeps (F := F) c R (k0_part381 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l19 _ _) fun _ => (.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.pure _))))))))

theorem p382 (H : Held (F := F) c R a2 a3 a4 a5 a6 a7 a8 a9 a10 a11 a12 a13 a14 a15 a16 a17 a18 a19 a20) (x0 x1 x2 x3 x4 x5 x6 x7) : Keeps (F := F) c R (k0_part382 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7) :=
  Keeps.bind (H.l19 _ _) fun _ => (.bind (H.l10 _ _) fun _ => (.bind (H.l20 _ _) fun _ => (.bind (H.s20 _ _ _ _ _) fun _ => (.bind (H.l18 _ _) fun _ => (.bind (H.l19 _ _) fun _ => (.pure _))))))

theorem p383 (H : Held (F := F) c R a2 a3 a4 a5 a6 a7 a8 a9 a10 a11 a12 a13 a14 a15 a16 a17 a18 a19 a20) (x0 x1 x2 x3 x4) : Keeps (F := F) c R (k0_part383 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.bind (H.l19 _ _) fun _ => (.pure _))))))))

theorem p384 (H : Held (F := F) c R a2 a3 a4 a5 a6 a7 a8 a9 a10 a11 a12 a13 a14 a15 a16 a17 a18 a19 a20) (x0 x1 x2 x3 x4 x5 x6 x7 x8) : Keeps (F := F) c R (k0_part384 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l10 _ _) fun _ => (.bind (H.l18 _ _) fun _ => (.bind (H.l19 _ _) fun _ => (.bind (H.l10 _ _) fun _ => (.bind (H.l20 _ _) fun _ => (.bind (H.s20 _ _ _ _ _) fun _ => (.bind (H.l18 _ _) fun _ => (.pure _)))))))

theorem p385 (H : Held (F := F) c R a2 a3 a4 a5 a6 a7 a8 a9 a10 a11 a12 a13 a14 a15 a16 a17 a18 a19 a20) (x0 x1 x2 x3 x4) : Keeps (F := F) c R (k0_part385 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l19 _ _) fun _ => (.bind (H.l10 _ _) fun _ => (.bind (H.l18 _ _) fun _ => (.bind (H.l19 _ _) fun _ => (.bind (H.l10 _ _) fun _ => (.bind (H.l20 _ _) fun _ => (.bind (H.s20 _ _ _ _ _) fun _ => (.pure _)))))))

theorem p386 (H : Held (F := F) c R a2 a3 a4 a5 a6 a7 a8 a9 a10 a11 a12 a13 a14 a15 a16 a17 a18 a19 a20) (x0 x1 x2 x3) : Keeps (F := F) c R (k0_part386 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l18 _ _) fun _ => (.bind (H.l19 _ _) fun _ => (.bind (H.l10 _ _) fun _ => (.bind (H.l18 _ _) fun _ => (.bind (H.l19 _ _) fun _ => (.bind (H.l10 _ _) fun _ => (.pure _))))))

theorem p387 (H : Held (F := F) c R a2 a3 a4 a5 a6 a7 a8 a9 a10 a11 a12 a13 a14 a15 a16 a17 a18 a19 a20) (x0 x1 x2 x3 x4) : Keeps (F := F) c R (k0_part387 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _)))))))

theorem p388 (H : Held (F := F) c R a2 a3 a4 a5 a6 a7 a8 a9 a10 a11 a12 a13 a14 a15 a16 a17 a18 a19 a20) (x0 x1 x2 x3 x4) : Keeps (F := F) c R (k0_part388 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.bind (H.l19 _ _) fun _ => (.pure _))))))))

theorem p389 (H : Held (F := F) c R a2 a3 a4 a5 a6 a7 a8 a9 a10 a11 a12 a13 a14 a15 a16 a17 a18 a19 a20) (x0 x1 x2 x3 x4 x5 x6 x7 x8) : Keeps (F := F) c R (k0_part389 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8) :=
  Keeps.bind (H.l10 _ _) fun _ => (.bind (H.l20 _ _) fun _ => (.bind (H.s20 _ _ _ _ _) fun _ => (.bind (H.l18 _ _) fun _ => (.bind (H.l19 _ _) fun _ => (.bind (H.l10 _ _) fun _ => (.bind (H.l18 _ _) fun _ => (.pure _)))))))

theorem p390 (H : Held (F := F) c R a2 a3 a4 a5 a6 a7 a8 a9 a10 a11 a12 a13 a14 a15 a16 a17 a18 a19 a20) (x0 x1 x2 x3 x4) : Keeps (F := F) c R (k0_part390 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l19 _ _) fun _ => (.bind (H.l10 _ _) fun _ => (.bind (H.l20 _ _) fun _ => (.bind (H.s20 _ _ _ _ _) fun _ => (.bind (H.l18 _ _) fun _ => (.bind (H.l19 _ _) fun _ => (.bind (H.l10 _ _) fun _ => (.pure _)))))))

theorem p391 (H : Held (F := F) c R a2 a3 a4 a5 a6 a7 a8 a9 a10 a11 a12 a13 a14 a15 a16 a17 a18 a19 a20) (x0 x1 x2 x3) : Keeps (F := F) c R (k0_part391 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l18 _ _) fun _ => (.bind (H.l19 _ _) fun _ => (.bind (H.l10 _ _) fun _ => (.bind (H.l20 _ _) fun _ => (.bind (H.s20 _ _ _ _ _) fun _ => (.bind (H.l20 _ _) fun _ => (.bind (H.l20 _ _) fun _ => (.bind (H.l20 _ _) fun _ => (.pure _))))))))

theorem p392 (H : Held (F := F) c R a2 a3 a4 a5 a6 a7 a8 a9 a10 a11 a12 a13 a14 a15 a16 a17 a18 a19 a20) (x0 x1) : Keeps (F := F) c R (k0_part392 i a2 h2 a3 h3 a4 h4 a5 h5 a6 h6 a7 h7 a8 h8 a9 h9 a10 h10 a11 h11 a12 h12 a13 h13 a14 h14 a15 h15 a16 h16 a17 h17 a18 h18 a19 h19 a20 h20 x0 x1) :=
  Keeps.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.pure _))))))))

theorem p393 (H : Held (F := F) c R a2 a3 a4 a5 a6 a7 a8 a9 a10 a11 a12 a13 a14 a15 a16 a17 a18 a19 a20) (x0 x1 x2 x3 x4) : Keeps (F := F) c R (k0_part393 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l20 _ _) fun _ => (.bind (H.l20 _ _) fun _ => (.bind (H.l11 _ _) fun _ => (.bind (H.s11 _ _ _ _ _) fun _ => (.bind (H.l12 _ _) fun _ => (.bind (H.s12 _ _ _ _ _) fun _ => (.pure _))))))

theorem p394 (H : Held (F := F) c R a2 a3 a4 a5 a6 a7 a8 a9 a10 a11 a12 a13 a14 a15 a16 a17 a18 a19 a20) : Keeps (F := F) c R (k0_part394 i a2 h2 a3 h3 a4 h4 a5 h5 a6 h6 a7 h7 a8 h8 a9 h9 a10 h10 a11 h11 a12 h12 a13 h13 a14 h14 a15 h15 a16 h16 a17 h17 a18 h18 a19 h19 a20 h20) :=
  Keeps.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.pure _)))))))))

theorem p395 (H : Held (F := F) c R a2 a3 a4 a5 a6 a7 a8 a9 a10 a11 a12 a13 a14 a15 a16 a17 a18 a19 a20) (x0 x1 x2 x3) : Keeps (F := F) c R (k0_part395 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3) :=
  Keeps.bind (H.l20 _ _) fun _ => (.bind (H.l20 _ _) fun _ => (.bind (H.l20 _ _) fun _ => (.bind (H.l20 _ _) fun _ => (.bind (H.l11 _ _) fun _ => (.pure _)))))

theorem p396 (H : Held (F := F) c R a2 a3 a4 a5 a6 a7 a8 a9 a10 a11 a12 a13 a14 a15 a16 a17 a18 a19 a20) (x0 x1 x2) : Keeps (F := F) c R (k0_part396 i a2 h2 a3 h3 a4 h4 a5 h5 a6 h6 a7 h7 a8 h8 a9 h9 a10 h10 a11 h11 a12 h12 a13 h13 a14 h14 a15 h15 a16 h16 a17 h17 a18 h18 a19 h19 a20 h20 x0 x1 x2) :=
  Keeps.bind (H.s11 _ _ _ _ _) fun _ => (.bind (H.l12 _ _) fun _ => (.bind (H.s12 _ _ _ _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.pure _)))))))))

theorem p397 (H : Held (F := F) c R a2 a3 a4 a5 a6 a7 a8 a9 a10 a11 a12 a13 a14 a15 a16 a17 a18 a19 a20) (x0 x1 x2) : Keeps (F := F) c R (k0_part397 i a2 h2 a3 h3 a4 h4 a5 h5 a6 h6 a7 h7 a8 h8 a9 h9 a10 h10 a11 h11 a12 h12 a13 h13 a14 h14 a15 h15 a16 h16 a17 h17 a18 h18 a19 h19 a20 h20 x0 x1 x2) :=
  Keeps.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.pure _)))))))

theorem p398 (H : Held (F := F) c R a2 a3 a4 a5 a6 a7 a8 a9 a10 a11 a12 a13 a14 a15 a16 a17 a18 a19 a20) (x0 x1 x2 x3 x4) : Keeps (F := F) c R (k0_part398 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l11 _ _) fun _ => (.bind (H.s11 _ _ _ _ _) fun _ => (.bind (H.l12 _ _) fun _ => (.bind (H.s12 _ _ _ _ _) fun _ => (.bind (H.l20 _ _) fun _ => (.bind (H.l20 _ _) fun _ => (.bind (H.l20 _ _) fun _ => (.pure _)))))))

theorem p399 (H : Held (F := F) c R a2 a3 a4 a5 a6 a7 a8 a9 a10 a11 a12 a13 a14 a15 a16 a17 a18 a19 a20) (x0 x1 x2) : Keeps (F := F) c R (k0_part399 i a2 h2 a3 h3 a4 h4 a5 h5 a6 h6 a7 h7 a8 h8 a9 h9 a10 h10 a11 h11 a12 h12 a13 h13 a14 h14 a15 h15 a16 h16 a17 h17 a18 h18 a19 h19 a20 h20 x0 x1 x2) :=
  Keeps.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.bind (H.l20 _ _) fun _ => (.pure _))))))))

theorem p400 (H : Held (F := F) c R a2 a3 a4 a5 a6 a7 a8 a9 a10 a11 a12 a13 a14 a15 a16 a17 a18 a19 a20) (x0 x1 x2 x3 x4) : Keeps (F := F) c R (k0_part400 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4) :=
  Keeps.bind (H.l20 _ _) fun _ => (.bind (H.l20 _ _) fun _ => (.bind (H.l11 _ _) fun _ => (.bind (H.s11 _ _ _ _ _) fun _ => (.bind (H.l12 _ _) fun _ => (.pure _)))))

end Cert.Kernel.Hand

end
-- ==== Proof.Parts5.lean ====
/-
  Hand-written, untrusted. The attention body part by part: each part of its text keeps what it was handed (part 5 of the list).
-/
module

public import proofs.«01_k».proof.Proof.Parts4

@[expose] public section

set_option maxRecDepth 16384
set_option maxHeartbeats 400000

noncomputable section

namespace Cert.Kernel.Hand

open Cert.Kernel Cert.Kernel.Gen
open Idealize.ShloMosaic Idealize.ShloMosaic.TcCoe
open Idealize.SL Idealize.SL.RA Idealize.SL.BI Idealize.SL.Sem

variable {F : FTy → Type} [BitOps F]
variable {c : Dev nD} {R : sProp (MT nD τ sig Unit (Elt F) ℕ (UR sig nD τ) ℕ)} {i : grid0.Coords}
variable {a2 : Memref sig .tc .vmem S512x128 .bf16} {h2 : a2.IsWhole}
variable {a3 : Memref sig .tc .vmem S512x128 .bf16} {h3 : a3.IsWhole}
variable {a4 : Memref sig .tc .vmem S512x128 .bf16} {h4 : a4.IsWhole}
variable {a5 : Memref sig .tc .vmem S512x128 .bf16} {h5 : a5.IsWhole}
variable {a6 : Memref sig .tc .vmem S8x128 .f32} {h6 : a6.IsWhole}
variable {a7 : Memref sig .tc .vmem S8x128 .f32} {h7 : a7.IsWhole}
variable {a8 : Memref sig .tc .vmem S2048x64 .bf16} {h8 : a8.IsWhole}
variable {a9 : Memref sig .tc .vmem S2048x128 .bf16} {h9 : a9.IsWhole}
variable {a10 : Memref sig .tc .vmem S8x128x256 .bf16} {h10 : a10.IsWhole}
variable {a11 : Memref sig .tc .vmem S1x1x128x512 .bf16} {h11 : a11.IsWhole}
variable {a12 : Memref sig .tc .vmem S1x1x128x512 .bf16} {h12 : a12.IsWhole}
variable {a13 : Memref sig .tc .vmem S2x64x1024 .bf16} {h13 : a13.IsWhole}
variable {a14 : Memref sig .tc .vmem S2x2x128x512 .bf16} {h14 : a14.IsWhole}
variable {a15 : Memref sig .tc .vmem S2x8x128 .f32} {h15 : a15.IsWhole}
variable {a16 : Memref sig .tc .vmem S9x256x128 .f32} {h16 : a16.IsWhole}
variable {a17 : Memref sig .tc .vmem S9x32x8x128 .i32} {h17 : a17.IsWhole}
variable {a18 : Memref sig .tc .vmem S9x256x128 .f32} {h18 : a18.IsWhole}
variable {a19 : Memref sig .tc .vmem S9x2x2x128x512 .f32} {h19 : a19.IsWhole}
variable {a20 : Memref sig .tc .vmem S9x2x80x512 .f32} {h20 : a20.IsWhole}

attribute [local irreducible] Keeps k0_part343 k0_part344

theorem p401 (H : Held (F := F) c R a2 a3 a4 a5 a6 a7 a8 a9 a10 a11 a12 a13 a14 a15 a16 a17 a18 a19 a20) : Keeps (F := F) c R (k0_part401 i a2 h2 a3 h3 a4 h4 a5 h5 a6 h6 a7 h7 a8 h8 a9 h9 a10 h10 a11 h11 a12 h12 a13 h13 a14 h14 a15 h15 a16 h16 a17 h17 a18 h18 a19 h19 a20 h20) := by
  delta k0_part401
  dsimp only
  refine .bind (p79 H) fun _ => ?_
  refine .bind (p80 H _) fun _ => ?_
  refine .bind (p81 H) fun _ => ?_
  refine .bind (p82 H _ _ _ _ _ _) fun _ => ?_
  refine .bind (p83 H _ _ _ _ _) fun _ => ?_
  refine .bind (p84 H _ _ _ _ _ _ _ _ _) fun _ => ?_
  refine .bind (p85 H _ _ _ _) fun _ => ?_
  refine .bind (p86 H _ _ _ _ _ _ _ _ _) fun _ => ?_
  refine .bind (p87 H _ _) fun _ => ?_
  refine .bind (p88 H _ _ _ _ _ _ _ _ _ _) fun _ => ?_
  refine .bind (p89 H _ _ _ _ _ _ _ _ _ _) fun _ => ?_
  refine .bind (p90 H _ _ _ _ _ _ _ _ _ _) fun _ => ?_
  refine .bind (p91 H _ _ _ _ _ _ _ _ _ _) fun _ => ?_
  refine .bind (p92 H _ _ _ _ _ _ _ _ _ _) fun _ => ?_
  refine .bind (p93 H _ _ _ _ _ _ _ _ _ _) fun _ => ?_
  refine .bind (p94 H _ _ _ _ _ _ _ _ _ _) fun _ => ?_
  refine .bind (p95 H _ _ _ _ _ _ _ _ _ _) fun _ => ?_
  refine .bind (p96 H _ _ _ _ _ _ _ _ _ _) fun _ => ?_
  refine .bind (p97 H _ _ _ _ _ _ _ _ _ _) fun _ => ?_
  refine .bind (p98 H _ _ _ _ _ _ _ _ _ _) fun _ => ?_
  refine .bind (p99 H _ _ _ _ _ _ _ _ _ _) fun _ => ?_
  refine .bind (p100 H _ _ _ _ _ _ _ _ _ _) fun _ => ?_
  refine .bind (p101 H _ _ _ _ _ _ _ _ _ _) fun _ => ?_
  refine .bind (p102 H _ _ _ _ _ _ _ _ _ _) fun _ => ?_
  refine .bind (p103 H _ _ _ _ _ _ _ _ _) fun _ => ?_
  refine .bind (p104 H _ _ _ _ _ _ _) fun _ => ?_
  refine .bind (p105 H _ _ _ _ _ _ _ _) fun _ => ?_
  refine .bind (p106 H _ _ _ _ _ _ _) fun _ => ?_
  refine .bind (p107 H _ _ _ _ _ _ _ _) fun _ => ?_
  refine .bind (p108 H _ _ _ _ _ _) fun _ => ?_
  refine .bind (p109 H _ _ _ _ _ _) fun _ => ?_
  refine .bind (p110 H _ _ _ _ _ _ _ _) fun _ => ?_
  refine .bind (p111 H _ _ _ _) fun _ => ?_
  refine .bind (p112 H _ _ _ _ _ _ _ _ _ _ _) fun _ => ?_
  refine .bind (p113 H _ _) fun _ => ?_
  refine .bind (p114 H _ _ _ _ _ _ _ _ _ _ _) fun _ => ?_
  refine .bind (p115 H) fun _ => ?_
  refine .bind (p116 H _ _ _ _ _ _ _ _ _ _ _ _ _ _) fun _ => ?_
  refine .bind (p117 H _ _ _ _ _ _ _ _ _ _ _ _ _ _) fun _ => ?_
  refine .bind (p118 H _ _ _ _ _ _ _ _ _ _ _ _ _ _) fun _ => ?_
  refine .bind (p119 H _ _ _ _ _ _ _ _ _ _ _ _ _ _) fun _ => ?_
  refine .bind (p120 H _ _ _ _ _ _ _ _ _ _ _ _ _ _) fun _ => ?_
  refine .bind (p121 H _ _ _ _ _ _ _ _ _ _ _ _ _ _) fun _ => ?_
  refine .bind (p122 H _ _ _ _ _ _ _ _ _ _ _ _ _ _) fun _ => ?_
  refine .bind (p123 H _ _ _ _ _ _ _ _ _ _ _ _ _ _) fun _ => ?_
  refine .bind (p124 H _ _ _ _ _ _ _ _ _ _ _ _ _ _) fun _ => ?_
  refine .bind (p125 H _ _ _ _ _ _ _ _ _ _ _ _ _ _) fun _ => ?_
  refine .bind (p126 H _ _ _ _ _ _ _ _ _ _ _ _ _ _) fun _ => ?_
  refine .bind (p127 H _ _ _ _ _ _ _ _ _ _ _ _ _ _) fun _ => ?_
  refine .bind (p128 H _ _ _ _ _ _ _ _ _ _ _ _ _ _) fun _ => ?_
  refine .bind (p129 H _ _ _ _ _ _ _ _ _ _ _ _ _ _) fun _ => ?_
  refine .bind (p130 H _ _ _ _ _ _ _ _ _ _ _ _ _ _) fun _ => ?_
  refine .bind (p131 H _ _ _ _ _ _ _ _ _ _ _ _) fun _ => ?_
  refine .bind (p132 H _ _ _ _ _ _ _) fun _ => ?_
  refine .bind (p133 H _ _ _ _ _ _ _ _) fun _ => ?_
  refine .bind (p134 H _ _ _ _ _ _ _) fun _ => ?_
  refine .bind (p135 H _ _ _ _ _ _ _ _ _) fun _ => ?_
  refine .bind (p136 H _ _ _ _ _) fun _ => ?_
  refine .bind (p137 H _ _ _ _ _ _ _) fun _ => ?_
  refine .bind (p138 H _ _ _ _ _ _ _ _) fun _ => ?_
  exact .pure _

theorem p402 (H : Held (F := F) c R a2 a3 a4 a5 a6 a7 a8 a9 a10 a11 a12 a13 a14 a15 a16 a17 a18 a19 a20) (x0 x1 x2 x3 x4 x5 x6 x7 x8 x9 x10 x11 x12 x13 x14 x15) : Keeps (F := F) c R (k0_part402 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14 x15) := by
  delta k0_part402
  dsimp only
  refine .bind (p139 H _ _ _ _) fun _ => ?_
  refine .bind (p140 H _ _ _ _ _ _ _ _ _) fun _ => ?_
  refine .bind (p141 H _ _ _) fun _ => ?_
  refine .bind (p142 H _ _ _ _ _ _ _ _ _) fun _ => ?_
  refine .bind (p143 H _ _) fun _ => ?_
  refine .bind (p144 H _ _ _ _ _ _ _ _ _ _) fun _ => ?_
  refine .bind (p145 H _ _ _ _ _ _ _ _ _ _) fun _ => ?_
  refine .bind (p146 H _ _ _ _ _ _ _ _ _ _) fun _ => ?_
  refine .bind (p147 H _ _ _ _ _ _ _ _ _ _) fun _ => ?_
  refine .bind (p148 H _ _ _ _ _ _ _ _ _ _) fun _ => ?_
  refine .bind (p149 H _ _ _ _ _ _ _ _ _ _) fun _ => ?_
  refine .bind (p150 H _ _ _ _ _ _ _ _ _ _) fun _ => ?_
  refine .bind (p151 H _ _ _ _ _ _ _ _ _ _) fun _ => ?_
  refine .bind (p152 H _ _ _ _ _ _ _ _ _ _) fun _ => ?_
  refine .bind (p153 H _ _ _ _ _ _ _ _ _ _) fun _ => ?_
  refine .bind (p154 H _ _ _ _ _ _ _ _ _ _) fun _ => ?_
  refine .bind (p155 H _ _ _ _ _ _ _ _ _ _) fun _ => ?_
  refine .bind (p156 H _ _ _ _ _ _ _ _ _ _) fun _ => ?_
  refine .bind (p157 H _ _ _ _ _ _ _ _ _ _) fun _ => ?_
  refine .bind (p158 H _ _ _ _ _ _ _ _ _ _) fun _ => ?_
  refine .bind (p159 H _ _ _ _ _ _ _ _ _) fun _ => ?_
  refine .bind (p160 H _ _ _ _ _ _ _ _) fun _ => ?_
  refine .bind (p161 H _ _ _ _ _ _ _) fun _ => ?_
  refine .bind (p162 H _ _ _ _ _ _ _ _) fun _ => ?_
  refine .bind (p163 H _ _ _ _ _ _ _) fun _ => ?_
  refine .bind (p164 H _ _ _ _ _) fun _ => ?_
  refine .bind (p165 H _ _ _ _ _ _) fun _ => ?_
  refine .bind (p166 H _ _ _ _ _ _ _ _ _ _) fun _ => ?_
  refine .bind (p167 H _ _) fun _ => ?_
  refine .bind (p168 H _ _ _ _ _ _ _ _) fun _ => ?_
  refine .bind (p169 H _ _ _ _) fun _ => ?_
  refine .bind (p170 H _ _ _ _ _ _ _ _ _ _) fun _ => ?_
  refine .bind (p171 H _ _ _) fun _ => ?_
  refine .bind (p172 H _ _ _ _ _ _ _ _ _ _ _ _ _ _) fun _ => ?_
  refine .bind (p173 H _ _ _ _ _ _ _ _ _ _ _ _ _ _) fun _ => ?_
  refine .bind (p174 H _ _ _ _ _ _ _ _ _ _ _ _ _ _) fun _ => ?_
  refine .bind (p175 H _ _ _ _ _ _ _ _ _ _ _ _ _ _) fun _ => ?_
  refine .bind (p176 H _ _ _ _ _ _ _ _ _ _ _ _ _ _) fun _ => ?_
  refine .bind (p177 H _ _ _ _ _ _ _ _ _ _ _ _ _ _) fun _ => ?_
  refine .bind (p178 H _ _ _ _ _ _ _ _ _ _ _ _ _ _) fun _ => ?_
  refine .bind (p179 H _ _ _ _ _ _ _ _ _ _ _ _ _ _) fun _ => ?_
  refine .bind (p180 H _ _ _ _ _ _ _ _ _ _ _ _ _ _) fun _ => ?_
  refine .bind (p181 H _ _ _ _ _ _ _ _ _ _ _ _ _ _) fun _ => ?_
  refine .bind (p182 H _ _ _ _ _ _ _ _ _ _ _ _ _ _) fun _ => ?_
  refine .bind (p183 H _ _ _ _ _ _ _ _ _ _ _ _ _ _) fun _ => ?_
  refine .bind (p184 H _ _ _ _ _ _ _ _ _ _ _ _ _ _) fun _ => ?_
  refine .bind (p185 H _ _ _ _ _ _ _ _ _ _ _ _ _ _) fun _ => ?_
  refine .bind (p186 H _ _ _ _ _ _ _ _ _ _ _ _ _ _) fun _ => ?_
  refine .bind (p187 H _ _ _ _ _ _ _ _ _ _ _ _) fun _ => ?_
  refine .bind (p188 H _ _ _ _ _ _ _ _) fun _ => ?_
  refine .bind (p189 H _ _ _ _ _ _ _) fun _ => ?_
  refine .bind (p190 H _ _ _ _ _ _ _ _) fun _ => ?_
  refine .bind (p191 H _ _ _ _ _ _ _) fun _ => ?_
  refine .bind (p192 H _ _ _ _ _ _) fun _ => ?_
  refine .bind (p193 H _ _ _ _ _ _ _) fun _ => ?_
  refine .bind (p194 H _ _ _ _ _ _ _ _) fun _ => ?_
  refine .bind (p195 H _ _ _ _ _ _) fun _ => ?_
  refine .bind (p196 H _ _ _ _ _ _ _ _ _) fun _ => ?_
  refine .bind (p197 H _ _ _ _ _ _ _) fun _ => ?_
  refine .bind (p198 H _ _ _ _ _ _ _) fun _ => ?_
  exact .pure _

theorem p403 (H : Held (F := F) c R a2 a3 a4 a5 a6 a7 a8 a9 a10 a11 a12 a13 a14 a15 a16 a17 a18 a19 a20) (x0 x1 x2 x3 x4 x5 x6 x7 x8 x9 x10 x11 x12) : Keeps (F := F) c R (k0_part403 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12) := by
  delta k0_part403
  dsimp only
  refine .bind (p199 H _ _ _ _) fun _ => ?_
  refine .bind (p200 H _ _ _ _ _ _ _ _ _ _) fun _ => ?_
  refine .bind (p201 H _ _ _ _ _ _ _ _ _ _) fun _ => ?_
  refine .bind (p202 H _ _ _ _ _ _ _ _ _ _) fun _ => ?_
  refine .bind (p203 H _ _ _ _ _ _ _ _ _ _) fun _ => ?_
  refine .bind (p204 H _ _ _ _ _ _ _ _ _ _) fun _ => ?_
  refine .bind (p205 H _ _ _ _ _ _ _ _ _ _) fun _ => ?_
  refine .bind (p206 H _ _ _ _ _ _ _ _ _ _) fun _ => ?_
  refine .bind (p207 H _ _ _ _ _ _ _ _ _ _) fun _ => ?_
  refine .bind (p208 H _ _ _ _ _ _ _ _ _ _) fun _ => ?_
  refine .bind (p209 H _ _ _ _ _ _ _ _ _ _) fun _ => ?_
  refine .bind (p210 H _ _ _ _ _ _ _ _ _ _) fun _ => ?_
  refine .bind (p211 H _ _ _ _ _ _ _ _ _ _) fun _ => ?_
  refine .bind (p212 H _ _ _ _ _ _ _ _ _ _) fun _ => ?_
  refine .bind (p213 H _ _ _ _ _ _ _ _ _ _) fun _ => ?_
  refine .bind (p214 H _ _ _ _ _ _ _ _ _ _) fun _ => ?_
  refine .bind (p215 H _ _ _ _ _ _ _ _ _ _) fun _ => ?_
  refine .bind (p216 H _ _ _ _ _ _ _) fun _ => ?_
  refine .bind (p217 H _ _ _ _ _ _ _ _) fun _ => ?_
  refine .bind (p218 H _ _ _ _ _ _ _) fun _ => ?_
  refine .bind (p219 H _ _ _ _ _ _ _ _) fun _ => ?_
  refine .bind (p220 H _ _ _ _ _ _) fun _ => ?_
  refine .bind (p221 H _ _ _ _ _ _) fun _ => ?_
  refine .bind (p222 H _ _ _ _ _ _ _ _ _) fun _ => ?_
  refine .bind (p223 H _ _ _) fun _ => ?_
  refine .bind (p224 H _ _ _ _ _ _ _ _) fun _ => ?_
  refine .bind (p225 H _ _ _ _ _ _ _ _ _) fun _ => ?_
  refine .bind (p226 H _ _ _ _ _ _ _) fun _ => ?_
  refine .bind (p227 H _ _ _ _ _) fun _ => ?_
  refine .bind (p228 H _ _ _ _ _ _ _ _ _ _ _) fun _ => ?_
  refine .bind (p229 H _ _ _ _ _ _ _ _ _ _ _ _ _ _) fun _ => ?_
  refine .bind (p230 H _ _ _ _ _ _ _ _ _ _ _ _ _ _) fun _ => ?_
  refine .bind (p231 H _ _ _ _ _ _ _ _ _ _ _ _ _ _) fun _ => ?_
  refine .bind (p232 H _ _ _ _ _ _ _ _ _ _ _ _ _ _) fun _ => ?_
  refine .bind (p233 H _ _ _ _ _ _ _ _ _ _ _ _ _ _) fun _ => ?_
  refine .bind (p234 H _ _ _ _ _ _ _ _ _ _ _ _ _ _) fun _ => ?_
  refine .bind (p235 H _ _ _ _ _ _ _ _ _ _ _ _ _ _) fun _ => ?_
  refine .bind (p236 H _ _ _ _ _ _ _ _ _ _ _ _ _ _) fun _ => ?_
  refine .bind (p237 H _ _ _ _ _ _ _ _ _ _ _ _ _ _) fun _ => ?_
  refine .bind (p238 H _ _ _ _ _ _ _ _ _ _ _ _ _ _) fun _ => ?_
  refine .bind (p239 H _ _ _ _ _ _ _ _ _ _ _ _ _ _) fun _ => ?_
  refine .bind (p240 H _ _ _ _ _ _ _ _ _ _ _ _ _ _) fun _ => ?_
  refine .bind (p241 H _ _ _ _ _ _ _ _ _ _ _ _ _ _) fun _ => ?_
  refine .bind (p242 H _ _ _ _ _ _ _ _ _ _ _ _ _ _) fun _ => ?_
  refine .bind (p243 H _ _ _ _ _ _ _ _ _ _ _ _ _ _) fun _ => ?_
  refine .bind (p244 H _ _ _ _ _ _ _ _ _ _) fun _ => ?_
  refine .bind (p245 H _ _ _ _ _ _ _ _) fun _ => ?_
  refine .bind (p246 H _ _ _ _ _ _ _) fun _ => ?_
  refine .bind (p247 H _ _ _ _ _ _ _ _) fun _ => ?_
  refine .bind (p248 H _ _ _ _ _) fun _ => ?_
  refine .bind (p249 H _ _ _ _ _ _ _ _ _) fun _ => ?_
  refine .bind (p250 H _ _ _ _ _ _) fun _ => ?_
  refine .bind (p251 H _ _ _ _ _ _ _ _) fun _ => ?_
  refine .bind (p252 H _ _ _ _ _ _) fun _ => ?_
  refine .bind (p253 H _ _ _ _ _ _ _ _ _) fun _ => ?_
  refine .bind (p254 H _ _ _ _) fun _ => ?_
  refine .bind (p255 H _ _ _ _ _ _ _ _) fun _ => ?_
  refine .bind (p256 H _ _ _ _ _ _ _ _ _) fun _ => ?_
  refine .bind (p257 H _ _ _ _ _ _ _ _ _ _) fun _ => ?_
  refine .bind (p258 H _ _ _ _ _ _ _ _ _ _) fun _ => ?_
  exact .pure _

theorem p404 (H : Held (F := F) c R a2 a3 a4 a5 a6 a7 a8 a9 a10 a11 a12 a13 a14 a15 a16 a17 a18 a19 a20) (x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41) : Keeps (F := F) c R (k0_part404 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41) := by
  delta k0_part404
  dsimp only
  refine .bind (p259 H _ _ _ _ _ _ _ _ _ _) fun _ => ?_
  refine .bind (p260 H _ _ _ _ _ _ _ _ _ _) fun _ => ?_
  refine .bind (p261 H _ _ _ _ _ _ _ _ _ _) fun _ => ?_
  refine .bind (p262 H _ _ _ _ _ _ _ _ _ _) fun _ => ?_
  refine .bind (p263 H _ _ _ _ _ _ _ _ _ _) fun _ => ?_
  refine .bind (p264 H _ _ _ _ _ _ _ _ _ _) fun _ => ?_
  refine .bind (p265 H _ _ _ _ _ _ _ _ _ _) fun _ => ?_
  refine .bind (p266 H _ _ _ _ _ _ _ _ _ _) fun _ => ?_
  refine .bind (p267 H _ _ _ _ _ _ _ _ _ _) fun _ => ?_
  refine .bind (p268 H _ _ _ _ _ _ _ _ _ _) fun _ => ?_
  refine .bind (p269 H _ _ _ _ _ _ _ _ _ _) fun _ => ?_
  refine .bind (p270 H _ _ _ _ _ _ _ _ _ _) fun _ => ?_
  refine .bind (p271 H _ _ _ _ _ _ _ _ _ _) fun _ => ?_
  refine .bind (p272 H _ _ _ _ _ _ _ _) fun _ => ?_
  refine .bind (p273 H _ _ _ _ _ _ _) fun _ => ?_
  refine .bind (p274 H _ _ _ _ _ _ _ _) fun _ => ?_
  refine .bind (p275 H _ _ _ _ _ _ _) fun _ => ?_
  refine .bind (p276 H _ _ _ _ _) fun _ => ?_
  refine .bind (p277 H _ _ _ _ _ _ _ _) fun _ => ?_
  refine .bind (p278 H _ _ _ _ _ _ _ _) fun _ => ?_
  refine .bind (p279 H _ _ _ _ _ _ _ _) fun _ => ?_
  refine .bind (p280 H _ _ _ _) fun _ => ?_
  refine .bind (p281 H _ _ _ _ _ _ _ _ _) fun _ => ?_
  refine .bind (p282 H _ _ _ _ _ _) fun _ => ?_
  refine .bind (p283 H _ _ _ _ _ _ _ _) fun _ => ?_
  refine .bind (p284 H _ _ _ _ _) fun _ => ?_
  refine .bind (p285 H _ _ _ _ _ _ _ _ _ _ _ _ _ _) fun _ => ?_
  refine .bind (p286 H _ _ _ _ _ _ _ _ _ _ _ _ _ _) fun _ => ?_
  refine .bind (p287 H _ _ _ _ _ _ _ _ _ _ _ _ _ _) fun _ => ?_
  refine .bind (p288 H _ _ _ _ _ _ _ _ _ _ _ _ _ _) fun _ => ?_
  refine .bind (p289 H _ _ _ _ _ _ _ _ _ _ _ _ _ _) fun _ => ?_
  refine .bind (p290 H _ _ _ _ _ _ _ _ _ _ _ _ _ _) fun _ => ?_
  refine .bind (p291 H _ _ _ _ _ _ _ _ _ _ _ _ _ _) fun _ => ?_
  refine .bind (p292 H _ _ _ _ _ _ _ _ _ _ _ _ _ _) fun _ => ?_
  refine .bind (p293 H _ _ _ _ _ _ _ _ _ _ _ _ _ _) fun _ => ?_
  refine .bind (p294 H _ _ _ _ _ _ _ _ _ _ _ _ _ _) fun _ => ?_
  refine .bind (p295 H _ _ _ _ _ _ _ _ _ _ _ _ _ _) fun _ => ?_
  refine .bind (p296 H _ _ _ _ _ _ _ _ _ _ _ _ _ _) fun _ => ?_
  refine .bind (p297 H _ _ _ _ _ _ _ _ _ _ _ _ _ _) fun _ => ?_
  refine .bind (p298 H _ _ _ _ _ _ _ _ _ _ _ _ _ _) fun _ => ?_
  refine .bind (p299 H _ _ _ _ _ _ _ _ _ _ _ _ _ _) fun _ => ?_
  refine .bind (p300 H _ _ _ _ _ _ _ _ _ _ _) fun _ => ?_
  refine .bind (p301 H _ _ _ _ _ _ _) fun _ => ?_
  refine .bind (p302 H _ _ _ _ _ _ _ _) fun _ => ?_
  refine .bind (p303 H _ _ _ _ _ _ _) fun _ => ?_
  refine .bind (p304 H _ _ _ _ _ _) fun _ => ?_
  refine .bind (p305 H _ _ _ _ _ _ _ _) fun _ => ?_
  refine .bind (p306 H _ _ _ _ _ _ _) fun _ => ?_
  refine .bind (p307 H _ _ _ _ _ _ _ _ _) fun _ => ?_
  refine .bind (p308 H _ _ _ _ _ _) fun _ => ?_
  refine .bind (p309 H _ _ _ _ _ _ _ _ _) fun _ => ?_
  refine .bind (p310 H _ _ _ _ _ _) fun _ => ?_
  refine .bind (p311 H _ _ _ _ _ _ _ _) fun _ => ?_
  refine .bind (p312 H _ _ _ _) fun _ => ?_
  refine .bind (p313 H _ _ _ _ _ _ _ _ _ _) fun _ => ?_
  refine .bind (p314 H _ _ _ _ _ _ _ _ _ _) fun _ => ?_
  refine .bind (p315 H _ _ _ _ _ _ _ _ _ _) fun _ => ?_
  refine .bind (p316 H _ _ _ _ _ _ _ _ _ _) fun _ => ?_
  refine .bind (p317 H _ _ _ _ _ _ _ _ _ _) fun _ => ?_
  refine .bind (p318 H _ _ _ _ _ _ _ _ _ _) fun _ => ?_
  exact .pure _

theorem p405 (H : Held (F := F) c R a2 a3 a4 a5 a6 a7 a8 a9 a10 a11 a12 a13 a14 a15 a16 a17 a18 a19 a20) (x0 x1 x2 x3 x4 x5 x6 x7 x8 x9 x10 x11 x12 x13 x14 x15 x16 x17 x18 x19 x20 x21 x22 x23 x24 x25 x26 x27 x28 x29 x30 x31 x32 x33 x34 x35 x36 x37) : Keeps (F := F) c R (k0_part405 i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 x10 x11 x12 x13 x14 x15 x16 x17 x18 x19 x20 x21 x22 x23 x24 x25 x26 x27 x28 x29 x30 x31 x32 x33 x34 x35 x36 x37) := by
  delta k0_part405
  dsimp only
  refine .bind (p319 H _ _ _ _ _ _ _ _ _ _) fun _ => ?_
  refine .bind (p320 H _ _ _ _ _ _ _ _ _ _) fun _ => ?_
  refine .bind (p321 H _ _ _ _ _ _ _ _ _ _) fun _ => ?_
  refine .bind (p322 H _ _ _ _ _ _ _ _ _ _) fun _ => ?_
  refine .bind (p323 H _ _ _ _ _ _ _ _ _ _) fun _ => ?_
  refine .bind (p324 H _ _ _ _ _ _ _ _ _ _) fun _ => ?_
  refine .bind (p325 H _ _ _ _ _ _ _ _ _ _) fun _ => ?_
  refine .bind (p326 H _ _ _ _ _ _ _ _ _ _) fun _ => ?_
  refine .bind (p327 H _ _ _ _ _ _ _ _ _ _) fun _ => ?_
  refine .bind (p328 H _ _ _ _ _ _ _ _) fun _ => ?_
  refine .bind (p329 H _ _ _ _ _ _ _ _) fun _ => ?_
  refine .bind (p330 H _ _ _ _ _ _ _) fun _ => ?_
  refine .bind (p331 H _ _ _ _ _ _ _ _) fun _ => ?_
  refine .bind (p332 H _ _ _ _ _ _) fun _ => ?_
  refine .bind (p333 H _ _ _ _ _ _ _) fun _ => ?_
  refine .bind (p334 H _ _ _ _ _ _ _) fun _ => ?_
  refine .bind (p335 H _ _ _ _ _ _ _) fun _ => ?_
  refine .bind (p336 H _ _ _ _) fun _ => ?_
  refine .bind (p337 H _ _ _ _ _ _ _ _) fun _ => ?_
  refine .bind (p338 H _ _ _ _ _ _ _) fun _ => ?_
  refine .bind (p339 H _ _ _ _ _ _ _ _) fun _ => ?_
  refine .bind (p340 H _ _ _ _ _ _ _ _ _) fun _ => ?_
  refine .bind (p341 H _ _ _ _ _ _ _) fun _ => ?_
  refine .bind (p342 H _ _ _ _ _ _ _ _ _) fun _ => ?_
  refine .bind (p343 H _ _ _ _ _ _ _ _ _ _ _ _ _) fun _ => ?_
  refine .bind (p344 H _ _ _ _ _ _ _ _ _ _ _) fun _ => ?_
  refine .bind (p345 H _ _ _ _ _ _ _ _) fun _ => ?_
  refine .bind (p346 H _ _ _ _ _ _ _ _ _ _) fun _ => ?_
  refine .bind (p347 H _ _ _ _ _ _ _ _ _) fun _ => ?_
  refine .bind (p348 H _ _ _ _ _ _ _) fun _ => ?_
  refine .bind (p349 H _ _ _ _ _ _ _ _ _ _) fun _ => ?_
  refine .bind (p350 H _ _ _ _ _ _ _ _ _ _ _ _) fun _ => ?_
  refine .bind (p351 H _ _ _ _) fun _ => ?_
  refine .bind (p352 H _ _ _ _) fun _ => ?_
  refine .bind (p353 H _ _ _ _ _ _) fun _ => ?_
  refine .bind (p354 H _ _ _ _ _ _) fun _ => ?_
  refine .bind (p355 H _ _ _ _ _ _ _ _) fun _ => ?_
  refine .bind (p356 H _ _ _ _) fun _ => ?_
  refine .bind (p357 H _ _ _ _ _ _ _ _ _) fun _ => ?_
  refine .bind (p358 H _ _ _ _ _) fun _ => ?_
  refine .bind (p359 H _ _ _ _ _ _ _ _ _) fun _ => ?_
  refine .bind (p360 H _ _ _ _) fun _ => ?_
  refine .bind (p361 H _ _ _ _) fun _ => ?_
  refine .bind (p362 H _ _ _ _ _ _ _ _) fun _ => ?_
  refine .bind (p363 H _ _ _ _ _) fun _ => ?_
  refine .bind (p364 H _ _ _ _ _ _ _ _ _) fun _ => ?_
  refine .bind (p365 H _ _ _ _ _) fun _ => ?_
  refine .bind (p366 H _ _ _ _ _ _ _ _) fun _ => ?_
  refine .bind (p367 H _ _ _ _ _) fun _ => ?_
  refine .bind (p368 H _ _ _ _ _ _) fun _ => ?_
  refine .bind (p369 H _ _ _ _ _) fun _ => ?_
  refine .bind (p370 H _ _ _ _ _) fun _ => ?_
  refine .bind (p371 H _ _ _ _ _ _ _) fun _ => ?_
  refine .bind (p372 H _ _ _ _ _) fun _ => ?_
  refine .bind (p373 H _ _ _ _ _ _ _ _) fun _ => ?_
  refine .bind (p374 H _ _ _ _ _ _) fun _ => ?_
  refine .bind (p375 H _ _ _ _ _ _ _ _) fun _ => ?_
  refine .bind (p376 H _ _ _ _ _) fun _ => ?_
  refine .bind (p377 H _ _ _ _ _) fun _ => ?_
  refine .bind (p378 H _ _ _ _) fun _ => ?_
  exact .pure _

theorem body (H : Held (F := F) c R a2 a3 a4 a5 a6 a7 a8 a9 a10 a11 a12 a13 a14 a15 a16 a17 a18 a19 a20) : Keeps (F := F) c R (cc0_attention_prompt i a2 h2 a3 h3 a4 h4 a5 h5 a6 h6 a7 h7 a8 h8 a9 h9 a10 h10 a11 h11 a12 h12 a13 h13 a14 h14 a15 h15 a16 h16 a17 h17 a18 h18 a19 h19 a20 h20) := by
  delta cc0_attention_prompt
  dsimp only
  refine .bind (p401 H) fun _ => ?_
  refine .bind (p402 H _ _ _ _ _ _ _ _ _ _ _ _ _ _ _ _) fun _ => ?_
  refine .bind (p403 H _ _ _ _ _ _ _ _ _ _ _ _ _) fun _ => ?_
  refine .bind (p404 H _ _ _ _ _ _ _ _ _ _ _ _ _ _ _ _ _ _ _ _ _ _ _ _ _ _ _ _ _ _ _ _ _ _ _ _ _ _ _ _ _ _) fun _ => ?_
  refine .bind (p405 H _ _ _ _ _ _ _ _ _ _ _ _ _ _ _ _ _ _ _ _ _ _ _ _ _ _ _ _ _ _ _ _ _ _ _ _ _ _) fun _ => ?_
  refine .bind (p379 H _ _ _ _ _ _) fun _ => ?_
  refine .bind (p380 H _ _ _ _ _ _ _) fun _ => ?_
  refine .bind (p381 H _ _ _ _ _) fun _ => ?_
  refine .bind (p382 H _ _ _ _ _ _ _ _) fun _ => ?_
  refine .bind (p383 H _ _ _ _ _) fun _ => ?_
  refine .bind (p384 H _ _ _ _ _ _ _ _ _) fun _ => ?_
  refine .bind (p385 H _ _ _ _ _) fun _ => ?_
  refine .bind (p386 H _ _ _ _) fun _ => ?_
  refine .bind (p387 H _ _ _ _ _) fun _ => ?_
  refine .bind (p388 H _ _ _ _ _) fun _ => ?_
  refine .bind (p389 H _ _ _ _ _ _ _ _ _) fun _ => ?_
  refine .bind (p390 H _ _ _ _ _) fun _ => ?_
  refine .bind (p391 H _ _ _ _) fun _ => ?_
  refine .bind (p392 H _ _) fun _ => ?_
  refine .bind (p393 H _ _ _ _ _) fun _ => ?_
  refine .bind (p394 H) fun _ => ?_
  refine .bind (p395 H _ _ _ _) fun _ => ?_
  refine .bind (p396 H _ _ _) fun _ => ?_
  refine .bind (p397 H _ _ _) fun _ => ?_
  refine .bind (p398 H _ _ _ _ _) fun _ => ?_
  refine .bind (p399 H _ _ _) fun _ => ?_
  refine .bind (p400 H _ _ _ _ _) fun _ => ?_
  refine .bind (H.s12 _ _ _ _ _) fun _ => ?_
  refine Keeps.ite ?_ ?_
  · refine .bind (p78 H _ _) fun _ => ?_
    refine .bind (p77 H _ _) fun _ => ?_
    refine .bind (H.l11 _ _) fun _ => ?_
    refine .bind (H.s11 _ _ _ _ _) fun _ => ?_
    refine .bind (H.l12 _ _) fun _ => ?_
    refine .bind (H.s12 _ _ _ _ _) fun _ => ?_
    refine .bind (.pure _) fun _ => ?_
    exact .pure _
  · refine .bind (.pure _) fun _ => ?_
    exact .pure _

end Cert.Kernel.Hand

end
-- ==== Proof.Body.lean ====
/-
  Hand-written, untrusted. The frame of the attention call: at every grid point the body, run from its nine input blocks, its two
  output buffers and its eight scratch buffers, keeps each input block as it is and each other buffer at some contents (`body`,
  from the parts); so the launch ends with every argument array as it was and every semaphore at zero. Nothing here reads what the
  two outputs hold, so both are forgotten. The text is at any value instance `F`.
-/
module

public import proofs.«01_k».proof.Proof.Parts5
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

/-! ## What the body keeps -/

section Held

variable {c : Dev nD} {P R : sProp (MT nD τ sig Unit (Elt F) ℕ (UR sig nD τ) ℕ)}

/-- What is kept beside `R` is kept. -/
theorem Keeps.frame {α : Type} {e : Prog (TpuEff nD τ sig (Elt F) Λ₀ .tc) α} (h : Keeps (F := F) c R e) :
    Keeps (F := F) c iprop(P ∗ R) e := by
  unfold Keeps at *
  iintro ⟨HP, HR⟩
  iapply wp_frame_l
  isplitl [HP]; · iexact HP
  iapply h; iexact HR

theorem Loads.frame {sp : CoreSpace} {s : Shape} {e : EltTy} {M : Memref sig .tc sp s e} (h : Loads (F := F) c R M) :
    Loads (F := F) c iprop(P ∗ R) M := fun r hl => (h r hl).frame

theorem Stores.frame {sp : CoreSpace} {s : Shape} {e : EltTy} {M : Memref sig .tc sp s e} (h : Stores (F := F) c R M) :
    Stores (F := F) c iprop(P ∗ R) M := fun r v Mk hx hm => (h r v Mk hx hm).frame

theorem loads_head {sp : CoreSpace} {s : Shape} {e : EltTy} {M : Memref sig .tc sp s e} {X : s.Idx → Elt F e} :
    Loads (F := F) c iprop(owns (c : Thread nD τ) M fullShare X ∗ P) M := loads_of .rfl .rfl

theorem loads_head_some {sp : CoreSpace} {s : Shape} {e : EltTy} {M : Memref sig .tc sp s e} :
    Loads (F := F) c iprop((∃ X, owns (c : Thread nD τ) M fullShare X) ∗ P) M := loads_some .rfl .rfl

theorem stores_head {sp : CoreSpace} {s : Shape} {e : EltTy} {M : Memref sig .tc sp s e} :
    Stores (F := F) c iprop((∃ X, owns (c : Thread nD τ) M fullShare X) ∗ P) M := stores_of .rfl .rfl

/-- The body's buffers beside `P`: the nine inputs at contents `x2 … x10`, the outputs and the scratch at some contents. -/
abbrev Bufs (c : Dev nD) (P : sProp 𝕄)
    (a2 : Memref sig .tc .vmem S512x128 .bf16)
    (a3 : Memref sig .tc .vmem S512x128 .bf16)
    (a4 : Memref sig .tc .vmem S512x128 .bf16)
    (a5 : Memref sig .tc .vmem S512x128 .bf16)
    (a6 : Memref sig .tc .vmem S8x128 .f32)
    (a7 : Memref sig .tc .vmem S8x128 .f32)
    (a8 : Memref sig .tc .vmem S2048x64 .bf16)
    (a9 : Memref sig .tc .vmem S2048x128 .bf16)
    (a10 : Memref sig .tc .vmem S8x128x256 .bf16)
    (a11 : Memref sig .tc .vmem S1x1x128x512 .bf16)
    (a12 : Memref sig .tc .vmem S1x1x128x512 .bf16)
    (a13 : Memref sig .tc .vmem S2x64x1024 .bf16)
    (a14 : Memref sig .tc .vmem S2x2x128x512 .bf16)
    (a15 : Memref sig .tc .vmem S2x8x128 .f32)
    (a16 : Memref sig .tc .vmem S9x256x128 .f32)
    (a17 : Memref sig .tc .vmem S9x32x8x128 .i32)
    (a18 : Memref sig .tc .vmem S9x256x128 .f32)
    (a19 : Memref sig .tc .vmem S9x2x2x128x512 .f32)
    (a20 : Memref sig .tc .vmem S9x2x80x512 .f32)
    (x2 : S512x128.Idx → Elt F .bf16)
    (x3 : S512x128.Idx → Elt F .bf16)
    (x4 : S512x128.Idx → Elt F .bf16)
    (x5 : S512x128.Idx → Elt F .bf16)
    (x6 : S8x128.Idx → Elt F .f32)
    (x7 : S8x128.Idx → Elt F .f32)
    (x8 : S2048x64.Idx → Elt F .bf16)
    (x9 : S2048x128.Idx → Elt F .bf16)
    (x10 : S8x128x256.Idx → Elt F .bf16)
    : sProp 𝕄 :=
  iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ X, owns (c : Thread nD τ) a11 fullShare X) ∗ (∃ X, owns (c : Thread nD τ) a12 fullShare X) ∗ (∃ X, owns (c : Thread nD τ) a13 fullShare X) ∗ (∃ X, owns (c : Thread nD τ) a14 fullShare X) ∗ (∃ X, owns (c : Thread nD τ) a15 fullShare X) ∗ (∃ X, owns (c : Thread nD τ) a16 fullShare X) ∗ (∃ X, owns (c : Thread nD τ) a17 fullShare X) ∗ (∃ X, owns (c : Thread nD τ) a18 fullShare X) ∗ (∃ X, owns (c : Thread nD τ) a19 fullShare X) ∗ (∃ X, owns (c : Thread nD τ) a20 fullShare X) ∗ P)

theorem held
    (a2 : Memref sig .tc .vmem S512x128 .bf16)
    (a3 : Memref sig .tc .vmem S512x128 .bf16)
    (a4 : Memref sig .tc .vmem S512x128 .bf16)
    (a5 : Memref sig .tc .vmem S512x128 .bf16)
    (a6 : Memref sig .tc .vmem S8x128 .f32)
    (a7 : Memref sig .tc .vmem S8x128 .f32)
    (a8 : Memref sig .tc .vmem S2048x64 .bf16)
    (a9 : Memref sig .tc .vmem S2048x128 .bf16)
    (a10 : Memref sig .tc .vmem S8x128x256 .bf16)
    (a11 : Memref sig .tc .vmem S1x1x128x512 .bf16)
    (a12 : Memref sig .tc .vmem S1x1x128x512 .bf16)
    (a13 : Memref sig .tc .vmem S2x64x1024 .bf16)
    (a14 : Memref sig .tc .vmem S2x2x128x512 .bf16)
    (a15 : Memref sig .tc .vmem S2x8x128 .f32)
    (a16 : Memref sig .tc .vmem S9x256x128 .f32)
    (a17 : Memref sig .tc .vmem S9x32x8x128 .i32)
    (a18 : Memref sig .tc .vmem S9x256x128 .f32)
    (a19 : Memref sig .tc .vmem S9x2x2x128x512 .f32)
    (a20 : Memref sig .tc .vmem S9x2x80x512 .f32)
    (x2 : S512x128.Idx → Elt F .bf16)
    (x3 : S512x128.Idx → Elt F .bf16)
    (x4 : S512x128.Idx → Elt F .bf16)
    (x5 : S512x128.Idx → Elt F .bf16)
    (x6 : S8x128.Idx → Elt F .f32)
    (x7 : S8x128.Idx → Elt F .f32)
    (x8 : S2048x64.Idx → Elt F .bf16)
    (x9 : S2048x128.Idx → Elt F .bf16)
    (x10 : S8x128x256.Idx → Elt F .bf16)
    : Held (F := F) c (Bufs c P a2 a3 a4 a5 a6 a7 a8 a9 a10 a11 a12 a13 a14 a15 a16 a17 a18 a19 a20 x2 x3 x4 x5 x6 x7 x8 x9 x10) a2 a3 a4 a5 a6 a7 a8 a9 a10 a11 a12 a13 a14 a15 a16 a17 a18 a19 a20 where
  l2 := loads_head
  l3 := loads_head.frame
  l4 := loads_head.frame.frame
  l5 := loads_head.frame.frame.frame
  l6 := loads_head.frame.frame.frame.frame
  l7 := loads_head.frame.frame.frame.frame.frame
  l8 := loads_head.frame.frame.frame.frame.frame.frame
  l9 := loads_head.frame.frame.frame.frame.frame.frame.frame
  l10 := loads_head.frame.frame.frame.frame.frame.frame.frame.frame
  l11 := loads_head_some.frame.frame.frame.frame.frame.frame.frame.frame.frame
  l12 := loads_head_some.frame.frame.frame.frame.frame.frame.frame.frame.frame.frame
  l13 := loads_head_some.frame.frame.frame.frame.frame.frame.frame.frame.frame.frame.frame
  l14 := loads_head_some.frame.frame.frame.frame.frame.frame.frame.frame.frame.frame.frame.frame
  l15 := loads_head_some.frame.frame.frame.frame.frame.frame.frame.frame.frame.frame.frame.frame.frame
  l16 := loads_head_some.frame.frame.frame.frame.frame.frame.frame.frame.frame.frame.frame.frame.frame.frame
  l17 := loads_head_some.frame.frame.frame.frame.frame.frame.frame.frame.frame.frame.frame.frame.frame.frame.frame
  l18 := loads_head_some.frame.frame.frame.frame.frame.frame.frame.frame.frame.frame.frame.frame.frame.frame.frame.frame
  l19 := loads_head_some.frame.frame.frame.frame.frame.frame.frame.frame.frame.frame.frame.frame.frame.frame.frame.frame.frame
  l20 := loads_head_some.frame.frame.frame.frame.frame.frame.frame.frame.frame.frame.frame.frame.frame.frame.frame.frame.frame.frame
  s11 := stores_head.frame.frame.frame.frame.frame.frame.frame.frame.frame
  s12 := stores_head.frame.frame.frame.frame.frame.frame.frame.frame.frame.frame
  s13 := stores_head.frame.frame.frame.frame.frame.frame.frame.frame.frame.frame.frame
  s14 := stores_head.frame.frame.frame.frame.frame.frame.frame.frame.frame.frame.frame.frame
  s15 := stores_head.frame.frame.frame.frame.frame.frame.frame.frame.frame.frame.frame.frame.frame
  s16 := stores_head.frame.frame.frame.frame.frame.frame.frame.frame.frame.frame.frame.frame.frame.frame
  s17 := stores_head.frame.frame.frame.frame.frame.frame.frame.frame.frame.frame.frame.frame.frame.frame.frame
  s18 := stores_head.frame.frame.frame.frame.frame.frame.frame.frame.frame.frame.frame.frame.frame.frame.frame.frame
  s19 := stores_head.frame.frame.frame.frame.frame.frame.frame.frame.frame.frame.frame.frame.frame.frame.frame.frame.frame
  s20 := stores_head.frame.frame.frame.frame.frame.frame.frame.frame.frame.frame.frame.frame.frame.frame.frame.frame.frame.frame

end Held

variable (m : (ℓ : Loc nD τ sig) → Buf (Elt F) ℓ) (ρ : Dev nD → PrngReg)

/-! ## The proof data -/

/-- The two outputs are forgotten, the nine inputs are not. -/
def forgets0 : Fin 11 → Bool := fun w => decide (9 ≤ w.val)

/-- The proof data on core `c`: the arrays as the region finds them; each input block left as it is; the outputs unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => Pipeline.Dat.unnamed (cfg := cfg0) 9 t
    | 10 => Pipeline.Dat.unnamed (cfg := cfg0) 10 t
  Φ _ := Pipeline.ΦA spec0 c
  q := Pipeline.shareOf spec0
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]

/-- The invariant, conjunct by conjunct: the eight scratch buffers at some contents and the generator register at some state. -/
theorem Phi_eq (c : Dev nD) : (Pipeline.ΦA spec0 c : sProp 𝕄)
    = iprop(iprop((∃ X, owns (c : Thread nD τ) (Memref.whole cc0_scratch0 : Memref sig .tc .vmem S2x64x1024 .bf16) fullShare X) ∗ (∃ X, owns (c : Thread nD τ) (Memref.whole cc0_scratch1 : Memref sig .tc .vmem S2x2x128x512 .bf16) fullShare X) ∗ (∃ X, owns (c : Thread nD τ) (Memref.whole cc0_scratch2 : Memref sig .tc .vmem S2x8x128 .f32) fullShare X) ∗ (∃ X, owns (c : Thread nD τ) (Memref.whole cc0_scratch3 : Memref sig .tc .vmem S9x256x128 .f32) fullShare X) ∗ (∃ X, owns (c : Thread nD τ) (Memref.whole cc0_scratch4 : Memref sig .tc .vmem S9x32x8x128 .i32) fullShare X) ∗ (∃ X, owns (c : Thread nD τ) (Memref.whole cc0_scratch5 : Memref sig .tc .vmem S9x256x128 .f32) fullShare X) ∗ (∃ X, owns (c : Thread nD τ) (Memref.whole cc0_scratch6 : Memref sig .tc .vmem S9x2x2x128x512 .f32) fullShare X) ∗ (∃ X, owns (c : Thread nD τ) (Memref.whole cc0_scratch7 : Memref sig .tc .vmem S9x2x80x512 .f32) fullShare X)) ∗ (∃ r, prngReg c r)) := by
  unfold Pipeline.ΦA
  rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X)
    ∗ (∃ X, owns (c : Thread nD τ) (st0_10 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X)
    ∗ (∃ X, owns (c : Thread nD τ) (st0_10 t) fullShare X))

/-- The body's buffers at point `t`, beside the generator register and what the core owes. -/
abbrev mid (c : Dev nD) (t : Fin cfg0.N) : sProp 𝕄 :=
  Bufs c iprop((∃ r, prngReg c r) ∗ (dats m 0 c).owesAt () t.castSucc) (st0_0 t) (st0_1 t) (st0_2 t) (st0_3 t) (st0_4 t) (st0_5 t) (st0_6 t) (st0_7 t) (st0_8 t) (st0_9 t) (st0_10 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (iblk m c 0 t) (iblk m c 1 t) (iblk m c 2 t) (iblk m c 3 t) (iblk m c 4 t) (iblk m c 5 t) (iblk m c 6 t) (iblk m c 7 t) (iblk m c 8 t)

theorem pre_mid (c : Dev nD) (t : Fin cfg0.N) : bodyPre m c t ⊢ mid m c t := by
  unfold bodyPre
  rw [show (dats m 0 c).Φ t.castSucc = Pipeline.ΦA spec0 c from rfl, Phi_eq]
  simp only [before_0, before_1, before_2, before_3, before_4, before_5, before_6, before_7, before_8]
  iintro ⟨⟨⟨H13, H14, H15, H16, H17, H18, H19, H20⟩, Hg⟩, HO, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [Hg]; · iexact Hg
  iexact HO

theorem mid_post (c : Dev nD) (t : Fin cfg0.N) : mid m c t ⊢ bodyPost m c t := by
  unfold bodyPost
  rw [show (dats m 0 c).Φ t.succ = Pipeline.ΦA spec0 c from rfl, Phi_eq,
    show (dats m 0 c).owesAt () t.succ = (dats m 0 c).owesAt () t.castSucc from rfl]
  simp only [after_0, after_1, after_2, after_3, after_4, after_5, after_6, after_7, after_8]
  iintro ⟨H2, H3, H4, H5, H6, H7, H8, H9, H10, H11, H12, H13, H14, H15, H16, H17, H18, H19, H20, Hg, HO⟩
  isplitl [H13 H14 H15 H16 H17 H18 H19 H20 Hg]
  · isplitl [H13 H14 H15 H16 H17 H18 H19 H20]
    · isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    iexact Hg
  isplitl [HO]; · iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at the point keeps its buffers. -/
theorem sound_body (c : Dev nD) (t : Fin cfg0.N) :
    bodyPre m c t ⊢ wp frame (wpE (defs₀ (F := F)) Variants.none (c : Thread nD τ) none) Set.univ (bodyAt0 t) (fun _ => bodyPost m c t) := by
  have h : Keeps (F := F) c (mid m c t) (bodyAt0 t) := body (held _ _ _ _ _ _ _ _ _ _ _ _ _ _ _ _ _ _ _ _ _ _ _ _ _ _ _ _)
  unfold Keeps at h
  exact (pre_mid m c t).trans (h.trans (wp_mono _ _ _ fun _ => mid_post m c t))

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every execution ends, with every array that is no output at its launch contents and every semaphore at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m)
    (hΦ := fun _ _ => rfl)

variable {m ρ}

/-- An input window's array after the run is what it was at launch. -/
theorem final_in {r : PUnit × MemSt nD τ sig (Elt F)}
    (h : Pipeline.RDat.FramePost (cfgs 0) (fun c => (dats (F := F) m 0 c).toRForget forgets0) (V m) r) (c : Dev nD)
    (w : Fin cfg0.W) (hw : forgets0 w = false) (hin : (cfg0.win w).isOut = false) :
    r.2.mem ((cfg0.spec w).arr.view.loc (c.tc : Thread nD τ)) = V m c (Pipeline.arrRef spec0 w) :=
  ((Dat.toRForget_arrAt_iff (dat := dats m 0 c) hw _ _).mp ((h c).1 w)).trans (((dats m 0 c).arrAt_in w hin _).trans (A_eq m c w))

variable (m ρ)

/-- The frame: every execution ends, the six arguments as they were and every semaphore at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(final_in h.1 c 1 rfl rfl).trans (V_main_arg0 m c),
      (final_in h.1 c 3 rfl rfl).trans (V_main_arg1 m c),
      (final_in h.1 c 5 rfl rfl).trans (V_main_arg2 m c),
      (final_in h.1 c 6 rfl rfl).trans (V_main_arg3 m c),
      (final_in h.1 c 7 rfl rfl).trans (V_main_arg4 m c),
      ((h.1 c).2 main_arg5 (Pipeline.mem_restRefs_of main_arg5 (by decide) (by decide))).trans (V_main_arg5 m c)⟩, h.2⟩) (run_main m ρ)

end Cert.Kernel.Hand

end
-- ==== Proof.Rows.lean ====
/-
  Hand-written, untrusted. The layer's row functions over the extended reals, and the vector and host operations of its
  projections and MLP read at one entry as those functions. Everything here is stated for any number of rows.
-/
module

public import Idealize.ShloMosaic.PureOps.Ideal.Laws
public import Idealize.ShloMosaic.Lib.IdealHost
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.StackMember
public import Idealize.ShloMosaic.Lib.Pipeline.Value

@[expose] public section

set_option maxRecDepth 16384

noncomputable section

namespace Cert.Rows

open Idealize.ShloMosaic Idealize.ShloMosaic.ValueIdx
open scoped BigOperators

/-! ## The functions of one row -/

/-- A row times a matrix: entry `c` is `∑ k, x k * W k c`. -/
def mulRow {K N : ℕ} (x : Fin K → EReal) (W : Fin K → Fin N → EReal) : Fin N → EReal := fun c => ∑ k, x k * W k c

/-- The root-mean-square norm of a row of 1024, scaled by the gains `g`: every entry times the reciprocal square root of
    the mean of the squares plus the layer's small constant. -/
def normRow (y g : Fin 1024 → EReal) : Fin 1024 → EReal := fun c =>
  y c * Ideal.rsqrt (Ideal.div (∑ k, y k * y k) (Ideal.ofBits .f32 0x44800000#32) + Ideal.ofBits .f32 0x358637BD#32) * g c

/-- The square of the positive part. -/
def relu2 (x : EReal) : EReal := max x 0 * max x 0

/-- The MLP with its residual: `y + relu(norm(y) @ Wu)² @ Wd`. -/
def mlpRow (y g : Fin 1024 → EReal) (Wu : Fin 1024 → Fin 4096 → EReal) (Wd : Fin 4096 → Fin 1024 → EReal) : Fin 1024 → EReal :=
  fun c => y c + ∑ f, relu2 (mulRow (normRow y g) Wu f) * Wd f c

/-- Two rows of 512, end to end. -/
def catRow (a b : Fin 512 → EReal) : Fin 1024 → EReal := fun k =>
  if h : k.val < 512 then a ⟨k.val, h⟩ else b ⟨k.val - 512, by have := k.isLt; omega⟩

/-- The output projection with its residual. -/
def projRow (x mix : Fin 1024 → EReal) (Wo : Fin 1024 → Fin 1024 → EReal) : Fin 1024 → EReal := fun c => x c + mulRow mix Wo c

/-! ## Products -/

theorem hostDot_apply {M K N : ℕ} {φ₁ φ₂ : FTy} (A : FVec Ideal ⟨2, ![M, K]⟩ φ₁) (B : FVec Ideal ⟨2, ![K, N]⟩ φ₂) (r : Fin M) (c : Fin N) :
    Host.dotGeneral (DotDims.plain M K N) none A B (ix2 r c) = mulRow (fun k => A (ix2 r k)) (fun k c => B (ix2 k c)) c :=
  StackMember.dotGeneral_plain_apply none A B r c

theorem matmul_apply {M K N : ℕ} {φ₁ φ₂ : FTy} (A : FVec Ideal ⟨2, ![M, K]⟩ φ₁) (B : FVec Ideal ⟨2, ![K, N]⟩ φ₂) (r : Fin M) (c : Fin N) :
    matmul (DotDims.plain M K N) none A B (constant (F := Ideal) ⟨2, ![M, N]⟩ .f32 0x00000000#32) (ix2 r c)
      = mulRow (fun k => A (ix2 r k)) (fun k c => B (ix2 k c)) c := by
  refine (Ideal.matmul_plain_apply none A B _ r c).trans ?_
  rw [constant_apply, Ideal.ofBits_zero_f32, zero_add]
  rfl

/-! ## The sum of squares of a row -/

theorem lift_row {n : ℕ} (h : (⟨2, ![n, 1024]⟩ : Shape).Reduces [1] ⟨1, ![n]⟩) (r : Fin n) (k : Fin 1024) :
    h.lift (ix1 r) k = ix2 r k := by
  funext a; apply Fin.ext
  match a with
  | ⟨0, _⟩ => rfl
  | ⟨1, _⟩ => rfl

theorem kernel_sum {n : ℕ} (X : FVec Ideal ⟨2, ![n, 1024]⟩ .f32) (h : (⟨2, ![n, 1024]⟩ : Shape).Reduces [1] ⟨1, ![n]⟩)
    (hf : FKind.Formats .f32) (ha : (0x00000000#32 : BitVec 32) = FKind.add.neutral .f32 hf) (r : Fin n) :
    multiReduction .add [1] ⟨1, ![n]⟩ X 0x00000000#32 h hf ha (ix1 r) = ∑ k : Fin 1024, X (ix2 r k) := by
  refine (Ideal.multiReduction_add_single X _ h hf ha (ix1 r)).trans ?_
  exact Finset.sum_congr rfl fun k _ => congrArg X (lift_row h r k)

theorem host_sum {n : ℕ} (X : FVec Ideal ⟨2, ![n, 1024]⟩ .f32) (h' : (⟨2, ![n, 1024]⟩ : Shape).ReducesTo [1] ⟨1, ![n]⟩)
    (h : (⟨2, ![n, 1024]⟩ : Shape).Reduces [1] ⟨1, ![n]⟩) (hu : 0 < (⟨0, ![]⟩ : Shape).numel) (r : Fin n) :
    Host.reduceAdd X (constant (F := Ideal) ⟨0, ![]⟩ .f32 0x00000000#32) h' hu (ix1 r) = ∑ k : Fin 1024, X (ix2 r k) := by
  rw [hostReduceAdd_apply, constant_apply, Ideal.ofBits_zero_f32, Ideal.hostReduceAdd_single h' h, zero_add]
  exact Finset.sum_congr rfl fun k _ => congrArg X (lift_row h r k)

/-! ## Broadcasts along a row and down the rows -/

theorem bcast_col {n N : ℕ} {α : Type} (v : (⟨2, ![n, 1]⟩ : Shape).Idx → α) (h : (⟨2, ![n, 1]⟩ : Shape).Broadcasts ⟨2, ![n, N]⟩)
    (r : Fin n) (c : Fin N) : broadcastTo ⟨2, ![n, N]⟩ v h (ix2 r c) = v (ix2 r 0) :=
  broadcastTo_apply v h (ix2 r c) (ix2 r 0) fun a => by
    match a with
    | ⟨0, _⟩ =>
      show r.val = if n = 1 then 0 else r.val
      have := r.isLt
      split <;> omega
    | ⟨1, _⟩ => rfl

theorem hbcast_col {n N : ℕ} {α : Type} (v : (⟨2, ![n, 1]⟩ : Shape).Idx → α)
    (h : (⟨2, ![n, 1]⟩ : Shape).BroadcastsInDim ⟨2, ![n, N]⟩ ![0, 1]) (r : Fin n) (c : Fin N) :
    broadcastInDim ⟨2, ![n, N]⟩ ![0, 1] h v (ix2 r c) = v (ix2 r 0) :=
  broadcastInDim_apply ![0, 1] h v (ix2 r c) (ix2 r 0) fun a => by
    match a with
    | ⟨0, _⟩ =>
      show r.val = if n = 1 then 0 else r.val
      have := r.isLt
      split <;> omega
    | ⟨1, _⟩ => rfl

theorem hbcast_toCol {n : ℕ} {α : Type} (v : (⟨1, ![n]⟩ : Shape).Idx → α)
    (h : (⟨1, ![n]⟩ : Shape).BroadcastsInDim ⟨2, ![n, 1]⟩ ![0]) (r : Fin n) (c : Fin 1) :
    broadcastInDim ⟨2, ![n, 1]⟩ ![0] h v (ix2 r c) = v (ix1 r) :=
  broadcastInDim_apply ![0] h v (ix2 r c) (ix1 r) fun a => by
    match a with
    | ⟨0, _⟩ =>
      show r.val = if n = 1 then 0 else r.val
      have := r.isLt
      split <;> omega

theorem hbcast_gain {n N : ℕ} {α : Type} (v : (⟨1, ![N]⟩ : Shape).Idx → α)
    (h₁ : (⟨1, ![N]⟩ : Shape).BroadcastsInDim ⟨2, ![1, N]⟩ ![1])
    (h₂ : (⟨2, ![1, N]⟩ : Shape).BroadcastsInDim ⟨2, ![n, N]⟩ ![0, 1]) (r : Fin n) (c : Fin N) :
    broadcastInDim ⟨2, ![n, N]⟩ ![0, 1] h₂ (broadcastInDim ⟨2, ![1, N]⟩ ![1] h₁ v) (ix2 r c) = v (ix1 c) := by
  refine (broadcastInDim_apply ![0, 1] h₂ _ (ix2 r c) (ix2 0 c) fun a => ?_).trans
    (broadcastInDim_apply ![1] h₁ v (ix2 0 c) (ix1 c) fun a => ?_)
  · match a with
    | ⟨0, _⟩ => rfl
    | ⟨1, _⟩ =>
      show c.val = if N = 1 then 0 else c.val
      have := c.isLt
      split <;> omega
  · match a with
    | ⟨0, _⟩ =>
      show c.val = if N = 1 then 0 else c.val
      have := c.isLt
      split <;> omega

/-! ## The norm -/

/-- A kernel's norm of a block of `n` rows, read at one entry. -/
theorem kernel_norm {n : ℕ} (Y : FVec Ideal ⟨2, ![n, 1024]⟩ .f32) (g : FVec Ideal ⟨2, ![1, 1024]⟩ .f32)
    (h : (⟨2, ![n, 1024]⟩ : Shape).Reduces [1] ⟨1, ![n]⟩) (hf : FKind.Formats .f32)
    (ha : (0x00000000#32 : BitVec 32) = FKind.add.neutral .f32 hf) (hc : (⟨1, ![n]⟩ : Shape).ShapeCasts ⟨2, ![n, 1]⟩)
    (hb : (⟨2, ![n, 1]⟩ : Shape).Broadcasts ⟨2, ![n, 1024]⟩) (hg : (⟨2, ![1, 1024]⟩ : Shape).Broadcasts ⟨2, ![n, 1024]⟩)
    (r : Fin n) (c : Fin 1024) :
    mulf (mulf Y (broadcastTo ⟨2, ![n, 1024]⟩ (rsqrt (addf (divf
        (shapeCast ⟨2, ![n, 1]⟩ (multiReduction .add [1] ⟨1, ![n]⟩ (mulf Y Y) 0x00000000#32 h hf ha) hc)
        (broadcast ⟨2, ![n, 1]⟩ (Scalar.ofBits (F := Ideal) .f32 0x44800000#32)))
        (broadcast ⟨2, ![n, 1]⟩ (Scalar.ofBits (F := Ideal) .f32 0x358637BD#32)))) hb)) (broadcastTo ⟨2, ![n, 1024]⟩ g hg) (ix2 r c)
      = normRow (fun k => Y (ix2 r k)) (fun k => g (ix2 0 k)) c := by
  rw [mulf_apply, mulf_apply, bcast_col, broadcastTo_1b_ab_apply]
  show Y (ix2 r c) * Ideal.rsqrt (Ideal.div (shapeCast ⟨2, ![n, 1]⟩ (multiReduction .add [1] ⟨1, ![n]⟩ (mulf Y Y) 0x00000000#32 h hf ha) hc (ix2 r 0))
    (Ideal.ofBits .f32 0x44800000#32) + Ideal.ofBits .f32 0x358637BD#32) * g (ix2 0 c) = _
  rw [shapeCast_a_a1_apply, kernel_sum]
  rfl

/-- A reference's norm of all rows, read at one entry. -/
theorem host_norm {n : ℕ} (Y : FVec Ideal ⟨2, ![n, 1024]⟩ .f32) (g : FVec Ideal ⟨1, ![1024]⟩ .f32)
    (h : (⟨2, ![n, 1024]⟩ : Shape).Reduces [1] ⟨1, ![n]⟩) (h' : (⟨2, ![n, 1024]⟩ : Shape).ReducesTo [1] ⟨1, ![n]⟩)
    (hu : 0 < (⟨0, ![]⟩ : Shape).numel) (h0 : (⟨1, ![n]⟩ : Shape).BroadcastsInDim ⟨2, ![n, 1]⟩ ![0])
    (hs hs' : (⟨0, ![]⟩ : Shape).BroadcastsInDim ⟨2, ![n, 1]⟩ ![])
    (hb : (⟨2, ![n, 1]⟩ : Shape).BroadcastsInDim ⟨2, ![n, 1024]⟩ ![0, 1])
    (h₁ : (⟨1, ![1024]⟩ : Shape).BroadcastsInDim ⟨2, ![1, 1024]⟩ ![1])
    (h₂ : (⟨2, ![1, 1024]⟩ : Shape).BroadcastsInDim ⟨2, ![n, 1024]⟩ ![0, 1]) (r : Fin n) (c : Fin 1024) :
    mulf (mulf Y (broadcastInDim ⟨2, ![n, 1024]⟩ ![0, 1] hb (Host.rsqrt (addf (Host.divf
        (broadcastInDim ⟨2, ![n, 1]⟩ ![0] h0 (Host.reduceAdd (mulf Y Y) (constant (F := Ideal) ⟨0, ![]⟩ .f32 0x00000000#32) h' hu))
        (broadcastInDim ⟨2, ![n, 1]⟩ ![] hs (constant (F := Ideal) ⟨0, ![]⟩ .f32 0x44800000#32)))
        (broadcastInDim ⟨2, ![n, 1]⟩ ![] hs' (constant (F := Ideal) ⟨0, ![]⟩ .f32 0x358637BD#32))))))
        (broadcastInDim ⟨2, ![n, 1024]⟩ ![0, 1] h₂ (broadcastInDim ⟨2, ![1, 1024]⟩ ![1] h₁ g)) (ix2 r c)
      = normRow (fun k => Y (ix2 r k)) (fun k => g (ix1 k)) c := by
  rw [mulf_apply, mulf_apply, hbcast_col, hbcast_gain]
  show Y (ix2 r c) * Ideal.rsqrt (Ideal.div (broadcastInDim ⟨2, ![n, 1]⟩ ![0] h0 (Host.reduceAdd (mulf Y Y) (constant (F := Ideal) ⟨0, ![]⟩ .f32 0x00000000#32) h' hu) (ix2 r 0))
    (Ideal.ofBits .f32 0x44800000#32) + Ideal.ofBits .f32 0x358637BD#32) * g (ix1 c) = _
  rw [hbcast_toCol, host_sum _ h' h]
  rfl

/-- A reference's two rows of 512 end to end, read at one entry. -/
theorem host_cat {n : ℕ} (A B : (⟨2, ![n, 512]⟩ : Shape).Idx → EReal)
    (h : Shape.Concatenates [⟨2, ![n, 512]⟩, ⟨2, ![n, 512]⟩] ⟨2, ![n, 1024]⟩ 1) (r : Fin n) (k : Fin 1024) :
    concatenate ⟨2, ![n, 1024]⟩ 1 [⟨⟨2, ![n, 512]⟩, A⟩, ⟨⟨2, ![n, 512]⟩, B⟩] h (ix2 r k)
      = catRow (fun k => A (ix2 r k)) (fun k => B (ix2 r k)) k := by
  unfold catRow
  by_cases hk : k.val < 512
  · rw [dif_pos hk]
    refine concatenate_pair_apply_left 1 A B h (ix2 r k) rfl (ix2 r ⟨k.val, hk⟩) fun a => ?_
    match a with
    | ⟨0, _⟩ => rfl
    | ⟨1, _⟩ => rfl
  · rw [dif_neg hk]
    refine concatenate_pair_apply_right 1 A B h (ix2 r k) rfl rfl (ix2 r ⟨k.val - 512, by have := k.isLt; omega⟩) (fun a ha => ?_) ?_
    · match a with
      | ⟨0, _⟩ => rfl
      | ⟨1, _⟩ => exact absurd rfl ha
    · show k.val - 512 + 512 = k.val
      omega

/-- Four tiles of 128 rows, one below the other, read at one entry: `f` is the column they make. -/
theorem cat_tiles (T₀ T₁ T₂ T₃ : (⟨2, ![128, 512]⟩ : Shape).Idx → EReal)
    (h : Shape.Concatenates [⟨2, ![128, 512]⟩, ⟨2, ![128, 512]⟩, ⟨2, ![128, 512]⟩, ⟨2, ![128, 512]⟩] ⟨2, ![512, 512]⟩ 0)
    (f : Fin 512 → EReal) (k : Fin 512)
    (h₀ : ∀ q : Fin 128, T₀ (ix2 q k) = f ⟨0 + q.val, by omega⟩) (h₁ : ∀ q : Fin 128, T₁ (ix2 q k) = f ⟨128 + q.val, by omega⟩)
    (h₂ : ∀ q : Fin 128, T₂ (ix2 q k) = f ⟨256 + q.val, by omega⟩) (h₃ : ∀ q : Fin 128, T₃ (ix2 q k) = f ⟨384 + q.val, by omega⟩)
    (p : Fin 512) :
    concatenate ⟨2, ![512, 512]⟩ 0 [⟨⟨2, ![128, 512]⟩, T₀⟩, ⟨⟨2, ![128, 512]⟩, T₁⟩, ⟨⟨2, ![128, 512]⟩, T₂⟩, ⟨⟨2, ![128, 512]⟩, T₃⟩] h (ix2 p k) = f p := by
  have hp := p.isLt
  have key : ∀ (i : ℕ) (hi : i < 4) (T : (⟨2, ![128, 512]⟩ : Shape).Idx → EReal) (pre : ℕ) (q : Fin 128) (hq : pre + q.val = p.val)
      (hT : [(⟨⟨2, ![128, 512]⟩, T₀⟩ : (s : Shape) × (s.Idx → EReal)), ⟨⟨2, ![128, 512]⟩, T₁⟩, ⟨⟨2, ![128, 512]⟩, T₂⟩, ⟨⟨2, ![128, 512]⟩, T₃⟩][i]'hi = ⟨⟨2, ![128, 512]⟩, T⟩)
      (hpre : ((([(⟨⟨2, ![128, 512]⟩, T₀⟩ : (s : Shape) × (s.Idx → EReal)), ⟨⟨2, ![128, 512]⟩, T₁⟩, ⟨⟨2, ![128, 512]⟩, T₂⟩, ⟨⟨2, ![128, 512]⟩, T₃⟩].take i).map (·.1)).map
        fun s => if h : s.rank = (⟨2, ![512, 512]⟩ : Shape).rank then s.size ((0 : Fin (⟨2, ![512, 512]⟩ : Shape).rank).cast h.symm) else 0).sum = pre),
      concatenate ⟨2, ![512, 512]⟩ 0 [⟨⟨2, ![128, 512]⟩, T₀⟩, ⟨⟨2, ![128, 512]⟩, T₁⟩, ⟨⟨2, ![128, 512]⟩, T₂⟩, ⟨⟨2, ![128, 512]⟩, T₃⟩] h (ix2 p k) = T (ix2 q k) := by
    intro i hi T pre q hq hT hpre
    refine concatenate_apply_piece 0 [⟨⟨2, ![128, 512]⟩, T₀⟩, ⟨⟨2, ![128, 512]⟩, T₁⟩, ⟨⟨2, ![128, 512]⟩, T₂⟩, ⟨⟨2, ![128, 512]⟩, T₃⟩] h (ix2 p k) i hi _ T hT rfl pre hpre (ix2 q k) (fun b hb => ?_) hq
    match b with
    | ⟨0, _⟩ => exact absurd rfl hb
    | ⟨1, _⟩ => rfl
  by_cases l₁ : p.val < 128
  · exact (key 0 (by decide) T₀ 0 ⟨p.val, l₁⟩ (Nat.zero_add _) rfl rfl).trans ((h₀ _).trans (congrArg f (Fin.ext (Nat.zero_add _))))
  by_cases l₂ : p.val < 256
  · exact (key 1 (by decide) T₁ 128 ⟨p.val - 128, by omega⟩ (by show 128 + (p.val - 128) = p.val; omega) rfl rfl).trans
      ((h₁ _).trans (congrArg f (Fin.ext (by show 128 + (p.val - 128) = p.val; omega))))
  by_cases l₃ : p.val < 384
  · exact (key 2 (by decide) T₂ 256 ⟨p.val - 256, by omega⟩ (by show 256 + (p.val - 256) = p.val; omega) rfl rfl).trans
      ((h₂ _).trans (congrArg f (Fin.ext (by show 256 + (p.val - 256) = p.val; omega))))
  · exact (key 3 (by decide) T₃ 384 ⟨p.val - 384, by omega⟩ (by show 384 + (p.val - 384) = p.val; omega) rfl rfl).trans
      ((h₃ _).trans (congrArg f (Fin.ext (by show 384 + (p.val - 384) = p.val; omega))))

/-- A reference's MLP of all rows, read at one entry: `H` holds the normed rows and `Z` zeros. -/
theorem host_mlp {n : ℕ} (Y H : FVec Ideal ⟨2, ![n, 1024]⟩ .f32) (Z : FVec Ideal ⟨2, ![n, 4096]⟩ .f32) (g : Fin 1024 → EReal)
    (Wu : FVec Ideal ⟨2, ![1024, 4096]⟩ .f32) (Wd : FVec Ideal ⟨2, ![4096, 1024]⟩ .f32)
    (hH : ∀ r k, H (ix2 r k) = normRow (fun k => Y (ix2 r k)) g k) (hZ : ∀ r f, Z (ix2 r f) = 0) (r : Fin n) (c : Fin 1024) :
    addf Y (Host.dotGeneral (DotDims.plain n 4096 1024) none
        (mulf (maximumf (Host.dotGeneral (DotDims.plain n 1024 4096) none H Wu) Z)
          (maximumf (Host.dotGeneral (DotDims.plain n 1024 4096) none H Wu) Z)) Wd) (ix2 r c)
      = mlpRow (fun k => Y (ix2 r k)) g (fun k f => Wu (ix2 k f)) (fun f c => Wd (ix2 f c)) c := by
  rw [addf_apply, hostDot_apply]
  refine congrArg (Y (ix2 r c) + ·) (Finset.sum_congr rfl fun f _ => congrArg (· * Wd (ix2 f c)) ?_)
  show max (Host.dotGeneral (DotDims.plain n 1024 4096) none H Wu (ix2 r f)) (Z (ix2 r f)) * max (Host.dotGeneral (DotDims.plain n 1024 4096) none H Wu (ix2 r f)) (Z (ix2 r f)) = _
  rw [hZ, hostDot_apply]
  refine congrArg relu2 (Finset.sum_congr rfl fun k _ => congrArg (· * Wu (ix2 k f)) (hH r k))

/-! ## The 4096 hidden columns in four tiles of 1024 -/

/-- A tile of hidden values, read at one entry. -/
theorem kernel_relu2 {n : ℕ} (H : FVec Ideal ⟨2, ![n, 1024]⟩ .bf16) (W : FVec Ideal ⟨2, ![1024, 1024]⟩ .bf16) (r : Fin n) (f : Fin 1024) :
    mulf (maximumf (matmul (DotDims.plain n 1024 1024) none H W (constant (F := Ideal) ⟨2, ![n, 1024]⟩ .f32 0x00000000#32))
        (broadcast ⟨2, ![n, 1024]⟩ (Scalar.ofBits (F := Ideal) .f32 0x00000000#32)))
      (maximumf (matmul (DotDims.plain n 1024 1024) none H W (constant (F := Ideal) ⟨2, ![n, 1024]⟩ .f32 0x00000000#32))
        (broadcast ⟨2, ![n, 1024]⟩ (Scalar.ofBits (F := Ideal) .f32 0x00000000#32))) (ix2 r f)
      = relu2 (mulRow (fun k => H (ix2 r k)) (fun k f => W (ix2 k f)) f) := by
  rw [← matmul_apply H W r f]
  show max _ (Ideal.ofBits .f32 0x00000000#32) * max _ (Ideal.ofBits .f32 0x00000000#32) = max _ _ * max _ _
  rw [Ideal.ofBits_zero_f32]

/-- A sum over 4096 columns is the sum of its four tiles of 1024. -/
theorem sum_tiles (f : Fin 4096 → EReal) :
    ∑ k, f k = ∑ k : Fin 1024, f ⟨0 + k.val, by omega⟩ + ∑ k : Fin 1024, f ⟨1024 + k.val, by omega⟩
      + ∑ k : Fin 1024, f ⟨2048 + k.val, by omega⟩ + ∑ k : Fin 1024, f ⟨3072 + k.val, by omega⟩ := by
  have e3 := Fin.sum_univ_add (a := 3072) (b := 1024) f
  have e2 := Fin.sum_univ_add (a := 2048) (b := 1024) fun k => f (Fin.castAdd 1024 k)
  have e1 := Fin.sum_univ_add (a := 1024) (b := 1024) fun k => f (Fin.castAdd 1024 (Fin.castAdd 1024 k))
  refine e3.trans ?_
  rw [e2, e1]
  refine congrArg₂ (· + ·) (congrArg₂ (· + ·) (congrArg₂ (· + ·) ?_ rfl) rfl) rfl
  exact Finset.sum_congr rfl fun k _ => congrArg f (Fin.ext (Nat.zero_add _).symm)

end Cert.Rows

end
-- ==== Proof.MlpPay.lean ====
/-
  Hand-written, untrusted. What the body of the output projection and MLP stores at one grid point, read at one entry as
  `Rows.mlpRow` of the blocks it loads.
-/
module

public import proofs.«01_k».proof.Proof.Gen.MlpIdeal.Frame
public import proofs.«01_k».proof.Proof.Rows

@[expose] public section

set_option maxRecDepth 16384

noncomputable section

namespace Cert.MlpIdeal.Hand

open Idealize Idealize.ShloMosaic Idealize.ShloMosaic.ValueIdx
open Cert.MlpIdeal Cert.MlpIdeal.Gen Cert.Rows

/-! ## The choice between the two halves of the attention's tiles -/

/-- The bit the body selects the half by, as a function of the grid point. -/
def half (t : ℕ) : BitVec 1 :=
  Scalar.cmpi .slt (Scalar.select
    (Scalar.andi (Scalar.xori (Scalar.cmpi .slt (Scalar.remsi (BitVec.ofNat 32 t) (Scalar.select (Scalar.cmpi .eq 4#32 0#32) 1#32 4#32)) 0#32)
        (Scalar.cmpi .slt (Scalar.select (Scalar.cmpi .eq 4#32 0#32) 1#32 4#32) 0#32))
      (Scalar.cmpi .ne (Scalar.remsi (BitVec.ofNat 32 t) (Scalar.select (Scalar.cmpi .eq 4#32 0#32) 1#32 4#32)) 0#32))
    (Scalar.addi (Scalar.remsi (BitVec.ofNat 32 t) (Scalar.select (Scalar.cmpi .eq 4#32 0#32) 1#32 4#32)) (Scalar.select (Scalar.cmpi .eq 4#32 0#32) 1#32 4#32))
    (Scalar.remsi (BitVec.ofNat 32 t) (Scalar.select (Scalar.cmpi .eq 4#32 0#32) 1#32 4#32))) 2#32

/-- It is set on the first two of every four points. -/
theorem half_eq : ∀ t : Fin 64, half t.val = if t.val % 4 < 2 then 1#1 else 0#1 := by decide +kernel

/-! ## The payloads at one entry -/

theorem pay3_apply (a b : FVec Ideal S512x512 .bf16) (u v : BitVec 32) (w : BitVec 1) (z : BitVec 32) (B : FVec Ideal S512x512 .bf16)
    (X : FVec Ideal S512x1024 .f32) (W : FVec Ideal S1024x1024 .bf16) (r : Fin 512) (j : Fin 1024) :
    k0_pay3 a b u v w z B X W (ix2 r j)
      = projRow (fun k => X (ix2 r k)) (catRow (fun k => Scalar.select (Scalar.cmpi .slt (Scalar.select (Scalar.andi (Scalar.xori (Scalar.cmpi .slt v z)
          (Scalar.cmpi .slt u 0#32)) w) (Scalar.addi v u) v) 2#32) a b (ix2 r k)) (fun k => B (ix2 r k))) (fun k j => W (ix2 k j)) j := by
  unfold k0_pay3
  refine congrArg (X (ix2 r j) + ·) ((matmul_apply _ _ r j).trans (Finset.sum_congr rfl fun k _ => ?_))
  rw [shapeCast_self, shapeCast_self]
  exact congrArg (· * W (ix2 k j)) (host_cat _ _ _ r k)

theorem pay4_apply (a b : FVec Ideal S512x512 .bf16) (u v : BitVec 32) (w : BitVec 1) (z : BitVec 32) (B : FVec Ideal S512x512 .bf16)
    (X : FVec Ideal S512x1024 .f32) (W : FVec Ideal S1024x1024 .bf16) (g : FVec Ideal S1x1024 .f32) (r : Fin 512) (j : Fin 1024) :
    k0_pay4 a b u v w z B X W g (ix2 r j) = normRow (fun k => k0_pay3 a b u v w z B X W (ix2 r k)) (fun k => g (ix2 0 k)) j := by
  unfold k0_pay4
  generalize k0_pay3 a b u v w z B X W = Y
  rw [shapeCast_self]
  exact kernel_norm Y g _ _ _ _ _ _ r j

theorem pay5_apply (a b : FVec Ideal S512x512 .bf16) (u v : BitVec 32) (w : BitVec 1) (z : BitVec 32) (B : FVec Ideal S512x512 .bf16)
    (X : FVec Ideal S512x1024 .f32) (W : FVec Ideal S1024x1024 .bf16) (g : FVec Ideal S1x1024 .f32) (U : FVec Ideal S1024x1024 .bf16) (r : Fin 512) (f : Fin 1024) :
    k0_pay5 a b u v w z B X W g U (ix2 r f) = relu2 (mulRow (fun k => k0_pay4 a b u v w z B X W g (ix2 r k)) (fun k f => U (ix2 k f)) f) := by
  unfold k0_pay5
  generalize k0_pay4 a b u v w z B X W g = H
  rw [shapeCast_self]
  exact kernel_relu2 H U r f

theorem pay7_apply (Y : FVec Ideal S512x1024 .f32) (H P : FVec Ideal S512x1024 .bf16) (D₀ U₁ D₁ U₂ D₂ U₃ D₃ : FVec Ideal S1024x1024 .bf16) (r : Fin 512) (j : Fin 1024) :
    k0_pay7 Y H P D₀ U₁ D₁ U₂ D₂ U₃ D₃ (ix2 r j)
      = Y (ix2 r j) + (∑ f : Fin 1024, P (ix2 r f) * D₀ (ix2 f j))
        + (∑ f : Fin 1024, relu2 (mulRow (fun k => H (ix2 r k)) (fun k f => U₁ (ix2 k f)) f) * D₁ (ix2 f j))
        + (∑ f : Fin 1024, relu2 (mulRow (fun k => H (ix2 r k)) (fun k f => U₂ (ix2 k f)) f) * D₂ (ix2 f j))
        + (∑ f : Fin 1024, relu2 (mulRow (fun k => H (ix2 r k)) (fun k f => U₃ (ix2 k f)) f) * D₃ (ix2 f j)) := by
  unfold k0_pay7
  rw [shapeCast_self, shapeCast_self, shapeCast_self, shapeCast_self, shapeCast_self, shapeCast_self]
  refine congrArg₂ (· + ·) (congrArg₂ (· + ·) (congrArg₂ (· + ·) (congrArg (Y (ix2 r j) + ·) (matmul_apply P D₀ r j)) ?_) ?_) ?_
  · exact (matmul_apply _ D₁ r j).trans (Finset.sum_congr rfl fun f _ => congrArg (· * D₁ (ix2 f j)) (kernel_relu2 H U₁ r f))
  · exact (matmul_apply _ D₂ r j).trans (Finset.sum_congr rfl fun f _ => congrArg (· * D₂ (ix2 f j)) (kernel_relu2 H U₂ r f))
  · exact (matmul_apply _ D₃ r j).trans (Finset.sum_congr rfl fun f _ => congrArg (· * D₃ (ix2 f j)) (kernel_relu2 H U₃ r f))

/-! ## The blocks' tiles -/

/-- Tile `p` of a block of four tiles, as the body casts it to a matrix. -/
theorem tile_apply (x : FVec Ideal S1x4x128x512 .bf16) (o : ℕ) (p : Fin 4) (hp : p.val = o)
    (inb : ∀ a, (![0, o, 0, 0] : Fin 4 → ℕ) a + S1x1x128x512.size a ≤ S1x4x128x512.size a) (h : S1x1x128x512.ShapeCasts S128x512) (q : Fin 128) (k : Fin 512) :
    shapeCast S128x512 (View.ld (Val := Elt Ideal) (e' := .bf16) x (Rect.unit (s := S1x4x128x512) ![0, o, 0, 0] S1x1x128x512.size inb)) h (ix2 q k) = x (ix4 0 p q k) := by
  rw [View.ld_unit]
  refine (shapeCast_apply _ h (ix2 q k) (ix4 0 0 q k) ?_).trans (slice4_axis1_apply o x _ 0 0 q k p (by rw [hp]; rfl))
  rw [Shape.rowMajor_val_four, Shape.rowMajor_val_two]
  show ((0 * 1 + 0) * 128 + q.val) * 512 + k.val = q.val * 512 + k.val
  omega

/-- Columns from `o` of the first weight. -/
theorem cols_apply (x : FVec Ideal S1024x4096 .bf16) (o : ℕ) (ho : o + 1024 ≤ 4096)
    (inb : ∀ a, (![0, o] : Fin 2 → ℕ) a + S1024x1024.size a ≤ S1024x4096.size a) (k f : Fin 1024) :
    View.ld (Val := Elt Ideal) (e' := .bf16) x (Rect.unit (s := S1024x4096) ![0, o] S1024x1024.size inb) (ix2 k f) = x (ix2 k ⟨o + f.val, by omega⟩) := by
  rw [View.ld_unit]
  exact slice2_axis1_apply o x _ k f ⟨o + f.val, by omega⟩ rfl

/-- Rows from `o` of the second weight. -/
theorem rows_apply (x : FVec Ideal S4096x1024 .bf16) (o : ℕ) (ho : o + 1024 ≤ 4096)
    (inb : ∀ a, (![o, 0] : Fin 2 → ℕ) a + S1024x1024.size a ≤ S4096x1024.size a) (f j : Fin 1024) :
    View.ld (Val := Elt Ideal) (e' := .bf16) x (Rect.unit (s := S4096x1024) ![o, 0] S1024x1024.size inb) (ix2 f j) = x (ix2 ⟨o + f.val, by omega⟩ j) := by
  rw [View.ld_unit]
  exact slice2_axis0_apply o x _ f j ⟨o + f.val, by omega⟩ rfl

/-! ## The store -/

theorem hz : (![0, 0] : Fin 2 → Nat) = fun _ => 0 := funext fun a => by fin_cases a <;> rfl

/-- What the body leaves at one entry: `mixed` is the row of the mixed values the body takes from the two halves' tiles. -/
theorem out_apply (i : grid0.Coords) (x0 : FVec Ideal S512x1024 .f32) (x1 x2 : FVec Ideal S1x4x128x512 .bf16) (x3 : FVec Ideal S512x512 .bf16)
    (x4 : FVec Ideal S1024x1024 .bf16) (x5 : FVec Ideal S1x1024 .f32) (x6 : FVec Ideal S1024x4096 .bf16) (x7 : FVec Ideal S4096x1024 .bf16)
    (att : Fin 512 → Fin 512 → EReal)
    (h₁ : (i 0).val % 4 < 2 → ∀ (p : Fin 4) (q : Fin 128) (k : Fin 512), x1 (ix4 0 p q k) = att ⟨128 * p.val + q.val, by omega⟩ k)
    (h₂ : ¬ (i 0).val % 4 < 2 → ∀ (p : Fin 4) (q : Fin 128) (k : Fin 512), x2 (ix4 0 p q k) = att ⟨128 * (3 - p.val) + q.val, by omega⟩ k)
    (r : Fin 512) (j : Fin 1024) :
    out0_8 (F := Ideal) i x0 x1 x2 x3 x4 x5 x6 x7 (ix2 r j)
      = mlpRow (projRow (fun k => x0 (ix2 r k)) (catRow (att r) (fun k => x3 (ix2 r k))) (fun k j => x4 (ix2 k j)))
          (fun k => x5 (ix2 0 k)) (fun k f => x6 (ix2 k f)) (fun f j => x7 (ix2 f j)) j := by
  unfold out0_8
  rw [View.canon_unit_zero hz, View.ld_unit_zero hz, View.ld_unit_zero hz, View.ld_unit_zero hz, View.ld_unit_zero hz]
  have hsel : ∀ k, Scalar.select (half (i 0).val) (k0_pay8 (F := Ideal) i x0 x1 x2 x3 x4 x5 x6 x7) (k0_pay9 (F := Ideal) i x0 x1 x2 x3 x4 x5 x6 x7) (ix2 r k) = att r k := by
    intro k
    rw [half_eq (i 0)]
    by_cases hi : (i 0).val % 4 < 2
    · rw [if_pos hi]
      show k0_pay8 (F := Ideal) i x0 x1 x2 x3 x4 x5 x6 x7 (ix2 r k) = _
      unfold k0_pay8 k0_pay1
      refine cat_tiles _ _ _ _ _ (fun r => att r k) k (fun q => ?_) (fun q => ?_) (fun q => ?_) (fun q => ?_) r
      · exact (tile_apply x1 0 0 rfl _ _ q k).trans (h₁ hi 0 q k)
      · exact (tile_apply x1 1 1 rfl _ _ q k).trans (h₁ hi 1 q k)
      · exact (tile_apply x1 2 2 rfl _ _ q k).trans (h₁ hi 2 q k)
      · exact (tile_apply x1 3 3 rfl _ _ q k).trans (h₁ hi 3 q k)
    · rw [if_neg hi]
      show k0_pay9 (F := Ideal) i x0 x1 x2 x3 x4 x5 x6 x7 (ix2 r k) = _
      unfold k0_pay9 k0_pay2
      refine cat_tiles _ _ _ _ _ (fun r => att r k) k (fun q => ?_) (fun q => ?_) (fun q => ?_) (fun q => ?_) r
      · exact (tile_apply x2 3 3 rfl _ _ q k).trans (h₂ hi 3 q k)
      · exact (tile_apply x2 2 2 rfl _ _ q k).trans (h₂ hi 2 q k)
      · exact (tile_apply x2 1 1 rfl _ _ q k).trans (h₂ hi 1 q k)
      · exact (tile_apply x2 0 0 rfl _ _ q k).trans (h₂ hi 0 q k)
  generalize k0_pay8 (F := Ideal) i x0 x1 x2 x3 x4 x5 x6 x7 = a at hsel ⊢
  generalize k0_pay9 (F := Ideal) i x0 x1 x2 x3 x4 x5 x6 x7 = b at hsel ⊢
  have hy : ∀ k, k0_pay3 a b (Scalar.select (Scalar.cmpi .eq 4#32 0#32) 1#32 4#32)
        (Scalar.remsi (BitVec.ofNat 32 (i 0).val) (Scalar.select (Scalar.cmpi .eq 4#32 0#32) 1#32 4#32))
        (Scalar.cmpi .ne (Scalar.remsi (BitVec.ofNat 32 (i 0).val) (Scalar.select (Scalar.cmpi .eq 4#32 0#32) 1#32 4#32)) 0#32) 0#32 x3 x0 x4 (ix2 r k)
      = projRow (fun k => x0 (ix2 r k)) (catRow (att r) (fun k => x3 (ix2 r k))) (fun k j => x4 (ix2 k j)) k := fun k =>
    (pay3_apply a b _ _ _ _ x3 x0 x4 r k).trans
      (congrArg (fun e => projRow (fun k => x0 (ix2 r k)) (catRow e (fun k => x3 (ix2 r k))) (fun k j => x4 (ix2 k j)) k) (funext hsel))
  generalize projRow (fun k => x0 (ix2 r k)) (catRow (att r) (fun k => x3 (ix2 r k))) (fun k j => x4 (ix2 k j)) = y at hy ⊢
  have hh : ∀ k, k0_pay4 a b (Scalar.select (Scalar.cmpi .eq 4#32 0#32) 1#32 4#32)
        (Scalar.remsi (BitVec.ofNat 32 (i 0).val) (Scalar.select (Scalar.cmpi .eq 4#32 0#32) 1#32 4#32))
        (Scalar.cmpi .ne (Scalar.remsi (BitVec.ofNat 32 (i 0).val) (Scalar.select (Scalar.cmpi .eq 4#32 0#32) 1#32 4#32)) 0#32) 0#32 x3 x0 x4 x5 (ix2 r k)
      = normRow y (fun k => x5 (ix2 0 k)) k := fun k =>
    (pay4_apply a b _ _ _ _ x3 x0 x4 x5 r k).trans (congrArg (fun e => normRow e (fun k => x5 (ix2 0 k)) k) (funext hy))
  have tile : ∀ (o : ℕ) (ho : o + 1024 ≤ 4096) (inb : ∀ a, (![0, o] : Fin 2 → ℕ) a + S1024x1024.size a ≤ S1024x4096.size a)
      (inb' : ∀ a, (![o, 0] : Fin 2 → ℕ) a + S1024x1024.size a ≤ S4096x1024.size a) (e : Fin 1024 → EReal) (he : ∀ k, e k = normRow y (fun k => x5 (ix2 0 k)) k),
      (∑ f : Fin 1024, relu2 (mulRow e (fun k f => View.ld (Val := Elt Ideal) (e' := .bf16) x6 (Rect.unit (s := S1024x4096) ![0, o] S1024x1024.size inb) (ix2 k f)) f)
          * View.ld (Val := Elt Ideal) (e' := .bf16) x7 (Rect.unit (s := S4096x1024) ![o, 0] S1024x1024.size inb') (ix2 f j))
        = ∑ f : Fin 1024, (fun f : Fin 4096 => relu2 (mulRow (normRow y (fun k => x5 (ix2 0 k))) (fun k f => x6 (ix2 k f)) f) * x7 (ix2 f j)) ⟨o + f.val, by omega⟩ := by
    intro o ho inb inb' e he
    obtain rfl := funext he
    refine Finset.sum_congr rfl fun f _ => ?_
    rw [rows_apply x7 o ho]
    refine congrArg (fun s => relu2 s * x7 (ix2 ⟨o + f.val, by omega⟩ j)) (Finset.sum_congr rfl fun k _ => ?_)
    exact congrArg _ (cols_apply x6 o ho inb k f)
  refine (pay7_apply _ _ _ _ _ _ _ _ _ _ r j).trans ?_
  unfold mlpRow
  rw [sum_tiles, ← add_assoc, ← add_assoc, ← add_assoc]
  refine congrArg₂ (· + ·) (congrArg₂ (· + ·) (congrArg₂ (· + ·) (congrArg₂ (· + ·) (hy j) ?_) ?_) ?_) ?_
  · refine Eq.trans (Finset.sum_congr rfl fun f _ => ?_) (tile 0 (by decide) inb_S1024x4096_S1024x1024_0_0 inb_S4096x1024_S1024x1024_0_0 _ hh)
    unfold k0_pay6
    rw [shapeCast_self, pay5_apply]
  · exact tile 1024 (by decide) _ _ _ hh
  · exact tile 2048 (by decide) _ _ _ hh
  · exact tile 3072 (by decide) _ _ _ hh

end Cert.MlpIdeal.Hand

end
-- ==== Proof.MlpRef.lean ====
/-
  Hand-written, untrusted. The reference of the output projection and MLP, read at one entry: `Rows.mlpRow` of the row.
-/
module

public import proofs.«01_k».proof.Proof.Gen.MlpReferenceIdeal.Run
public import proofs.«01_k».proof.Proof.Rows

@[expose] public section

set_option maxRecDepth 16384

noncomputable section

namespace Cert.MlpReferenceIdeal.Hand

open Idealize Idealize.ShloMosaic Idealize.ShloMosaic.ValueIdx
open Cert.MlpReferenceIdeal Cert.MlpReferenceIdeal.Gen Cert.MlpReferenceIdeal.Value Cert.Rows

variable (m : (ℓ : Loc nD τ sig) → Buf (Elt Ideal) ℓ)

/-- Row `r` of the residual stream and of the mixed values, and the weights, as functions of their coordinates. -/
abbrev xRow (c : Dev nD) (r : Fin 32768) : Fin 1024 → EReal := fun k => m ((c.tc : Thread nD τ).loc main_arg0) (ix2 r k)
abbrev attRow (c : Dev nD) (r : Fin 32768) : Fin 512 → EReal := fun k => m ((c.tc : Thread nD τ).loc main_arg1) (ix2 r k)
abbrev recRow (c : Dev nD) (r : Fin 32768) : Fin 512 → EReal := fun k => m ((c.tc : Thread nD τ).loc main_arg2) (ix2 r k)
abbrev wOut (c : Dev nD) : Fin 1024 → Fin 1024 → EReal := fun k j => m ((c.tc : Thread nD τ).loc main_arg3) (ix2 k j)
abbrev gain (c : Dev nD) : Fin 1024 → EReal := fun k => m ((c.tc : Thread nD τ).loc main_arg4) (ix1 k)
abbrev wUp (c : Dev nD) : Fin 1024 → Fin 4096 → EReal := fun k f => m ((c.tc : Thread nD τ).loc main_arg5) (ix2 k f)
abbrev wDown (c : Dev nD) : Fin 4096 → Fin 1024 → EReal := fun f j => m ((c.tc : Thread nD τ).loc main_arg6) (ix2 f j)

/-- The residual stream after the output projection, at one entry. -/
theorem proj_apply (X : FVec Ideal S32768x1024 .f32) (A B : FVec Ideal S32768x512 .f32) (W : FVec Ideal S1024x1024 .f32)
    (h : Shape.Concatenates [S32768x512, S32768x512] S32768x1024 1) (r : Fin 32768) (j : Fin 1024) :
    addf X (Host.dotGeneral dot_S32768x1024_S1024x1024_S32768x1024_1_0_0_1_n_n none (concatenate S32768x1024 1 [⟨S32768x512, A⟩, ⟨S32768x512, B⟩] h) W) (ix2 r j)
      = projRow (fun k => X (ix2 r k)) (catRow (fun k => A (ix2 r k)) (fun k => B (ix2 r k))) (fun k j => W (ix2 k j)) j := by
  refine congrArg (X (ix2 r j) + ·) ((hostDot_apply _ W r j).trans (Finset.sum_congr rfl fun k _ => congrArg (· * W (ix2 k j)) ?_))
  exact host_cat A B h r k

/-- The reference's result at row `r`, column `j`. -/
theorem res_apply (c : Dev nD) (r : Fin 32768) (j : Fin 1024) :
    res_out0 m c (ix2 r j)
      = mlpRow (projRow (xRow m c r) (catRow (attRow m c r) (recRow m c r)) (wOut m c)) (gain m c) (wUp m c) (wDown m c) j := by
  have hy := fun k => proj_apply (m ((c.tc : Thread nD τ).loc main_arg0)) (m ((c.tc : Thread nD τ).loc main_arg1))
    (m ((c.tc : Thread nD τ).loc main_arg2)) (m ((c.tc : Thread nD τ).loc main_arg3)) concatenates_S32768x512_S32768x512_S32768x1024_d1 r k
  unfold res_out0 res_main_v20
  generalize addf (F := Ideal) (φ := .f32) (m ((c.tc : Thread nD τ).loc main_arg0) : FVec Ideal S32768x1024 .f32)
    (Host.dotGeneral dot_S32768x1024_S1024x1024_S32768x1024_1_0_0_1_n_n none (concatenate S32768x1024 1 [⟨S32768x512, (m ((c.tc : Thread nD τ).loc main_arg1))⟩,
      ⟨S32768x512, (m ((c.tc : Thread nD τ).loc main_arg2))⟩] concatenates_S32768x512_S32768x512_S32768x1024_d1) (m ((c.tc : Thread nD τ).loc main_arg3))) = Y at hy ⊢
  refine (host_mlp (n := 32768) Y _ _ (gain m c) (m ((c.tc : Thread nD τ).loc main_arg5)) (m ((c.tc : Thread nD τ).loc main_arg6)) (fun r k => ?_) (fun r f => ?_) r j).trans ?_
  · exact host_norm Y (m ((c.tc : Thread nD τ).loc main_arg4)) (by decide) _ _ _ _ _ _ _ _ r k
  · rw [broadcastInDim_scalar_apply, constant_apply, Ideal.ofBits_zero_f32]
  · exact congrArg (fun y => mlpRow y (gain m c) (wUp m c) (wDown m c) j) (funext hy)

end Cert.MlpReferenceIdeal.Hand

end
-- ==== Proof.MlpValue.lean ====
/-
  Hand-written, untrusted. The output projection and MLP of the prompts: the blocks of the operands at a grid point, read
  off the arguments; the block a point writes back; the whole result; and the agreement with the reference.
-/
module

public import proofs.«01_k».proof.Proof.Gen.MlpIdeal.Value
public import proofs.«01_k».proof.Proof.MlpPay
public import proofs.«01_k».proof.Proof.MlpRef
public import Idealize.ShloMosaic.Lib.Claim
public import proofs.«01_k».proof.Defs

@[expose] public section

set_option maxRecDepth 16384

noncomputable section

namespace Cert.MlpIdeal.Hand

open Idealize Idealize.ShloMosaic Idealize.ShloMosaic.ValueIdx Idealize.ShloMosaic.TcCoe Idealize.SL.Sem
open Idealize.ShloMosaic.Pipeline (Dat)
open Cert.MlpIdeal Cert.MlpIdeal.Gen Cert.MlpIdeal.Value Cert.Rows

variable (m : (ℓ : Loc nD τ sig) → Buf (Elt Ideal) ℓ) (ρ : Dev nD → PrngReg)

/-! ## The arguments as functions of their coordinates -/

abbrev xRow (c : Dev nD) (r : Fin 32768) : Fin 1024 → EReal := fun k => m ((c.tc : Thread nD τ).loc main_arg0) (ix2 r k)
abbrev attRow (c : Dev nD) (r : Fin 32768) : Fin 512 → EReal := fun k => m ((c.tc : Thread nD τ).loc main_arg1) (ix2 r k)
abbrev recRow (c : Dev nD) (r : Fin 32768) : Fin 512 → EReal := fun k => m ((c.tc : Thread nD τ).loc main_arg2) (ix2 r k)
abbrev wOut (c : Dev nD) : Fin 1024 → Fin 1024 → EReal := fun k j => m ((c.tc : Thread nD τ).loc main_arg3) (ix2 k j)
abbrev gain (c : Dev nD) : Fin 1024 → EReal := fun k => m ((c.tc : Thread nD τ).loc main_arg4) (ix1 k)
abbrev wUp (c : Dev nD) : Fin 1024 → Fin 4096 → EReal := fun k f => m ((c.tc : Thread nD τ).loc main_arg5) (ix2 k f)
abbrev wDown (c : Dev nD) : Fin 4096 → Fin 1024 → EReal := fun f j => m ((c.tc : Thread nD τ).loc main_arg6) (ix2 f j)

/-- What the result is shown to hold. -/
def G (c : Dev nD) : FVec Ideal S32768x1024 .f32 := fun i =>
  mlpRow (projRow (xRow m c (i 0)) (catRow (attRow m c (i 0)) (recRow m c (i 0))) (wOut m c)) (gain m c) (wUp m c) (wDown m c) (i 1)

/-! ## The operands as the call finds them -/

/-- The attention in tiles of 128 rows. -/
theorem tiles_apply (c : Dev nD) (b : Fin 16) (s : Fin 16) (p : Fin 128) (k : Fin 512) :
    shapeCast S16x16x128x512 (truncf (F := Ideal) .bf16 (m ((c.tc : Thread nD τ).loc main_arg1) : FVec Ideal S32768x512 .f32) bitsLt_bf16_f32) shapeCasts_S32768x512_S16x16x128x512 (ix4 b s p k)
      = attRow m c ⟨2048 * b.val + 128 * s.val + p.val, by omega⟩ k := by
  refine (shapeCast_apply _ shapeCasts_S32768x512_S16x16x128x512 (ix4 b s p k) (ix2 ⟨2048 * b.val + 128 * s.val + p.val, by omega⟩ k) ?_)
  rw [Shape.rowMajor_val_four, Shape.rowMajor_val_two]
  show (2048 * b.val + 128 * s.val + p.val) * 512 + k.val = ((b.val * 16 + s.val) * 128 + p.val) * 512 + k.val
  omega

/-- The first eight tiles of every sequence. -/
theorem front_apply (c : Dev nD) (b : Fin 16) (s : Fin 8) (p : Fin 128) (k : Fin 512) :
    V m c main_v2 (ix4 b s p k) = attRow m c ⟨2048 * b.val + 128 * s.val + p.val, by omega⟩ k := by
  entry_read
  exact (slice4_axis1_apply 0 _ slices_S16x16x128x512_S16x8x128x512_0_0_0_0 b s p k ⟨s.val, by omega⟩ (Nat.zero_add _).symm).trans
    (tiles_apply m c b ⟨s.val, by omega⟩ p k)

/-- Eight tiles reversed. -/
theorem rev_apply {α : Type} (x : S16x8x128x512.Idx → α) (b : Fin 16) (s : Fin 8) (p : Fin 128) (k : Fin 512) :
    Host.reverse [1] x (ix4 b s p k) = x (ix4 b ⟨7 - s.val, by omega⟩ p k) := by
  refine congrArg x (funext fun a => Fin.ext ?_)
  match a with
  | ⟨0, _⟩ => rfl
  | ⟨1, _⟩ => show 8 - (s.val + 1) = 7 - s.val; omega
  | ⟨2, _⟩ => rfl
  | ⟨3, _⟩ => rfl

/-- The last eight, the last first. -/
theorem back_apply (c : Dev nD) (b : Fin 16) (s : Fin 8) (p : Fin 128) (k : Fin 512) :
    V m c main_v4 (ix4 b s p k) = attRow m c ⟨2048 * b.val + 128 * (15 - s.val) + p.val, by omega⟩ k := by
  entry_read
  refine (rev_apply _ b s p k).trans ?_
  exact (slice4_axis1_apply 8 _ slices_S16x16x128x512_S16x8x128x512_0_8_0_0 b ⟨7 - s.val, by omega⟩ p k ⟨15 - s.val, by omega⟩
    (by show 15 - s.val = 8 + (7 - s.val); omega)).trans (tiles_apply m c b ⟨15 - s.val, by omega⟩ p k)

theorem gain_apply (c : Dev nD) (k : Fin 1024) : V m c main_v7 (ix2 0 k) = gain m c k := by
  entry_read
  exact shapeCast_a_1a_apply _ _ 0 k

/-! ## The grid's index maps -/

theorem idx0 : ∀ t : Fin grid0.N, win0_0.index t 0 = t.val ∧ win0_0.index t 1 = 0 ∧ win0_3.index t 0 = t.val ∧ win0_3.index t 1 = 0
    ∧ win0_8.index t 0 = t.val ∧ win0_8.index t 1 = 0 ∧ (grid0.coords t 0).val = t.val := by decide +kernel
theorem idx1 : ∀ t : Fin grid0.N, win0_1.index t 0 = t.val / 4 ∧ (t.val % 4 < 2 → win0_1.index t 1 = t.val % 4) ∧ win0_1.index t 2 = 0 ∧ win0_1.index t 3 = 0
    ∧ win0_2.index t 0 = t.val / 4 ∧ (¬ t.val % 4 < 2 → win0_2.index t 1 = 3 - t.val % 4) ∧ win0_2.index t 2 = 0 ∧ win0_2.index t 3 = 0 := by decide +kernel
theorem idx4 : ∀ t : Fin grid0.N, win0_4.index t 0 = 0 ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0 := by decide +kernel

theorem ltN (t : Fin cfg0.N) : t.val < 64 := lt_of_lt_of_eq t.isLt N_0

/-! ## The blocks at a grid point -/

/-- The array's row a block's row `r` is, at point `t`. -/
abbrev row (t : Fin cfg0.N) (r : Fin 512) : Fin 32768 := ⟨512 * t.val + r.val, by have := ltN t; omega⟩

theorem blk0_apply (c : Dev nD) (t : Fin cfg0.N) (r : Fin 512) (k : Fin 1024) : iblk m c 0 t (ix2 r k) = xRow m c (row t r) k := by
  have e := idx0 t
  show V m c main_arg0 ((win0_0.rect t).emb (ix2 r k)) = _
  rw [V_main_arg0]
  refine congrArg (m ((c.tc : Thread nD τ).loc main_arg0)) (funext fun a => Fin.ext ?_)
  match a with
  | ⟨0, _⟩ =>
    refine (win0_0.rect_emb_val t (ix2 r k) 0).trans ?_
    show win0_0.index t 0 * 512 + r.val = 512 * t.val + r.val
    rw [e.1]; omega
  | ⟨1, _⟩ => exact win0_0.rect_emb_val_of_index_zero t 1 e.2.1 (ix2 r k)

theorem blk3_apply (c : Dev nD) (t : Fin cfg0.N) (r : Fin 512) (k : Fin 512) : iblk m c 3 t (ix2 r k) = recRow m c (row t r) k := by
  have e := idx0 t
  show V m c main_v5 ((win0_3.rect t).emb (ix2 r k)) = _
  entry_read
  refine congrArg (m ((c.tc : Thread nD τ).loc main_arg2)) (funext fun a => Fin.ext ?_)
  match a with
  | ⟨0, _⟩ =>
    refine (win0_3.rect_emb_val t (ix2 r k) 0).trans ?_
    show win0_3.index t 0 * 512 + r.val = 512 * t.val + r.val
    rw [e.2.2.1]; omega
  | ⟨1, _⟩ => exact win0_3.rect_emb_val_of_index_zero t 1 e.2.2.2.1 (ix2 r k)

theorem blk4_apply (c : Dev nD) (t : Fin cfg0.N) (k j : Fin 1024) : iblk m c 4 t (ix2 k j) = wOut m c k j := by
  have e := idx4 t
  show V m c main_v6 ((win0_4.rect t).emb (ix2 k j)) = _
  entry_read
  refine congrArg (m ((c.tc : Thread nD τ).loc main_arg3)) (funext fun a => Fin.ext ?_)
  match a with
  | ⟨0, _⟩ => exact win0_4.rect_emb_val_of_index_zero t 0 e.1 (ix2 k j)
  | ⟨1, _⟩ => exact win0_4.rect_emb_val_of_index_zero t 1 e.2.1 (ix2 k j)

theorem blk5_apply (c : Dev nD) (t : Fin cfg0.N) (k : Fin 1024) : iblk m c 5 t (ix2 0 k) = gain m c k := by
  have e := idx4 t
  show V m c main_v7 ((win0_5.rect t).emb (ix2 0 k)) = _
  refine Eq.trans (congrArg (V m c main_v7) (funext fun a => Fin.ext ?_)) (gain_apply m c k)
  match a with
  | ⟨0, _⟩ => exact win0_5.rect_emb_val_of_index_zero t 0 e.2.2.1 (ix2 0 k)
  | ⟨1, _⟩ => exact win0_5.rect_emb_val_of_index_zero t 1 e.2.2.2.1 (ix2 0 k)

theorem blk6_apply (c : Dev nD) (t : Fin cfg0.N) (k : Fin 1024) (f : Fin 4096) : iblk m c 6 t (ix2 k f) = wUp m c k f := by
  have e := idx4 t
  show V m c main_v8 ((win0_6.rect t).emb (ix2 k f)) = _
  entry_read
  refine congrArg (m ((c.tc : Thread nD τ).loc main_arg5)) (funext fun a => Fin.ext ?_)
  match a with
  | ⟨0, _⟩ => exact win0_6.rect_emb_val_of_index_zero t 0 e.2.2.2.2.1 (ix2 k f)
  | ⟨1, _⟩ => exact win0_6.rect_emb_val_of_index_zero t 1 e.2.2.2.2.2.1 (ix2 k f)

theorem blk7_apply (c : Dev nD) (t : Fin cfg0.N) (f : Fin 4096) (j : Fin 1024) : iblk m c 7 t (ix2 f j) = wDown m c f j := by
  have e := idx4 t
  show V m c main_v9 ((win0_7.rect t).emb (ix2 f j)) = _
  entry_read
  refine congrArg (m ((c.tc : Thread nD τ).loc main_arg6)) (funext fun a => Fin.ext ?_)
  match a with
  | ⟨0, _⟩ => exact win0_7.rect_emb_val_of_index_zero t 0 e.2.2.2.2.2.2.1 (ix2 f j)
  | ⟨1, _⟩ => exact win0_7.rect_emb_val_of_index_zero t 1 e.2.2.2.2.2.2.2 (ix2 f j)

/-- On the first two of a sequence's four points the front half's block holds the point's four tiles in order, -/
theorem blk1_apply (c : Dev nD) (t : Fin cfg0.N) (ht : t.val % 4 < 2) (p : Fin 4) (q : Fin 128) (k : Fin 512) :
    iblk m c 1 t (ix4 0 p q k) = attRow m c (row t ⟨128 * p.val + q.val, by omega⟩) k := by
  have e := idx1 t
  have hN := ltN t
  show V m c main_v2 ((win0_1.rect t).emb (ix4 0 p q k)) = _
  refine Eq.trans (congrArg (V m c main_v2) (funext fun a => Fin.ext ?_))
    ((front_apply m c ⟨t.val / 4, by omega⟩ ⟨4 * (t.val % 4) + p.val, by omega⟩ q k).trans (congrArg (attRow m c · k) (Fin.ext ?_)))
  · match a with
    | ⟨0, _⟩ =>
      refine (win0_1.rect_emb_val t (ix4 0 p q k) 0).trans ?_
      show win0_1.index t 0 * 1 + 0 = t.val / 4
      rw [e.1]; omega
    | ⟨1, _⟩ =>
      refine (win0_1.rect_emb_val t (ix4 0 p q k) 1).trans ?_
      show win0_1.index t 1 * 4 + p.val = 4 * (t.val % 4) + p.val
      rw [e.2.1 ht]; omega
    | ⟨2, _⟩ => exact win0_1.rect_emb_val_of_index_zero t 2 e.2.2.1 (ix4 0 p q k)
    | ⟨3, _⟩ => exact win0_1.rect_emb_val_of_index_zero t 3 e.2.2.2.1 (ix4 0 p q k)
  · show 2048 * (t.val / 4) + 128 * (4 * (t.val % 4) + p.val) + q.val = 512 * t.val + (128 * p.val + q.val)
    omega

/-- and on the last two the back half's block holds them in reverse. -/
theorem blk2_apply (c : Dev nD) (t : Fin cfg0.N) (ht : ¬ t.val % 4 < 2) (p : Fin 4) (q : Fin 128) (k : Fin 512) :
    iblk m c 2 t (ix4 0 p q k) = attRow m c (row t ⟨128 * (3 - p.val) + q.val, by omega⟩) k := by
  have e := idx1 t
  have hN := ltN t
  show V m c main_v4 ((win0_2.rect t).emb (ix4 0 p q k)) = _
  refine Eq.trans (congrArg (V m c main_v4) (funext fun a => Fin.ext ?_))
    ((back_apply m c ⟨t.val / 4, by omega⟩ ⟨4 * (3 - t.val % 4) + p.val, by omega⟩ q k).trans (congrArg (attRow m c · k) (Fin.ext ?_)))
  · match a with
    | ⟨0, _⟩ =>
      refine (win0_2.rect_emb_val t (ix4 0 p q k) 0).trans ?_
      show win0_2.index t 0 * 1 + 0 = t.val / 4
      rw [e.2.2.2.2.1]; omega
    | ⟨1, _⟩ =>
      refine (win0_2.rect_emb_val t (ix4 0 p q k) 1).trans ?_
      show win0_2.index t 1 * 4 + p.val = 4 * (3 - t.val % 4) + p.val
      rw [e.2.2.2.2.2.1 ht]; omega
    | ⟨2, _⟩ => exact win0_2.rect_emb_val_of_index_zero t 2 e.2.2.2.2.2.2.1 (ix4 0 p q k)
    | ⟨3, _⟩ => exact win0_2.rect_emb_val_of_index_zero t 3 e.2.2.2.2.2.2.2 (ix4 0 p q k)
  · show 2048 * (t.val / 4) + 128 * (15 - (4 * (3 - t.val % 4) + p.val)) + q.val = 512 * t.val + (128 * (3 - p.val) + q.val)
    omega

/-! ## The result -/

/-- Point `t` writes back block `t` of `G`. -/
theorem flushed_eq (c : Dev nD) (t : Fin cfg0.N) :
    (dats m 0 c).flushed 8 t = (win0_8.blk t).view.read (Elt Ideal) (G m c) := by
  refine (flushed8 m c t).trans (funext fun i => ?_)
  have e := idx0 t
  obtain ⟨r, j, rfl⟩ : ∃ (r : Fin 512) (j : Fin 1024), i = (ix2 r j : S512x1024.Idx) := ⟨i 0, i 1, eq_ix2 i⟩
  have hi : ((win0_8.rect t).emb (ix2 r j : S512x1024.Idx) : S32768x1024.Idx) = ix2 (row t r) j := by
    funext a; apply Fin.ext
    match a with
    | ⟨0, _⟩ =>
      refine (win0_8.rect_emb_val t (ix2 r j) 0).trans ?_
      show win0_8.index t 0 * 512 + r.val = 512 * t.val + r.val
      rw [e.2.2.2.2.1]; omega
    | ⟨1, _⟩ => exact win0_8.rect_emb_val_of_index_zero t 1 e.2.2.2.2.2.1 (ix2 r j)
  show out0_8 (F := Ideal) (grid0.coords t) (iblk m c 0 t) (iblk m c 1 t) (iblk m c 2 t) (iblk m c 3 t) (iblk m c 4 t) (iblk m c 5 t) (iblk m c 6 t) (iblk m c 7 t) (ix2 r j)
    = G m c ((win0_8.rect t).emb (ix2 r j : S512x1024.Idx))
  rw [hi]
  have hc : (grid0.coords t 0).val = t.val := e.2.2.2.2.2.2
  refine (out_apply (grid0.coords t) _ _ _ _ _ _ _ _ (fun r => attRow m c (row t r))
    (fun h p q k => blk1_apply m c t (hc ▸ h) p q k) (fun h p q k => blk2_apply m c t (hc ▸ h) p q k) r j).trans ?_
  unfold G
  rw [show (fun k => iblk m c 0 t (ix2 r k)) = xRow m c (row t r) from funext fun k => blk0_apply m c t r k,
    show (fun k => iblk m c 3 t (ix2 r k)) = recRow m c (row t r) from funext fun k => blk3_apply m c t r k,
    show (fun k j => iblk m c 4 t (ix2 k j)) = wOut m c from funext fun k => funext fun j => blk4_apply m c t k j,
    show (fun k => iblk m c 5 t (ix2 0 k)) = gain m c from funext fun k => blk5_apply m c t k,
    show (fun k f => iblk m c 6 t (ix2 k f)) = wUp m c from funext fun k => funext fun f => blk6_apply m c t k f,
    show (fun f j => iblk m c 7 t (ix2 f j)) = wDown m c from funext fun f => funext fun j => blk7_apply m c t f j]

/-- An index is in point `t`'s block when its row is among the block's 512. -/
theorem mem_blk (t : Fin cfg0.N) (i : S32768x1024.Idx) :
    i ∈ ((cfg0.win 8).blk t).view.set ↔ t.val * 512 ≤ (i 0 : Nat) ∧ (i 0 : Nat) < t.val * 512 + 512 := by
  show i ∈ ((View.whole main_v10).slice (win0_8.rect t)).set ↔ _
  rw [View.set_slice_whole, Rect.mem_set_unit]
  have h1 : (i 1 : Nat) < 1024 := (i 1).isLt
  have e := idx0 t
  refine ⟨fun h => ?_, fun h a => ?_⟩
  · have : win0_8.index t 0 * 512 ≤ (i 0 : Nat) ∧ (i 0 : Nat) < win0_8.index t 0 * 512 + 512 := h 0
    rw [e.2.2.2.2.1] at this; exact this
  · match a with
    | ⟨0, _⟩ =>
      show win0_8.index t 0 * 512 ≤ (i 0 : Nat) ∧ (i 0 : Nat) < win0_8.index t 0 * 512 + 512
      rw [e.2.2.2.2.1]; exact h
    | ⟨1, _⟩ =>
      show win0_8.index t 1 * 1024 ≤ (i 1 : Nat) ∧ (i 1 : Nat) < win0_8.index t 1 * 1024 + 1024
      rw [e.2.2.2.2.2.1, Nat.zero_mul, Nat.zero_add]
      exact ⟨Nat.zero_le _, h1⟩

theorem cover (i : S32768x1024.Idx) : ∃ t : Fin cfg0.N, (cfg0.win 8).flush t = true ∧ i ∈ ((cfg0.win 8).blk t).view.set := by
  have h0 : (i 0 : Nat) < 32768 := (i 0).isLt
  have hN : cfg0.N = 64 := N_0
  refine ⟨⟨(i 0 : Nat) / 512, by omega⟩, flush0_8 _, ?_⟩
  rw [mem_blk]
  dsimp only
  omega

/-- So the result array ends holding `G`. -/
theorem final (c : Dev nD) : (dats m 0 c).arrAt 8 cfg0.N = G m c :=
  (dats m 0 c).arrAt_eq_of_cover 8 (G m c) (fun t _ => flushed_eq m c t) cover

end Cert.MlpIdeal.Hand

namespace Cert.Hand

open Idealize Idealize.ShloMosaic Idealize.ShloMosaic.ValueIdx Idealize.ShloMosaic.TcCoe Idealize.SL.Sem

/-- The two programs leave the same result from the same arguments. -/
theorem algebraic_mlp : Cert.algebraic_MlpIdeal_MlpReferenceIdeal (hMlpIdeal := Cert.MlpIdeal.Gen.facts) (hMlpReferenceIdeal := Cert.MlpReferenceIdeal.Gen.facts) := by
  intro m g m' g' _ hargs
  refine ⟨fun c => Cert.MlpIdeal.Hand.G m c, ?_, ?_⟩
  · refine (θ_run _ _ _).mono (fun r h c => ?_) (Cert.MlpIdeal.Value.run_blocks (F := Ideal) m g)
    exact ⟨(h c).1.trans (Cert.MlpIdeal.Hand.final m c), (h c).2⟩
  · refine (θ_run _ _ _).mono (fun r h c => ?_) (Cert.MlpReferenceIdeal.Value.run (F := Ideal) m' g')
    obtain ⟨a0, a1, a2, a3, a4, a5, a6⟩ := hargs c
    refine ⟨(h c).1.trans (funext fun i => ?_), (h c).2⟩
    obtain ⟨r, j, rfl⟩ : ∃ (r : Fin 32768) (j : Fin 1024), i = ix2 r j := ⟨i 0, i 1, eq_ix2 i⟩
    refine (Cert.MlpReferenceIdeal.Hand.res_apply m' c r j).trans ?_
    unfold Cert.MlpReferenceIdeal.Hand.xRow Cert.MlpReferenceIdeal.Hand.attRow Cert.MlpReferenceIdeal.Hand.recRow Cert.MlpReferenceIdeal.Hand.wOut
      Cert.MlpReferenceIdeal.Hand.gain Cert.MlpReferenceIdeal.Hand.wUp Cert.MlpReferenceIdeal.Hand.wDown
    rw [a0, a1, a2, a3, a4, a5, a6]
    rfl

end Cert.Hand

end
-- ==== Proof.InRows.lean ====
/-
  Hand-written, untrusted. The input projection's row functions over the extended reals: the projection at one column, and
  the norm of a head of 64; and the vector and host operations of the projection read at one entry as those functions.
-/
module

public import proofs.«01_k».proof.Proof.Rows

@[expose] public section

set_option maxRecDepth 16384

noncomputable section

namespace Cert.Rows

open Idealize.ShloMosaic Idealize.ShloMosaic.ValueIdx
open scoped BigOperators

/-! ## The functions of one row -/

/-- The projection's weights with a column number that isn't bounded: zero off the matrix. -/
def colAt (W : Fin 1024 → Fin 3400 → EReal) (k : Fin 1024) (j : ℕ) : EReal := if h : j < 3400 then W k ⟨j, h⟩ else 0

/-- Column `j` of a row's projection. -/
def projAt (x : Fin 1024 → EReal) (W : Fin 1024 → Fin 3400 → EReal) (j : ℕ) : EReal := ∑ k, x k * colAt W k j

/-- The root-mean-square norm of a head of 64, scaled by the gains `g`. -/
def headNorm (v g : Fin 64 → EReal) : Fin 64 → EReal := fun d =>
  v d * Ideal.rsqrt (Ideal.div (∑ k, v k * v k) (Ideal.ofBits .f32 0x42800000#32) + Ideal.ofBits .f32 0x358637BD#32) * g d

/-- Entry `j` of the heads that begin at column `o` of the projection `y`, each of them normed. -/
def headsAt (y : ℕ → EReal) (o : ℕ) (g : Fin 64 → EReal) (j : ℕ) : EReal :=
  headNorm (fun k => y (o + 64 * (j / 64) + k.val)) g ⟨j % 64, Nat.mod_lt _ (by decide)⟩

theorem colAt_of (W : Fin 1024 → Fin 3400 → EReal) (k : Fin 1024) (j : ℕ) (h : j < 3400) : colAt W k j = W k ⟨j, h⟩ := by
  unfold colAt
  rw [dif_pos h]

theorem mulRow_projAt (x : Fin 1024 → EReal) (W : Fin 1024 → Fin 3400 → EReal) (j : Fin 3400) : mulRow x W j = projAt x W j.val :=
  Finset.sum_congr rfl fun k _ => congrArg (x k * ·) (colAt_of W k j.val j.isLt).symm

/-- A head's entries at their place: head `b`, entry `d`. -/
theorem headsAt_eq (y : ℕ → EReal) (o : ℕ) (g : Fin 64 → EReal) (b : ℕ) (d : Fin 64) (j : ℕ) (hj : j = 64 * b + d.val) :
    headNorm (fun k => y (o + 64 * b + k.val)) g d = headsAt y o g j := by
  have h1 : j / 64 = b := by have := d.isLt; omega
  have h2 : j % 64 = d.val := by have := d.isLt; omega
  unfold headsAt
  rw [h1]
  exact congrArg (headNorm _ g) (Fin.ext h2.symm)

/-! ## The ten results, from the rows `y` of the projection -/

/-- The normed keys of the attention and of the indexer, by rows; -/
def gAk (y : Fin 32768 → ℕ → EReal) (g : Fin 64 → EReal) : FVec Ideal ⟨2, ![32768, 128]⟩ .bf16 := fun i => headsAt (y (i 0)) 512 g (i 1).val
def gIk (y : Fin 32768 → ℕ → EReal) (g : Fin 64 → EReal) : FVec Ideal ⟨2, ![32768, 64]⟩ .bf16 := fun i => headsAt (y (i 0)) 1280 g (i 1).val
/-- the recurrent mixer's operands; -/
def gRec (y : Fin 32768 → ℕ → EReal) : FVec Ideal ⟨2, ![32768, 2048]⟩ .f32 := fun i => y (i 0) (1352 + (i 1).val)
/-- the scaled queries, the indexer's queries, the values and the indexer's scaled weights, by columns; -/
def gAqt (y : Fin 32768 → ℕ → EReal) (g : Fin 64 → EReal) : FVec Ideal ⟨2, ![512, 32768]⟩ .bf16 := fun i =>
  headsAt (y (i 1)) 0 g (i 0).val * Ideal.ofBits .f32 0x3E38AA3B#32
def gIqt (y : Fin 32768 → ℕ → EReal) : FVec Ideal ⟨2, ![512, 32768]⟩ .bf16 := fun i => y (i 1) (768 + (i 0).val)
def gAvt (y : Fin 32768 → ℕ → EReal) : FVec Ideal ⟨2, ![128, 32768]⟩ .bf16 := fun i => y (i 1) (640 + (i 0).val)
def gIwt (y : Fin 32768 → ℕ → EReal) : FVec Ideal ⟨2, ![8, 32768]⟩ .f32 := fun i => y (i 1) (1344 + (i 0).val) * Ideal.ofBits .f32 0x3D3504F3#32
/-- the row of the prompts that position `s` of sequence `b` is, -/
abbrev seqRow (b : Fin 16) (s : Fin 2048) : Fin 32768 := ⟨2048 * b.val + s.val, by omega⟩
/-- and the new keys, values and indexer keys by sequence. -/
def gAks (y : Fin 32768 → ℕ → EReal) (g : Fin 64 → EReal) : FVec Ideal ⟨3, ![16, 128, 2048]⟩ .f32 := fun i => headsAt (y (seqRow (i 0) (i 2))) 512 g (i 1).val
def gAvs (y : Fin 32768 → ℕ → EReal) : FVec Ideal ⟨3, ![16, 128, 2048]⟩ .f32 := fun i => y (seqRow (i 0) (i 2)) (640 + (i 1).val)
def gIks (y : Fin 32768 → ℕ → EReal) (g : Fin 64 → EReal) : FVec Ideal ⟨3, ![16, 64, 2048]⟩ .f32 := fun i => headsAt (y (seqRow (i 0) (i 2))) 1280 g (i 1).val

/-- A head in the first 64 columns of its part is the part's head. -/
theorem headNorm_headsAt (y : ℕ → EReal) (o : ℕ) (g : Fin 64 → EReal) (d : Fin 64) : headNorm (fun k => y (o + k.val)) g d = headsAt y o g d.val :=
  headsAt_eq y o g 0 d d.val (by omega)

/-- A change of float format changes no value. -/
theorem truncf_eq {s : Shape} (x : FVec Ideal s .f32) (h : FTy.bits .bf16 < FTy.bits .f32) (i : s.Idx) : truncf (F := Ideal) .bf16 x h i = x i := rfl

/-! ## The kernel's norm of a head laid out down the rows -/

theorem lift_col {n : ℕ} (h : (⟨2, ![64, n]⟩ : Shape).Reduces [0] ⟨1, ![n]⟩) (r : Fin n) (k : Fin 64) :
    h.lift (ix1 r) k = ix2 k r := by
  funext a; apply Fin.ext
  match a with
  | ⟨0, _⟩ => rfl
  | ⟨1, _⟩ => rfl

theorem kernel_sum_col {n : ℕ} (X : FVec Ideal ⟨2, ![64, n]⟩ .f32) (h : (⟨2, ![64, n]⟩ : Shape).Reduces [0] ⟨1, ![n]⟩)
    (hf : FKind.Formats .f32) (ha : (0x00000000#32 : BitVec 32) = FKind.add.neutral .f32 hf) (r : Fin n) :
    multiReduction .add [0] ⟨1, ![n]⟩ X 0x00000000#32 h hf ha (ix1 r) = ∑ k : Fin 64, X (ix2 k r) := by
  refine (Ideal.multiReduction_add_single X _ h hf ha (ix1 r)).trans ?_
  exact Finset.sum_congr rfl fun k _ => congrArg X (lift_col h r k)

theorem kernel_norm_col {n : ℕ} (X : FVec Ideal ⟨2, ![64, n]⟩ .f32) (g : FVec Ideal ⟨2, ![64, 1]⟩ .f32)
    (h : (⟨2, ![64, n]⟩ : Shape).Reduces [0] ⟨1, ![n]⟩) (hf : FKind.Formats .f32)
    (ha : (0x00000000#32 : BitVec 32) = FKind.add.neutral .f32 hf) (hc : (⟨1, ![n]⟩ : Shape).ShapeCasts ⟨2, ![1, n]⟩)
    (hb : (⟨2, ![1, n]⟩ : Shape).Broadcasts ⟨2, ![64, n]⟩) (hg : (⟨2, ![64, 1]⟩ : Shape).Broadcasts ⟨2, ![64, n]⟩)
    (d : Fin 64) (r : Fin n) :
    mulf (mulf X (broadcastTo ⟨2, ![64, n]⟩ (rsqrt (addf (divf
        (shapeCast ⟨2, ![1, n]⟩ (multiReduction .add [0] ⟨1, ![n]⟩ (mulf X X) 0x00000000#32 h hf ha) hc)
        (broadcast ⟨2, ![1, n]⟩ (Scalar.ofBits (F := Ideal) .f32 0x42800000#32)))
        (broadcast ⟨2, ![1, n]⟩ (Scalar.ofBits (F := Ideal) .f32 0x358637BD#32)))) hb)) (broadcastTo ⟨2, ![64, n]⟩ g hg) (ix2 d r)
      = headNorm (fun k => X (ix2 k r)) (fun k => g (ix2 k 0)) d := by
  rw [mulf_apply, mulf_apply, bcast_col, broadcastTo_1b_ab_apply]
  show X (ix2 d r) * Ideal.rsqrt (Ideal.div (shapeCast ⟨2, ![1, n]⟩ (multiReduction .add [0] ⟨1, ![n]⟩ (mulf X X) 0x00000000#32 h hf ha) hc (ix2 0 r))
    (Ideal.ofBits .f32 0x42800000#32) + Ideal.ofBits .f32 0x358637BD#32) * g (ix2 d 0) = _
  rw [shapeCast_a_1a_apply, kernel_sum_col]
  rfl

/-! ## The norm of a head along a row -/

theorem lift_row64 {n : ℕ} (h : (⟨2, ![n, 64]⟩ : Shape).Reduces [1] ⟨1, ![n]⟩) (r : Fin n) (k : Fin 64) :
    h.lift (ix1 r) k = ix2 r k := by
  funext a; apply Fin.ext
  match a with
  | ⟨0, _⟩ => rfl
  | ⟨1, _⟩ => rfl

theorem kernel_norm64 {n : ℕ} (X : FVec Ideal ⟨2, ![n, 64]⟩ .f32) (g : FVec Ideal ⟨2, ![1, 64]⟩ .f32)
    (h : (⟨2, ![n, 64]⟩ : Shape).Reduces [1] ⟨1, ![n]⟩) (hf : FKind.Formats .f32)
    (ha : (0x00000000#32 : BitVec 32) = FKind.add.neutral .f32 hf) (hc : (⟨1, ![n]⟩ : Shape).ShapeCasts ⟨2, ![n, 1]⟩)
    (hb : (⟨2, ![n, 1]⟩ : Shape).Broadcasts ⟨2, ![n, 64]⟩) (hg : (⟨2, ![1, 64]⟩ : Shape).Broadcasts ⟨2, ![n, 64]⟩)
    (r : Fin n) (d : Fin 64) :
    mulf (mulf X (broadcastTo ⟨2, ![n, 64]⟩ (rsqrt (addf (divf
        (shapeCast ⟨2, ![n, 1]⟩ (multiReduction .add [1] ⟨1, ![n]⟩ (mulf X X) 0x00000000#32 h hf ha) hc)
        (broadcast ⟨2, ![n, 1]⟩ (Scalar.ofBits (F := Ideal) .f32 0x42800000#32)))
        (broadcast ⟨2, ![n, 1]⟩ (Scalar.ofBits (F := Ideal) .f32 0x358637BD#32)))) hb)) (broadcastTo ⟨2, ![n, 64]⟩ g hg) (ix2 r d)
      = headNorm (fun k => X (ix2 r k)) (fun k => g (ix2 0 k)) d := by
  rw [mulf_apply, mulf_apply, bcast_col, broadcastTo_1b_ab_apply]
  show X (ix2 r d) * Ideal.rsqrt (Ideal.div (shapeCast ⟨2, ![n, 1]⟩ (multiReduction .add [1] ⟨1, ![n]⟩ (mulf X X) 0x00000000#32 h hf ha) hc (ix2 r 0))
    (Ideal.ofBits .f32 0x42800000#32) + Ideal.ofBits .f32 0x358637BD#32) * g (ix2 0 d) = _
  rw [shapeCast_a_a1_apply, show multiReduction .add [1] ⟨1, ![n]⟩ (mulf X X) 0x00000000#32 h hf ha (ix1 r) = ∑ k : Fin 64, mulf X X (ix2 r k) from
    (Ideal.multiReduction_add_single (mulf X X) _ h hf ha (ix1 r)).trans (Finset.sum_congr rfl fun k _ => congrArg (mulf X X) (lift_row64 h r k))]
  rfl

theorem host_sum64 {n : ℕ} (X : FVec Ideal ⟨2, ![n, 64]⟩ .f32) (h' : (⟨2, ![n, 64]⟩ : Shape).ReducesTo [1] ⟨1, ![n]⟩)
    (h : (⟨2, ![n, 64]⟩ : Shape).Reduces [1] ⟨1, ![n]⟩) (hu : 0 < (⟨0, ![]⟩ : Shape).numel) (r : Fin n) :
    Host.reduceAdd X (constant (F := Ideal) ⟨0, ![]⟩ .f32 0x00000000#32) h' hu (ix1 r) = ∑ k : Fin 64, X (ix2 r k) := by
  rw [hostReduceAdd_apply, constant_apply, Ideal.ofBits_zero_f32, Ideal.hostReduceAdd_single h' h, zero_add]
  exact Finset.sum_congr rfl fun k _ => congrArg X (lift_row64 h r k)

theorem host_norm64 {n : ℕ} (X : FVec Ideal ⟨2, ![n, 64]⟩ .f32) (g : FVec Ideal ⟨1, ![64]⟩ .f32)
    (h : (⟨2, ![n, 64]⟩ : Shape).Reduces [1] ⟨1, ![n]⟩) (h' : (⟨2, ![n, 64]⟩ : Shape).ReducesTo [1] ⟨1, ![n]⟩)
    (hu : 0 < (⟨0, ![]⟩ : Shape).numel) (h0 : (⟨1, ![n]⟩ : Shape).BroadcastsInDim ⟨2, ![n, 1]⟩ ![0])
    (hs hs' : (⟨0, ![]⟩ : Shape).BroadcastsInDim ⟨2, ![n, 1]⟩ ![])
    (hb : (⟨2, ![n, 1]⟩ : Shape).BroadcastsInDim ⟨2, ![n, 64]⟩ ![0, 1])
    (h₁ : (⟨1, ![64]⟩ : Shape).BroadcastsInDim ⟨2, ![1, 64]⟩ ![1])
    (h₂ : (⟨2, ![1, 64]⟩ : Shape).BroadcastsInDim ⟨2, ![n, 64]⟩ ![0, 1]) (r : Fin n) (d : Fin 64) :
    mulf (mulf X (broadcastInDim ⟨2, ![n, 64]⟩ ![0, 1] hb (Host.rsqrt (addf (Host.divf
        (broadcastInDim ⟨2, ![n, 1]⟩ ![0] h0 (Host.reduceAdd (mulf X X) (constant (F := Ideal) ⟨0, ![]⟩ .f32 0x00000000#32) h' hu))
        (broadcastInDim ⟨2, ![n, 1]⟩ ![] hs (constant (F := Ideal) ⟨0, ![]⟩ .f32 0x42800000#32)))
        (broadcastInDim ⟨2, ![n, 1]⟩ ![] hs' (constant (F := Ideal) ⟨0, ![]⟩ .f32 0x358637BD#32))))))
        (broadcastInDim ⟨2, ![n, 64]⟩ ![0, 1] h₂ (broadcastInDim ⟨2, ![1, 64]⟩ ![1] h₁ g)) (ix2 r d)
      = headNorm (fun k => X (ix2 r k)) (fun k => g (ix1 k)) d := by
  rw [mulf_apply, mulf_apply, hbcast_col, hbcast_gain]
  show X (ix2 r d) * Ideal.rsqrt (Ideal.div (broadcastInDim ⟨2, ![n, 1]⟩ ![0] h0 (Host.reduceAdd (mulf X X) (constant (F := Ideal) ⟨0, ![]⟩ .f32 0x00000000#32) h' hu) (ix2 r 0))
    (Ideal.ofBits .f32 0x42800000#32) + Ideal.ofBits .f32 0x358637BD#32) * g (ix1 d) = _
  rw [hbcast_toCol, host_sum64 _ h' h]
  rfl

/-! ## The norm of every head of a row, the heads on an axis of their own -/

theorem lift_head {n H : ℕ} (h : (⟨3, ![n, H, 64]⟩ : Shape).Reduces [2] ⟨2, ![n, H]⟩) (r : Fin n) (b : Fin H) (k : Fin 64) :
    h.lift (ix2 r b) k = ix3 r b k := by
  funext a; apply Fin.ext
  match a with
  | ⟨0, _⟩ => rfl
  | ⟨1, _⟩ => rfl
  | ⟨2, _⟩ => rfl

theorem host_sum_head {n H : ℕ} (X : FVec Ideal ⟨3, ![n, H, 64]⟩ .f32) (h' : (⟨3, ![n, H, 64]⟩ : Shape).ReducesTo [2] ⟨2, ![n, H]⟩)
    (h : (⟨3, ![n, H, 64]⟩ : Shape).Reduces [2] ⟨2, ![n, H]⟩) (hu : 0 < (⟨0, ![]⟩ : Shape).numel) (r : Fin n) (b : Fin H) :
    Host.reduceAdd X (constant (F := Ideal) ⟨0, ![]⟩ .f32 0x00000000#32) h' hu (ix2 r b) = ∑ k : Fin 64, X (ix3 r b k) := by
  rw [hostReduceAdd_apply, constant_apply, Ideal.ofBits_zero_f32, Ideal.hostReduceAdd_single h' h, zero_add]
  exact Finset.sum_congr rfl fun k _ => congrArg X (lift_head h r b k)

theorem hbcast_head {n H N : ℕ} {α : Type} (v : (⟨3, ![n, H, 1]⟩ : Shape).Idx → α)
    (h : (⟨3, ![n, H, 1]⟩ : Shape).BroadcastsInDim ⟨3, ![n, H, N]⟩ ![0, 1, 2]) (r : Fin n) (b : Fin H) (d : Fin N) :
    broadcastInDim ⟨3, ![n, H, N]⟩ ![0, 1, 2] h v (ix3 r b d) = v (ix3 r b 0) :=
  broadcastInDim_apply ![0, 1, 2] h v (ix3 r b d) (ix3 r b 0) fun a => by
    match a with
    | ⟨0, _⟩ =>
      show r.val = if n = 1 then 0 else r.val
      have := r.isLt
      split <;> omega
    | ⟨1, _⟩ =>
      show b.val = if H = 1 then 0 else b.val
      have := b.isLt
      split <;> omega
    | ⟨2, _⟩ => rfl

theorem hbcast_toHead {n H : ℕ} {α : Type} (v : (⟨2, ![n, H]⟩ : Shape).Idx → α)
    (h : (⟨2, ![n, H]⟩ : Shape).BroadcastsInDim ⟨3, ![n, H, 1]⟩ ![0, 1]) (r : Fin n) (b : Fin H) (d : Fin 1) :
    broadcastInDim ⟨3, ![n, H, 1]⟩ ![0, 1] h v (ix3 r b d) = v (ix2 r b) :=
  broadcastInDim_apply ![0, 1] h v (ix3 r b d) (ix2 r b) fun a => by
    match a with
    | ⟨0, _⟩ =>
      show r.val = if n = 1 then 0 else r.val
      have := r.isLt
      split <;> omega
    | ⟨1, _⟩ =>
      show b.val = if H = 1 then 0 else b.val
      have := b.isLt
      split <;> omega

theorem hbcast_headGain {n H N : ℕ} {α : Type} (v : (⟨1, ![N]⟩ : Shape).Idx → α)
    (h₁ : (⟨1, ![N]⟩ : Shape).BroadcastsInDim ⟨3, ![1, 1, N]⟩ ![2])
    (h₂ : (⟨3, ![1, 1, N]⟩ : Shape).BroadcastsInDim ⟨3, ![n, H, N]⟩ ![0, 1, 2]) (r : Fin n) (b : Fin H) (d : Fin N) :
    broadcastInDim ⟨3, ![n, H, N]⟩ ![0, 1, 2] h₂ (broadcastInDim ⟨3, ![1, 1, N]⟩ ![2] h₁ v) (ix3 r b d) = v (ix1 d) := by
  refine (broadcastInDim_apply ![0, 1, 2] h₂ _ (ix3 r b d) (ix3 0 0 d) fun a => ?_).trans
    (broadcastInDim_apply ![2] h₁ v (ix3 0 0 d) (ix1 d) fun a => ?_)
  · match a with
    | ⟨0, _⟩ => rfl
    | ⟨1, _⟩ => rfl
    | ⟨2, _⟩ =>
      show d.val = if N = 1 then 0 else d.val
      have := d.isLt
      split <;> omega
  · match a with
    | ⟨0, _⟩ =>
      show d.val = if N = 1 then 0 else d.val
      have := d.isLt
      split <;> omega

theorem host_heads {n H : ℕ} (A : FVec Ideal ⟨3, ![n, H, 64]⟩ .f32) (g : FVec Ideal ⟨1, ![64]⟩ .f32)
    (h : (⟨3, ![n, H, 64]⟩ : Shape).Reduces [2] ⟨2, ![n, H]⟩) (h' : (⟨3, ![n, H, 64]⟩ : Shape).ReducesTo [2] ⟨2, ![n, H]⟩)
    (hu : 0 < (⟨0, ![]⟩ : Shape).numel) (h0 : (⟨2, ![n, H]⟩ : Shape).BroadcastsInDim ⟨3, ![n, H, 1]⟩ ![0, 1])
    (hs hs' : (⟨0, ![]⟩ : Shape).BroadcastsInDim ⟨3, ![n, H, 1]⟩ ![])
    (hb : (⟨3, ![n, H, 1]⟩ : Shape).BroadcastsInDim ⟨3, ![n, H, 64]⟩ ![0, 1, 2])
    (h₁ : (⟨1, ![64]⟩ : Shape).BroadcastsInDim ⟨3, ![1, 1, 64]⟩ ![2])
    (h₂ : (⟨3, ![1, 1, 64]⟩ : Shape).BroadcastsInDim ⟨3, ![n, H, 64]⟩ ![0, 1, 2]) (r : Fin n) (b : Fin H) (d : Fin 64) :
    mulf (mulf A (broadcastInDim ⟨3, ![n, H, 64]⟩ ![0, 1, 2] hb (Host.rsqrt (addf (Host.divf
        (broadcastInDim ⟨3, ![n, H, 1]⟩ ![0, 1] h0 (Host.reduceAdd (mulf A A) (constant (F := Ideal) ⟨0, ![]⟩ .f32 0x00000000#32) h' hu))
        (broadcastInDim ⟨3, ![n, H, 1]⟩ ![] hs (constant (F := Ideal) ⟨0, ![]⟩ .f32 0x42800000#32)))
        (broadcastInDim ⟨3, ![n, H, 1]⟩ ![] hs' (constant (F := Ideal) ⟨0, ![]⟩ .f32 0x358637BD#32))))))
        (broadcastInDim ⟨3, ![n, H, 64]⟩ ![0, 1, 2] h₂ (broadcastInDim ⟨3, ![1, 1, 64]⟩ ![2] h₁ g)) (ix3 r b d)
      = headNorm (fun k => A (ix3 r b k)) (fun k => g (ix1 k)) d := by
  rw [mulf_apply, mulf_apply, hbcast_head, hbcast_headGain]
  show A (ix3 r b d) * Ideal.rsqrt (Ideal.div (broadcastInDim ⟨3, ![n, H, 1]⟩ ![0, 1] h0 (Host.reduceAdd (mulf A A) (constant (F := Ideal) ⟨0, ![]⟩ .f32 0x00000000#32) h' hu) (ix3 r b 0))
    (Ideal.ofBits .f32 0x42800000#32) + Ideal.ofBits .f32 0x358637BD#32) * g (ix1 d) = _
  rw [hbcast_toHead, host_sum_head _ h' h]
  rfl

/-- The heads of a row on an axis of their own. -/
theorem unflat_apply {n H w : ℕ} (hw : w = 64 * H) {α : Type} (X : (⟨2, ![n, w]⟩ : Shape).Idx → α) (h : (⟨2, ![n, w]⟩ : Shape).ShapeCasts ⟨3, ![n, H, 64]⟩)
    (r : Fin n) (b : Fin H) (d : Fin 64) (j : Fin w) (hj : j.val = 64 * b.val + d.val) :
    shapeCast ⟨3, ![n, H, 64]⟩ X h (ix3 r b d) = X (ix2 r j) := by
  refine shapeCast_apply X h (ix3 r b d) (ix2 r j) ?_
  rw [Shape.rowMajor_val_three, Shape.rowMajor_val_two]
  show r.val * w + j.val = (r.val * H + b.val) * 64 + d.val
  rw [hj, hw, Nat.add_mul, Nat.mul_assoc, Nat.mul_comm H 64]
  omega

/-- And back in one row. -/
theorem flat_apply {n H w : ℕ} (hw : w = 64 * H) {α : Type} (X : (⟨3, ![n, H, 64]⟩ : Shape).Idx → α) (h : (⟨3, ![n, H, 64]⟩ : Shape).ShapeCasts ⟨2, ![n, w]⟩)
    (r : Fin n) (b : Fin H) (d : Fin 64) (j : Fin w) (hj : j.val = 64 * b.val + d.val) :
    shapeCast ⟨2, ![n, w]⟩ X h (ix2 r j) = X (ix3 r b d) := by
  refine shapeCast_apply X h (ix2 r j) (ix3 r b d) ?_
  rw [Shape.rowMajor_val_three, Shape.rowMajor_val_two]
  show (r.val * H + b.val) * 64 + d.val = r.val * w + j.val
  rw [hj, hw, Nat.add_mul, Nat.mul_assoc, Nat.mul_comm H 64]
  omega

/-- A reference's normed heads, from column `o` of the projection `Y` on, read at one entry. -/
theorem host_heads_flat {n H w : ℕ} (hw : w = 64 * H) (Y : FVec Ideal ⟨2, ![n, 3400]⟩ .f32) (y : Fin n → ℕ → EReal)
    (hY : ∀ (r : Fin n) (j : Fin 3400), Y (ix2 r j) = y r j.val) (o : ℕ) (ho : o + w ≤ 3400) (g : FVec Ideal ⟨1, ![64]⟩ .f32)
    (hl : (⟨2, ![n, 3400]⟩ : Shape).Slices ![0, o] ⟨2, ![n, w]⟩) (hc : (⟨2, ![n, w]⟩ : Shape).ShapeCasts ⟨3, ![n, H, 64]⟩)
    (hc' : (⟨3, ![n, H, 64]⟩ : Shape).ShapeCasts ⟨2, ![n, w]⟩)
    (h : (⟨3, ![n, H, 64]⟩ : Shape).Reduces [2] ⟨2, ![n, H]⟩) (h' : (⟨3, ![n, H, 64]⟩ : Shape).ReducesTo [2] ⟨2, ![n, H]⟩)
    (hu : 0 < (⟨0, ![]⟩ : Shape).numel) (h0 : (⟨2, ![n, H]⟩ : Shape).BroadcastsInDim ⟨3, ![n, H, 1]⟩ ![0, 1])
    (hs hs' : (⟨0, ![]⟩ : Shape).BroadcastsInDim ⟨3, ![n, H, 1]⟩ ![])
    (hb : (⟨3, ![n, H, 1]⟩ : Shape).BroadcastsInDim ⟨3, ![n, H, 64]⟩ ![0, 1, 2])
    (h₁ : (⟨1, ![64]⟩ : Shape).BroadcastsInDim ⟨3, ![1, 1, 64]⟩ ![2])
    (h₂ : (⟨3, ![1, 1, 64]⟩ : Shape).BroadcastsInDim ⟨3, ![n, H, 64]⟩ ![0, 1, 2]) (r : Fin n) (j : Fin w) :
    shapeCast ⟨2, ![n, w]⟩ (mulf (mulf (shapeCast ⟨3, ![n, H, 64]⟩ (extractStridedSlice ⟨2, ![n, w]⟩ ![0, o] Y hl) hc)
        (broadcastInDim ⟨3, ![n, H, 64]⟩ ![0, 1, 2] hb (Host.rsqrt (addf (Host.divf
        (broadcastInDim ⟨3, ![n, H, 1]⟩ ![0, 1] h0 (Host.reduceAdd (mulf (shapeCast ⟨3, ![n, H, 64]⟩ (extractStridedSlice ⟨2, ![n, w]⟩ ![0, o] Y hl) hc)
          (shapeCast ⟨3, ![n, H, 64]⟩ (extractStridedSlice ⟨2, ![n, w]⟩ ![0, o] Y hl) hc)) (constant (F := Ideal) ⟨0, ![]⟩ .f32 0x00000000#32) h' hu))
        (broadcastInDim ⟨3, ![n, H, 1]⟩ ![] hs (constant (F := Ideal) ⟨0, ![]⟩ .f32 0x42800000#32)))
        (broadcastInDim ⟨3, ![n, H, 1]⟩ ![] hs' (constant (F := Ideal) ⟨0, ![]⟩ .f32 0x358637BD#32))))))
        (broadcastInDim ⟨3, ![n, H, 64]⟩ ![0, 1, 2] h₂ (broadcastInDim ⟨3, ![1, 1, 64]⟩ ![2] h₁ g))) hc' (ix2 r j)
      = headsAt (y r) o (fun k => g (ix1 k)) j.val := by
  have hj := j.isLt
  have hbH : j.val / 64 < H := by omega
  have hd : j.val % 64 < 64 := Nat.mod_lt _ (by decide)
  refine (flat_apply hw _ hc' r ⟨j.val / 64, hbH⟩ ⟨j.val % 64, hd⟩ j (Nat.div_add_mod _ _).symm).trans ?_
  refine (host_heads _ g h h' hu h0 hs hs' hb h₁ h₂ r ⟨j.val / 64, hbH⟩ ⟨j.val % 64, hd⟩).trans ?_
  unfold headsAt
  refine congrArg (fun v => headNorm v (fun k => g (ix1 k)) ⟨j.val % 64, hd⟩) (funext fun k => ?_)
  have hk := k.isLt
  refine (unflat_apply hw _ hc r ⟨j.val / 64, hbH⟩ k ⟨64 * (j.val / 64) + k.val, by omega⟩ rfl).trans ?_
  refine (slice2_axis1_apply o Y hl r _ ⟨o + (64 * (j.val / 64) + k.val), by omega⟩ rfl).trans ((hY _ _).trans ?_)
  exact congrArg (y r) (Nat.add_assoc _ _ _).symm

/-- A row's slice of the projection. -/
theorem slice_proj {n w : ℕ} (Y : FVec Ideal ⟨2, ![n, 3400]⟩ .f32) (y : Fin n → ℕ → EReal)
    (hY : ∀ (r : Fin n) (j : Fin 3400), Y (ix2 r j) = y r j.val) (o : ℕ) (ho : o + w ≤ 3400)
    (hl : (⟨2, ![n, 3400]⟩ : Shape).Slices ![0, o] ⟨2, ![n, w]⟩) (r : Fin n) (j : Fin w) :
    extractStridedSlice ⟨2, ![n, w]⟩ ![0, o] Y hl (ix2 r j) = y r (o + j.val) :=
  (slice2_axis1_apply o Y hl r j ⟨o + j.val, by omega⟩ rfl).trans (hY _ _)

/-- The rows of the prompts laid out by sequence, the positions last. -/
theorem by_seq {w : ℕ} {α : Type} (X : (⟨2, ![32768, w]⟩ : Shape).Idx → α) (hc : (⟨2, ![32768, w]⟩ : Shape).ShapeCasts ⟨3, ![16, 2048, w]⟩)
    (ht : (⟨3, ![16, 2048, w]⟩ : Shape).Transposes [0, 2, 1] ⟨3, ![16, w, 2048]⟩) (b : Fin 16) (j : Fin w) (s : Fin 2048) :
    transpose ⟨3, ![16, w, 2048]⟩ [0, 2, 1] (shapeCast ⟨3, ![16, 2048, w]⟩ X hc) ht (ix3 b j s) = X (ix2 ⟨2048 * b.val + s.val, by omega⟩ j) := by
  refine (transpose_ix3_021_apply _ ht b j s).trans (shapeCast_apply X hc _ _ ?_)
  rw [Shape.rowMajor_val_three, Shape.rowMajor_val_two]
  show (2048 * b.val + s.val) * w + j.val = (b.val * 2048 + s.val) * w + j.val
  rw [Nat.mul_comm 2048 b.val]

/-! ## The product with a transposed right operand, and pieces side by side -/

theorem matmul_nt_apply {M K N : ℕ} {φ₁ φ₂ : FTy} (A : FVec Ideal ⟨2, ![M, K]⟩ φ₁) (B : FVec Ideal ⟨2, ![N, K]⟩ φ₂) (r : Fin M) (c : Fin N) :
    matmul (DotDims.transposedRhs M K N) none A B (constant (F := Ideal) ⟨2, ![M, N]⟩ .f32 0x00000000#32) (ix2 r c)
      = ∑ k, A (ix2 r k) * B (ix2 c k) := by
  refine (Ideal.matmul_transposedRhs_apply none A B _ r c).trans ?_
  rw [constant_apply, Ideal.ofBits_zero_f32, zero_add]

/-- The piece of a row of pieces that holds column `pre + q`. -/
theorem cat_cols {n N w : ℕ} {α : Type} (xs : List ((s : Shape) × (s.Idx → α))) (h : Shape.Concatenates (xs.map (·.1)) ⟨2, ![n, N]⟩ 1)
    (i : ℕ) (hi : i < xs.length) (T : (⟨2, ![n, w]⟩ : Shape).Idx → α) (hT : xs[i] = ⟨⟨2, ![n, w]⟩, T⟩) (pre : ℕ)
    (hpre : (((xs.take i).map (·.1)).map fun s => if h : s.rank = (⟨2, ![n, N]⟩ : Shape).rank then s.size ((1 : Fin (⟨2, ![n, N]⟩ : Shape).rank).cast h.symm) else 0).sum = pre)
    (r : Fin n) (c : Fin N) (q : Fin w) (hq : pre + q.val = c.val) :
    concatenate ⟨2, ![n, N]⟩ 1 xs h (ix2 r c) = T (ix2 r q) := by
  refine concatenate_apply_piece 1 xs h (ix2 r c) i hi _ T hT rfl pre hpre (ix2 r q) (fun b hb => ?_) hq
  match b with
  | ⟨0, _⟩ => rfl
  | ⟨1, _⟩ => exact absurd rfl hb

end Cert.Rows

end
-- ==== Proof.InPay.lean ====
/-
  Hand-written, untrusted. The input projection's body: each block it leaves, read at one entry, as a function of the rows
  `y r` of the projection of the block's 512 rows.
-/
module

public import proofs.«01_k».proof.Proof.Gen.InprojIdeal.Value
public import Idealize.ShloMosaic.Lib.Pipeline.ValueKit.Tiles
public import proofs.«01_k».proof.Proof.InRows

@[expose] public section

set_option maxRecDepth 16384

noncomputable section

namespace Cert.InprojIdeal.Hand

open Idealize Idealize.ShloMosaic Idealize.ShloMosaic.ValueIdx
open Cert.InprojIdeal Cert.InprojIdeal.Gen Cert.Rows
open scoped BigOperators

/-! ## The columns of the weights in their two layouts -/

/-- The column of the weights that column `c` of the first layout holds, -/
def mainCol (c : ℕ) : ℕ := if c < 128 then 512 + c else if c < 256 then 1152 + c else 1096 + c
/-- and that row `c` of the second holds. -/
def tokCol (c : ℕ) : ℕ := if c < 512 then c else if c < 1024 then 256 + c else if c < 1152 then c - 384 else if c < 1280 then c - 640 else c

/-! ## The two products at one entry -/

theorem normed_apply (X : FVec Ideal S512x1024 .f32) (g : FVec Ideal S1x1024 .f32) (r : Fin 512) (k : Fin 1024) :
    k0_pay1 (F := Ideal) X g (ix2 r k) = normRow (fun k => X (ix2 r k)) (fun k => g (ix2 0 k)) k := by
  unfold k0_pay1
  rw [shapeCast_self]
  exact kernel_norm X g _ _ _ _ _ _ r k

theorem prod_apply (X : FVec Ideal S512x1024 .f32) (g : FVec Ideal S1x1024 .f32) (B : FVec Ideal S1024x2304 .bf16) (W : Fin 1024 → Fin 3400 → EReal)
    (hB : ∀ (k : Fin 1024) (c : Fin 2304), c.val < 192 ∨ 256 ≤ c.val → B (ix2 k c) = colAt W k (mainCol c.val))
    (r : Fin 512) (c : Fin 2304) (hc : c.val < 192 ∨ 256 ≤ c.val) :
    k0_pay2 (F := Ideal) X g B (ix2 r c) = projAt (normRow (fun k => X (ix2 r k)) (fun k => g (ix2 0 k))) W (mainCol c.val) := by
  unfold k0_pay2
  rw [shapeCast_self]
  refine (matmul_apply _ B r c).trans (Finset.sum_congr rfl fun k _ => congrArg₂ (· * ·) (normed_apply X g r k) (hB k c hc))

theorem tok_apply (X : FVec Ideal S512x1024 .f32) (g : FVec Ideal S1x1024 .f32) (B : FVec Ideal S1360x1024 .bf16) (W : Fin 1024 → Fin 3400 → EReal)
    (hB : ∀ (c : Fin 1360) (k : Fin 1024), c.val < 1352 → B (ix2 c k) = colAt W k (tokCol c.val))
    (c : Fin 1360) (r : Fin 512) (hc : c.val < 1352) :
    k0_pay12 (F := Ideal) (k0_pay1 (F := Ideal) X g) B (ix2 c r) = projAt (normRow (fun k => X (ix2 r k)) (fun k => g (ix2 0 k))) W (tokCol c.val) := by
  unfold k0_pay12
  rw [shapeCast_self]
  refine (matmul_nt_apply B _ c r).trans (Finset.sum_congr rfl fun k _ => ?_)
  rw [normed_apply, hB c k hc]
  exact mul_comm _ _

/-! ## The blocks by rows -/

/-- The bit that holds of the first 64 columns. -/
theorem lane_apply (r : Fin 512) (j : Fin 128) : k0_pay6 (ix2 r j) = if j.val < 64 then 1#1 else 0#1 := by
  have h : ∀ j : Fin 128, IntOp.cmpi .slt (BitVec.ofNat 32 (0 * 128 + j.val)) 64#32 = if j.val < 64 then 1#1 else 0#1 := by decide +kernel
  exact h j

theorem lift_row128 (h : S512x128.Reduces [1] S512) (r : Fin 512) (k : Fin 128) : h.lift (ix1 r) k = ix2 r k := by
  funext a; apply Fin.ext
  match a with
  | ⟨0, _⟩ => rfl
  | ⟨1, _⟩ => rfl

theorem sum128 (X : FVec Ideal S512x128 .f32) (h : S512x128.Reduces [1] S512) (hf : FKind.Formats .f32)
    (ha : (0x00000000#32 : BitVec 32) = FKind.add.neutral .f32 hf) (r : Fin 512) :
    multiReduction .add [1] S512 X 0x00000000#32 h hf ha (ix1 r) = ∑ k : Fin 128, X (ix2 r k) := by
  refine (Ideal.multiReduction_add_single X _ h hf ha (ix1 r)).trans ?_
  exact Finset.sum_congr rfl fun k _ => congrArg X (lift_row128 h r k)

/-- A sum over 128 columns of which only the first 64 count, -/
theorem sum_low (f : Fin 128 → EReal) (h : ∀ k : Fin 128, ¬ k.val < 64 → f k = 0) : ∑ k, f k = ∑ k : Fin 64, f ⟨k.val, by omega⟩ := by
  refine (Fin.sum_univ_add (a := 64) (b := 64) f).trans ?_
  rw [show (∑ k : Fin 64, f (Fin.natAdd 64 k)) = 0 from Finset.sum_eq_zero fun k _ => h _ (by simp), add_zero]
  rfl

/-- and only the last. -/
theorem sum_high (f : Fin 128 → EReal) (h : ∀ k : Fin 128, k.val < 64 → f k = 0) : ∑ k, f k = ∑ k : Fin 64, f ⟨64 + k.val, by omega⟩ := by
  refine (Fin.sum_univ_add (a := 64) (b := 64) f).trans ?_
  rw [show (∑ k : Fin 64, f (Fin.castAdd 64 k)) = 0 from Finset.sum_eq_zero fun k _ => h _ (by simp), zero_add]
  rfl

theorem two_heads (X : FVec Ideal S512x1024 .f32) (g : FVec Ideal S1x1024 .f32) (B : FVec Ideal S1024x2304 .bf16) (G : FVec Ideal S1x128 .f32)
    (y : ℕ → EReal) (gk : Fin 64 → EReal) (r : Fin 512) (hy : ∀ j : Fin 128, k0_pay3 (F := Ideal) X g B (ix2 r j) = y (512 + j.val))
    (hG : ∀ j : Fin 128, G (ix2 0 j) = gk ⟨j.val % 64, Nat.mod_lt _ (by decide)⟩) (j : Fin 128) :
    k0_pay9 (F := Ideal) (k0_pay3 (F := Ideal) X g B) (k0_pay4 (F := Ideal) G) k0_pay6 (k0_pay7 (F := Ideal) X g B) (k0_pay8 (F := Ideal) X g B) (Scalar.ofBits (F := Ideal) .f32 0x42800000#32) (ix2 r j)
      = headsAt y 512 gk j.val := by
  have hj := j.isLt
  have h7 : k0_pay7 (F := Ideal) X g B (ix2 r 0) = ∑ k : Fin 64, y (512 + 64 * 1 + k.val) * y (512 + 64 * 1 + k.val) := by
    unfold k0_pay7
    refine (shapeCast_a_a1_apply _ _ r 0).trans ((sum128 _ _ _ _ r).trans ((sum_high _ fun k hk => ?_).trans (Finset.sum_congr rfl fun k _ => ?_)))
    · rw [select_apply, lane_apply, if_pos hk]
      exact Ideal.ofBits_zero_f32
    · rw [select_apply, lane_apply, if_neg (by simp)]
      show k0_pay3 (F := Ideal) X g B (ix2 r _) * k0_pay3 (F := Ideal) X g B (ix2 r _) = _
      rw [hy]
      exact congrArg (fun n => y n * y n) (Nat.add_assoc 512 64 k.val).symm
  have h8 : k0_pay8 (F := Ideal) X g B (ix2 r 0) = Ideal.rsqrt (Ideal.div (∑ k : Fin 64, y (512 + 64 * 0 + k.val) * y (512 + 64 * 0 + k.val)) (Ideal.ofBits .f32 0x42800000#32) + Ideal.ofBits .f32 0x358637BD#32) := by
    unfold k0_pay8
    refine congrArg (fun z => Ideal.rsqrt (Ideal.div z (Ideal.ofBits .f32 0x42800000#32) + Ideal.ofBits .f32 0x358637BD#32)) ?_
    refine (shapeCast_a_a1_apply _ _ r 0).trans ((sum128 _ _ _ _ r).trans ((sum_low _ fun k hk => ?_).trans (Finset.sum_congr rfl fun k _ => ?_)))
    · rw [select_apply, lane_apply, if_neg hk]
      exact Ideal.ofBits_zero_f32
    · rw [select_apply, lane_apply, if_pos k.isLt]
      show k0_pay3 (F := Ideal) X g B (ix2 r _) * k0_pay3 (F := Ideal) X g B (ix2 r _) = _
      rw [hy]
  have h4 : k0_pay4 (F := Ideal) G (ix2 0 j) = gk ⟨j.val % 64, Nat.mod_lt _ (by decide)⟩ := by
    unfold k0_pay4
    rw [shapeCast_self]
    exact hG j
  unfold k0_pay9
  rw [shapeCast_self, shapeCast_self]
  refine (truncf_eq _ _ _).trans ?_
  rw [mulf_apply, mulf_apply, broadcastTo_1b_ab_apply, h4, hy, select_apply, lane_apply, bcast_col, bcast_col]
  unfold headsAt headNorm
  refine congrArg (· * gk ⟨j.val % 64, Nat.mod_lt _ (by decide)⟩) (congrArg₂ (· * ·) (congrArg y ?_) ?_)
  · show 512 + j.val = 512 + 64 * (j.val / 64) + j.val % 64
    omega
  · by_cases hl : j.val < 64
    · rw [if_pos hl, show j.val / 64 = 0 by omega]
      exact h8
    · rw [if_neg hl, show j.val / 64 = 1 by omega]
      exact congrArg (fun z => Ideal.rsqrt (Ideal.div z (Ideal.ofBits .f32 0x42800000#32) + Ideal.ofBits .f32 0x358637BD#32)) h7

/-! ## A head laid out down the rows -/

/-- The norm of the head that begins at row `o` of the transposed product. -/
theorem head_apply (T : FVec Ideal S1360x512 .f32) (o : ℕ) (ho : o + 64 ≤ 1352) (hs : S1360x512.Slices ![o, 0] S64x512) (G : FVec Ideal S64x1 .f32)
    (y : ℕ → EReal) (r : Fin 512) (q : ℕ) (hq : ∀ k : Fin 64, tokCol (o + k.val) = q + k.val)
    (hT : ∀ c : Fin 1360, c.val < 1352 → T (ix2 c r) = y (tokCol c.val)) (d : Fin 64) :
    mulf (mulf (extractStridedSlice S64x512 ![o, 0] T hs) (broadcastTo S64x512 (rsqrt (addf (divf
        (shapeCast S1x512 (multiReduction .add [0] S512 (mulf (extractStridedSlice S64x512 ![o, 0] T hs) (extractStridedSlice S64x512 ![o, 0] T hs)) 0x00000000#32 reduces_S64x512_S512 (.inl rfl) rfl) shapeCasts_S512_S1x512)
        (broadcast S1x512 (Scalar.ofBits (F := Ideal) .f32 0x42800000#32)))
        (broadcast S1x512 (Scalar.ofBits (F := Ideal) .f32 0x358637BD#32)))) broadcasts_S1x512_S64x512))
        (broadcastTo S64x512 (shapeCast S64x1 G shapeCasts_S64x1_S64x1) broadcasts_S64x1_S64x512) (ix2 d r)
      = headNorm (fun k => y (q + k.val)) (fun k => G (ix2 k 0)) d := by
  rw [shapeCast_self]
  refine (kernel_norm_col (extractStridedSlice S64x512 ![o, 0] T hs) G _ _ _ _ _ _ d r).trans ?_
  refine congrArg (fun v => headNorm v (fun k => G (ix2 k 0)) d) (funext fun k => ?_)
  have hk := k.isLt
  refine (slice2_axis0_apply o T hs k r ⟨o + k.val, by omega⟩ rfl).trans ((hT _ (by dsimp only; omega)).trans (congrArg y (hq k)))

/-- A slice of the transposed product. -/
theorem part_apply {w : ℕ} (T : FVec Ideal S1360x512 .f32) (o : ℕ) (ho : o + w ≤ 1352) (hs : S1360x512.Slices ![o, 0] ⟨2, ![w, 512]⟩)
    (y : ℕ → EReal) (r : Fin 512) (q : ℕ) (hq : ∀ k : Fin w, tokCol (o + k.val) = q + k.val)
    (hT : ∀ c : Fin 1360, c.val < 1352 → T (ix2 c r) = y (tokCol c.val)) (d : Fin w) :
    extractStridedSlice ⟨2, ![w, 512]⟩ ![o, 0] T hs (ix2 d r) = y (q + d.val) := by
  have hd := d.isLt
  exact (slice2_axis0_apply o T hs d r ⟨o + d.val, by omega⟩ rfl).trans ((hT _ (by dsimp only; omega)).trans (congrArg y (hq d)))

theorem tok_q (k : ℕ) (h : k < 512) : tokCol k = k := by unfold tokCol; rw [if_pos h]
theorem tok_iq (k : Fin 512) : tokCol (512 + k.val) = 768 + k.val := by unfold tokCol; split_ifs <;> omega
theorem tok_v (k : Fin 128) : tokCol (1024 + k.val) = 640 + k.val := by unfold tokCol; split_ifs <;> omega
theorem tok_k0 (k : Fin 64) : tokCol (1152 + k.val) = 512 + k.val := by unfold tokCol; split_ifs <;> omega
theorem tok_k1 (k : Fin 64) : tokCol (1216 + k.val) = 576 + k.val := by unfold tokCol; split_ifs <;> omega
theorem tok_ik (k : Fin 64) : tokCol (1280 + k.val) = 1280 + k.val := by unfold tokCol; split_ifs <;> omega
theorem tok_iw (k : Fin 8) : tokCol (1344 + k.val) = 1344 + k.val := by unfold tokCol; split_ifs <;> omega

/-- The gains times the queries' scale, and then the norm, are the norm and then the scale. -/
theorem headNorm_scale (v g : Fin 64 → EReal) (s : EReal) (d : Fin 64) : headNorm v (fun k => g k * s) d = headNorm v g d * s :=
  (mul_assoc _ _ _).symm

/-! ## The blocks the body leaves -/

theorem hz2 : (![0, 0] : Fin 2 → ℕ) = fun _ => 0 := funext fun a => match a with | ⟨0, _⟩ => rfl | ⟨1, _⟩ => rfl
theorem hz3 : (![0, 0, 0] : Fin 3 → ℕ) = fun _ => 0 := funext fun a => match a with | ⟨0, _⟩ => rfl | ⟨1, _⟩ => rfl | ⟨2, _⟩ => rfl

variable (x0 : Vec Ideal S512x1024 .f32) (x1 : Vec Ideal S1x1024 .f32) (x2 : Vec Ideal S1024x2304 .bf16) (x3 : Vec Ideal S1360x1024 .bf16)
  (x4 : Vec Ideal S1x128 .f32) (x5 : Vec Ideal S1x64 .f32) (x6 : Vec Ideal S512x1 .f32) (x7 : Vec Ideal S128x1 .f32) (x8 : Vec Ideal S64x1 .f32)
  (W : Fin 1024 → Fin 3400 → EReal)

/-- The rows of the projection of the block's rows. -/
abbrev yBlk (r : Fin 512) : ℕ → EReal := projAt (normRow (fun k => x0 (ix2 r k)) (fun k => x1 (ix2 0 k))) W

theorem main_apply (hB : ∀ (k : Fin 1024) (c : Fin 2304), c.val < 192 ∨ 256 ≤ c.val → x2 (ix2 k c) = colAt W k (mainCol c.val))
    (r : Fin 512) (c : Fin 2304) (hc : c.val < 192 ∨ 256 ≤ c.val) :
    k0_pay36 (F := Ideal) x0 x1 x2 x3 x4 x5 x6 x7 x8 (ix2 r c) = yBlk x0 x1 W r (mainCol c.val) := by
  unfold k0_pay36
  rw [View.ld_unit_zero hz2, View.ld_unit_zero hz2, View.ld_unit_zero hz2]
  exact prod_apply x0 x1 x2 W hB r c hc

theorem trans_apply (hB : ∀ (c : Fin 1360) (k : Fin 1024), c.val < 1352 → x3 (ix2 c k) = colAt W k (tokCol c.val))
    (r : Fin 512) (c : Fin 1360) (hc : c.val < 1352) :
    k0_pay37 (F := Ideal) x0 x1 x2 x3 x4 x5 x6 x7 x8 (ix2 c r) = yBlk x0 x1 W r (tokCol c.val) := by
  unfold k0_pay37 k0_pay35
  rw [View.ld_unit_zero hz2, View.ld_unit_zero hz2, View.ld_unit_zero hz2]
  exact tok_apply x0 x1 x3 W hB c r hc

theorem out9_apply (hB : ∀ (k : Fin 1024) (c : Fin 2304), c.val < 192 ∨ 256 ≤ c.val → x2 (ix2 k c) = colAt W k (mainCol c.val))
    (g : Fin 64 → EReal) (hG : ∀ j : Fin 128, x4 (ix2 0 j) = g ⟨j.val % 64, Nat.mod_lt _ (by decide)⟩) (r : Fin 512) (j : Fin 128) :
    out0_9 (F := Ideal) x0 x1 x2 x3 x4 x5 x6 x7 x8 (ix2 r j) = headsAt (yBlk x0 x1 W r) 512 g j.val := by
  unfold out0_9
  rw [View.canon_unit_zero hz2, View.ld_unit_zero hz2, View.ld_unit_zero hz2, View.ld_unit_zero hz2, View.ld_unit_zero hz2]
  refine two_heads x0 x1 x2 x4 (yBlk x0 x1 W r) g r (fun j => ?_) hG j
  have hj := j.isLt
  unfold k0_pay3
  refine Eq.trans (slice2_axis1_apply 0 (k0_pay2 (F := Ideal) x0 x1 x2) slices_S512x2304_o0_0_S512x128 r j ⟨j.val, by omega⟩ (Nat.zero_add _).symm) ?_
  refine (prod_apply x0 x1 x2 W hB r ⟨j.val, by omega⟩ (Or.inl (show j.val < 192 by omega))).trans ?_
  exact congrArg (yBlk x0 x1 W r) (if_pos hj)

/-- The norm of the indexer's key, for any rows. -/
theorem ik_row (Y : FVec Ideal S512x2304 .f32) (G : FVec Ideal S1x64 .f32) (r : Fin 512) (d : Fin 64) :
    k0_pay10 (F := Ideal) Y G (ix2 r d) = headNorm (fun k => Y (ix2 r ⟨128 + k.val, by have := k.isLt; omega⟩)) (fun k => G (ix2 0 k)) d := by
  unfold k0_pay10
  refine Eq.trans (truncf_eq _ _ _) ?_
  refine Eq.trans (kernel_norm64 (n := 512) (extractStridedSlice S512x64 ![0, 128] Y slices_S512x2304_o0_128_S512x64) (shapeCast S1x64 G shapeCasts_S1x64_S1x64)
    reduces_S512x64_S512 (.inl rfl) rfl shapeCasts_S512_S512x1 broadcasts_S512x1_S512x64 broadcasts_S1x64_S512x64 r d) ?_
  rw [shapeCast_self]
  exact congrArg (fun v => headNorm v (fun k => G (ix2 0 k)) d) (funext fun k => slice2_axis1_apply 128 Y slices_S512x2304_o0_128_S512x64 r k ⟨128 + k.val, _⟩ rfl)

theorem out10_apply (hB : ∀ (k : Fin 1024) (c : Fin 2304), c.val < 192 ∨ 256 ≤ c.val → x2 (ix2 k c) = colAt W k (mainCol c.val))
    (g : Fin 64 → EReal) (hG : ∀ j : Fin 64, x5 (ix2 0 j) = g j) (r : Fin 512) (j : Fin 64) :
    out0_10 (F := Ideal) x0 x1 x2 x3 x4 x5 x6 x7 x8 (ix2 r j) = headsAt (yBlk x0 x1 W r) 1280 g j.val := by
  unfold out0_10
  rw [View.canon_unit_zero hz2, View.ld_unit_zero hz2]
  refine (ik_row _ x5 r j).trans ?_
  refine Eq.trans (congrArg₂ (fun v g => headNorm v g j) (funext fun k => ?_) (funext hG)) (headNorm_headsAt _ 1280 g j)
  have hk := k.isLt
  refine (main_apply x0 x1 x2 x3 x4 x5 x6 x7 x8 W hB r ⟨128 + k.val, by omega⟩ (Or.inl (show 128 + k.val < 192 by omega))).trans ?_
  refine congrArg (yBlk x0 x1 W r) ?_
  show mainCol (128 + k.val) = 1280 + k.val
  unfold mainCol; split_ifs <;> omega

theorem out11_apply (hB : ∀ (k : Fin 1024) (c : Fin 2304), c.val < 192 ∨ 256 ≤ c.val → x2 (ix2 k c) = colAt W k (mainCol c.val)) (r : Fin 512) (j : Fin 2048) :
    out0_11 (F := Ideal) x0 x1 x2 x3 x4 x5 x6 x7 x8 (ix2 r j) = yBlk x0 x1 W r (1352 + j.val) := by
  unfold out0_11
  rw [View.canon_unit_zero hz2]
  unfold k0_pay11
  have hj := j.isLt
  refine (slice2_axis1_apply 256 _ _ r j ⟨256 + j.val, by omega⟩ rfl).trans ((main_apply x0 x1 x2 x3 x4 x5 x6 x7 x8 W hB r _ (Or.inr (by dsimp only; omega))).trans ?_)
  refine congrArg (yBlk x0 x1 W r) ?_
  show mainCol (256 + j.val) = 1352 + j.val
  unfold mainCol; split_ifs <;> omega

/-- A tile of a head's 64 rows, where it holds an entry. -/
theorem tile_q (P : FVec Ideal S64x512 .bf16) (o b : ℕ) (ho : o = 64 * b) (y : Fin 512 → ℕ → EReal) (g : Fin 64 → EReal) (s : EReal)
    (hP : ∀ (d : Fin 64) (r : Fin 512), P (ix2 d r) = headNorm (fun k => y r (o + k.val)) (fun k => g k * s) d) (j r : Fin 512) :
    View.TileAt (Val := Elt Ideal) (e := .bf16) (ix2 j r : S512x512.Idx) ![o, 0] S64x512.size P (headsAt (y r) 0 g j.val * s) := by
  intro x hx
  obtain ⟨d, q, rfl⟩ : ∃ (d : Fin 64) (q : Fin 512), x = (ix2 d q : S64x512.Idx) := ⟨x 0, x 1, eq_ix2 x⟩
  have h0 : j.val = o + d.val := hx 0
  have h1 : r.val = 0 + q.val := hx 1
  have hq : q = r := Fin.ext (by omega)
  subst hq
  refine (hP d q).trans ((headNorm_scale _ g s d).trans (congrArg (· * s) ?_))
  subst ho
  refine Eq.trans (congrArg (fun v => headNorm v g d) (funext fun k => congrArg (y q) ?_)) (headsAt_eq (y q) 0 g b d j.val h0)
  omega

/-- A head's gains, loaded from the column of all heads' gains. -/
theorem ld_col {n : ℕ} (x : (⟨2, ![n, 1]⟩ : Shape).Idx → EReal) (o : ℕ) (inb : ∀ a, (![o, 0] : Fin 2 → ℕ) a + S64x1.size a ≤ (⟨2, ![n, 1]⟩ : Shape).size a)
    (k : Fin 64) (h : o + k.val < n) :
    View.ld (Val := Elt Ideal) (e' := .f32) x (Rect.unit (s := ⟨2, ![n, 1]⟩) ![o, 0] S64x1.size inb) (ix2 k 0) = x (ix2 ⟨o + k.val, h⟩ 0) := by
  rw [View.ld_unit]
  exact slice2_axis0_apply o x _ k 0 ⟨o + k.val, h⟩ rfl

/-- The norm of the query head that begins at row `o`. -/
theorem q_apply (hB : ∀ (c : Fin 1360) (k : Fin 1024), c.val < 1352 → x3 (ix2 c k) = colAt W k (tokCol c.val))
    (g : Fin 64 → EReal) (s : EReal) (hG : ∀ j : Fin 512, x6 (ix2 j 0) = g ⟨j.val % 64, Nat.mod_lt _ (by decide)⟩ * s)
    (o b : ℕ) (ho : o = 64 * b) (hb : b < 8) (hs : S1360x512.Slices ![o, 0] S64x512) (inb : ∀ a, (![o, 0] : Fin 2 → ℕ) a + S64x1.size a ≤ S512x1.size a)
    (d : Fin 64) (r : Fin 512) :
    mulf (mulf (extractStridedSlice S64x512 ![o, 0] (k0_pay37 (F := Ideal) x0 x1 x2 x3 x4 x5 x6 x7 x8) hs) (broadcastTo S64x512 (rsqrt (addf (divf
        (shapeCast S1x512 (multiReduction .add [0] S512 (mulf (extractStridedSlice S64x512 ![o, 0] (k0_pay37 (F := Ideal) x0 x1 x2 x3 x4 x5 x6 x7 x8) hs) (extractStridedSlice S64x512 ![o, 0] (k0_pay37 (F := Ideal) x0 x1 x2 x3 x4 x5 x6 x7 x8) hs)) 0x00000000#32 reduces_S64x512_S512 (.inl rfl) rfl) shapeCasts_S512_S1x512)
        (broadcast S1x512 (Scalar.ofBits (F := Ideal) .f32 0x42800000#32)))
        (broadcast S1x512 (Scalar.ofBits (F := Ideal) .f32 0x358637BD#32)))) broadcasts_S1x512_S64x512))
        (broadcastTo S64x512 (shapeCast S64x1 (View.ld (Val := Elt Ideal) (e' := .f32) x6 (Rect.unit (s := S512x1) ![o, 0] S64x1.size inb)) shapeCasts_S64x1_S64x1) broadcasts_S64x1_S64x512) (ix2 d r)
      = headNorm (fun k => yBlk x0 x1 W r (o + k.val)) (fun k => g k * s) d := by
  refine (head_apply _ o (by omega) hs _ (yBlk x0 x1 W r) r o (fun k => tok_q _ (by have := k.isLt; omega)) (fun c hc => trans_apply x0 x1 x2 x3 x4 x5 x6 x7 x8 W hB r c hc) d).trans ?_
  refine congrArg (fun g => headNorm (fun k => yBlk x0 x1 W r (o + k.val)) g d) (funext fun k => ?_)
  have hk := k.isLt
  refine (ld_col x6 o inb k (by omega)).trans ((hG _).trans (congrArg (fun k => g k * s) (Fin.ext ?_)))
  show (o + k.val) % 64 = k.val
  omega

theorem out12_apply (hB : ∀ (c : Fin 1360) (k : Fin 1024), c.val < 1352 → x3 (ix2 c k) = colAt W k (tokCol c.val))
    (g : Fin 64 → EReal) (s : EReal) (hG : ∀ j : Fin 512, x6 (ix2 j 0) = g ⟨j.val % 64, Nat.mod_lt _ (by decide)⟩ * s) (j r : Fin 512) :
    out0_12 (F := Ideal) x0 x1 x2 x3 x4 x5 x6 x7 x8 (ix2 j r) = headsAt (yBlk x0 x1 W r) 0 g j.val * s := by
  unfold out0_12
  refine View.canon_eq_of_allAt _ _ _ (cover0_12 _ _ _ _ _ _ _ _ _) ?_
  refine View.allAt_cons_unit _ _ _ _ _ (tile_q _ 448 7 rfl (yBlk x0 x1 W) g s (fun d r => q_apply x0 x1 x2 x3 x4 x5 x6 x7 x8 W hB g s hG 448 7 rfl (by decide) slices_S1360x512_o448_0_S64x512 inb_S512x1_S64x1_448_0 d r) j r) ?_
  refine View.allAt_cons_unit _ _ _ _ _ (tile_q _ 384 6 rfl (yBlk x0 x1 W) g s (fun d r => q_apply x0 x1 x2 x3 x4 x5 x6 x7 x8 W hB g s hG 384 6 rfl (by decide) slices_S1360x512_o384_0_S64x512 inb_S512x1_S64x1_384_0 d r) j r) ?_
  refine View.allAt_cons_unit _ _ _ _ _ (tile_q _ 320 5 rfl (yBlk x0 x1 W) g s (fun d r => q_apply x0 x1 x2 x3 x4 x5 x6 x7 x8 W hB g s hG 320 5 rfl (by decide) slices_S1360x512_o320_0_S64x512 inb_S512x1_S64x1_320_0 d r) j r) ?_
  refine View.allAt_cons_unit _ _ _ _ _ (tile_q _ 256 4 rfl (yBlk x0 x1 W) g s (fun d r => q_apply x0 x1 x2 x3 x4 x5 x6 x7 x8 W hB g s hG 256 4 rfl (by decide) slices_S1360x512_o256_0_S64x512 inb_S512x1_S64x1_256_0 d r) j r) ?_
  refine View.allAt_cons_unit _ _ _ _ _ (tile_q _ 192 3 rfl (yBlk x0 x1 W) g s (fun d r => q_apply x0 x1 x2 x3 x4 x5 x6 x7 x8 W hB g s hG 192 3 rfl (by decide) slices_S1360x512_o192_0_S64x512 inb_S512x1_S64x1_192_0 d r) j r) ?_
  refine View.allAt_cons_unit _ _ _ _ _ (tile_q _ 128 2 rfl (yBlk x0 x1 W) g s (fun d r => q_apply x0 x1 x2 x3 x4 x5 x6 x7 x8 W hB g s hG 128 2 rfl (by decide) slices_S1360x512_o128_0_S64x512 inb_S512x1_S64x1_128_0 d r) j r) ?_
  refine View.allAt_cons_unit _ _ _ _ _ (tile_q _ 64 1 rfl (yBlk x0 x1 W) g s (fun d r => q_apply x0 x1 x2 x3 x4 x5 x6 x7 x8 W hB g s hG 64 1 rfl (by decide) slices_S1360x512_o64_0_S64x512 inb_S512x1_S64x1_64_0 d r) j r) ?_
  refine View.allAt_cons_unit _ _ _ _ _ (tile_q _ 0 0 rfl (yBlk x0 x1 W) g s (fun d r => q_apply x0 x1 x2 x3 x4 x5 x6 x7 x8 W hB g s hG 0 0 rfl (by decide) slices_S1360x512_o0_0_S64x512 inb_S512x1_S64x1_0_0 d r) j r) ?_
  exact View.allAt_nil _ _

theorem out13_apply (hB : ∀ (c : Fin 1360) (k : Fin 1024), c.val < 1352 → x3 (ix2 c k) = colAt W k (tokCol c.val)) (j r : Fin 512) :
    out0_13 (F := Ideal) x0 x1 x2 x3 x4 x5 x6 x7 x8 (ix2 j r) = yBlk x0 x1 W r (768 + j.val) := by
  unfold out0_13
  rw [View.canon_unit_zero hz2]
  unfold k0_pay27
  exact (truncf_eq _ _ _).trans (part_apply _ 512 (by decide) _ (yBlk x0 x1 W r) r 768 tok_iq (fun c hc => trans_apply x0 x1 x2 x3 x4 x5 x6 x7 x8 W hB r c hc) j)

theorem out14_apply (hB : ∀ (c : Fin 1360) (k : Fin 1024), c.val < 1352 → x3 (ix2 c k) = colAt W k (tokCol c.val)) (j : Fin 128) (r : Fin 512) :
    out0_14 (F := Ideal) x0 x1 x2 x3 x4 x5 x6 x7 x8 (ix2 j r) = yBlk x0 x1 W r (640 + j.val) := by
  unfold out0_14
  rw [View.canon_unit_zero hz2]
  unfold k0_pay30 k0_pay28
  exact (truncf_eq _ _ _).trans (part_apply _ 1024 (by decide) _ (yBlk x0 x1 W r) r 640 tok_v (fun c hc => trans_apply x0 x1 x2 x3 x4 x5 x6 x7 x8 W hB r c hc) j)

theorem out15_apply (hB : ∀ (c : Fin 1360) (k : Fin 1024), c.val < 1352 → x3 (ix2 c k) = colAt W k (tokCol c.val)) (j : Fin 8) (r : Fin 512) :
    out0_15 (F := Ideal) x0 x1 x2 x3 x4 x5 x6 x7 x8 (ix2 j r) = yBlk x0 x1 W r (1344 + j.val) * Ideal.ofBits .f32 0x3D3504F3#32 := by
  unfold out0_15
  rw [View.canon_unit_zero hz2]
  unfold k0_pay34
  exact (mulf_apply _ _ _).trans (congrArg (· * Ideal.ofBits .f32 0x3D3504F3#32)
    (part_apply _ 1344 (by decide) _ (yBlk x0 x1 W r) r 1344 tok_iw (fun c hc => trans_apply x0 x1 x2 x3 x4 x5 x6 x7 x8 W hB r c hc) j))

theorem out17_apply (hB : ∀ (c : Fin 1360) (k : Fin 1024), c.val < 1352 → x3 (ix2 c k) = colAt W k (tokCol c.val)) (j : Fin 128) (r : Fin 512) :
    out0_17 (F := Ideal) x0 x1 x2 x3 x4 x5 x6 x7 x8 (ix3 0 j r) = yBlk x0 x1 W r (640 + j.val) := by
  unfold out0_17
  rw [View.canon_unit_zero hz3]
  unfold k0_pay29 k0_pay28
  exact (shapeCast_ab_1ab_apply _ _ 0 j r).trans (part_apply _ 1024 (by decide) _ (yBlk x0 x1 W r) r 640 tok_v (fun c hc => trans_apply x0 x1 x2 x3 x4 x5 x6 x7 x8 W hB r c hc) j)

theorem out18_apply (hB : ∀ (c : Fin 1360) (k : Fin 1024), c.val < 1352 → x3 (ix2 c k) = colAt W k (tokCol c.val))
    (g : Fin 64 → EReal) (hG : ∀ j : Fin 64, x8 (ix2 j 0) = g j) (j : Fin 64) (r : Fin 512) :
    out0_18 (F := Ideal) x0 x1 x2 x3 x4 x5 x6 x7 x8 (ix3 0 j r) = headsAt (yBlk x0 x1 W r) 1280 g j.val := by
  unfold out0_18
  rw [View.canon_unit_zero hz3, View.ld_unit_zero hz2]
  unfold k0_pay33
  refine (shapeCast_ab_1ab_apply _ _ 0 j r).trans ?_
  refine (head_apply _ 1280 (by decide) slices_S1360x512_o1280_0_S64x512 x8 (yBlk x0 x1 W r) r 1280 tok_ik (fun c hc => trans_apply x0 x1 x2 x3 x4 x5 x6 x7 x8 W hB r c hc) j).trans ?_
  exact (congrArg (fun g => headNorm _ g j) (funext hG)).trans (headNorm_headsAt _ 1280 g j)

/-- A tile of a key head's 64 rows, where it holds an entry. -/
theorem tile_k (P : FVec Ideal S1x64x512 .f32) (o b : ℕ) (ho : o = 64 * b) (y : Fin 512 → ℕ → EReal) (g : Fin 64 → EReal)
    (hP : ∀ (d : Fin 64) (r : Fin 512), P (ix3 0 d r) = headNorm (fun k => y r (512 + o + k.val)) g d) (j : Fin 128) (r : Fin 512) :
    View.TileAt (Val := Elt Ideal) (e := .f32) (ix3 0 j r : S1x128x512.Idx) ![0, o, 0] S1x64x512.size P (headsAt (y r) 512 g j.val) := by
  intro x hx
  obtain ⟨z, d, q, rfl⟩ : ∃ (z : Fin 1) (d : Fin 64) (q : Fin 512), x = (ix3 z d q : S1x64x512.Idx) := ⟨x 0, x 1, x 2, eq_ix3 x⟩
  have h0 : j.val = o + d.val := hx 1
  have h1 : r.val = 0 + q.val := hx 2
  have hq : q = r := Fin.ext (by omega)
  have hz : z = 0 := Fin.ext (by omega)
  subst hq hz ho
  exact (hP d q).trans (headsAt_eq (y q) 512 g b d j.val h0)

theorem k_apply (hB : ∀ (c : Fin 1360) (k : Fin 1024), c.val < 1352 → x3 (ix2 c k) = colAt W k (tokCol c.val))
    (g : Fin 64 → EReal) (hG : ∀ j : Fin 128, x7 (ix2 j 0) = g ⟨j.val % 64, Nat.mod_lt _ (by decide)⟩)
    (o b : ℕ) (ho : o = 64 * b) (hb : b < 2) (hs : S1360x512.Slices ![1152 + o, 0] S64x512) (inb : ∀ a, (![o, 0] : Fin 2 → ℕ) a + S64x1.size a ≤ S128x1.size a)
    (hq : ∀ k : Fin 64, tokCol (1152 + o + k.val) = 512 + o + k.val) (d : Fin 64) (r : Fin 512) :
    mulf (mulf (extractStridedSlice S64x512 ![1152 + o, 0] (k0_pay37 (F := Ideal) x0 x1 x2 x3 x4 x5 x6 x7 x8) hs) (broadcastTo S64x512 (rsqrt (addf (divf
        (shapeCast S1x512 (multiReduction .add [0] S512 (mulf (extractStridedSlice S64x512 ![1152 + o, 0] (k0_pay37 (F := Ideal) x0 x1 x2 x3 x4 x5 x6 x7 x8) hs) (extractStridedSlice S64x512 ![1152 + o, 0] (k0_pay37 (F := Ideal) x0 x1 x2 x3 x4 x5 x6 x7 x8) hs)) 0x00000000#32 reduces_S64x512_S512 (.inl rfl) rfl) shapeCasts_S512_S1x512)
        (broadcast S1x512 (Scalar.ofBits (F := Ideal) .f32 0x42800000#32)))
        (broadcast S1x512 (Scalar.ofBits (F := Ideal) .f32 0x358637BD#32)))) broadcasts_S1x512_S64x512))
        (broadcastTo S64x512 (shapeCast S64x1 (View.ld (Val := Elt Ideal) (e' := .f32) x7 (Rect.unit (s := S128x1) ![o, 0] S64x1.size inb)) shapeCasts_S64x1_S64x1) broadcasts_S64x1_S64x512) (ix2 d r)
      = headNorm (fun k => yBlk x0 x1 W r (512 + o + k.val)) g d := by
  refine (head_apply _ (1152 + o) (by omega) hs _ (yBlk x0 x1 W r) r (512 + o) hq (fun c hc => trans_apply x0 x1 x2 x3 x4 x5 x6 x7 x8 W hB r c hc) d).trans ?_
  refine congrArg (fun g => headNorm (fun k => yBlk x0 x1 W r (512 + o + k.val)) g d) (funext fun k => ?_)
  have hk := k.isLt
  refine (ld_col x7 o inb k (by omega)).trans ((hG _).trans (congrArg g (Fin.ext ?_)))
  show (o + k.val) % 64 = k.val
  omega

theorem out16_apply (hB : ∀ (c : Fin 1360) (k : Fin 1024), c.val < 1352 → x3 (ix2 c k) = colAt W k (tokCol c.val))
    (g : Fin 64 → EReal) (hG : ∀ j : Fin 128, x7 (ix2 j 0) = g ⟨j.val % 64, Nat.mod_lt _ (by decide)⟩) (j : Fin 128) (r : Fin 512) :
    out0_16 (F := Ideal) x0 x1 x2 x3 x4 x5 x6 x7 x8 (ix3 0 j r) = headsAt (yBlk x0 x1 W r) 512 g j.val := by
  unfold out0_16
  refine View.canon_eq_of_allAt _ _ _ (cover0_16 _ _ _) ?_
  refine View.allAt_cons_unit _ _ _ _ _ (tile_k _ 64 1 rfl (yBlk x0 x1 W) g (fun d r => (shapeCast_ab_1ab_apply _ _ 0 d r).trans
    (k_apply x0 x1 x2 x3 x4 x5 x6 x7 x8 W hB g hG 64 1 rfl (by decide) slices_S1360x512_o1216_0_S64x512 inb_S128x1_S64x1_64_0 tok_k1 d r)) j r) ?_
  refine View.allAt_cons_unit _ _ _ _ _ (tile_k _ 0 0 rfl (yBlk x0 x1 W) g (fun d r => (shapeCast_ab_1ab_apply _ _ 0 d r).trans
    (k_apply x0 x1 x2 x3 x4 x5 x6 x7 x8 W hB g hG 0 0 rfl (by decide) slices_S1360x512_o1152_0_S64x512 inb_S128x1_S64x1_0_0 tok_k0 d r)) j r) ?_
  exact View.allAt_nil _ _

end Cert.InprojIdeal.Hand

end
-- ==== Proof.InRef.lean ====
/-
  Hand-written, untrusted. The reference of the input projection: its ten results as the functions of the projection's rows.
-/
module

public import proofs.«01_k».proof.Proof.Gen.InprojReferenceIdeal.Run
public import proofs.«01_k».proof.Proof.InRows

@[expose] public section

set_option maxRecDepth 16384

noncomputable section

namespace Cert.InprojReferenceIdeal.Hand

open Idealize Idealize.ShloMosaic Idealize.ShloMosaic.ValueIdx Idealize.ShloMosaic.TcCoe Idealize.SL.Sem
open Cert.InprojReferenceIdeal Cert.InprojReferenceIdeal.Gen Cert.InprojReferenceIdeal.Value Cert.Rows

variable (m : (ℓ : Loc nD τ sig) → Buf (Elt Ideal) ℓ)

abbrev xRow (c : Dev nD) (r : Fin 32768) : Fin 1024 → EReal := fun k => m ((c.tc : Thread nD τ).loc main_arg0) (ix2 r k)
abbrev gain (c : Dev nD) : Fin 1024 → EReal := fun k => m ((c.tc : Thread nD τ).loc main_arg1) (ix1 k)
abbrev wIn (c : Dev nD) : Fin 1024 → Fin 3400 → EReal := fun k j => m ((c.tc : Thread nD τ).loc main_arg2) (ix2 k j)
abbrev gq (c : Dev nD) : Fin 64 → EReal := fun k => m ((c.tc : Thread nD τ).loc main_arg3) (ix1 k)
abbrev gk (c : Dev nD) : Fin 64 → EReal := fun k => m ((c.tc : Thread nD τ).loc main_arg4) (ix1 k)
abbrev gi (c : Dev nD) : Fin 64 → EReal := fun k => m ((c.tc : Thread nD τ).loc main_arg5) (ix1 k)

/-- The rows of the projection. -/
abbrev yRow (c : Dev nD) (r : Fin 32768) : ℕ → EReal := projAt (normRow (xRow m c r) (gain m c)) (wIn m c)

/-- The product of the normed rows and the weights, at one entry. -/
theorem proj_apply (X : FVec Ideal S32768x1024 .f32) (g : FVec Ideal S1024 .f32) (W : FVec Ideal S1024x3400 .f32) (r : Fin 32768) (j : Fin 3400) :
    Host.dotGeneral dot_S32768x1024_S1024x3400_S32768x3400_1_0_0_1_n_n none (mulf (mulf X (broadcastInDim S32768x1024 ![0, 1] bcast_S32768x1_S32768x1024_0_1
        (Host.rsqrt (addf (Host.divf (broadcastInDim S32768x1 ![0] bcast_S32768_S32768x1_0 (Host.reduceAdd (mulf X X) (constant (F := Ideal) S_ .f32 0x00000000#32) reducesTo_S32768x1024_S32768_d1 h_S_))
        (broadcastInDim S32768x1 ![] bcast_S_S32768x1 (constant (F := Ideal) S_ .f32 0x44800000#32))) (broadcastInDim S32768x1 ![] bcast_S_S32768x1 (constant (F := Ideal) S_ .f32 0x358637BD#32))))))
        (broadcastInDim S32768x1024 ![0, 1] bcast_S1x1024_S32768x1024_0_1 (broadcastInDim S1x1024 ![1] bcast_S1024_S1x1024_1 g))) W (ix2 r j)
      = projAt (normRow (fun k => X (ix2 r k)) (fun k => g (ix1 k))) (fun k j => W (ix2 k j)) j.val := by
  refine ((hostDot_apply _ W r j).trans ?_).trans (mulRow_projAt _ _ j)
  exact Finset.sum_congr rfl fun k _ => congrArg (· * W (ix2 k j)) (host_norm X g (by decide) _ _ _ _ _ _ _ _ r k)

/-- Four slices side by side are one slice. -/
theorem rec_apply (Y : FVec Ideal S32768x3400 .f32) (y : Fin 32768 → ℕ → EReal) (hY : ∀ (r : Fin 32768) (j : Fin 3400), Y (ix2 r j) = y r j.val)
    (h : Shape.Concatenates [S32768x512, S32768x512, S32768x512, S32768x512] S32768x2048 1)
    (h₀ : S32768x3400.Slices ![0, 1352] S32768x512) (h₁ : S32768x3400.Slices ![0, 1864] S32768x512)
    (h₂ : S32768x3400.Slices ![0, 2376] S32768x512) (h₃ : S32768x3400.Slices ![0, 2888] S32768x512) (r : Fin 32768) (j : Fin 2048) :
    concatenate S32768x2048 1 [⟨S32768x512, extractStridedSlice S32768x512 ![0, 1352] Y h₀⟩, ⟨S32768x512, extractStridedSlice S32768x512 ![0, 1864] Y h₁⟩,
      ⟨S32768x512, extractStridedSlice S32768x512 ![0, 2376] Y h₂⟩, ⟨S32768x512, extractStridedSlice S32768x512 ![0, 2888] Y h₃⟩] h (ix2 r j)
      = y r (1352 + j.val) := by
  have hj := j.isLt
  by_cases l₁ : j.val < 512
  · refine (cat_cols [⟨S32768x512, extractStridedSlice S32768x512 ![0, 1352] Y h₀⟩, ⟨S32768x512, extractStridedSlice S32768x512 ![0, 1864] Y h₁⟩,
      ⟨S32768x512, extractStridedSlice S32768x512 ![0, 2376] Y h₂⟩, ⟨S32768x512, extractStridedSlice S32768x512 ![0, 2888] Y h₃⟩] h 0 (by simp) _ rfl 0 rfl r j ⟨j.val, l₁⟩ (Nat.zero_add _)).trans ?_
    exact slice_proj Y y hY 1352 (by decide) h₀ r _
  by_cases l₂ : j.val < 1024
  · refine (cat_cols [⟨S32768x512, extractStridedSlice S32768x512 ![0, 1352] Y h₀⟩, ⟨S32768x512, extractStridedSlice S32768x512 ![0, 1864] Y h₁⟩,
      ⟨S32768x512, extractStridedSlice S32768x512 ![0, 2376] Y h₂⟩, ⟨S32768x512, extractStridedSlice S32768x512 ![0, 2888] Y h₃⟩] h 1 (by simp) _ rfl 512 rfl r j ⟨j.val - 512, by omega⟩ (by dsimp only; omega)).trans ?_
    exact (slice_proj Y y hY 1864 (by decide) h₁ r _).trans (congrArg (y r) (by dsimp only; omega))
  by_cases l₃ : j.val < 1536
  · refine (cat_cols [⟨S32768x512, extractStridedSlice S32768x512 ![0, 1352] Y h₀⟩, ⟨S32768x512, extractStridedSlice S32768x512 ![0, 1864] Y h₁⟩,
      ⟨S32768x512, extractStridedSlice S32768x512 ![0, 2376] Y h₂⟩, ⟨S32768x512, extractStridedSlice S32768x512 ![0, 2888] Y h₃⟩] h 2 (by simp) _ rfl 1024 rfl r j ⟨j.val - 1024, by omega⟩ (by dsimp only; omega)).trans ?_
    exact (slice_proj Y y hY 2376 (by decide) h₂ r _).trans (congrArg (y r) (by dsimp only; omega))
  · refine (cat_cols [⟨S32768x512, extractStridedSlice S32768x512 ![0, 1352] Y h₀⟩, ⟨S32768x512, extractStridedSlice S32768x512 ![0, 1864] Y h₁⟩,
      ⟨S32768x512, extractStridedSlice S32768x512 ![0, 2376] Y h₂⟩, ⟨S32768x512, extractStridedSlice S32768x512 ![0, 2888] Y h₃⟩] h 3 (by simp) _ rfl 1536 rfl r j ⟨j.val - 1536, by omega⟩ (by dsimp only; omega)).trans ?_
    exact (slice_proj Y y hY 2888 (by decide) h₃ r _).trans (congrArg (y r) (by dsimp only; omega))

/-- What the reference leaves. -/
theorem run_rows (ρ : Dev nD → PrngReg) :
    θ_run defs (onTc (τ := τ) (main (F := Ideal))) ⟨m, fun _ => 0, ρ⟩ fun r => ∀ c : Dev nD,
      r.2.mem ((c.tc : Thread nD τ).loc main_v70) = gAk (yRow m c) (gk m c)
      ∧ r.2.mem ((c.tc : Thread nD τ).loc main_v71) = gIk (yRow m c) (gi m c)
      ∧ r.2.mem ((c.tc : Thread nD τ).loc main_v69) = gRec (yRow m c)
      ∧ r.2.mem ((c.tc : Thread nD τ).loc main_v75) = gAqt (yRow m c) (gq m c)
      ∧ r.2.mem ((c.tc : Thread nD τ).loc main_v77) = gIqt (yRow m c)
      ∧ r.2.mem ((c.tc : Thread nD τ).loc main_v79) = gAvt (yRow m c)
      ∧ r.2.mem ((c.tc : Thread nD τ).loc main_v80) = gIwt (yRow m c)
      ∧ r.2.mem ((c.tc : Thread nD τ).loc main_v82) = gAks (yRow m c) (gk m c)
      ∧ r.2.mem ((c.tc : Thread nD τ).loc main_v84) = gAvs (yRow m c)
      ∧ r.2.mem ((c.tc : Thread nD τ).loc main_v86) = gIks (yRow m c) (gi m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (Cert.InprojReferenceIdeal.Value.run (F := Ideal) m ρ)
  have hY := fun r j => proj_apply (m ((c.tc : Thread nD τ).loc main_arg0)) (m ((c.tc : Thread nD τ).loc main_arg1)) (m ((c.tc : Thread nD τ).loc main_arg2)) r j
  obtain ⟨h0, h1, h2, h3, h4, h5, h6, h7, h8, h9, hargs⟩ := h c
  refine ⟨h0.trans (funext fun i => ?_), h1.trans (funext fun i => ?_), h2.trans (funext fun i => ?_), h3.trans (funext fun i => ?_),
    h4.trans (funext fun i => ?_), h5.trans (funext fun i => ?_), h6.trans (funext fun i => ?_), h7.trans (funext fun i => ?_),
    h8.trans (funext fun i => ?_), h9.trans (funext fun i => ?_), hargs⟩
  · obtain ⟨r, j, rfl⟩ : ∃ (r : Fin 32768) (j : Fin 128), i = (ix2 r j : S32768x128.Idx) := ⟨i 0, i 1, eq_ix2 i⟩
    exact (truncf_eq _ _ _).trans (host_heads_flat (n := 32768) (H := 2) (w := 128) rfl _ (yRow m c) hY 512 (by decide) _ _ _ _ (by decide) _ _ _ _ _ _ _ _ r j)
  · obtain ⟨r, j, rfl⟩ : ∃ (r : Fin 32768) (j : Fin 64), i = (ix2 r j : S32768x64.Idx) := ⟨i 0, i 1, eq_ix2 i⟩
    refine (truncf_eq _ _ _).trans ((host_norm64 (n := 32768) _ _ (by decide) _ _ _ _ _ _ _ _ r j).trans ?_)
    exact (congrArg (fun v => headNorm v (gi m c) j) (funext fun k => slice_proj _ (yRow m c) hY 1280 (by decide) _ r k)).trans (headNorm_headsAt _ _ _ _)
  · obtain ⟨r, j, rfl⟩ : ∃ (r : Fin 32768) (j : Fin 2048), i = (ix2 r j : S32768x2048.Idx) := ⟨i 0, i 1, eq_ix2 i⟩
    unfold res_main_v69
    exact rec_apply _ (yRow m c) hY _ _ _ _ _ r j
  · obtain ⟨j, r, rfl⟩ : ∃ (j : Fin 512) (r : Fin 32768), i = (ix2 j r : S512x32768.Idx) := ⟨i 0, i 1, eq_ix2 i⟩
    refine (truncf_eq _ _ _).trans ((transpose_ix2_apply _ _ j r).trans ?_)
    refine (mulf_apply _ _ _).trans (congrArg₂ (· * ·) ?_ ?_)
    · exact host_heads_flat (n := 32768) (H := 8) (w := 512) rfl _ (yRow m c) hY 0 (by decide) _ _ _ _ (by decide) _ _ _ _ _ _ _ _ r j
    · rw [broadcastInDim_scalar_apply, constant_apply]
  · obtain ⟨j, r, rfl⟩ : ∃ (j : Fin 512) (r : Fin 32768), i = (ix2 j r : S512x32768.Idx) := ⟨i 0, i 1, eq_ix2 i⟩
    exact (truncf_eq _ _ _).trans ((transpose_ix2_apply _ _ j r).trans (slice_proj _ (yRow m c) hY 768 (by decide) _ r j))
  · obtain ⟨j, r, rfl⟩ : ∃ (j : Fin 128) (r : Fin 32768), i = (ix2 j r : S128x32768.Idx) := ⟨i 0, i 1, eq_ix2 i⟩
    exact (truncf_eq _ _ _).trans ((transpose_ix2_apply _ _ j r).trans (slice_proj _ (yRow m c) hY 640 (by decide) _ r j))
  · obtain ⟨j, r, rfl⟩ : ∃ (j : Fin 8) (r : Fin 32768), i = (ix2 j r : S8x32768.Idx) := ⟨i 0, i 1, eq_ix2 i⟩
    refine (transpose_ix2_apply _ _ j r).trans ((mulf_apply _ _ _).trans (congrArg₂ (· * ·) ?_ ?_))
    · exact slice_proj _ (yRow m c) hY 1344 (by decide) _ r j
    · rw [broadcastInDim_scalar_apply, constant_apply]
  · obtain ⟨b, j, s, rfl⟩ : ∃ (b : Fin 16) (j : Fin 128) (s : Fin 2048), i = (ix3 b j s : S16x128x2048.Idx) := ⟨i 0, i 1, i 2, eq_ix3 i⟩
    exact (by_seq _ _ _ b j s).trans (host_heads_flat (n := 32768) (H := 2) (w := 128) rfl _ (yRow m c) hY 512 (by decide) _ _ _ _ (by decide) _ _ _ _ _ _ _ _ _ j)
  · obtain ⟨b, j, s, rfl⟩ : ∃ (b : Fin 16) (j : Fin 128) (s : Fin 2048), i = (ix3 b j s : S16x128x2048.Idx) := ⟨i 0, i 1, i 2, eq_ix3 i⟩
    exact (by_seq _ _ _ b j s).trans (slice_proj _ (yRow m c) hY 640 (by decide) _ _ j)
  · obtain ⟨b, j, s, rfl⟩ : ∃ (b : Fin 16) (j : Fin 64) (s : Fin 2048), i = (ix3 b j s : S16x64x2048.Idx) := ⟨i 0, i 1, i 2, eq_ix3 i⟩
    refine (by_seq _ _ _ b j s).trans ((host_norm64 (n := 32768) _ _ (by decide) _ _ _ _ _ _ _ _ _ j).trans ?_)
    exact (congrArg (fun v => headNorm v (gi m c) j) (funext fun k => slice_proj _ (yRow m c) hY 1280 (by decide) _ _ k)).trans (headNorm_headsAt _ _ _ _)

end Cert.InprojReferenceIdeal.Hand

end
-- ==== Proof.InValue.lean ====
/-
  Hand-written, untrusted. The in-projection of the prompts: the operands as the call finds them, read off the arguments;
  the blocks at a grid point; the ten results; and the agreement with the reference.
-/
module

public import proofs.«01_k».proof.Proof.Gen.InprojIdeal.Value
public import proofs.«01_k».proof.Proof.InPay
public import proofs.«01_k».proof.Proof.InRef
public import Idealize.ShloMosaic.Lib.Claim
public import Idealize.ShloMosaic.Lib.StableHlo.RunRead
public import proofs.«01_k».proof.Defs

@[expose] public section

set_option maxRecDepth 16384

noncomputable section

namespace Cert.InprojIdeal.Hand

open Idealize Idealize.ShloMosaic Idealize.ShloMosaic.ValueIdx Idealize.ShloMosaic.TcCoe Idealize.SL.Sem
open Idealize.ShloMosaic.Pipeline (Dat)
open Cert.InprojIdeal Cert.InprojIdeal.Gen Cert.InprojIdeal.Value Cert.Rows

variable (m : (ℓ : Loc nD τ sig) → Buf (Elt Ideal) ℓ) (ρ : Dev nD → PrngReg)

/-! ## The arguments as functions of their coordinates -/

abbrev xRow (c : Dev nD) (r : Fin 32768) : Fin 1024 → EReal := fun k => m ((c.tc : Thread nD τ).loc main_arg0) (ix2 r k)
abbrev gain (c : Dev nD) : Fin 1024 → EReal := fun k => m ((c.tc : Thread nD τ).loc main_arg1) (ix1 k)
abbrev wIn (c : Dev nD) : Fin 1024 → Fin 3400 → EReal := fun k j => m ((c.tc : Thread nD τ).loc main_arg2) (ix2 k j)
abbrev gq (c : Dev nD) : Fin 64 → EReal := fun k => m ((c.tc : Thread nD τ).loc main_arg3) (ix1 k)
abbrev gk (c : Dev nD) : Fin 64 → EReal := fun k => m ((c.tc : Thread nD τ).loc main_arg4) (ix1 k)
abbrev gi (c : Dev nD) : Fin 64 → EReal := fun k => m ((c.tc : Thread nD τ).loc main_arg5) (ix1 k)
/-- The rows of the projection. -/
abbrev yRow (c : Dev nD) (r : Fin 32768) : ℕ → EReal := projAt (normRow (xRow m c r) (gain m c)) (wIn m c)

/-! ## The weights in the two orders -/

/-- A block of columns of the weights, read off the weights. -/
theorem cols_at (W : Fin 1024 → Fin 3400 → EReal) (x : S1024x3400.Idx → EReal) (hx : ∀ k j, x (ix2 k j) = W k j) {n : ℕ} (o : ℕ)
    (h : S1024x3400.Slices ![0, o] ⟨2, ![1024, n]⟩) (k : Fin 1024) (q : Fin n) (c : ℕ) (hc : o + q.val = c) (hlt : c < 3400) :
    extractStridedSlice ⟨2, ![1024, n]⟩ ![0, o] x h (ix2 k q) = colAt W k c :=
  (slice2_axis1_apply o x h k q ⟨c, hlt⟩ hc.symm).trans ((hx k _).trans (colAt_of W k c hlt).symm)

/-- The first order of the columns. -/
theorem mainCat (W : Fin 1024 → Fin 3400 → EReal) (p0 : S1024x128.Idx → EReal) (p1 : S1024x64.Idx → EReal) (p2 : S1024x64.Idx → EReal) (p3 : S1024x512.Idx → EReal) (p4 : S1024x512.Idx → EReal) (p5 : S1024x512.Idx → EReal) (p6 : S1024x512.Idx → EReal)
    (h0 : ∀ k q, p0 (ix2 k q) = colAt W k (512 + q.val)) (h1 : ∀ k q, p1 (ix2 k q) = colAt W k (1280 + q.val)) (h3 : ∀ k q, p3 (ix2 k q) = colAt W k (1352 + q.val)) (h4 : ∀ k q, p4 (ix2 k q) = colAt W k (1864 + q.val)) (h5 : ∀ k q, p5 (ix2 k q) = colAt W k (2376 + q.val)) (h6 : ∀ k q, p6 (ix2 k q) = colAt W k (2888 + q.val))
    (k : Fin 1024) (c : Fin 2304) (hc : c.val < 192 ∨ 256 ≤ c.val) :
    concatenate S1024x2304 1 [⟨S1024x128, p0⟩, ⟨S1024x64, p1⟩, ⟨S1024x64, p2⟩, ⟨S1024x512, p3⟩, ⟨S1024x512, p4⟩, ⟨S1024x512, p5⟩, ⟨S1024x512, p6⟩]
      concatenates_S1024x128_S1024x64_S1024x64_S1024x512_S1024x512_S1024x512_S1024x512_S1024x2304_d1 (ix2 k c) = colAt W k (mainCol c.val) := by
  have hlt := c.isLt
  by_cases c0 : c.val < 128
  · refine (cat_cols [⟨S1024x128, p0⟩, ⟨S1024x64, p1⟩, ⟨S1024x64, p2⟩, ⟨S1024x512, p3⟩, ⟨S1024x512, p4⟩, ⟨S1024x512, p5⟩, ⟨S1024x512, p6⟩]
      concatenates_S1024x128_S1024x64_S1024x64_S1024x512_S1024x512_S1024x512_S1024x512_S1024x2304_d1 0 (by simp) p0 rfl 0 rfl k c ⟨c.val - 0, by omega⟩ (by dsimp only; omega)).trans ((h0 k _).trans (congrArg (colAt W k) ?_))
    unfold mainCol; dsimp only; split_ifs <;> omega
  by_cases c1 : c.val < 192
  · refine (cat_cols [⟨S1024x128, p0⟩, ⟨S1024x64, p1⟩, ⟨S1024x64, p2⟩, ⟨S1024x512, p3⟩, ⟨S1024x512, p4⟩, ⟨S1024x512, p5⟩, ⟨S1024x512, p6⟩]
      concatenates_S1024x128_S1024x64_S1024x64_S1024x512_S1024x512_S1024x512_S1024x512_S1024x2304_d1 1 (by simp) p1 rfl 128 rfl k c ⟨c.val - 128, by omega⟩ (by dsimp only; omega)).trans ((h1 k _).trans (congrArg (colAt W k) ?_))
    unfold mainCol; dsimp only; split_ifs <;> omega
  by_cases c3 : c.val < 768
  · refine (cat_cols [⟨S1024x128, p0⟩, ⟨S1024x64, p1⟩, ⟨S1024x64, p2⟩, ⟨S1024x512, p3⟩, ⟨S1024x512, p4⟩, ⟨S1024x512, p5⟩, ⟨S1024x512, p6⟩]
      concatenates_S1024x128_S1024x64_S1024x64_S1024x512_S1024x512_S1024x512_S1024x512_S1024x2304_d1 3 (by simp) p3 rfl 256 rfl k c ⟨c.val - 256, by omega⟩ (by dsimp only; omega)).trans ((h3 k _).trans (congrArg (colAt W k) ?_))
    unfold mainCol; dsimp only; split_ifs <;> omega
  by_cases c4 : c.val < 1280
  · refine (cat_cols [⟨S1024x128, p0⟩, ⟨S1024x64, p1⟩, ⟨S1024x64, p2⟩, ⟨S1024x512, p3⟩, ⟨S1024x512, p4⟩, ⟨S1024x512, p5⟩, ⟨S1024x512, p6⟩]
      concatenates_S1024x128_S1024x64_S1024x64_S1024x512_S1024x512_S1024x512_S1024x512_S1024x2304_d1 4 (by simp) p4 rfl 768 rfl k c ⟨c.val - 768, by omega⟩ (by dsimp only; omega)).trans ((h4 k _).trans (congrArg (colAt W k) ?_))
    unfold mainCol; dsimp only; split_ifs <;> omega
  by_cases c5 : c.val < 1792
  · refine (cat_cols [⟨S1024x128, p0⟩, ⟨S1024x64, p1⟩, ⟨S1024x64, p2⟩, ⟨S1024x512, p3⟩, ⟨S1024x512, p4⟩, ⟨S1024x512, p5⟩, ⟨S1024x512, p6⟩]
      concatenates_S1024x128_S1024x64_S1024x64_S1024x512_S1024x512_S1024x512_S1024x512_S1024x2304_d1 5 (by simp) p5 rfl 1280 rfl k c ⟨c.val - 1280, by omega⟩ (by dsimp only; omega)).trans ((h5 k _).trans (congrArg (colAt W k) ?_))
    unfold mainCol; dsimp only; split_ifs <;> omega
  · refine (cat_cols [⟨S1024x128, p0⟩, ⟨S1024x64, p1⟩, ⟨S1024x64, p2⟩, ⟨S1024x512, p3⟩, ⟨S1024x512, p4⟩, ⟨S1024x512, p5⟩, ⟨S1024x512, p6⟩]
      concatenates_S1024x128_S1024x64_S1024x64_S1024x512_S1024x512_S1024x512_S1024x512_S1024x2304_d1 6 (by simp) p6 rfl 1792 rfl k c ⟨c.val - 1792, by omega⟩ (by dsimp only; omega)).trans ((h6 k _).trans (congrArg (colAt W k) ?_))
    unfold mainCol; dsimp only; split_ifs <;> omega

theorem up12_v1 (c : Dev nD) (k : Fin 1024) (q : Fin 128) :
    StableHlo.upto (hostOps0 (F := Ideal)) (fun b => m (c, b)) 12 (Proc.devRef .tc main_v1) (ix2 k q) = colAt (wIn m c) k (512 + q.val) := by
  have hu : StableHlo.upto (hostOps0 (F := Ideal)) (fun b => m (c, b)) 1 (Proc.devRef .tc main_arg2) = m ((c.tc : Thread nD τ).loc main_arg2) :=
    StableHlo.upto_unwritten [main_v0] rfl (by decide) _
  refine Eq.trans (congrFun ((StableHlo.upto_last_write (i := 1) [main_v2, main_v3, main_v4, main_v5, main_v6, main_v7, main_v8, main_v9, main_cst, main_v10] rfl rfl (by decide) _).trans
    (StableHlo.unary_result main_arg2 main_v1 _ _ _ _)) (ix2 k q)) ?_
  rw [hu]
  exact cols_at (wIn m c) _ (fun _ _ => rfl) 512 slices_S1024x3400_S1024x128_0_512 k q _ rfl (by omega)

theorem up12_v4 (c : Dev nD) (k : Fin 1024) (q : Fin 64) :
    StableHlo.upto (hostOps0 (F := Ideal)) (fun b => m (c, b)) 12 (Proc.devRef .tc main_v4) (ix2 k q) = colAt (wIn m c) k (1280 + q.val) := by
  have hu : StableHlo.upto (hostOps0 (F := Ideal)) (fun b => m (c, b)) 4 (Proc.devRef .tc main_arg2) = m ((c.tc : Thread nD τ).loc main_arg2) :=
    StableHlo.upto_unwritten [main_v0, main_v1, main_v2, main_v3] rfl (by decide) _
  refine Eq.trans (congrFun ((StableHlo.upto_last_write (i := 4) [main_v5, main_v6, main_v7, main_v8, main_v9, main_cst, main_v10] rfl rfl (by decide) _).trans
    (StableHlo.unary_result main_arg2 main_v4 _ _ _ _)) (ix2 k q)) ?_
  rw [hu]
  exact cols_at (wIn m c) _ (fun _ _ => rfl) 1280 slices_S1024x3400_S1024x64_0_1280 k q _ rfl (by omega)

theorem up12_v6 (c : Dev nD) (k : Fin 1024) (q : Fin 512) :
    StableHlo.upto (hostOps0 (F := Ideal)) (fun b => m (c, b)) 12 (Proc.devRef .tc main_v6) (ix2 k q) = colAt (wIn m c) k (1352 + q.val) := by
  have hu : StableHlo.upto (hostOps0 (F := Ideal)) (fun b => m (c, b)) 6 (Proc.devRef .tc main_arg2) = m ((c.tc : Thread nD τ).loc main_arg2) :=
    StableHlo.upto_unwritten [main_v0, main_v1, main_v2, main_v3, main_v4, main_v5] rfl (by decide) _
  refine Eq.trans (congrFun ((StableHlo.upto_last_write (i := 6) [main_v7, main_v8, main_v9, main_cst, main_v10] rfl rfl (by decide) _).trans
    (StableHlo.unary_result main_arg2 main_v6 _ _ _ _)) (ix2 k q)) ?_
  rw [hu]
  exact cols_at (wIn m c) _ (fun _ _ => rfl) 1352 slices_S1024x3400_S1024x512_0_1352 k q _ rfl (by omega)

theorem up12_v7 (c : Dev nD) (k : Fin 1024) (q : Fin 512) :
    StableHlo.upto (hostOps0 (F := Ideal)) (fun b => m (c, b)) 12 (Proc.devRef .tc main_v7) (ix2 k q) = colAt (wIn m c) k (1864 + q.val) := by
  have hu : StableHlo.upto (hostOps0 (F := Ideal)) (fun b => m (c, b)) 7 (Proc.devRef .tc main_arg2) = m ((c.tc : Thread nD τ).loc main_arg2) :=
    StableHlo.upto_unwritten [main_v0, main_v1, main_v2, main_v3, main_v4, main_v5, main_v6] rfl (by decide) _
  refine Eq.trans (congrFun ((StableHlo.upto_last_write (i := 7) [main_v8, main_v9, main_cst, main_v10] rfl rfl (by decide) _).trans
    (StableHlo.unary_result main_arg2 main_v7 _ _ _ _)) (ix2 k q)) ?_
  rw [hu]
  exact cols_at (wIn m c) _ (fun _ _ => rfl) 1864 slices_S1024x3400_S1024x512_0_1864 k q _ rfl (by omega)

theorem up12_v8 (c : Dev nD) (k : Fin 1024) (q : Fin 512) :
    StableHlo.upto (hostOps0 (F := Ideal)) (fun b => m (c, b)) 12 (Proc.devRef .tc main_v8) (ix2 k q) = colAt (wIn m c) k (2376 + q.val) := by
  have hu : StableHlo.upto (hostOps0 (F := Ideal)) (fun b => m (c, b)) 8 (Proc.devRef .tc main_arg2) = m ((c.tc : Thread nD τ).loc main_arg2) :=
    StableHlo.upto_unwritten [main_v0, main_v1, main_v2, main_v3, main_v4, main_v5, main_v6, main_v7] rfl (by decide) _
  refine Eq.trans (congrFun ((StableHlo.upto_last_write (i := 8) [main_v9, main_cst, main_v10] rfl rfl (by decide) _).trans
    (StableHlo.unary_result main_arg2 main_v8 _ _ _ _)) (ix2 k q)) ?_
  rw [hu]
  exact cols_at (wIn m c) _ (fun _ _ => rfl) 2376 slices_S1024x3400_S1024x512_0_2376 k q _ rfl (by omega)

theorem up12_v9 (c : Dev nD) (k : Fin 1024) (q : Fin 512) :
    StableHlo.upto (hostOps0 (F := Ideal)) (fun b => m (c, b)) 12 (Proc.devRef .tc main_v9) (ix2 k q) = colAt (wIn m c) k (2888 + q.val) := by
  have hu : StableHlo.upto (hostOps0 (F := Ideal)) (fun b => m (c, b)) 9 (Proc.devRef .tc main_arg2) = m ((c.tc : Thread nD τ).loc main_arg2) :=
    StableHlo.upto_unwritten [main_v0, main_v1, main_v2, main_v3, main_v4, main_v5, main_v6, main_v7, main_v8] rfl (by decide) _
  refine Eq.trans (congrFun ((StableHlo.upto_last_write (i := 9) [main_cst, main_v10] rfl rfl (by decide) _).trans
    (StableHlo.unary_result main_arg2 main_v9 _ _ _ _)) (ix2 k q)) ?_
  rw [hu]
  exact cols_at (wIn m c) _ (fun _ _ => rfl) 2888 slices_S1024x3400_S1024x512_0_2888 k q _ rfl (by omega)

/-- The second order of the columns. -/
theorem tokCat (W : Fin 1024 → Fin 3400 → EReal) (p0 : S1024x512.Idx → EReal) (p1 : S1024x512.Idx → EReal) (p2 : S1024x128.Idx → EReal) (p3 : S1024x128.Idx → EReal) (p4 : S1024x64.Idx → EReal) (p5 : S1024x8.Idx → EReal) (p6 : S1024x8.Idx → EReal)
    (h0 : ∀ k q, p0 (ix2 k q) = colAt W k (0 + q.val)) (h1 : ∀ k q, p1 (ix2 k q) = colAt W k (768 + q.val)) (h2 : ∀ k q, p2 (ix2 k q) = colAt W k (640 + q.val)) (h3 : ∀ k q, p3 (ix2 k q) = colAt W k (512 + q.val)) (h4 : ∀ k q, p4 (ix2 k q) = colAt W k (1280 + q.val)) (h5 : ∀ k q, p5 (ix2 k q) = colAt W k (1344 + q.val))
    (k : Fin 1024) (c : Fin 1360) (hc : c.val < 1352) :
    concatenate S1024x1360 1 [⟨S1024x512, p0⟩, ⟨S1024x512, p1⟩, ⟨S1024x128, p2⟩, ⟨S1024x128, p3⟩, ⟨S1024x64, p4⟩, ⟨S1024x8, p5⟩, ⟨S1024x8, p6⟩]
      concatenates_S1024x512_S1024x512_S1024x128_S1024x128_S1024x64_S1024x8_S1024x8_S1024x1360_d1 (ix2 k c) = colAt W k (tokCol c.val) := by
  have hlt := c.isLt
  by_cases c0 : c.val < 512
  · refine (cat_cols [⟨S1024x512, p0⟩, ⟨S1024x512, p1⟩, ⟨S1024x128, p2⟩, ⟨S1024x128, p3⟩, ⟨S1024x64, p4⟩, ⟨S1024x8, p5⟩, ⟨S1024x8, p6⟩]
      concatenates_S1024x512_S1024x512_S1024x128_S1024x128_S1024x64_S1024x8_S1024x8_S1024x1360_d1 0 (by simp) p0 rfl 0 rfl k c ⟨c.val - 0, by omega⟩ (by dsimp only; omega)).trans ((h0 k _).trans (congrArg (colAt W k) ?_))
    unfold tokCol; dsimp only; split_ifs <;> omega
  by_cases c1 : c.val < 1024
  · refine (cat_cols [⟨S1024x512, p0⟩, ⟨S1024x512, p1⟩, ⟨S1024x128, p2⟩, ⟨S1024x128, p3⟩, ⟨S1024x64, p4⟩, ⟨S1024x8, p5⟩, ⟨S1024x8, p6⟩]
      concatenates_S1024x512_S1024x512_S1024x128_S1024x128_S1024x64_S1024x8_S1024x8_S1024x1360_d1 1 (by simp) p1 rfl 512 rfl k c ⟨c.val - 512, by omega⟩ (by dsimp only; omega)).trans ((h1 k _).trans (congrArg (colAt W k) ?_))
    unfold tokCol; dsimp only; split_ifs <;> omega
  by_cases c2 : c.val < 1152
  · refine (cat_cols [⟨S1024x512, p0⟩, ⟨S1024x512, p1⟩, ⟨S1024x128, p2⟩, ⟨S1024x128, p3⟩, ⟨S1024x64, p4⟩, ⟨S1024x8, p5⟩, ⟨S1024x8, p6⟩]
      concatenates_S1024x512_S1024x512_S1024x128_S1024x128_S1024x64_S1024x8_S1024x8_S1024x1360_d1 2 (by simp) p2 rfl 1024 rfl k c ⟨c.val - 1024, by omega⟩ (by dsimp only; omega)).trans ((h2 k _).trans (congrArg (colAt W k) ?_))
    unfold tokCol; dsimp only; split_ifs <;> omega
  by_cases c3 : c.val < 1280
  · refine (cat_cols [⟨S1024x512, p0⟩, ⟨S1024x512, p1⟩, ⟨S1024x128, p2⟩, ⟨S1024x128, p3⟩, ⟨S1024x64, p4⟩, ⟨S1024x8, p5⟩, ⟨S1024x8, p6⟩]
      concatenates_S1024x512_S1024x512_S1024x128_S1024x128_S1024x64_S1024x8_S1024x8_S1024x1360_d1 3 (by simp) p3 rfl 1152 rfl k c ⟨c.val - 1152, by omega⟩ (by dsimp only; omega)).trans ((h3 k _).trans (congrArg (colAt W k) ?_))
    unfold tokCol; dsimp only; split_ifs <;> omega
  by_cases c4 : c.val < 1344
  · refine (cat_cols [⟨S1024x512, p0⟩, ⟨S1024x512, p1⟩, ⟨S1024x128, p2⟩, ⟨S1024x128, p3⟩, ⟨S1024x64, p4⟩, ⟨S1024x8, p5⟩, ⟨S1024x8, p6⟩]
      concatenates_S1024x512_S1024x512_S1024x128_S1024x128_S1024x64_S1024x8_S1024x8_S1024x1360_d1 4 (by simp) p4 rfl 1280 rfl k c ⟨c.val - 1280, by omega⟩ (by dsimp only; omega)).trans ((h4 k _).trans (congrArg (colAt W k) ?_))
    unfold tokCol; dsimp only; split_ifs <;> omega
  · refine (cat_cols [⟨S1024x512, p0⟩, ⟨S1024x512, p1⟩, ⟨S1024x128, p2⟩, ⟨S1024x128, p3⟩, ⟨S1024x64, p4⟩, ⟨S1024x8, p5⟩, ⟨S1024x8, p6⟩]
      concatenates_S1024x512_S1024x512_S1024x128_S1024x128_S1024x64_S1024x8_S1024x8_S1024x1360_d1 5 (by simp) p5 rfl 1344 rfl k c ⟨c.val - 1344, by omega⟩ (by dsimp only; omega)).trans ((h5 k _).trans (congrArg (colAt W k) ?_))
    unfold tokCol; dsimp only; split_ifs <;> omega

theorem up16_v0 (c : Dev nD) (k : Fin 1024) (q : Fin 512) :
    StableHlo.upto (hostOps0 (F := Ideal)) (fun b => m (c, b)) 16 (Proc.devRef .tc main_v0) (ix2 k q) = colAt (wIn m c) k (0 + q.val) := by
  have hu : StableHlo.upto (hostOps0 (F := Ideal)) (fun b => m (c, b)) 0 (Proc.devRef .tc main_arg2) = m ((c.tc : Thread nD τ).loc main_arg2) :=
    StableHlo.upto_unwritten [] rfl (by decide) _
  refine Eq.trans (congrFun ((StableHlo.upto_last_write (i := 0) [main_v1, main_v2, main_v3, main_v4, main_v5, main_v6, main_v7, main_v8, main_v9, main_cst, main_v10, main_v11, main_v12, main_cst_0, main_v13] rfl rfl (by decide) _).trans
    (StableHlo.unary_result main_arg2 main_v0 _ _ _ _)) (ix2 k q)) ?_
  rw [hu]
  exact cols_at (wIn m c) _ (fun _ _ => rfl) 0 slices_S1024x3400_S1024x512_0_0 k q _ rfl (by omega)

theorem up16_v3 (c : Dev nD) (k : Fin 1024) (q : Fin 512) :
    StableHlo.upto (hostOps0 (F := Ideal)) (fun b => m (c, b)) 16 (Proc.devRef .tc main_v3) (ix2 k q) = colAt (wIn m c) k (768 + q.val) := by
  have hu : StableHlo.upto (hostOps0 (F := Ideal)) (fun b => m (c, b)) 3 (Proc.devRef .tc main_arg2) = m ((c.tc : Thread nD τ).loc main_arg2) :=
    StableHlo.upto_unwritten [main_v0, main_v1, main_v2] rfl (by decide) _
  refine Eq.trans (congrFun ((StableHlo.upto_last_write (i := 3) [main_v4, main_v5, main_v6, main_v7, main_v8, main_v9, main_cst, main_v10, main_v11, main_v12, main_cst_0, main_v13] rfl rfl (by decide) _).trans
    (StableHlo.unary_result main_arg2 main_v3 _ _ _ _)) (ix2 k q)) ?_
  rw [hu]
  exact cols_at (wIn m c) _ (fun _ _ => rfl) 768 slices_S1024x3400_S1024x512_0_768 k q _ rfl (by omega)

theorem up16_v2 (c : Dev nD) (k : Fin 1024) (q : Fin 128) :
    StableHlo.upto (hostOps0 (F := Ideal)) (fun b => m (c, b)) 16 (Proc.devRef .tc main_v2) (ix2 k q) = colAt (wIn m c) k (640 + q.val) := by
  have hu : StableHlo.upto (hostOps0 (F := Ideal)) (fun b => m (c, b)) 2 (Proc.devRef .tc main_arg2) = m ((c.tc : Thread nD τ).loc main_arg2) :=
    StableHlo.upto_unwritten [main_v0, main_v1] rfl (by decide) _
  refine Eq.trans (congrFun ((StableHlo.upto_last_write (i := 2) [main_v3, main_v4, main_v5, main_v6, main_v7, main_v8, main_v9, main_cst, main_v10, main_v11, main_v12, main_cst_0, main_v13] rfl rfl (by decide) _).trans
    (StableHlo.unary_result main_arg2 main_v2 _ _ _ _)) (ix2 k q)) ?_
  rw [hu]
  exact cols_at (wIn m c) _ (fun _ _ => rfl) 640 slices_S1024x3400_S1024x128_0_640 k q _ rfl (by omega)

theorem up16_v1 (c : Dev nD) (k : Fin 1024) (q : Fin 128) :
    StableHlo.upto (hostOps0 (F := Ideal)) (fun b => m (c, b)) 16 (Proc.devRef .tc main_v1) (ix2 k q) = colAt (wIn m c) k (512 + q.val) := by
  have hu : StableHlo.upto (hostOps0 (F := Ideal)) (fun b => m (c, b)) 1 (Proc.devRef .tc main_arg2) = m ((c.tc : Thread nD τ).loc main_arg2) :=
    StableHlo.upto_unwritten [main_v0] rfl (by decide) _
  refine Eq.trans (congrFun ((StableHlo.upto_last_write (i := 1) [main_v2, main_v3, main_v4, main_v5, main_v6, main_v7, main_v8, main_v9, main_cst, main_v10, main_v11, main_v12, main_cst_0, main_v13] rfl rfl (by decide) _).trans
    (StableHlo.unary_result main_arg2 main_v1 _ _ _ _)) (ix2 k q)) ?_
  rw [hu]
  exact cols_at (wIn m c) _ (fun _ _ => rfl) 512 slices_S1024x3400_S1024x128_0_512 k q _ rfl (by omega)

theorem up16_v4 (c : Dev nD) (k : Fin 1024) (q : Fin 64) :
    StableHlo.upto (hostOps0 (F := Ideal)) (fun b => m (c, b)) 16 (Proc.devRef .tc main_v4) (ix2 k q) = colAt (wIn m c) k (1280 + q.val) := by
  have hu : StableHlo.upto (hostOps0 (F := Ideal)) (fun b => m (c, b)) 4 (Proc.devRef .tc main_arg2) = m ((c.tc : Thread nD τ).loc main_arg2) :=
    StableHlo.upto_unwritten [main_v0, main_v1, main_v2, main_v3] rfl (by decide) _
  refine Eq.trans (congrFun ((StableHlo.upto_last_write (i := 4) [main_v5, main_v6, main_v7, main_v8, main_v9, main_cst, main_v10, main_v11, main_v12, main_cst_0, main_v13] rfl rfl (by decide) _).trans
    (StableHlo.unary_result main_arg2 main_v4 _ _ _ _)) (ix2 k q)) ?_
  rw [hu]
  exact cols_at (wIn m c) _ (fun _ _ => rfl) 1280 slices_S1024x3400_S1024x64_0_1280 k q _ rfl (by omega)

theorem up16_v5 (c : Dev nD) (k : Fin 1024) (q : Fin 8) :
    StableHlo.upto (hostOps0 (F := Ideal)) (fun b => m (c, b)) 16 (Proc.devRef .tc main_v5) (ix2 k q) = colAt (wIn m c) k (1344 + q.val) := by
  have hu : StableHlo.upto (hostOps0 (F := Ideal)) (fun b => m (c, b)) 5 (Proc.devRef .tc main_arg2) = m ((c.tc : Thread nD τ).loc main_arg2) :=
    StableHlo.upto_unwritten [main_v0, main_v1, main_v2, main_v3, main_v4] rfl (by decide) _
  refine Eq.trans (congrFun ((StableHlo.upto_last_write (i := 5) [main_v6, main_v7, main_v8, main_v9, main_cst, main_v10, main_v11, main_v12, main_cst_0, main_v13] rfl rfl (by decide) _).trans
    (StableHlo.unary_result main_arg2 main_v5 _ _ _ _)) (ix2 k q)) ?_
  rw [hu]
  exact cols_at (wIn m c) _ (fun _ _ => rfl) 1344 slices_S1024x3400_S1024x8_0_1344 k q _ rfl (by omega)

/-! ## The operands as the call finds them -/

theorem wMain_apply (c : Dev nD) (k : Fin 1024) (q : Fin 2304) (hq : q.val < 192 ∨ 256 ≤ q.val) :
    V m c main_v12 (ix2 k q) = colAt (wIn m c) k (mainCol q.val) := by
  refine Eq.trans (congrFun ((StableHlo.after_last_write (i := 13) [main_cst_0, main_v13, main_v14, main_v15, main_v16, main_cst_1, main_v17, main_v18, main_v19, main_cst_2, main_v20, main_v21, main_v22, main_v23, main_v24, main_v25, main_v26, main_v27, main_v28, main_v29, main_v30, main_v31, main_v32, main_v33] rfl rfl (by decide) _).trans
    (StableHlo.unary_result main_v11 main_v12 _ _ _ _)) (ix2 k q)) ?_
  refine (truncf_eq _ _ _).trans ?_
  refine Eq.trans (congrFun ((StableHlo.upto_last_write (i := 12) [] rfl rfl (by decide) _).trans
    (StableHlo.nary_result ![main_v1, main_v4, main_v10, main_v6, main_v7, main_v8, main_v9] main_v11 _ _ _ _)) (ix2 k q)) ?_
  exact mainCat (wIn m c) _ _ _ _ _ _ _ (up12_v1 m c) (up12_v4 m c) (up12_v6 m c) (up12_v7 m c) (up12_v8 m c) (up12_v9 m c) k q hq

theorem wTok_apply (c : Dev nD) (q : Fin 1360) (k : Fin 1024) (hq : q.val < 1352) :
    V m c main_v16 (ix2 q k) = colAt (wIn m c) k (tokCol q.val) := by
  refine Eq.trans (congrFun ((StableHlo.after_last_write (i := 18) [main_cst_1, main_v17, main_v18, main_v19, main_cst_2, main_v20, main_v21, main_v22, main_v23, main_v24, main_v25, main_v26, main_v27, main_v28, main_v29, main_v30, main_v31, main_v32, main_v33] rfl rfl (by decide) _).trans
    (StableHlo.unary_result main_v15 main_v16 _ _ _ _)) (ix2 q k)) ?_
  refine (truncf_eq _ _ _).trans ?_
  refine Eq.trans (congrFun ((StableHlo.upto_last_write (i := 17) [] rfl rfl (by decide) _).trans
    (StableHlo.unary_result main_v14 main_v15 _ _ _ _)) (ix2 q k)) ?_
  refine (transpose_ix2_apply _ transposes_S1024x1360_S1360x1024_1_0 q k).trans ?_
  refine Eq.trans (congrFun ((StableHlo.upto_last_write (i := 16) [] rfl rfl (by decide) _).trans
    (StableHlo.nary_result ![main_v0, main_v3, main_v2, main_v1, main_v4, main_v5, main_v13] main_v14 _ _ _ _)) (ix2 k q)) ?_
  exact tokCat (wIn m c) _ _ _ _ _ _ _ (up16_v0 m c) (up16_v3 m c) (up16_v2 m c) (up16_v1 m c) (up16_v4 m c) (up16_v5 m c) k q hq

/-- Gains of one head repeated for every head. -/
theorem rep_apply {n N : ℕ} (x : S64.Idx → EReal) (h1 : S64.ShapeCasts S1x64) (hb : S1x64.BroadcastsInDim ⟨2, ![n, 64]⟩ ![0, 1])
    (h2 : (⟨2, ![n, 64]⟩ : Shape).ShapeCasts ⟨1, ![N]⟩) (hN : N = 64 * n) (j : Fin N) :
    shapeCast ⟨1, ![N]⟩ (broadcastInDim ⟨2, ![n, 64]⟩ ![0, 1] hb (shapeCast S1x64 x h1)) h2 (ix1 j) = x (ix1 ⟨j.val % 64, Nat.mod_lt _ (by decide)⟩) := by
  have hj := j.isLt
  refine (shapeCast_apply _ h2 (ix1 j) (ix2 ⟨j.val / 64, by omega⟩ ⟨j.val % 64, Nat.mod_lt _ (by decide)⟩) ?_).trans ?_
  · rw [Shape.rowMajor_val_two, Shape.rowMajor_val_one]
    show j.val / 64 * 64 + j.val % 64 = j.val
    omega
  · refine (broadcastInDim_apply _ hb _ _ (ix2 0 ⟨j.val % 64, Nat.mod_lt _ (by decide)⟩) (fun a => ?_)).trans (shapeCast_a_1a_apply x h1 0 _)
    match a with
    | ⟨0, _⟩ => rfl
    | ⟨1, _⟩ => rfl

theorem gq_apply (c : Dev nD) (j : Fin 512) :
    V m c main_v25 (ix2 j 0) = gq m c ⟨j.val % 64, Nat.mod_lt _ (by decide)⟩ * Ideal.ofBits .f32 0x3E38AA3B#32 := by
  entry_read
  refine (shapeCast_a_a1_apply _ shapeCasts_S512_S512x1 j 0).trans ?_
  exact rep_apply _ shapeCasts_S64_S1x64 bcast_S1x64_S8x64_0_1 shapeCasts_S8x64_S512 rfl j

theorem gkRow_apply (c : Dev nD) (j : Fin 128) : V m c main_v29 (ix2 0 j) = gk m c ⟨j.val % 64, Nat.mod_lt _ (by decide)⟩ := by
  entry_read
  refine (shapeCast_a_1a_apply _ shapeCasts_S128_S1x128 0 j).trans ?_
  exact rep_apply _ shapeCasts_S64_S1x64 bcast_S1x64_S2x64_0_1 shapeCasts_S2x64_S128 rfl j

/-- A row read as a column. -/
theorem row_col_apply {n : ℕ} (x : (⟨2, ![1, n]⟩ : Shape).Idx → EReal) (h : (⟨2, ![1, n]⟩ : Shape).ShapeCasts ⟨2, ![n, 1]⟩) (j : Fin n) :
    shapeCast ⟨2, ![n, 1]⟩ x h (ix2 j 0) = x (ix2 0 j) := by
  refine shapeCast_apply x h (ix2 j 0) (ix2 0 j) ?_
  rw [Shape.rowMajor_val_two, Shape.rowMajor_val_two]
  show 0 * n + j.val = j.val * 1 + 0
  omega

theorem gkCol_apply (c : Dev nD) (j : Fin 128) : V m c main_v32 (ix2 j 0) = gk m c ⟨j.val % 64, Nat.mod_lt _ (by decide)⟩ := by
  entry_read
  refine (row_col_apply _ shapeCasts_S1x128_S128x1 j).trans ?_
  refine (shapeCast_a_1a_apply _ shapeCasts_S128_S1x128 0 j).trans ?_
  exact rep_apply _ shapeCasts_S64_S1x64 bcast_S1x64_S2x64_0_1 shapeCasts_S2x64_S128 rfl j

theorem giRow_apply (c : Dev nD) (j : Fin 64) : V m c main_v30 (ix2 0 j) = gi m c j := by
  entry_read
  exact shapeCast_a_1a_apply _ shapeCasts_S64_S1x64 0 j

theorem giCol_apply (c : Dev nD) (j : Fin 64) : V m c main_v33 (ix2 j 0) = gi m c j := by
  entry_read
  exact (row_col_apply _ shapeCasts_S1x64_S64x1 j).trans (shapeCast_a_1a_apply _ shapeCasts_S64_S1x64 0 j)

theorem gain_apply (c : Dev nD) (k : Fin 1024) : V m c main_v31 (ix2 0 k) = gain m c k := by
  entry_read
  exact shapeCast_a_1a_apply _ _ 0 k

/-! ## The grid's index maps -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel
theorem idx11 : ∀ t : Fin grid0.N, win0_11.index t 0 = t.val ∧ win0_11.index t 1 = 0 := by decide +kernel
theorem idx12 : ∀ t : Fin grid0.N, win0_12.index t 0 = 0 ∧ win0_12.index t 1 = t.val := by decide +kernel
theorem idx13 : ∀ t : Fin grid0.N, win0_13.index t 0 = 0 ∧ win0_13.index t 1 = t.val := by decide +kernel
theorem idx14 : ∀ t : Fin grid0.N, win0_14.index t 0 = 0 ∧ win0_14.index t 1 = t.val := by decide +kernel
theorem idx15 : ∀ t : Fin grid0.N, win0_15.index t 0 = 0 ∧ win0_15.index t 1 = t.val := by decide +kernel
theorem idx16 : ∀ t : Fin grid0.N, win0_16.index t 0 = t.val / 4 ∧ win0_16.index t 1 = 0 ∧ win0_16.index t 2 = t.val % 4 := by decide +kernel
theorem idx17 : ∀ t : Fin grid0.N, win0_17.index t 0 = t.val / 4 ∧ win0_17.index t 1 = 0 ∧ win0_17.index t 2 = t.val % 4 := by decide +kernel
theorem idx18 : ∀ t : Fin grid0.N, win0_18.index t 0 = t.val / 4 ∧ win0_18.index t 1 = 0 ∧ win0_18.index t 2 = t.val % 4 := by decide +kernel

theorem ltN (t : Fin cfg0.N) : t.val < 64 := lt_of_lt_of_eq t.isLt N_0

/-! ## The blocks at a grid point -/

/-- The array's row a block's row `r` is, at point `t`. -/
abbrev row (t : Fin cfg0.N) (r : Fin 512) : Fin 32768 := ⟨512 * t.val + r.val, by have := ltN t; omega⟩

theorem blk0_apply (c : Dev nD) (t : Fin cfg0.N) (r : Fin 512) (k : Fin 1024) : iblk m c 0 t (ix2 r k) = xRow m c (row t r) k := by
  have e := idx0 t
  show V m c main_arg0 ((win0_0.rect t).emb (ix2 r k)) = _
  rw [V_main_arg0]
  refine congrArg (m ((c.tc : Thread nD τ).loc main_arg0)) (funext fun a => Fin.ext ?_)
  match a with
  | ⟨0, _⟩ =>
    refine (win0_0.rect_emb_val t (ix2 r k) 0).trans ?_
    show win0_0.index t 0 * 512 + r.val = 512 * t.val + r.val
    rw [e.1]; omega
  | ⟨1, _⟩ => exact win0_0.rect_emb_val_of_index_zero t 1 e.2 (ix2 r k)

theorem blk1_apply (c : Dev nD) (t : Fin cfg0.N) (k : Fin 1024) : iblk m c 1 t (ix2 0 k) = gain m c k := by
  have e := idx1 t
  show V m c main_v31 ((win0_1.rect t).emb (ix2 0 k)) = _
  refine Eq.trans (congrArg (V m c main_v31) (funext fun a => Fin.ext ?_)) (gain_apply m c k)
  match a with
  | ⟨0, _⟩ => exact win0_1.rect_emb_val_of_index_zero t 0 e.1 (ix2 0 k)
  | ⟨1, _⟩ => exact win0_1.rect_emb_val_of_index_zero t 1 e.2 (ix2 0 k)

theorem blk2_apply (c : Dev nD) (t : Fin cfg0.N) (k : Fin 1024) (q : Fin 2304) (hq : q.val < 192 ∨ 256 ≤ q.val) : iblk m c 2 t (ix2 k q) = colAt (wIn m c) k (mainCol q.val) := by
  have e := idx2 t
  show V m c main_v12 ((win0_2.rect t).emb (ix2 k q)) = _
  refine Eq.trans (congrArg (V m c main_v12) (funext fun a => Fin.ext ?_)) (wMain_apply m c k q hq)
  match a with
  | ⟨0, _⟩ => exact win0_2.rect_emb_val_of_index_zero t 0 e.1 (ix2 k q)
  | ⟨1, _⟩ => exact win0_2.rect_emb_val_of_index_zero t 1 e.2 (ix2 k q)

theorem blk3_apply (c : Dev nD) (t : Fin cfg0.N) (q : Fin 1360) (k : Fin 1024) (hq : q.val < 1352) : iblk m c 3 t (ix2 q k) = colAt (wIn m c) k (tokCol q.val) := by
  have e := idx3 t
  show V m c main_v16 ((win0_3.rect t).emb (ix2 q k)) = _
  refine Eq.trans (congrArg (V m c main_v16) (funext fun a => Fin.ext ?_)) (wTok_apply m c q k hq)
  match a with
  | ⟨0, _⟩ => exact win0_3.rect_emb_val_of_index_zero t 0 e.1 (ix2 q k)
  | ⟨1, _⟩ => exact win0_3.rect_emb_val_of_index_zero t 1 e.2 (ix2 q k)

theorem blk4_apply (c : Dev nD) (t : Fin cfg0.N) (j : Fin 128) : iblk m c 4 t (ix2 0 j) = gk m c ⟨j.val % 64, Nat.mod_lt _ (by decide)⟩ := by
  have e := idx4 t
  show V m c main_v29 ((win0_4.rect t).emb (ix2 0 j)) = _
  refine Eq.trans (congrArg (V m c main_v29) (funext fun a => Fin.ext ?_)) (gkRow_apply m c j)
  match a with
  | ⟨0, _⟩ => exact win0_4.rect_emb_val_of_index_zero t 0 e.1 (ix2 0 j)
  | ⟨1, _⟩ => exact win0_4.rect_emb_val_of_index_zero t 1 e.2 (ix2 0 j)

theorem blk5_apply (c : Dev nD) (t : Fin cfg0.N) (j : Fin 64) : iblk m c 5 t (ix2 0 j) = gi m c j := by
  have e := idx5 t
  show V m c main_v30 ((win0_5.rect t).emb (ix2 0 j)) = _
  refine Eq.trans (congrArg (V m c main_v30) (funext fun a => Fin.ext ?_)) (giRow_apply m c j)
  match a with
  | ⟨0, _⟩ => exact win0_5.rect_emb_val_of_index_zero t 0 e.1 (ix2 0 j)
  | ⟨1, _⟩ => exact win0_5.rect_emb_val_of_index_zero t 1 e.2 (ix2 0 j)

theorem blk6_apply (c : Dev nD) (t : Fin cfg0.N) (j : Fin 512) : iblk m c 6 t (ix2 j 0) = gq m c ⟨j.val % 64, Nat.mod_lt _ (by decide)⟩ * Ideal.ofBits .f32 0x3E38AA3B#32 := by
  have e := idx6 t
  show V m c main_v25 ((win0_6.rect t).emb (ix2 j 0)) = _
  refine Eq.trans (congrArg (V m c main_v25) (funext fun a => Fin.ext ?_)) (gq_apply m c j)
  match a with
  | ⟨0, _⟩ => exact win0_6.rect_emb_val_of_index_zero t 0 e.1 (ix2 j 0)
  | ⟨1, _⟩ => exact win0_6.rect_emb_val_of_index_zero t 1 e.2 (ix2 j 0)

theorem blk7_apply (c : Dev nD) (t : Fin cfg0.N) (j : Fin 128) : iblk m c 7 t (ix2 j 0) = gk m c ⟨j.val % 64, Nat.mod_lt _ (by decide)⟩ := by
  have e := idx7 t
  show V m c main_v32 ((win0_7.rect t).emb (ix2 j 0)) = _
  refine Eq.trans (congrArg (V m c main_v32) (funext fun a => Fin.ext ?_)) (gkCol_apply m c j)
  match a with
  | ⟨0, _⟩ => exact win0_7.rect_emb_val_of_index_zero t 0 e.1 (ix2 j 0)
  | ⟨1, _⟩ => exact win0_7.rect_emb_val_of_index_zero t 1 e.2 (ix2 j 0)

theorem blk8_apply (c : Dev nD) (t : Fin cfg0.N) (j : Fin 64) : iblk m c 8 t (ix2 j 0) = gi m c j := by
  have e := idx8 t
  show V m c main_v33 ((win0_8.rect t).emb (ix2 j 0)) = _
  refine Eq.trans (congrArg (V m c main_v33) (funext fun a => Fin.ext ?_)) (giCol_apply m c j)
  match a with
  | ⟨0, _⟩ => exact win0_8.rect_emb_val_of_index_zero t 0 e.1 (ix2 j 0)
  | ⟨1, _⟩ => exact win0_8.rect_emb_val_of_index_zero t 1 e.2 (ix2 j 0)

/-- The projection of the block's rows is that of the array's. -/
theorem yBlk_eq (c : Dev nD) (t : Fin cfg0.N) (r : Fin 512) : yBlk (iblk m c 0 t) (iblk m c 1 t) (wIn m c) r = yRow m c (row t r) := by
  unfold yBlk yRow
  rw [show (fun k => iblk m c 0 t (ix2 r k)) = xRow m c (row t r) from funext fun k => blk0_apply m c t r k,
    show (fun k => iblk m c 1 t (ix2 0 k)) = gain m c from funext fun k => blk1_apply m c t k]

/-! ## The results -/

theorem flushed9_eq (c : Dev nD) (t : Fin cfg0.N) :
    (dats m 0 c).flushed 9 t = (win0_9.blk t).view.read (Elt Ideal) (gAk (yRow m c) (gk m c)) := by
  refine (flushed9 m c t).trans (funext fun i => ?_)
  have e := idx9 t
  have hN := ltN t
  obtain ⟨r, j, rfl⟩ : ∃ (r : Fin 512) (j : Fin 128), i = (ix2 r j : S512x128.Idx) := ⟨i 0, i 1, eq_ix2 i⟩
  have hi : ((win0_9.rect t).emb (ix2 r j : S512x128.Idx) : S32768x128.Idx) = ix2 (row t r) j := by
    funext a; apply Fin.ext
    match a with
    | ⟨0, _⟩ =>
      refine (win0_9.rect_emb_val t (ix2 r j) 0).trans ?_
      show win0_9.index t 0 * 512 + r.val = 512 * t.val + r.val
      rw [e.1]; omega
    | ⟨1, _⟩ => exact win0_9.rect_emb_val_of_index_zero t 1 e.2 (ix2 r j)
  show out0_9 (F := Ideal) (iblk m c 0 t) (iblk m c 1 t) (iblk m c 2 t) (iblk m c 3 t) (iblk m c 4 t) (iblk m c 5 t) (iblk m c 6 t) (iblk m c 7 t) (iblk m c 8 t) (ix2 r j)
    = (gAk (yRow m c) (gk m c)) ((win0_9.rect t).emb (ix2 r j : S512x128.Idx))
  rw [hi]
  refine (out9_apply (iblk m c 0 t) (iblk m c 1 t) (iblk m c 2 t) (iblk m c 3 t) (iblk m c 4 t) (iblk m c 5 t) (iblk m c 6 t) (iblk m c 7 t) (iblk m c 8 t) (wIn m c) (fun k q hq => blk2_apply m c t k q hq) (gk m c) (fun j => blk4_apply m c t j) r j).trans ?_
  exact congrArg (fun y : ℕ → EReal => headsAt y 512 (gk m c) j.val) (yBlk_eq m c t r)

theorem cover9 (i : S32768x128.Idx) : ∃ t : Fin cfg0.N, (cfg0.win 9).flush t = true ∧ i ∈ ((cfg0.win 9).blk t).view.set := by
  have h0 : (i 0 : Nat) < 32768 := (i 0).isLt
  have h1 : (i 1 : Nat) < 128 := (i 1).isLt
  have hN : cfg0.N = 64 := N_0
  have hlt : (i 0 : Nat) / 512 < cfg0.N := by omega
  refine ⟨⟨(i 0 : Nat) / 512, hlt⟩, flush0_9 _, ?_⟩
  have e := idx9 ⟨(i 0 : Nat) / 512, hlt⟩
  show i ∈ ((View.whole main_v34_0).slice (win0_9.rect ⟨(i 0 : Nat) / 512, hlt⟩)).set
  rw [View.set_slice_whole, Rect.mem_set_unit]
  exact fun a => by
    match a with
    | ⟨0, _⟩ =>
      show win0_9.index ⟨(i 0 : Nat) / 512, hlt⟩ 0 * 512 ≤ (i 0 : Nat) ∧ (i 0 : Nat) < win0_9.index ⟨(i 0 : Nat) / 512, hlt⟩ 0 * 512 + 512
      rw [e.1]; dsimp only; omega
    | ⟨1, _⟩ =>
      show win0_9.index ⟨(i 0 : Nat) / 512, hlt⟩ 1 * 128 ≤ (i 1 : Nat) ∧ (i 1 : Nat) < win0_9.index ⟨(i 0 : Nat) / 512, hlt⟩ 1 * 128 + 128
      rw [e.2]; omega

theorem final9 (c : Dev nD) : (dats m 0 c).arrAt 9 cfg0.N = gAk (yRow m c) (gk m c) :=
  (dats m 0 c).arrAt_eq_of_cover 9 (gAk (yRow m c) (gk m c)) (fun t _ => flushed9_eq m c t) cover9

theorem flushed10_eq (c : Dev nD) (t : Fin cfg0.N) :
    (dats m 0 c).flushed 10 t = (win0_10.blk t).view.read (Elt Ideal) (gIk (yRow m c) (gi m c)) := by
  refine (flushed10 m c t).trans (funext fun i => ?_)
  have e := idx10 t
  have hN := ltN t
  obtain ⟨r, j, rfl⟩ : ∃ (r : Fin 512) (j : Fin 64), i = (ix2 r j : S512x64.Idx) := ⟨i 0, i 1, eq_ix2 i⟩
  have hi : ((win0_10.rect t).emb (ix2 r j : S512x64.Idx) : S32768x64.Idx) = ix2 (row t r) j := by
    funext a; apply Fin.ext
    match a with
    | ⟨0, _⟩ =>
      refine (win0_10.rect_emb_val t (ix2 r j) 0).trans ?_
      show win0_10.index t 0 * 512 + r.val = 512 * t.val + r.val
      rw [e.1]; omega
    | ⟨1, _⟩ => exact win0_10.rect_emb_val_of_index_zero t 1 e.2 (ix2 r j)
  show out0_10 (F := Ideal) (iblk m c 0 t) (iblk m c 1 t) (iblk m c 2 t) (iblk m c 3 t) (iblk m c 4 t) (iblk m c 5 t) (iblk m c 6 t) (iblk m c 7 t) (iblk m c 8 t) (ix2 r j)
    = (gIk (yRow m c) (gi m c)) ((win0_10.rect t).emb (ix2 r j : S512x64.Idx))
  rw [hi]
  refine (out10_apply (iblk m c 0 t) (iblk m c 1 t) (iblk m c 2 t) (iblk m c 3 t) (iblk m c 4 t) (iblk m c 5 t) (iblk m c 6 t) (iblk m c 7 t) (iblk m c 8 t) (wIn m c) (fun k q hq => blk2_apply m c t k q hq) (gi m c) (fun j => blk5_apply m c t j) r j).trans ?_
  exact congrArg (fun y : ℕ → EReal => headsAt y 1280 (gi m c) j.val) (yBlk_eq m c t r)

theorem cover10 (i : S32768x64.Idx) : ∃ t : Fin cfg0.N, (cfg0.win 10).flush t = true ∧ i ∈ ((cfg0.win 10).blk t).view.set := by
  have h0 : (i 0 : Nat) < 32768 := (i 0).isLt
  have h1 : (i 1 : Nat) < 64 := (i 1).isLt
  have hN : cfg0.N = 64 := N_0
  have hlt : (i 0 : Nat) / 512 < cfg0.N := by omega
  refine ⟨⟨(i 0 : Nat) / 512, hlt⟩, flush0_10 _, ?_⟩
  have e := idx10 ⟨(i 0 : Nat) / 512, hlt⟩
  show i ∈ ((View.whole main_v34_1).slice (win0_10.rect ⟨(i 0 : Nat) / 512, hlt⟩)).set
  rw [View.set_slice_whole, Rect.mem_set_unit]
  exact fun a => by
    match a with
    | ⟨0, _⟩ =>
      show win0_10.index ⟨(i 0 : Nat) / 512, hlt⟩ 0 * 512 ≤ (i 0 : Nat) ∧ (i 0 : Nat) < win0_10.index ⟨(i 0 : Nat) / 512, hlt⟩ 0 * 512 + 512
      rw [e.1]; dsimp only; omega
    | ⟨1, _⟩ =>
      show win0_10.index ⟨(i 0 : Nat) / 512, hlt⟩ 1 * 64 ≤ (i 1 : Nat) ∧ (i 1 : Nat) < win0_10.index ⟨(i 0 : Nat) / 512, hlt⟩ 1 * 64 + 64
      rw [e.2]; omega

theorem final10 (c : Dev nD) : (dats m 0 c).arrAt 10 cfg0.N = gIk (yRow m c) (gi m c) :=
  (dats m 0 c).arrAt_eq_of_cover 10 (gIk (yRow m c) (gi m c)) (fun t _ => flushed10_eq m c t) cover10

theorem flushed11_eq (c : Dev nD) (t : Fin cfg0.N) :
    (dats m 0 c).flushed 11 t = (win0_11.blk t).view.read (Elt Ideal) (gRec (yRow m c)) := by
  refine (flushed11 m c t).trans (funext fun i => ?_)
  have e := idx11 t
  have hN := ltN t
  obtain ⟨r, j, rfl⟩ : ∃ (r : Fin 512) (j : Fin 2048), i = (ix2 r j : S512x2048.Idx) := ⟨i 0, i 1, eq_ix2 i⟩
  have hi : ((win0_11.rect t).emb (ix2 r j : S512x2048.Idx) : S32768x2048.Idx) = ix2 (row t r) j := by
    funext a; apply Fin.ext
    match a with
    | ⟨0, _⟩ =>
      refine (win0_11.rect_emb_val t (ix2 r j) 0).trans ?_
      show win0_11.index t 0 * 512 + r.val = 512 * t.val + r.val
      rw [e.1]; omega
    | ⟨1, _⟩ => exact win0_11.rect_emb_val_of_index_zero t 1 e.2 (ix2 r j)
  show out0_11 (F := Ideal) (iblk m c 0 t) (iblk m c 1 t) (iblk m c 2 t) (iblk m c 3 t) (iblk m c 4 t) (iblk m c 5 t) (iblk m c 6 t) (iblk m c 7 t) (iblk m c 8 t) (ix2 r j)
    = (gRec (yRow m c)) ((win0_11.rect t).emb (ix2 r j : S512x2048.Idx))
  rw [hi]
  refine (out11_apply (iblk m c 0 t) (iblk m c 1 t) (iblk m c 2 t) (iblk m c 3 t) (iblk m c 4 t) (iblk m c 5 t) (iblk m c 6 t) (iblk m c 7 t) (iblk m c 8 t) (wIn m c) (fun k q hq => blk2_apply m c t k q hq) r j).trans ?_
  exact congrArg (fun y : ℕ → EReal => y (1352 + j.val)) (yBlk_eq m c t r)

theorem cover11 (i : S32768x2048.Idx) : ∃ t : Fin cfg0.N, (cfg0.win 11).flush t = true ∧ i ∈ ((cfg0.win 11).blk t).view.set := by
  have h0 : (i 0 : Nat) < 32768 := (i 0).isLt
  have h1 : (i 1 : Nat) < 2048 := (i 1).isLt
  have hN : cfg0.N = 64 := N_0
  have hlt : (i 0 : Nat) / 512 < cfg0.N := by omega
  refine ⟨⟨(i 0 : Nat) / 512, hlt⟩, flush0_11 _, ?_⟩
  have e := idx11 ⟨(i 0 : Nat) / 512, hlt⟩
  show i ∈ ((View.whole main_v34_2).slice (win0_11.rect ⟨(i 0 : Nat) / 512, hlt⟩)).set
  rw [View.set_slice_whole, Rect.mem_set_unit]
  exact fun a => by
    match a with
    | ⟨0, _⟩ =>
      show win0_11.index ⟨(i 0 : Nat) / 512, hlt⟩ 0 * 512 ≤ (i 0 : Nat) ∧ (i 0 : Nat) < win0_11.index ⟨(i 0 : Nat) / 512, hlt⟩ 0 * 512 + 512
      rw [e.1]; dsimp only; omega
    | ⟨1, _⟩ =>
      show win0_11.index ⟨(i 0 : Nat) / 512, hlt⟩ 1 * 2048 ≤ (i 1 : Nat) ∧ (i 1 : Nat) < win0_11.index ⟨(i 0 : Nat) / 512, hlt⟩ 1 * 2048 + 2048
      rw [e.2]; omega

theorem final11 (c : Dev nD) : (dats m 0 c).arrAt 11 cfg0.N = gRec (yRow m c) :=
  (dats m 0 c).arrAt_eq_of_cover 11 (gRec (yRow m c)) (fun t _ => flushed11_eq m c t) cover11

theorem flushed12_eq (c : Dev nD) (t : Fin cfg0.N) :
    (dats m 0 c).flushed 12 t = (win0_12.blk t).view.read (Elt Ideal) (gAqt (yRow m c) (gq m c)) := by
  refine (flushed12 m c t).trans (funext fun i => ?_)
  have e := idx12 t
  have hN := ltN t
  obtain ⟨j, r, rfl⟩ : ∃ (j : Fin 512) (r : Fin 512), i = (ix2 j r : S512x512.Idx) := ⟨i 0, i 1, eq_ix2 i⟩
  have hi : ((win0_12.rect t).emb (ix2 j r : S512x512.Idx) : S512x32768.Idx) = ix2 j (row t r) := by
    funext a; apply Fin.ext
    match a with
    | ⟨0, _⟩ => exact win0_12.rect_emb_val_of_index_zero t 0 e.1 (ix2 j r)
    | ⟨1, _⟩ =>
      refine (win0_12.rect_emb_val t (ix2 j r) 1).trans ?_
      show win0_12.index t 1 * 512 + r.val = 512 * t.val + r.val
      rw [e.2]; omega
  show out0_12 (F := Ideal) (iblk m c 0 t) (iblk m c 1 t) (iblk m c 2 t) (iblk m c 3 t) (iblk m c 4 t) (iblk m c 5 t) (iblk m c 6 t) (iblk m c 7 t) (iblk m c 8 t) (ix2 j r)
    = (gAqt (yRow m c) (gq m c)) ((win0_12.rect t).emb (ix2 j r : S512x512.Idx))
  rw [hi]
  refine (out12_apply (iblk m c 0 t) (iblk m c 1 t) (iblk m c 2 t) (iblk m c 3 t) (iblk m c 4 t) (iblk m c 5 t) (iblk m c 6 t) (iblk m c 7 t) (iblk m c 8 t) (wIn m c) (fun q k hq => blk3_apply m c t q k hq) (gq m c) (Ideal.ofBits .f32 0x3E38AA3B#32) (fun j => blk6_apply m c t j) j r).trans ?_
  exact congrArg (fun y : ℕ → EReal => headsAt y 0 (gq m c) j.val * Ideal.ofBits .f32 0x3E38AA3B#32) (yBlk_eq m c t r)

theorem cover12 (i : S512x32768.Idx) : ∃ t : Fin cfg0.N, (cfg0.win 12).flush t = true ∧ i ∈ ((cfg0.win 12).blk t).view.set := by
  have h0 : (i 1 : Nat) < 32768 := (i 1).isLt
  have h1 : (i 0 : Nat) < 512 := (i 0).isLt
  have hN : cfg0.N = 64 := N_0
  have hlt : (i 1 : Nat) / 512 < cfg0.N := by omega
  refine ⟨⟨(i 1 : Nat) / 512, hlt⟩, flush0_12 _, ?_⟩
  have e := idx12 ⟨(i 1 : Nat) / 512, hlt⟩
  show i ∈ ((View.whole main_v34_3).slice (win0_12.rect ⟨(i 1 : Nat) / 512, hlt⟩)).set
  rw [View.set_slice_whole, Rect.mem_set_unit]
  exact fun a => by
    match a with
    | ⟨0, _⟩ =>
      show win0_12.index ⟨(i 1 : Nat) / 512, hlt⟩ 0 * 512 ≤ (i 0 : Nat) ∧ (i 0 : Nat) < win0_12.index ⟨(i 1 : Nat) / 512, hlt⟩ 0 * 512 + 512
      rw [e.1]; omega
    | ⟨1, _⟩ =>
      show win0_12.index ⟨(i 1 : Nat) / 512, hlt⟩ 1 * 512 ≤ (i 1 : Nat) ∧ (i 1 : Nat) < win0_12.index ⟨(i 1 : Nat) / 512, hlt⟩ 1 * 512 + 512
      rw [e.2]; dsimp only; omega

theorem final12 (c : Dev nD) : (dats m 0 c).arrAt 12 cfg0.N = gAqt (yRow m c) (gq m c) :=
  (dats m 0 c).arrAt_eq_of_cover 12 (gAqt (yRow m c) (gq m c)) (fun t _ => flushed12_eq m c t) cover12

theorem flushed13_eq (c : Dev nD) (t : Fin cfg0.N) :
    (dats m 0 c).flushed 13 t = (win0_13.blk t).view.read (Elt Ideal) (gIqt (yRow m c)) := by
  refine (flushed13 m c t).trans (funext fun i => ?_)
  have e := idx13 t
  have hN := ltN t
  obtain ⟨j, r, rfl⟩ : ∃ (j : Fin 512) (r : Fin 512), i = (ix2 j r : S512x512.Idx) := ⟨i 0, i 1, eq_ix2 i⟩
  have hi : ((win0_13.rect t).emb (ix2 j r : S512x512.Idx) : S512x32768.Idx) = ix2 j (row t r) := by
    funext a; apply Fin.ext
    match a with
    | ⟨0, _⟩ => exact win0_13.rect_emb_val_of_index_zero t 0 e.1 (ix2 j r)
    | ⟨1, _⟩ =>
      refine (win0_13.rect_emb_val t (ix2 j r) 1).trans ?_
      show win0_13.index t 1 * 512 + r.val = 512 * t.val + r.val
      rw [e.2]; omega
  show out0_13 (F := Ideal) (iblk m c 0 t) (iblk m c 1 t) (iblk m c 2 t) (iblk m c 3 t) (iblk m c 4 t) (iblk m c 5 t) (iblk m c 6 t) (iblk m c 7 t) (iblk m c 8 t) (ix2 j r)
    = (gIqt (yRow m c)) ((win0_13.rect t).emb (ix2 j r : S512x512.Idx))
  rw [hi]
  refine (out13_apply (iblk m c 0 t) (iblk m c 1 t) (iblk m c 2 t) (iblk m c 3 t) (iblk m c 4 t) (iblk m c 5 t) (iblk m c 6 t) (iblk m c 7 t) (iblk m c 8 t) (wIn m c) (fun q k hq => blk3_apply m c t q k hq) j r).trans ?_
  exact congrArg (fun y : ℕ → EReal => y (768 + j.val)) (yBlk_eq m c t r)

theorem cover13 (i : S512x32768.Idx) : ∃ t : Fin cfg0.N, (cfg0.win 13).flush t = true ∧ i ∈ ((cfg0.win 13).blk t).view.set := by
  have h0 : (i 1 : Nat) < 32768 := (i 1).isLt
  have h1 : (i 0 : Nat) < 512 := (i 0).isLt
  have hN : cfg0.N = 64 := N_0
  have hlt : (i 1 : Nat) / 512 < cfg0.N := by omega
  refine ⟨⟨(i 1 : Nat) / 512, hlt⟩, flush0_13 _, ?_⟩
  have e := idx13 ⟨(i 1 : Nat) / 512, hlt⟩
  show i ∈ ((View.whole main_v34_4).slice (win0_13.rect ⟨(i 1 : Nat) / 512, hlt⟩)).set
  rw [View.set_slice_whole, Rect.mem_set_unit]
  exact fun a => by
    match a with
    | ⟨0, _⟩ =>
      show win0_13.index ⟨(i 1 : Nat) / 512, hlt⟩ 0 * 512 ≤ (i 0 : Nat) ∧ (i 0 : Nat) < win0_13.index ⟨(i 1 : Nat) / 512, hlt⟩ 0 * 512 + 512
      rw [e.1]; omega
    | ⟨1, _⟩ =>
      show win0_13.index ⟨(i 1 : Nat) / 512, hlt⟩ 1 * 512 ≤ (i 1 : Nat) ∧ (i 1 : Nat) < win0_13.index ⟨(i 1 : Nat) / 512, hlt⟩ 1 * 512 + 512
      rw [e.2]; dsimp only; omega

theorem final13 (c : Dev nD) : (dats m 0 c).arrAt 13 cfg0.N = gIqt (yRow m c) :=
  (dats m 0 c).arrAt_eq_of_cover 13 (gIqt (yRow m c)) (fun t _ => flushed13_eq m c t) cover13

theorem flushed14_eq (c : Dev nD) (t : Fin cfg0.N) :
    (dats m 0 c).flushed 14 t = (win0_14.blk t).view.read (Elt Ideal) (gAvt (yRow m c)) := by
  refine (flushed14 m c t).trans (funext fun i => ?_)
  have e := idx14 t
  have hN := ltN t
  obtain ⟨j, r, rfl⟩ : ∃ (j : Fin 128) (r : Fin 512), i = (ix2 j r : S128x512.Idx) := ⟨i 0, i 1, eq_ix2 i⟩
  have hi : ((win0_14.rect t).emb (ix2 j r : S128x512.Idx) : S128x32768.Idx) = ix2 j (row t r) := by
    funext a; apply Fin.ext
    match a with
    | ⟨0, _⟩ => exact win0_14.rect_emb_val_of_index_zero t 0 e.1 (ix2 j r)
    | ⟨1, _⟩ =>
      refine (win0_14.rect_emb_val t (ix2 j r) 1).trans ?_
      show win0_14.index t 1 * 512 + r.val = 512 * t.val + r.val
      rw [e.2]; omega
  show out0_14 (F := Ideal) (iblk m c 0 t) (iblk m c 1 t) (iblk m c 2 t) (iblk m c 3 t) (iblk m c 4 t) (iblk m c 5 t) (iblk m c 6 t) (iblk m c 7 t) (iblk m c 8 t) (ix2 j r)
    = (gAvt (yRow m c)) ((win0_14.rect t).emb (ix2 j r : S128x512.Idx))
  rw [hi]
  refine (out14_apply (iblk m c 0 t) (iblk m c 1 t) (iblk m c 2 t) (iblk m c 3 t) (iblk m c 4 t) (iblk m c 5 t) (iblk m c 6 t) (iblk m c 7 t) (iblk m c 8 t) (wIn m c) (fun q k hq => blk3_apply m c t q k hq) j r).trans ?_
  exact congrArg (fun y : ℕ → EReal => y (640 + j.val)) (yBlk_eq m c t r)

theorem cover14 (i : S128x32768.Idx) : ∃ t : Fin cfg0.N, (cfg0.win 14).flush t = true ∧ i ∈ ((cfg0.win 14).blk t).view.set := by
  have h0 : (i 1 : Nat) < 32768 := (i 1).isLt
  have h1 : (i 0 : Nat) < 128 := (i 0).isLt
  have hN : cfg0.N = 64 := N_0
  have hlt : (i 1 : Nat) / 512 < cfg0.N := by omega
  refine ⟨⟨(i 1 : Nat) / 512, hlt⟩, flush0_14 _, ?_⟩
  have e := idx14 ⟨(i 1 : Nat) / 512, hlt⟩
  show i ∈ ((View.whole main_v34_5).slice (win0_14.rect ⟨(i 1 : Nat) / 512, hlt⟩)).set
  rw [View.set_slice_whole, Rect.mem_set_unit]
  exact fun a => by
    match a with
    | ⟨0, _⟩ =>
      show win0_14.index ⟨(i 1 : Nat) / 512, hlt⟩ 0 * 128 ≤ (i 0 : Nat) ∧ (i 0 : Nat) < win0_14.index ⟨(i 1 : Nat) / 512, hlt⟩ 0 * 128 + 128
      rw [e.1]; omega
    | ⟨1, _⟩ =>
      show win0_14.index ⟨(i 1 : Nat) / 512, hlt⟩ 1 * 512 ≤ (i 1 : Nat) ∧ (i 1 : Nat) < win0_14.index ⟨(i 1 : Nat) / 512, hlt⟩ 1 * 512 + 512
      rw [e.2]; dsimp only; omega

theorem final14 (c : Dev nD) : (dats m 0 c).arrAt 14 cfg0.N = gAvt (yRow m c) :=
  (dats m 0 c).arrAt_eq_of_cover 14 (gAvt (yRow m c)) (fun t _ => flushed14_eq m c t) cover14

theorem flushed15_eq (c : Dev nD) (t : Fin cfg0.N) :
    (dats m 0 c).flushed 15 t = (win0_15.blk t).view.read (Elt Ideal) (gIwt (yRow m c)) := by
  refine (flushed15 m c t).trans (funext fun i => ?_)
  have e := idx15 t
  have hN := ltN t
  obtain ⟨j, r, rfl⟩ : ∃ (j : Fin 8) (r : Fin 512), i = (ix2 j r : S8x512.Idx) := ⟨i 0, i 1, eq_ix2 i⟩
  have hi : ((win0_15.rect t).emb (ix2 j r : S8x512.Idx) : S8x32768.Idx) = ix2 j (row t r) := by
    funext a; apply Fin.ext
    match a with
    | ⟨0, _⟩ => exact win0_15.rect_emb_val_of_index_zero t 0 e.1 (ix2 j r)
    | ⟨1, _⟩ =>
      refine (win0_15.rect_emb_val t (ix2 j r) 1).trans ?_
      show win0_15.index t 1 * 512 + r.val = 512 * t.val + r.val
      rw [e.2]; omega
  show out0_15 (F := Ideal) (iblk m c 0 t) (iblk m c 1 t) (iblk m c 2 t) (iblk m c 3 t) (iblk m c 4 t) (iblk m c 5 t) (iblk m c 6 t) (iblk m c 7 t) (iblk m c 8 t) (ix2 j r)
    = (gIwt (yRow m c)) ((win0_15.rect t).emb (ix2 j r : S8x512.Idx))
  rw [hi]
  refine (out15_apply (iblk m c 0 t) (iblk m c 1 t) (iblk m c 2 t) (iblk m c 3 t) (iblk m c 4 t) (iblk m c 5 t) (iblk m c 6 t) (iblk m c 7 t) (iblk m c 8 t) (wIn m c) (fun q k hq => blk3_apply m c t q k hq) j r).trans ?_
  exact congrArg (fun y : ℕ → EReal => y (1344 + j.val) * Ideal.ofBits .f32 0x3D3504F3#32) (yBlk_eq m c t r)

theorem cover15 (i : S8x32768.Idx) : ∃ t : Fin cfg0.N, (cfg0.win 15).flush t = true ∧ i ∈ ((cfg0.win 15).blk t).view.set := by
  have h0 : (i 1 : Nat) < 32768 := (i 1).isLt
  have h1 : (i 0 : Nat) < 8 := (i 0).isLt
  have hN : cfg0.N = 64 := N_0
  have hlt : (i 1 : Nat) / 512 < cfg0.N := by omega
  refine ⟨⟨(i 1 : Nat) / 512, hlt⟩, flush0_15 _, ?_⟩
  have e := idx15 ⟨(i 1 : Nat) / 512, hlt⟩
  show i ∈ ((View.whole main_v34_6).slice (win0_15.rect ⟨(i 1 : Nat) / 512, hlt⟩)).set
  rw [View.set_slice_whole, Rect.mem_set_unit]
  exact fun a => by
    match a with
    | ⟨0, _⟩ =>
      show win0_15.index ⟨(i 1 : Nat) / 512, hlt⟩ 0 * 8 ≤ (i 0 : Nat) ∧ (i 0 : Nat) < win0_15.index ⟨(i 1 : Nat) / 512, hlt⟩ 0 * 8 + 8
      rw [e.1]; omega
    | ⟨1, _⟩ =>
      show win0_15.index ⟨(i 1 : Nat) / 512, hlt⟩ 1 * 512 ≤ (i 1 : Nat) ∧ (i 1 : Nat) < win0_15.index ⟨(i 1 : Nat) / 512, hlt⟩ 1 * 512 + 512
      rw [e.2]; dsimp only; omega

theorem final15 (c : Dev nD) : (dats m 0 c).arrAt 15 cfg0.N = gIwt (yRow m c) :=
  (dats m 0 c).arrAt_eq_of_cover 15 (gIwt (yRow m c)) (fun t _ => flushed15_eq m c t) cover15

theorem flushed16_eq (c : Dev nD) (t : Fin cfg0.N) :
    (dats m 0 c).flushed 16 t = (win0_16.blk t).view.read (Elt Ideal) (gAks (yRow m c) (gk m c)) := by
  refine (flushed16 m c t).trans (funext fun i => ?_)
  have e := idx16 t
  have hN := ltN t
  obtain ⟨u, j, r, rfl⟩ : ∃ (u : Fin 1) (j : Fin 128) (r : Fin 512), i = (ix3 u j r : S1x128x512.Idx) := ⟨i 0, i 1, i 2, eq_ix3 i⟩
  obtain rfl : u = 0 := Fin.ext (by omega)
  have hi : ((win0_16.rect t).emb (ix3 0 j r : S1x128x512.Idx) : S16x128x2048.Idx) = ix3 ⟨t.val / 4, by omega⟩ j ⟨512 * (t.val % 4) + r.val, by omega⟩ := by
    funext a; apply Fin.ext
    match a with
    | ⟨0, _⟩ =>
      refine (win0_16.rect_emb_val t (ix3 0 j r) 0).trans ?_
      show win0_16.index t 0 * 1 + 0 = t.val / 4
      rw [e.1]; omega
    | ⟨1, _⟩ => exact win0_16.rect_emb_val_of_index_zero t 1 e.2.1 (ix3 0 j r)
    | ⟨2, _⟩ =>
      refine (win0_16.rect_emb_val t (ix3 0 j r) 2).trans ?_
      show win0_16.index t 2 * 512 + r.val = 512 * (t.val % 4) + r.val
      rw [e.2.2]; omega
  show out0_16 (F := Ideal) (iblk m c 0 t) (iblk m c 1 t) (iblk m c 2 t) (iblk m c 3 t) (iblk m c 4 t) (iblk m c 5 t) (iblk m c 6 t) (iblk m c 7 t) (iblk m c 8 t) (ix3 0 j r)
    = (gAks (yRow m c) (gk m c)) ((win0_16.rect t).emb (ix3 0 j r : S1x128x512.Idx))
  rw [hi]
  refine (out16_apply (iblk m c 0 t) (iblk m c 1 t) (iblk m c 2 t) (iblk m c 3 t) (iblk m c 4 t) (iblk m c 5 t) (iblk m c 6 t) (iblk m c 7 t) (iblk m c 8 t) (wIn m c) (fun q k hq => blk3_apply m c t q k hq) (gk m c) (fun j => blk7_apply m c t j) j r).trans ?_
  exact congrArg (fun y : ℕ → EReal => headsAt y 512 (gk m c) j.val) ((yBlk_eq m c t r).trans (congrArg (yRow m c) (Fin.ext (show 512 * t.val + r.val = 2048 * (t.val / 4) + (512 * (t.val % 4) + r.val) by omega))))

theorem cover16 (i : S16x128x2048.Idx) : ∃ t : Fin cfg0.N, (cfg0.win 16).flush t = true ∧ i ∈ ((cfg0.win 16).blk t).view.set := by
  have h0 : (i 0 : Nat) < 16 := (i 0).isLt
  have h1 : (i 1 : Nat) < 128 := (i 1).isLt
  have h2 : (i 2 : Nat) < 2048 := (i 2).isLt
  have hN : cfg0.N = 64 := N_0
  have hlt : 4 * (i 0 : Nat) + (i 2 : Nat) / 512 < cfg0.N := by omega
  refine ⟨⟨4 * (i 0 : Nat) + (i 2 : Nat) / 512, hlt⟩, flush0_16 _, ?_⟩
  have e := idx16 ⟨4 * (i 0 : Nat) + (i 2 : Nat) / 512, hlt⟩
  show i ∈ ((View.whole main_v34_7).slice (win0_16.rect ⟨4 * (i 0 : Nat) + (i 2 : Nat) / 512, hlt⟩)).set
  rw [View.set_slice_whole, Rect.mem_set_unit]
  exact fun a => by
    match a with
    | ⟨0, _⟩ =>
      show win0_16.index ⟨4 * (i 0 : Nat) + (i 2 : Nat) / 512, hlt⟩ 0 * 1 ≤ (i 0 : Nat) ∧ (i 0 : Nat) < win0_16.index ⟨4 * (i 0 : Nat) + (i 2 : Nat) / 512, hlt⟩ 0 * 1 + 1
      rw [e.1]; dsimp only; omega
    | ⟨1, _⟩ =>
      show win0_16.index ⟨4 * (i 0 : Nat) + (i 2 : Nat) / 512, hlt⟩ 1 * 128 ≤ (i 1 : Nat) ∧ (i 1 : Nat) < win0_16.index ⟨4 * (i 0 : Nat) + (i 2 : Nat) / 512, hlt⟩ 1 * 128 + 128
      rw [e.2.1]; omega
    | ⟨2, _⟩ =>
      show win0_16.index ⟨4 * (i 0 : Nat) + (i 2 : Nat) / 512, hlt⟩ 2 * 512 ≤ (i 2 : Nat) ∧ (i 2 : Nat) < win0_16.index ⟨4 * (i 0 : Nat) + (i 2 : Nat) / 512, hlt⟩ 2 * 512 + 512
      rw [e.2.2]; dsimp only; omega

theorem final16 (c : Dev nD) : (dats m 0 c).arrAt 16 cfg0.N = gAks (yRow m c) (gk m c) :=
  (dats m 0 c).arrAt_eq_of_cover 16 (gAks (yRow m c) (gk m c)) (fun t _ => flushed16_eq m c t) cover16

theorem flushed17_eq (c : Dev nD) (t : Fin cfg0.N) :
    (dats m 0 c).flushed 17 t = (win0_17.blk t).view.read (Elt Ideal) (gAvs (yRow m c)) := by
  refine (flushed17 m c t).trans (funext fun i => ?_)
  have e := idx17 t
  have hN := ltN t
  obtain ⟨u, j, r, rfl⟩ : ∃ (u : Fin 1) (j : Fin 128) (r : Fin 512), i = (ix3 u j r : S1x128x512.Idx) := ⟨i 0, i 1, i 2, eq_ix3 i⟩
  obtain rfl : u = 0 := Fin.ext (by omega)
  have hi : ((win0_17.rect t).emb (ix3 0 j r : S1x128x512.Idx) : S16x128x2048.Idx) = ix3 ⟨t.val / 4, by omega⟩ j ⟨512 * (t.val % 4) + r.val, by omega⟩ := by
    funext a; apply Fin.ext
    match a with
    | ⟨0, _⟩ =>
      refine (win0_17.rect_emb_val t (ix3 0 j r) 0).trans ?_
      show win0_17.index t 0 * 1 + 0 = t.val / 4
      rw [e.1]; omega
    | ⟨1, _⟩ => exact win0_17.rect_emb_val_of_index_zero t 1 e.2.1 (ix3 0 j r)
    | ⟨2, _⟩ =>
      refine (win0_17.rect_emb_val t (ix3 0 j r) 2).trans ?_
      show win0_17.index t 2 * 512 + r.val = 512 * (t.val % 4) + r.val
      rw [e.2.2]; omega
  show out0_17 (F := Ideal) (iblk m c 0 t) (iblk m c 1 t) (iblk m c 2 t) (iblk m c 3 t) (iblk m c 4 t) (iblk m c 5 t) (iblk m c 6 t) (iblk m c 7 t) (iblk m c 8 t) (ix3 0 j r)
    = (gAvs (yRow m c)) ((win0_17.rect t).emb (ix3 0 j r : S1x128x512.Idx))
  rw [hi]
  refine (out17_apply (iblk m c 0 t) (iblk m c 1 t) (iblk m c 2 t) (iblk m c 3 t) (iblk m c 4 t) (iblk m c 5 t) (iblk m c 6 t) (iblk m c 7 t) (iblk m c 8 t) (wIn m c) (fun q k hq => blk3_apply m c t q k hq) j r).trans ?_
  exact congrArg (fun y : ℕ → EReal => y (640 + j.val)) ((yBlk_eq m c t r).trans (congrArg (yRow m c) (Fin.ext (show 512 * t.val + r.val = 2048 * (t.val / 4) + (512 * (t.val % 4) + r.val) by omega))))

theorem cover17 (i : S16x128x2048.Idx) : ∃ t : Fin cfg0.N, (cfg0.win 17).flush t = true ∧ i ∈ ((cfg0.win 17).blk t).view.set := by
  have h0 : (i 0 : Nat) < 16 := (i 0).isLt
  have h1 : (i 1 : Nat) < 128 := (i 1).isLt
  have h2 : (i 2 : Nat) < 2048 := (i 2).isLt
  have hN : cfg0.N = 64 := N_0
  have hlt : 4 * (i 0 : Nat) + (i 2 : Nat) / 512 < cfg0.N := by omega
  refine ⟨⟨4 * (i 0 : Nat) + (i 2 : Nat) / 512, hlt⟩, flush0_17 _, ?_⟩
  have e := idx17 ⟨4 * (i 0 : Nat) + (i 2 : Nat) / 512, hlt⟩
  show i ∈ ((View.whole main_v34_8).slice (win0_17.rect ⟨4 * (i 0 : Nat) + (i 2 : Nat) / 512, hlt⟩)).set
  rw [View.set_slice_whole, Rect.mem_set_unit]
  exact fun a => by
    match a with
    | ⟨0, _⟩ =>
      show win0_17.index ⟨4 * (i 0 : Nat) + (i 2 : Nat) / 512, hlt⟩ 0 * 1 ≤ (i 0 : Nat) ∧ (i 0 : Nat) < win0_17.index ⟨4 * (i 0 : Nat) + (i 2 : Nat) / 512, hlt⟩ 0 * 1 + 1
      rw [e.1]; dsimp only; omega
    | ⟨1, _⟩ =>
      show win0_17.index ⟨4 * (i 0 : Nat) + (i 2 : Nat) / 512, hlt⟩ 1 * 128 ≤ (i 1 : Nat) ∧ (i 1 : Nat) < win0_17.index ⟨4 * (i 0 : Nat) + (i 2 : Nat) / 512, hlt⟩ 1 * 128 + 128
      rw [e.2.1]; omega
    | ⟨2, _⟩ =>
      show win0_17.index ⟨4 * (i 0 : Nat) + (i 2 : Nat) / 512, hlt⟩ 2 * 512 ≤ (i 2 : Nat) ∧ (i 2 : Nat) < win0_17.index ⟨4 * (i 0 : Nat) + (i 2 : Nat) / 512, hlt⟩ 2 * 512 + 512
      rw [e.2.2]; dsimp only; omega

theorem final17 (c : Dev nD) : (dats m 0 c).arrAt 17 cfg0.N = gAvs (yRow m c) :=
  (dats m 0 c).arrAt_eq_of_cover 17 (gAvs (yRow m c)) (fun t _ => flushed17_eq m c t) cover17

theorem flushed18_eq (c : Dev nD) (t : Fin cfg0.N) :
    (dats m 0 c).flushed 18 t = (win0_18.blk t).view.read (Elt Ideal) (gIks (yRow m c) (gi m c)) := by
  refine (flushed18 m c t).trans (funext fun i => ?_)
  have e := idx18 t
  have hN := ltN t
  obtain ⟨u, j, r, rfl⟩ : ∃ (u : Fin 1) (j : Fin 64) (r : Fin 512), i = (ix3 u j r : S1x64x512.Idx) := ⟨i 0, i 1, i 2, eq_ix3 i⟩
  obtain rfl : u = 0 := Fin.ext (by omega)
  have hi : ((win0_18.rect t).emb (ix3 0 j r : S1x64x512.Idx) : S16x64x2048.Idx) = ix3 ⟨t.val / 4, by omega⟩ j ⟨512 * (t.val % 4) + r.val, by omega⟩ := by
    funext a; apply Fin.ext
    match a with
    | ⟨0, _⟩ =>
      refine (win0_18.rect_emb_val t (ix3 0 j r) 0).trans ?_
      show win0_18.index t 0 * 1 + 0 = t.val / 4
      rw [e.1]; omega
    | ⟨1, _⟩ => exact win0_18.rect_emb_val_of_index_zero t 1 e.2.1 (ix3 0 j r)
    | ⟨2, _⟩ =>
      refine (win0_18.rect_emb_val t (ix3 0 j r) 2).trans ?_
      show win0_18.index t 2 * 512 + r.val = 512 * (t.val % 4) + r.val
      rw [e.2.2]; omega
  show out0_18 (F := Ideal) (iblk m c 0 t) (iblk m c 1 t) (iblk m c 2 t) (iblk m c 3 t) (iblk m c 4 t) (iblk m c 5 t) (iblk m c 6 t) (iblk m c 7 t) (iblk m c 8 t) (ix3 0 j r)
    = (gIks (yRow m c) (gi m c)) ((win0_18.rect t).emb (ix3 0 j r : S1x64x512.Idx))
  rw [hi]
  refine (out18_apply (iblk m c 0 t) (iblk m c 1 t) (iblk m c 2 t) (iblk m c 3 t) (iblk m c 4 t) (iblk m c 5 t) (iblk m c 6 t) (iblk m c 7 t) (iblk m c 8 t) (wIn m c) (fun q k hq => blk3_apply m c t q k hq) (gi m c) (fun j => blk8_apply m c t j) j r).trans ?_
  exact congrArg (fun y : ℕ → EReal => headsAt y 1280 (gi m c) j.val) ((yBlk_eq m c t r).trans (congrArg (yRow m c) (Fin.ext (show 512 * t.val + r.val = 2048 * (t.val / 4) + (512 * (t.val % 4) + r.val) by omega))))

theorem cover18 (i : S16x64x2048.Idx) : ∃ t : Fin cfg0.N, (cfg0.win 18).flush t = true ∧ i ∈ ((cfg0.win 18).blk t).view.set := by
  have h0 : (i 0 : Nat) < 16 := (i 0).isLt
  have h1 : (i 1 : Nat) < 64 := (i 1).isLt
  have h2 : (i 2 : Nat) < 2048 := (i 2).isLt
  have hN : cfg0.N = 64 := N_0
  have hlt : 4 * (i 0 : Nat) + (i 2 : Nat) / 512 < cfg0.N := by omega
  refine ⟨⟨4 * (i 0 : Nat) + (i 2 : Nat) / 512, hlt⟩, flush0_18 _, ?_⟩
  have e := idx18 ⟨4 * (i 0 : Nat) + (i 2 : Nat) / 512, hlt⟩
  show i ∈ ((View.whole main_v34_9).slice (win0_18.rect ⟨4 * (i 0 : Nat) + (i 2 : Nat) / 512, hlt⟩)).set
  rw [View.set_slice_whole, Rect.mem_set_unit]
  exact fun a => by
    match a with
    | ⟨0, _⟩ =>
      show win0_18.index ⟨4 * (i 0 : Nat) + (i 2 : Nat) / 512, hlt⟩ 0 * 1 ≤ (i 0 : Nat) ∧ (i 0 : Nat) < win0_18.index ⟨4 * (i 0 : Nat) + (i 2 : Nat) / 512, hlt⟩ 0 * 1 + 1
      rw [e.1]; dsimp only; omega
    | ⟨1, _⟩ =>
      show win0_18.index ⟨4 * (i 0 : Nat) + (i 2 : Nat) / 512, hlt⟩ 1 * 64 ≤ (i 1 : Nat) ∧ (i 1 : Nat) < win0_18.index ⟨4 * (i 0 : Nat) + (i 2 : Nat) / 512, hlt⟩ 1 * 64 + 64
      rw [e.2.1]; omega
    | ⟨2, _⟩ =>
      show win0_18.index ⟨4 * (i 0 : Nat) + (i 2 : Nat) / 512, hlt⟩ 2 * 512 ≤ (i 2 : Nat) ∧ (i 2 : Nat) < win0_18.index ⟨4 * (i 0 : Nat) + (i 2 : Nat) / 512, hlt⟩ 2 * 512 + 512
      rw [e.2.2]; dsimp only; omega

theorem final18 (c : Dev nD) : (dats m 0 c).arrAt 18 cfg0.N = gIks (yRow m c) (gi m c) :=
  (dats m 0 c).arrAt_eq_of_cover 18 (gIks (yRow m c) (gi m c)) (fun t _ => flushed18_eq m c t) cover18

end Cert.InprojIdeal.Hand

namespace Cert.Hand

open Idealize Idealize.ShloMosaic Idealize.ShloMosaic.ValueIdx Idealize.ShloMosaic.TcCoe Idealize.SL.Sem
open Cert.Rows

/-- The two programs leave the same ten results from the same arguments. -/
theorem algebraic_inproj : Cert.algebraic_InprojIdeal_InprojReferenceIdeal (hInprojIdeal := Cert.InprojIdeal.Gen.facts) (hInprojReferenceIdeal := Cert.InprojReferenceIdeal.Gen.facts) := by
  intro m g m' g' _ hargs
  refine ⟨fun c => gAk (Cert.InprojIdeal.Hand.yRow m c) (Cert.InprojIdeal.Hand.gk m c), fun c => gIk (Cert.InprojIdeal.Hand.yRow m c) (Cert.InprojIdeal.Hand.gi m c), fun c => gRec (Cert.InprojIdeal.Hand.yRow m c), fun c => gAqt (Cert.InprojIdeal.Hand.yRow m c) (Cert.InprojIdeal.Hand.gq m c), fun c => gIqt (Cert.InprojIdeal.Hand.yRow m c), fun c => gAvt (Cert.InprojIdeal.Hand.yRow m c), fun c => gIwt (Cert.InprojIdeal.Hand.yRow m c), fun c => gAks (Cert.InprojIdeal.Hand.yRow m c) (Cert.InprojIdeal.Hand.gk m c), fun c => gAvs (Cert.InprojIdeal.Hand.yRow m c), fun c => gIks (Cert.InprojIdeal.Hand.yRow m c) (Cert.InprojIdeal.Hand.gi m c), ?_, ?_⟩
  · refine (θ_run _ _ _).mono (fun r h c => ?_) (Cert.InprojIdeal.Value.run_blocks (F := Ideal) m g)
    obtain ⟨h0, h1, h2, h3, h4, h5, h6, h7, h8, h9, ha⟩ := h c
    exact ⟨h0.trans (Cert.InprojIdeal.Hand.final9 m c), h1.trans (Cert.InprojIdeal.Hand.final10 m c), h2.trans (Cert.InprojIdeal.Hand.final11 m c), h3.trans (Cert.InprojIdeal.Hand.final12 m c), h4.trans (Cert.InprojIdeal.Hand.final13 m c), h5.trans (Cert.InprojIdeal.Hand.final14 m c), h6.trans (Cert.InprojIdeal.Hand.final15 m c), h7.trans (Cert.InprojIdeal.Hand.final16 m c), h8.trans (Cert.InprojIdeal.Hand.final17 m c), h9.trans (Cert.InprojIdeal.Hand.final18 m c), ha⟩
  · refine (θ_run _ _ _).mono (fun r h c => ?_) (Cert.InprojReferenceIdeal.Hand.run_rows m' g')
    obtain ⟨a0, a1, a2, a3, a4, a5⟩ := hargs c
    have hk : Cert.InprojReferenceIdeal.Hand.gk m' c = Cert.InprojIdeal.Hand.gk m c := funext fun k => congrFun a4 (ix1 k)
    have hi : Cert.InprojReferenceIdeal.Hand.gi m' c = Cert.InprojIdeal.Hand.gi m c := funext fun k => congrFun a5 (ix1 k)
    have hq : Cert.InprojReferenceIdeal.Hand.gq m' c = Cert.InprojIdeal.Hand.gq m c := funext fun k => congrFun a3 (ix1 k)
    have hy : Cert.InprojReferenceIdeal.Hand.yRow m' c = Cert.InprojIdeal.Hand.yRow m c := by
      funext r
      unfold Cert.InprojReferenceIdeal.Hand.yRow Cert.InprojReferenceIdeal.Hand.xRow Cert.InprojReferenceIdeal.Hand.gain Cert.InprojReferenceIdeal.Hand.wIn
      rw [a0, a1, a2]
    have hr := h c
    rw [hk, hi, hq, hy] at hr
    exact hr

end Cert.Hand

end
-- ==== Proof.SmlpRef.lean ====
/-
  Hand-written, untrusted. The reference of the sample step's output projection and MLP, read at one entry: `Rows.mlpRow` of the row.
-/
module

public import proofs.«01_k».proof.Proof.Gen.SmlpReferenceIdeal.Run
public import proofs.«01_k».proof.Proof.Rows

@[expose] public section

set_option maxRecDepth 16384

noncomputable section

namespace Cert.SmlpReferenceIdeal.Hand

open Idealize Idealize.ShloMosaic Idealize.ShloMosaic.ValueIdx Idealize.ShloMosaic.TcCoe Idealize.SL.Sem
open Cert.SmlpReferenceIdeal Cert.SmlpReferenceIdeal.Gen Cert.SmlpReferenceIdeal.Value Cert.Rows

variable (m : (ℓ : Loc nD τ sig) → Buf (Elt Ideal) ℓ)

/-- Row `r` of the residual stream and of the mixed values, and the weights, as functions of their coordinates. -/
abbrev xRow (c : Dev nD) (r : Fin 32) : Fin 1024 → EReal := fun k => m ((c.tc : Thread nD τ).loc main_arg0) (ix2 r k)
abbrev attRow (c : Dev nD) (r : Fin 32) : Fin 512 → EReal := fun k => m ((c.tc : Thread nD τ).loc main_arg1) (ix2 r k)
abbrev recRow (c : Dev nD) (r : Fin 32) : Fin 512 → EReal := fun k => m ((c.tc : Thread nD τ).loc main_arg2) (ix2 r k)
abbrev wOut (c : Dev nD) : Fin 1024 → Fin 1024 → EReal := fun k j => m ((c.tc : Thread nD τ).loc main_arg3) (ix2 k j)
abbrev gain (c : Dev nD) : Fin 1024 → EReal := fun k => m ((c.tc : Thread nD τ).loc main_arg4) (ix1 k)
abbrev wUp (c : Dev nD) : Fin 1024 → Fin 4096 → EReal := fun k f => m ((c.tc : Thread nD τ).loc main_arg5) (ix2 k f)
abbrev wDown (c : Dev nD) : Fin 4096 → Fin 1024 → EReal := fun f j => m ((c.tc : Thread nD τ).loc main_arg6) (ix2 f j)

/-- The residual stream after the output projection, at one entry. -/
theorem proj_apply (X : FVec Ideal S32x1024 .f32) (A B : FVec Ideal S32x512 .f32) (W : FVec Ideal S1024x1024 .f32)
    (h : Shape.Concatenates [S32x512, S32x512] S32x1024 1) (r : Fin 32) (j : Fin 1024) :
    addf X (Host.dotGeneral dot_S32x1024_S1024x1024_S32x1024_1_0_0_1_n_n none (concatenate S32x1024 1 [⟨S32x512, A⟩, ⟨S32x512, B⟩] h) W) (ix2 r j)
      = projRow (fun k => X (ix2 r k)) (catRow (fun k => A (ix2 r k)) (fun k => B (ix2 r k))) (fun k j => W (ix2 k j)) j := by
  refine congrArg (X (ix2 r j) + ·) ((hostDot_apply _ W r j).trans (Finset.sum_congr rfl fun k _ => congrArg (· * W (ix2 k j)) ?_))
  exact host_cat A B h r k

/-- What the reference leaves. -/
theorem run_rows (ρ : Dev nD → PrngReg) :
    θ_run defs (onTc (τ := τ) (main (F := Ideal))) ⟨m, fun _ => 0, ρ⟩ fun r => ∀ c : Dev nD,
      r.2.mem ((c.tc : Thread nD τ).loc main_v20) = (fun i : S32x1024.Idx =>
        mlpRow (projRow (xRow m c (i 0)) (catRow (attRow m c (i 0)) (recRow m c (i 0))) (wOut m c)) (gain m c) (wUp m c) (wDown m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ⟨(h c).1.trans (funext fun i => ?_), (h c).2⟩) (Cert.SmlpReferenceIdeal.Value.run (F := Ideal) m ρ)
  obtain ⟨r, j, rfl⟩ : ∃ (r : Fin 32) (j : Fin 1024), i = (ix2 r j : S32x1024.Idx) := ⟨i 0, i 1, eq_ix2 i⟩
  have hy := fun k => proj_apply (m ((c.tc : Thread nD τ).loc main_arg0)) (m ((c.tc : Thread nD τ).loc main_arg1))
    (m ((c.tc : Thread nD τ).loc main_arg2)) (m ((c.tc : Thread nD τ).loc main_arg3)) concatenates_S32x512_S32x512_S32x1024_d1 r k
  generalize addf (F := Ideal) (φ := .f32) (m ((c.tc : Thread nD τ).loc main_arg0) : FVec Ideal S32x1024 .f32)
    (Host.dotGeneral dot_S32x1024_S1024x1024_S32x1024_1_0_0_1_n_n none (concatenate S32x1024 1 [⟨S32x512, (m ((c.tc : Thread nD τ).loc main_arg1))⟩,
      ⟨S32x512, (m ((c.tc : Thread nD τ).loc main_arg2))⟩] concatenates_S32x512_S32x512_S32x1024_d1) (m ((c.tc : Thread nD τ).loc main_arg3))) = Y at hy ⊢
  refine (host_mlp (n := 32) Y _ _ (gain m c) (m ((c.tc : Thread nD τ).loc main_arg5)) (m ((c.tc : Thread nD τ).loc main_arg6)) (fun r k => ?_) (fun r f => ?_) r j).trans ?_
  · exact host_norm Y (m ((c.tc : Thread nD τ).loc main_arg4)) (by decide) _ _ _ _ _ _ _ _ r k
  · rw [broadcastInDim_scalar_apply, constant_apply, Ideal.ofBits_zero_f32]
  · exact congrArg (fun y => mlpRow y (gain m c) (wUp m c) (wDown m c) j) (funext hy)

end Cert.SmlpReferenceIdeal.Hand

end
-- ==== Proof.SmlpValue.lean ====
/-
  Hand-written, untrusted. The output projection and MLP of the sample step: what the body stores, read at one entry; the
  operands, read off the arguments; the whole result; and the agreement with the reference. The call has one grid point.
-/
module

public import proofs.«01_k».proof.Proof.Gen.SmlpIdeal.Value
public import proofs.«01_k».proof.Proof.SmlpRef
public import Idealize.ShloMosaic.Lib.Claim
public import proofs.«01_k».proof.Defs

@[expose] public section

set_option maxRecDepth 16384

noncomputable section

namespace Cert.SmlpIdeal.Hand

open Idealize Idealize.ShloMosaic Idealize.ShloMosaic.ValueIdx Idealize.ShloMosaic.TcCoe Idealize.SL.Sem
open Idealize.ShloMosaic.Pipeline (Dat)
open Cert.SmlpIdeal Cert.SmlpIdeal.Gen Cert.SmlpIdeal.Value Cert.Rows

/-! ## The payloads at one entry -/

/-- A block of one tile, as the body casts it to a matrix. -/
theorem tile_apply (x : FVec Ideal S1x1x32x512 .f32) (r : Fin 32) (k : Fin 512) :
    shapeCast S32x512 x shapeCasts_S1x1x32x512_S32x512 (ix2 r k) = x (ix4 0 0 r k) := by
  refine shapeCast_apply _ _ (ix2 r k) (ix4 0 0 r k) ?_
  rw [Shape.rowMajor_val_four, Shape.rowMajor_val_two]
  show ((0 * 1 + 0) * 32 + r.val) * 512 + k.val = r.val * 512 + k.val
  omega

theorem pay1_apply (A : FVec Ideal S1x1x32x512 .f32) (B : FVec Ideal S32x512 .bf16)
    (X : FVec Ideal S32x1024 .f32) (W : FVec Ideal S1024x1024 .bf16) (r : Fin 32) (j : Fin 1024) :
    k0_pay1 (F := Ideal) A B X W (ix2 r j)
      = projRow (fun k => X (ix2 r k)) (catRow (fun k => A (ix4 0 0 r k)) (fun k => B (ix2 r k))) (fun k j => W (ix2 k j)) j := by
  unfold k0_pay1
  refine congrArg (X (ix2 r j) + ·) ((matmul_apply _ _ r j).trans (Finset.sum_congr rfl fun k _ => ?_))
  rw [shapeCast_self, shapeCast_self]
  refine congrArg (· * W (ix2 k j)) ((host_cat _ _ _ r k).trans ?_)
  exact congrArg (fun e => catRow e (fun k => B (ix2 r k)) k) (funext fun k => tile_apply A r k)

theorem pay2_apply (A : FVec Ideal S1x1x32x512 .f32) (B : FVec Ideal S32x512 .bf16)
    (X : FVec Ideal S32x1024 .f32) (W : FVec Ideal S1024x1024 .bf16) (g : FVec Ideal S1x1024 .f32) (r : Fin 32) (j : Fin 1024) :
    k0_pay2 (F := Ideal) A B X W g (ix2 r j) = normRow (fun k => k0_pay1 (F := Ideal) A B X W (ix2 r k)) (fun k => g (ix2 0 k)) j := by
  unfold k0_pay2
  generalize k0_pay1 (F := Ideal) A B X W = Y
  rw [shapeCast_self]
  exact kernel_norm Y g _ _ _ _ _ _ r j

theorem pay3_apply (A : FVec Ideal S1x1x32x512 .f32) (B : FVec Ideal S32x512 .bf16)
    (X : FVec Ideal S32x1024 .f32) (W : FVec Ideal S1024x1024 .bf16) (g : FVec Ideal S1x1024 .f32) (U D : FVec Ideal S1024x1024 .bf16) (r : Fin 32) (j : Fin 1024) :
    k0_pay3 (F := Ideal) A B X W g U D (ix2 r j)
      = ∑ f : Fin 1024, relu2 (mulRow (fun k => k0_pay2 (F := Ideal) A B X W g (ix2 r k)) (fun k f => U (ix2 k f)) f) * D (ix2 f j) := by
  unfold k0_pay3
  generalize k0_pay2 (F := Ideal) A B X W g = H
  rw [shapeCast_self, shapeCast_self]
  exact (matmul_apply _ D r j).trans (Finset.sum_congr rfl fun f _ => congrArg (· * D (ix2 f j)) (kernel_relu2 H U r f))

theorem pay4_apply (Y : FVec Ideal S32x1024 .f32) (H : FVec Ideal S32x1024 .bf16) (Z : FVec Ideal S32x1024 .f32) (U₁ D₁ U₂ D₂ U₃ D₃ : FVec Ideal S1024x1024 .bf16) (r : Fin 32) (j : Fin 1024) :
    k0_pay4 (F := Ideal) Y H Z U₁ D₁ U₂ D₂ U₃ D₃ (ix2 r j)
      = Y (ix2 r j) + Z (ix2 r j)
        + (∑ f : Fin 1024, relu2 (mulRow (fun k => H (ix2 r k)) (fun k f => U₁ (ix2 k f)) f) * D₁ (ix2 f j))
        + (∑ f : Fin 1024, relu2 (mulRow (fun k => H (ix2 r k)) (fun k f => U₂ (ix2 k f)) f) * D₂ (ix2 f j))
        + (∑ f : Fin 1024, relu2 (mulRow (fun k => H (ix2 r k)) (fun k f => U₃ (ix2 k f)) f) * D₃ (ix2 f j)) := by
  unfold k0_pay4
  rw [shapeCast_self, shapeCast_self, shapeCast_self, shapeCast_self, shapeCast_self, shapeCast_self]
  refine congrArg₂ (· + ·) (congrArg₂ (· + ·) (congrArg (Y (ix2 r j) + Z (ix2 r j) + ·) ?_) ?_) ?_
  · exact (matmul_apply _ D₁ r j).trans (Finset.sum_congr rfl fun f _ => congrArg (· * D₁ (ix2 f j)) (kernel_relu2 H U₁ r f))
  · exact (matmul_apply _ D₂ r j).trans (Finset.sum_congr rfl fun f _ => congrArg (· * D₂ (ix2 f j)) (kernel_relu2 H U₂ r f))
  · exact (matmul_apply _ D₃ r j).trans (Finset.sum_congr rfl fun f _ => congrArg (· * D₃ (ix2 f j)) (kernel_relu2 H U₃ r f))

/-- Columns from `o` of the first weight. -/
theorem cols_apply (x : FVec Ideal S1024x4096 .bf16) (o : ℕ) (ho : o + 1024 ≤ 4096)
    (inb : ∀ a, (![0, o] : Fin 2 → ℕ) a + S1024x1024.size a ≤ S1024x4096.size a) (k f : Fin 1024) :
    View.ld (Val := Elt Ideal) (e' := .bf16) x (Rect.unit (s := S1024x4096) ![0, o] S1024x1024.size inb) (ix2 k f) = x (ix2 k ⟨o + f.val, by omega⟩) := by
  rw [View.ld_unit]
  exact slice2_axis1_apply o x _ k f ⟨o + f.val, by omega⟩ rfl

/-- Rows from `o` of the second weight. -/
theorem rows_apply (x : FVec Ideal S4096x1024 .bf16) (o : ℕ) (ho : o + 1024 ≤ 4096)
    (inb : ∀ a, (![o, 0] : Fin 2 → ℕ) a + S1024x1024.size a ≤ S4096x1024.size a) (f j : Fin 1024) :
    View.ld (Val := Elt Ideal) (e' := .bf16) x (Rect.unit (s := S4096x1024) ![o, 0] S1024x1024.size inb) (ix2 f j) = x (ix2 ⟨o + f.val, by omega⟩ j) := by
  rw [View.ld_unit]
  exact slice2_axis0_apply o x _ f j ⟨o + f.val, by omega⟩ rfl

/-! ## The store -/

theorem hz : (![0, 0] : Fin 2 → Nat) = fun _ => 0 := funext fun a => by fin_cases a <;> rfl
theorem hz4 : (![0, 0, 0, 0] : Fin 4 → Nat) = fun _ => 0 := funext fun a => by fin_cases a <;> rfl

/-- What the body leaves at one entry. -/
theorem out_apply (x0 : FVec Ideal S32x1024 .f32) (x1 x2 : FVec Ideal S1x1x32x512 .f32) (x3 : FVec Ideal S32x512 .bf16)
    (x4 : FVec Ideal S1024x1024 .bf16) (x5 : FVec Ideal S1x1024 .f32) (x6 : FVec Ideal S1024x4096 .bf16) (x7 : FVec Ideal S4096x1024 .bf16)
    (r : Fin 32) (j : Fin 1024) :
    out0_8 (F := Ideal) x0 x1 x2 x3 x4 x5 x6 x7 (ix2 r j)
      = mlpRow (projRow (fun k => x0 (ix2 r k)) (catRow (fun k => x1 (ix4 0 0 r k)) (fun k => x3 (ix2 r k))) (fun k j => x4 (ix2 k j)))
          (fun k => x5 (ix2 0 k)) (fun k f => x6 (ix2 k f)) (fun f j => x7 (ix2 f j)) j := by
  unfold out0_8
  rw [View.canon_unit_zero hz, View.ld_unit_zero hz4, View.ld_unit_zero hz, View.ld_unit_zero hz, View.ld_unit_zero hz, View.ld_unit_zero hz]
  have hy := fun k => pay1_apply x1 x3 x0 x4 r k
  generalize projRow (fun k => x0 (ix2 r k)) (catRow (fun k => x1 (ix4 0 0 r k)) (fun k => x3 (ix2 r k))) (fun k j => x4 (ix2 k j)) = y at hy ⊢
  have hh : ∀ k, k0_pay2 (F := Ideal) x1 x3 x0 x4 x5 (ix2 r k) = normRow y (fun k => x5 (ix2 0 k)) k := fun k =>
    (pay2_apply x1 x3 x0 x4 x5 r k).trans (congrArg (fun e => normRow e (fun k => x5 (ix2 0 k)) k) (funext hy))
  have tile : ∀ (o : ℕ) (ho : o + 1024 ≤ 4096) (inb : ∀ a, (![0, o] : Fin 2 → ℕ) a + S1024x1024.size a ≤ S1024x4096.size a)
      (inb' : ∀ a, (![o, 0] : Fin 2 → ℕ) a + S1024x1024.size a ≤ S4096x1024.size a) (e : Fin 1024 → EReal) (he : ∀ k, e k = normRow y (fun k => x5 (ix2 0 k)) k),
      (∑ f : Fin 1024, relu2 (mulRow e (fun k f => View.ld (Val := Elt Ideal) (e' := .bf16) x6 (Rect.unit (s := S1024x4096) ![0, o] S1024x1024.size inb) (ix2 k f)) f)
          * View.ld (Val := Elt Ideal) (e' := .bf16) x7 (Rect.unit (s := S4096x1024) ![o, 0] S1024x1024.size inb') (ix2 f j))
        = ∑ f : Fin 1024, (fun f : Fin 4096 => relu2 (mulRow (normRow y (fun k => x5 (ix2 0 k))) (fun k f => x6 (ix2 k f)) f) * x7 (ix2 f j)) ⟨o + f.val, by omega⟩ := by
    intro o ho inb inb' e he
    obtain rfl := funext he
    refine Finset.sum_congr rfl fun f _ => ?_
    rw [rows_apply x7 o ho]
    refine congrArg (fun s => relu2 s * x7 (ix2 ⟨o + f.val, by omega⟩ j)) (Finset.sum_congr rfl fun k _ => ?_)
    exact congrArg _ (cols_apply x6 o ho inb k f)
  refine (pay4_apply _ _ _ _ _ _ _ _ _ r j).trans ?_
  unfold mlpRow
  rw [sum_tiles, ← add_assoc, ← add_assoc, ← add_assoc]
  refine congrArg₂ (· + ·) (congrArg₂ (· + ·) (congrArg₂ (· + ·) (congrArg₂ (· + ·) (hy j) ?_) ?_) ?_) ?_
  · exact (pay3_apply x1 x3 x0 x4 x5 _ _ r j).trans (tile 0 (by decide) inb_S1024x4096_S1024x1024_0_0 inb_S4096x1024_S1024x1024_0_0 _ hh)
  · exact tile 1024 (by decide) _ _ _ hh
  · exact tile 2048 (by decide) _ _ _ hh
  · exact tile 3072 (by decide) _ _ _ hh

variable (m : (ℓ : Loc nD τ sig) → Buf (Elt Ideal) ℓ) (ρ : Dev nD → PrngReg)

/-! ## The arguments as functions of their coordinates -/

abbrev xRow (c : Dev nD) (r : Fin 32) : Fin 1024 → EReal := fun k => m ((c.tc : Thread nD τ).loc main_arg0) (ix2 r k)
abbrev attRow (c : Dev nD) (r : Fin 32) : Fin 512 → EReal := fun k => m ((c.tc : Thread nD τ).loc main_arg1) (ix2 r k)
abbrev recRow (c : Dev nD) (r : Fin 32) : Fin 512 → EReal := fun k => m ((c.tc : Thread nD τ).loc main_arg2) (ix2 r k)
abbrev wOut (c : Dev nD) : Fin 1024 → Fin 1024 → EReal := fun k j => m ((c.tc : Thread nD τ).loc main_arg3) (ix2 k j)
abbrev gain (c : Dev nD) : Fin 1024 → EReal := fun k => m ((c.tc : Thread nD τ).loc main_arg4) (ix1 k)
abbrev wUp (c : Dev nD) : Fin 1024 → Fin 4096 → EReal := fun k f => m ((c.tc : Thread nD τ).loc main_arg5) (ix2 k f)
abbrev wDown (c : Dev nD) : Fin 4096 → Fin 1024 → EReal := fun f j => m ((c.tc : Thread nD τ).loc main_arg6) (ix2 f j)

/-- What the result is shown to hold. -/
def G (c : Dev nD) : FVec Ideal S32x1024 .f32 := fun i =>
  mlpRow (projRow (xRow m c (i 0)) (catRow (attRow m c (i 0)) (recRow m c (i 0))) (wOut m c)) (gain m c) (wUp m c) (wDown m c) (i 1)

/-! ## The operands as the call finds them -/

theorem att_apply (c : Dev nD) (r : Fin 32) (k : Fin 512) : V m c main_v0 (ix4 0 0 r k) = attRow m c r k := by
  entry_read
  refine shapeCast_apply _ _ (ix4 0 0 r k) (ix2 r k) ?_
  rw [Shape.rowMajor_val_four, Shape.rowMajor_val_two]
  show r.val * 512 + k.val = ((0 * 1 + 0) * 32 + r.val) * 512 + k.val
  omega

theorem gain_apply (c : Dev nD) (k : Fin 1024) : V m c main_v3 (ix2 0 k) = gain m c k := by
  entry_read
  exact shapeCast_a_1a_apply _ _ 0 k

/-! ## The blocks: at the one grid point each is its whole array -/

theorem idx0 : ∀ t : Fin grid0.N, win0_0.index t 0 = 0 ∧ win0_0.index t 1 = 0 := by decide +kernel
theorem idx1 : ∀ t : Fin grid0.N, win0_1.index t 0 = 0 ∧ win0_1.index t 1 = 0 ∧ win0_1.index t 2 = 0 ∧ win0_1.index t 3 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel

theorem blk0_apply (c : Dev nD) (t : Fin cfg0.N) (r : Fin 32) (k : Fin 1024) : iblk m c 0 t (ix2 r k) = xRow m c r k := by
  have e := idx0 t
  show V m c main_arg0 ((win0_0.rect t).emb (ix2 r k)) = _
  rw [V_main_arg0]
  refine congrArg (m ((c.tc : Thread nD τ).loc main_arg0)) (funext fun a => Fin.ext ?_)
  match a with
  | ⟨0, _⟩ => exact win0_0.rect_emb_val_of_index_zero t 0 e.1 (ix2 r k)
  | ⟨1, _⟩ => exact win0_0.rect_emb_val_of_index_zero t 1 e.2 (ix2 r k)

theorem blk1_apply (c : Dev nD) (t : Fin cfg0.N) (r : Fin 32) (k : Fin 512) : iblk m c 1 t (ix4 0 0 r k) = attRow m c r k := by
  have e := idx1 t
  show V m c main_v0 ((win0_1.rect t).emb (ix4 0 0 r k)) = _
  refine Eq.trans (congrArg (V m c main_v0) (funext fun a => Fin.ext ?_)) (att_apply m c r k)
  match a with
  | ⟨0, _⟩ => exact win0_1.rect_emb_val_of_index_zero t 0 e.1 (ix4 0 0 r k)
  | ⟨1, _⟩ => exact win0_1.rect_emb_val_of_index_zero t 1 e.2.1 (ix4 0 0 r k)
  | ⟨2, _⟩ => exact win0_1.rect_emb_val_of_index_zero t 2 e.2.2.1 (ix4 0 0 r k)
  | ⟨3, _⟩ => exact win0_1.rect_emb_val_of_index_zero t 3 e.2.2.2 (ix4 0 0 r k)

theorem blk3_apply (c : Dev nD) (t : Fin cfg0.N) (r : Fin 32) (k : Fin 512) : iblk m c 3 t (ix2 r k) = recRow m c r k := by
  have e := idx3 t
  show V m c main_v1 ((win0_3.rect t).emb (ix2 r k)) = _
  entry_read
  refine congrArg (m ((c.tc : Thread nD τ).loc main_arg2)) (funext fun a => Fin.ext ?_)
  match a with
  | ⟨0, _⟩ => exact win0_3.rect_emb_val_of_index_zero t 0 e.1 (ix2 r k)
  | ⟨1, _⟩ => exact win0_3.rect_emb_val_of_index_zero t 1 e.2 (ix2 r k)

theorem blk4_apply (c : Dev nD) (t : Fin cfg0.N) (k j : Fin 1024) : iblk m c 4 t (ix2 k j) = wOut m c k j := by
  have e := idx4 t
  show V m c main_v2 ((win0_4.rect t).emb (ix2 k j)) = _
  entry_read
  refine congrArg (m ((c.tc : Thread nD τ).loc main_arg3)) (funext fun a => Fin.ext ?_)
  match a with
  | ⟨0, _⟩ => exact win0_4.rect_emb_val_of_index_zero t 0 e.1 (ix2 k j)
  | ⟨1, _⟩ => exact win0_4.rect_emb_val_of_index_zero t 1 e.2 (ix2 k j)

theorem blk5_apply (c : Dev nD) (t : Fin cfg0.N) (k : Fin 1024) : iblk m c 5 t (ix2 0 k) = gain m c k := by
  have e := idx5 t
  show V m c main_v3 ((win0_5.rect t).emb (ix2 0 k)) = _
  refine Eq.trans (congrArg (V m c main_v3) (funext fun a => Fin.ext ?_)) (gain_apply m c k)
  match a with
  | ⟨0, _⟩ => exact win0_5.rect_emb_val_of_index_zero t 0 e.1 (ix2 0 k)
  | ⟨1, _⟩ => exact win0_5.rect_emb_val_of_index_zero t 1 e.2 (ix2 0 k)

theorem blk6_apply (c : Dev nD) (t : Fin cfg0.N) (k : Fin 1024) (f : Fin 4096) : iblk m c 6 t (ix2 k f) = wUp m c k f := by
  have e := idx6 t
  show V m c main_v4 ((win0_6.rect t).emb (ix2 k f)) = _
  entry_read
  refine congrArg (m ((c.tc : Thread nD τ).loc main_arg5)) (funext fun a => Fin.ext ?_)
  match a with
  | ⟨0, _⟩ => exact win0_6.rect_emb_val_of_index_zero t 0 e.1 (ix2 k f)
  | ⟨1, _⟩ => exact win0_6.rect_emb_val_of_index_zero t 1 e.2 (ix2 k f)

theorem blk7_apply (c : Dev nD) (t : Fin cfg0.N) (f : Fin 4096) (j : Fin 1024) : iblk m c 7 t (ix2 f j) = wDown m c f j := by
  have e := idx7 t
  show V m c main_v5 ((win0_7.rect t).emb (ix2 f j)) = _
  entry_read
  refine congrArg (m ((c.tc : Thread nD τ).loc main_arg6)) (funext fun a => Fin.ext ?_)
  match a with
  | ⟨0, _⟩ => exact win0_7.rect_emb_val_of_index_zero t 0 e.1 (ix2 f j)
  | ⟨1, _⟩ => exact win0_7.rect_emb_val_of_index_zero t 1 e.2 (ix2 f j)

/-! ## The result -/

/-- The point writes back the whole of `G`. -/
theorem flushed_eq (c : Dev nD) (t : Fin cfg0.N) :
    (dats m 0 c).flushed 8 t = (win0_8.blk t).view.read (Elt Ideal) (G m c) := by
  refine (flushed8 m c t).trans (funext fun i => ?_)
  have e := idx8 t
  obtain ⟨r, j, rfl⟩ : ∃ (r : Fin 32) (j : Fin 1024), i = (ix2 r j : S32x1024.Idx) := ⟨i 0, i 1, eq_ix2 i⟩
  have hi : ((win0_8.rect t).emb (ix2 r j : S32x1024.Idx) : S32x1024.Idx) = ix2 r j := by
    funext a; apply Fin.ext
    match a with
    | ⟨0, _⟩ => exact win0_8.rect_emb_val_of_index_zero t 0 e.1 (ix2 r j)
    | ⟨1, _⟩ => exact win0_8.rect_emb_val_of_index_zero t 1 e.2 (ix2 r j)
  show out0_8 (F := Ideal) (iblk m c 0 t) (iblk m c 1 t) (iblk m c 2 t) (iblk m c 3 t) (iblk m c 4 t) (iblk m c 5 t) (iblk m c 6 t) (iblk m c 7 t) (ix2 r j)
    = G m c ((win0_8.rect t).emb (ix2 r j : S32x1024.Idx))
  rw [hi]
  refine (out_apply _ _ _ _ _ _ _ _ r j).trans ?_
  unfold G
  rw [show (fun k => iblk m c 0 t (ix2 r k)) = xRow m c r from funext fun k => blk0_apply m c t r k,
    show (fun k => iblk m c 1 t (ix4 0 0 r k)) = attRow m c r from funext fun k => blk1_apply m c t r k,
    show (fun k => iblk m c 3 t (ix2 r k)) = recRow m c r from funext fun k => blk3_apply m c t r k,
    show (fun k j => iblk m c 4 t (ix2 k j)) = wOut m c from funext fun k => funext fun j => blk4_apply m c t k j,
    show (fun k => iblk m c 5 t (ix2 0 k)) = gain m c from funext fun k => blk5_apply m c t k,
    show (fun k f => iblk m c 6 t (ix2 k f)) = wUp m c from funext fun k => funext fun f => blk6_apply m c t k f,
    show (fun f j => iblk m c 7 t (ix2 f j)) = wDown m c from funext fun f => funext fun j => blk7_apply m c t f j]

theorem cover (i : S32x1024.Idx) : ∃ t : Fin cfg0.N, (cfg0.win 8).flush t = true ∧ i ∈ ((cfg0.win 8).blk t).view.set := by
  have h0 : (i 0 : Nat) < 32 := (i 0).isLt
  have h1 : (i 1 : Nat) < 1024 := (i 1).isLt
  have hN : cfg0.N = 1 := N_0
  have hlt : 0 < cfg0.N := by omega
  refine ⟨⟨0, hlt⟩, flush0_8 _, ?_⟩
  have e := idx8 ⟨0, hlt⟩
  show i ∈ ((View.whole main_v6).slice (win0_8.rect ⟨0, hlt⟩)).set
  rw [View.set_slice_whole, Rect.mem_set_unit]
  exact fun a => by
    match a with
    | ⟨0, _⟩ =>
      show win0_8.index ⟨0, hlt⟩ 0 * 32 ≤ (i 0 : Nat) ∧ (i 0 : Nat) < win0_8.index ⟨0, hlt⟩ 0 * 32 + 32
      rw [e.1]; omega
    | ⟨1, _⟩ =>
      show win0_8.index ⟨0, hlt⟩ 1 * 1024 ≤ (i 1 : Nat) ∧ (i 1 : Nat) < win0_8.index ⟨0, hlt⟩ 1 * 1024 + 1024
      rw [e.2]; omega

/-- So the result array ends holding `G`. -/
theorem final (c : Dev nD) : (dats m 0 c).arrAt 8 cfg0.N = G m c :=
  (dats m 0 c).arrAt_eq_of_cover 8 (G m c) (fun t _ => flushed_eq m c t) cover

end Cert.SmlpIdeal.Hand

namespace Cert.Hand

open Idealize Idealize.ShloMosaic Idealize.ShloMosaic.ValueIdx Idealize.ShloMosaic.TcCoe Idealize.SL.Sem

/-- The two programs leave the same result from the same arguments. -/
theorem algebraic_smlp : Cert.algebraic_SmlpIdeal_SmlpReferenceIdeal (hSmlpIdeal := Cert.SmlpIdeal.Gen.facts) (hSmlpReferenceIdeal := Cert.SmlpReferenceIdeal.Gen.facts) := by
  intro m g m' g' _ hargs
  refine ⟨fun c => Cert.SmlpIdeal.Hand.G m c, ?_, ?_⟩
  · refine (θ_run _ _ _).mono (fun r h c => ?_) (Cert.SmlpIdeal.Value.run_blocks (F := Ideal) m g)
    exact ⟨(h c).1.trans (Cert.SmlpIdeal.Hand.final m c), (h c).2⟩
  · refine (θ_run _ _ _).mono (fun r h c => ?_) (Cert.SmlpReferenceIdeal.Hand.run_rows m' g')
    obtain ⟨a0, a1, a2, a3, a4, a5, a6⟩ := hargs c
    refine ⟨(h c).1.trans ?_, (h c).2⟩
    unfold Cert.SmlpReferenceIdeal.Hand.xRow Cert.SmlpReferenceIdeal.Hand.attRow Cert.SmlpReferenceIdeal.Hand.recRow Cert.SmlpReferenceIdeal.Hand.wOut
      Cert.SmlpReferenceIdeal.Hand.gain Cert.SmlpReferenceIdeal.Hand.wUp Cert.SmlpReferenceIdeal.Hand.wDown
    rw [a0, a1, a2, a3, a4, a5, a6]
    rfl

end Cert.Hand

end
-- ==== Proof.SinRef.lean ====
/-
  Hand-written, untrusted. The input projection of the sample step: its seven results as functions of the projection's 32
  rows, and the reference, which leaves them.
-/
module

public import proofs.«01_k».proof.Proof.Gen.SinReferenceIdeal.Run
public import proofs.«01_k».proof.Proof.InRows

@[expose] public section

set_option maxRecDepth 16384

noncomputable section

namespace Cert.Rows

open Idealize.ShloMosaic Idealize.ShloMosaic.ValueIdx
open scoped BigOperators

/-! ## The seven results of the sample step's projection, from its rows `y` -/

/-- The normed keys of the attention, -/
def sAk (y : Fin 32 → ℕ → EReal) (g : Fin 64 → EReal) : FVec Ideal ⟨2, ![32, 128]⟩ .f32 := fun i => headsAt (y (i 0)) 512 g (i 1).val
/-- the values, -/
def sAv (y : Fin 32 → ℕ → EReal) : FVec Ideal ⟨2, ![32, 128]⟩ .f32 := fun i => y (i 0) (640 + (i 1).val)
/-- the normed key of the indexer, -/
def sIk (y : Fin 32 → ℕ → EReal) (g : Fin 64 → EReal) : FVec Ideal ⟨2, ![32, 64]⟩ .f32 := fun i => headsAt (y (i 0)) 1280 g (i 1).val
/-- the recurrence's four parts, -/
def sRec (y : Fin 32 → ℕ → EReal) : FVec Ideal ⟨2, ![32, 2048]⟩ .f32 := fun i => y (i 0) (1352 + (i 1).val)
/-- the queries of the attention and of the indexer before a norm, -/
def sAq (y : Fin 32 → ℕ → EReal) : FVec Ideal ⟨2, ![32, 512]⟩ .f32 := fun i => y (i 0) (i 1).val
def sIq (y : Fin 32 → ℕ → EReal) : FVec Ideal ⟨2, ![32, 512]⟩ .f32 := fun i => y (i 0) (768 + (i 1).val)
/-- and the indexer's eight weights, scaled, followed by columns of zeros: column 3400 lies off the projection, which is zero there. -/
def sIw (y : Fin 32 → ℕ → EReal) : FVec Ideal ⟨2, ![32, 128]⟩ .f32 := fun i =>
  y (i 0) (if (i 1).val < 8 then 1344 + (i 1).val else 3400) * Ideal.ofBits .f32 0x3D3504F3#32

/-- Off the weights the projection is zero. -/
theorem projAt_off (x : Fin 1024 → EReal) (W : Fin 1024 → Fin 3400 → EReal) : projAt x W 3400 = 0 :=
  Finset.sum_eq_zero fun k _ => (congrArg (x k * ·) (dif_neg (by omega))).trans (mul_zero _)

end Cert.Rows

namespace Cert.SinReferenceIdeal.Hand

open Idealize Idealize.ShloMosaic Idealize.ShloMosaic.ValueIdx Idealize.ShloMosaic.TcCoe Idealize.SL.Sem
open Cert.SinReferenceIdeal Cert.SinReferenceIdeal.Gen Cert.SinReferenceIdeal.Value Cert.Rows

variable (m : (ℓ : Loc nD τ sig) → Buf (Elt Ideal) ℓ)

abbrev xRow (c : Dev nD) (r : Fin 32) : Fin 1024 → EReal := fun k => m ((c.tc : Thread nD τ).loc main_arg0) (ix2 r k)
abbrev gain (c : Dev nD) : Fin 1024 → EReal := fun k => m ((c.tc : Thread nD τ).loc main_arg1) (ix1 k)
abbrev wIn (c : Dev nD) : Fin 1024 → Fin 3400 → EReal := fun k j => m ((c.tc : Thread nD τ).loc main_arg2) (ix2 k j)
abbrev gk (c : Dev nD) : Fin 64 → EReal := fun k => m ((c.tc : Thread nD τ).loc main_arg3) (ix1 k)
abbrev gi (c : Dev nD) : Fin 64 → EReal := fun k => m ((c.tc : Thread nD τ).loc main_arg4) (ix1 k)

/-- The rows of the projection. -/
abbrev yRow (c : Dev nD) (r : Fin 32) : ℕ → EReal := projAt (normRow (xRow m c r) (gain m c)) (wIn m c)

/-- The product of the normed rows and the weights, at one entry. -/
theorem proj_apply (X : FVec Ideal S32x1024 .f32) (g : FVec Ideal S1024 .f32) (W : FVec Ideal S1024x3400 .f32) (r : Fin 32) (j : Fin 3400) :
    Host.dotGeneral dot_S32x1024_S1024x3400_S32x3400_1_0_0_1_n_n none (mulf (mulf X (broadcastInDim S32x1024 ![0, 1] bcast_S32x1_S32x1024_0_1
        (Host.rsqrt (addf (Host.divf (broadcastInDim S32x1 ![0] bcast_S32_S32x1_0 (Host.reduceAdd (mulf X X) (constant (F := Ideal) S_ .f32 0x00000000#32) reducesTo_S32x1024_S32_d1 h_S_))
        (broadcastInDim S32x1 ![] bcast_S_S32x1 (constant (F := Ideal) S_ .f32 0x44800000#32))) (broadcastInDim S32x1 ![] bcast_S_S32x1 (constant (F := Ideal) S_ .f32 0x358637BD#32))))))
        (broadcastInDim S32x1024 ![0, 1] bcast_S1x1024_S32x1024_0_1 (broadcastInDim S1x1024 ![1] bcast_S1024_S1x1024_1 g))) W (ix2 r j)
      = projAt (normRow (fun k => X (ix2 r k)) (fun k => g (ix1 k))) (fun k j => W (ix2 k j)) j.val := by
  refine ((hostDot_apply _ W r j).trans ?_).trans (mulRow_projAt _ _ j)
  exact Finset.sum_congr rfl fun k _ => congrArg (· * W (ix2 k j)) (host_norm X g (by decide) _ _ _ _ _ _ _ _ r k)

/-- Four slices side by side are one slice. -/
theorem rec_apply (Y : FVec Ideal S32x3400 .f32) (y : Fin 32 → ℕ → EReal) (hY : ∀ (r : Fin 32) (j : Fin 3400), Y (ix2 r j) = y r j.val)
    (h : Shape.Concatenates [S32x512, S32x512, S32x512, S32x512] S32x2048 1)
    (h₀ : S32x3400.Slices ![0, 1352] S32x512) (h₁ : S32x3400.Slices ![0, 1864] S32x512)
    (h₂ : S32x3400.Slices ![0, 2376] S32x512) (h₃ : S32x3400.Slices ![0, 2888] S32x512) (r : Fin 32) (j : Fin 2048) :
    concatenate S32x2048 1 [⟨S32x512, extractStridedSlice S32x512 ![0, 1352] Y h₀⟩, ⟨S32x512, extractStridedSlice S32x512 ![0, 1864] Y h₁⟩,
      ⟨S32x512, extractStridedSlice S32x512 ![0, 2376] Y h₂⟩, ⟨S32x512, extractStridedSlice S32x512 ![0, 2888] Y h₃⟩] h (ix2 r j)
      = y r (1352 + j.val) := by
  have hj := j.isLt
  by_cases l₁ : j.val < 512
  · refine (cat_cols [⟨S32x512, extractStridedSlice S32x512 ![0, 1352] Y h₀⟩, ⟨S32x512, extractStridedSlice S32x512 ![0, 1864] Y h₁⟩,
      ⟨S32x512, extractStridedSlice S32x512 ![0, 2376] Y h₂⟩, ⟨S32x512, extractStridedSlice S32x512 ![0, 2888] Y h₃⟩] h 0 (by simp) _ rfl 0 rfl r j ⟨j.val, l₁⟩ (Nat.zero_add _)).trans ?_
    exact slice_proj Y y hY 1352 (by decide) h₀ r _
  by_cases l₂ : j.val < 1024
  · refine (cat_cols [⟨S32x512, extractStridedSlice S32x512 ![0, 1352] Y h₀⟩, ⟨S32x512, extractStridedSlice S32x512 ![0, 1864] Y h₁⟩,
      ⟨S32x512, extractStridedSlice S32x512 ![0, 2376] Y h₂⟩, ⟨S32x512, extractStridedSlice S32x512 ![0, 2888] Y h₃⟩] h 1 (by simp) _ rfl 512 rfl r j ⟨j.val - 512, by omega⟩ (by dsimp only; omega)).trans ?_
    exact (slice_proj Y y hY 1864 (by decide) h₁ r _).trans (congrArg (y r) (by dsimp only; omega))
  by_cases l₃ : j.val < 1536
  · refine (cat_cols [⟨S32x512, extractStridedSlice S32x512 ![0, 1352] Y h₀⟩, ⟨S32x512, extractStridedSlice S32x512 ![0, 1864] Y h₁⟩,
      ⟨S32x512, extractStridedSlice S32x512 ![0, 2376] Y h₂⟩, ⟨S32x512, extractStridedSlice S32x512 ![0, 2888] Y h₃⟩] h 2 (by simp) _ rfl 1024 rfl r j ⟨j.val - 1024, by omega⟩ (by dsimp only; omega)).trans ?_
    exact (slice_proj Y y hY 2376 (by decide) h₂ r _).trans (congrArg (y r) (by dsimp only; omega))
  · refine (cat_cols [⟨S32x512, extractStridedSlice S32x512 ![0, 1352] Y h₀⟩, ⟨S32x512, extractStridedSlice S32x512 ![0, 1864] Y h₁⟩,
      ⟨S32x512, extractStridedSlice S32x512 ![0, 2376] Y h₂⟩, ⟨S32x512, extractStridedSlice S32x512 ![0, 2888] Y h₃⟩] h 3 (by simp) _ rfl 1536 rfl r j ⟨j.val - 1536, by omega⟩ (by dsimp only; omega)).trans ?_
    exact (slice_proj Y y hY 2888 (by decide) h₃ r _).trans (congrArg (y r) (by dsimp only; omega))

/-- The indexer's weights, scaled, and zeros beside them. -/
theorem iw_apply (Y : FVec Ideal S32x3400 .f32) (y : Fin 32 → ℕ → EReal) (hY : ∀ (r : Fin 32) (j : Fin 3400), Y (ix2 r j) = y r j.val)
    (h0 : ∀ r, y r 3400 = 0) (h : Shape.Concatenates [S32x8, S32x120] S32x128 1) (hs : S32x3400.Slices ![0, 1344] S32x8)
    (hb : S_.BroadcastsInDim S32x8 ![]) (hz : S_.BroadcastsInDim S32x120 ![]) (r : Fin 32) (j : Fin 128) :
    concatenate S32x128 1 [⟨S32x8, mulf (extractStridedSlice S32x8 ![0, 1344] Y hs) (broadcastInDim S32x8 ![] hb (constant (F := Ideal) S_ .f32 0x3D3504F3#32))⟩,
      ⟨S32x120, broadcastInDim S32x120 ![] hz (constant (F := Ideal) S_ .f32 0x00000000#32)⟩] h (ix2 r j) = sIw y (ix2 r j) := by
  have hj := j.isLt
  unfold sIw
  by_cases l : j.val < 8
  · refine (cat_cols [⟨S32x8, mulf (extractStridedSlice S32x8 ![0, 1344] Y hs) (broadcastInDim S32x8 ![] hb (constant (F := Ideal) S_ .f32 0x3D3504F3#32))⟩,
      ⟨S32x120, broadcastInDim S32x120 ![] hz (constant (F := Ideal) S_ .f32 0x00000000#32)⟩] h 0 (by simp) _ rfl 0 rfl r j ⟨j.val, l⟩ (Nat.zero_add _)).trans ?_
    refine (mulf_apply _ _ _).trans (congrArg₂ (· * ·) ((slice_proj Y y hY 1344 (by decide) hs r _).trans (congrArg (y r) (if_pos l).symm)) ?_)
    rw [broadcastInDim_scalar_apply, constant_apply]
  · refine (cat_cols [⟨S32x8, mulf (extractStridedSlice S32x8 ![0, 1344] Y hs) (broadcastInDim S32x8 ![] hb (constant (F := Ideal) S_ .f32 0x3D3504F3#32))⟩,
      ⟨S32x120, broadcastInDim S32x120 ![] hz (constant (F := Ideal) S_ .f32 0x00000000#32)⟩] h 1 (by simp) _ rfl 8 rfl r j ⟨j.val - 8, by omega⟩ (by dsimp only; omega)).trans ?_
    rw [broadcastInDim_scalar_apply, constant_apply, Ideal.ofBits_zero_f32]
    refine ((congrArg (· * Ideal.ofBits .f32 0x3D3504F3#32) ((congrArg (y r) (if_neg l)).trans (h0 r))).trans (zero_mul _)).symm

/-- What the reference leaves. -/
theorem run_rows (ρ : Dev nD → PrngReg) :
    θ_run defs (onTc (τ := τ) (main (F := Ideal))) ⟨m, fun _ => 0, ρ⟩ fun r => ∀ c : Dev nD,
      r.2.mem ((c.tc : Thread nD τ).loc main_v38) = sAk (yRow m c) (gk m c)
      ∧ r.2.mem ((c.tc : Thread nD τ).loc main_v16) = sAv (yRow m c)
      ∧ r.2.mem ((c.tc : Thread nD τ).loc main_v55) = sIk (yRow m c) (gi m c)
      ∧ r.2.mem ((c.tc : Thread nD τ).loc main_v56) = sRec (yRow m c)
      ∧ r.2.mem ((c.tc : Thread nD τ).loc main_v14) = sAq (yRow m c)
      ∧ r.2.mem ((c.tc : Thread nD τ).loc main_v17) = sIq (yRow m c)
      ∧ r.2.mem ((c.tc : Thread nD τ).loc main_v42) = sIw (yRow m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (Cert.SinReferenceIdeal.Value.run (F := Ideal) m ρ)
  have hY := fun r j => proj_apply (m ((c.tc : Thread nD τ).loc main_arg0)) (m ((c.tc : Thread nD τ).loc main_arg1)) (m ((c.tc : Thread nD τ).loc main_arg2)) r j
  obtain ⟨h0, h1, h2, h3, h4, h5, h6, hargs⟩ := h c
  refine ⟨h0.trans (funext fun i => ?_), h1.trans (funext fun i => ?_), h2.trans (funext fun i => ?_), h3.trans (funext fun i => ?_),
    h4.trans (funext fun i => ?_), h5.trans (funext fun i => ?_), h6.trans (funext fun i => ?_), hargs⟩
  · obtain ⟨r, j, rfl⟩ : ∃ (r : Fin 32) (j : Fin 128), i = (ix2 r j : S32x128.Idx) := ⟨i 0, i 1, eq_ix2 i⟩
    exact host_heads_flat (n := 32) (H := 2) (w := 128) rfl _ (yRow m c) hY 512 (by decide) _ _ _ _ (by decide) _ _ _ _ _ _ _ _ r j
  · obtain ⟨r, j, rfl⟩ : ∃ (r : Fin 32) (j : Fin 128), i = (ix2 r j : S32x128.Idx) := ⟨i 0, i 1, eq_ix2 i⟩
    exact slice_proj _ (yRow m c) hY 640 (by decide) _ r j
  · obtain ⟨r, j, rfl⟩ : ∃ (r : Fin 32) (j : Fin 64), i = (ix2 r j : S32x64.Idx) := ⟨i 0, i 1, eq_ix2 i⟩
    refine (host_norm64 (n := 32) _ _ (by decide) _ _ _ _ _ _ _ _ r j).trans ?_
    exact (congrArg (fun v => headNorm v (gi m c) j) (funext fun k => slice_proj _ (yRow m c) hY 1280 (by decide) _ r k)).trans (headNorm_headsAt _ _ _ _)
  · obtain ⟨r, j, rfl⟩ : ∃ (r : Fin 32) (j : Fin 2048), i = (ix2 r j : S32x2048.Idx) := ⟨i 0, i 1, eq_ix2 i⟩
    exact rec_apply _ (yRow m c) hY _ _ _ _ _ r j
  · obtain ⟨r, j, rfl⟩ : ∃ (r : Fin 32) (j : Fin 512), i = (ix2 r j : S32x512.Idx) := ⟨i 0, i 1, eq_ix2 i⟩
    exact (slice_proj _ (yRow m c) hY 0 (by decide) _ r j).trans (congrArg (yRow m c r) (Nat.zero_add _))
  · obtain ⟨r, j, rfl⟩ : ∃ (r : Fin 32) (j : Fin 512), i = (ix2 r j : S32x512.Idx) := ⟨i 0, i 1, eq_ix2 i⟩
    exact slice_proj _ (yRow m c) hY 768 (by decide) _ r j
  · obtain ⟨r, j, rfl⟩ : ∃ (r : Fin 32) (j : Fin 128), i = (ix2 r j : S32x128.Idx) := ⟨i 0, i 1, eq_ix2 i⟩
    exact iw_apply _ (yRow m c) hY (fun r => projAt_off _ _) _ _ _ _ r j

end Cert.SinReferenceIdeal.Hand

end
-- ==== Proof.SinPay.lean ====
/-
  Hand-written, untrusted. The body of the sample step's input projection: each block it leaves, read at one entry, as a
  function of the rows `y r` of the projection of the 32 rows.
-/
module

public import proofs.«01_k».proof.Proof.Gen.SinIdeal.Value
public import proofs.«01_k».proof.Proof.InPay
public import proofs.«01_k».proof.Proof.SinRef

@[expose] public section

set_option maxRecDepth 16384

noncomputable section

namespace Cert.SinIdeal.Hand

open Idealize Idealize.ShloMosaic Idealize.ShloMosaic.ValueIdx
open Cert.SinIdeal Cert.SinIdeal.Gen Cert.Rows
open Cert.InprojIdeal.Hand (mainCol)
open scoped BigOperators

/-- The column of the weights that column `c` of the queries' layout holds; the last 120 columns hold zeros, as do the columns off the weights. -/
def qryCol (c : ℕ) : ℕ := if c < 512 then c else if c < 1024 then 256 + c else if c < 1152 then c - 384 else if c < 1160 then 192 + c else 3400

/-! ## The two products at one entry -/

theorem normed_apply (X : FVec Ideal S32x1024 .f32) (g : FVec Ideal S1x1024 .f32) (r : Fin 32) (k : Fin 1024) :
    k0_pay3 (F := Ideal) X g (ix2 r k) = normRow (fun k => X (ix2 r k)) (fun k => g (ix2 0 k)) k := by
  unfold k0_pay3
  rw [shapeCast_self]
  exact kernel_norm X g _ _ _ _ _ _ r k

theorem prod_apply (X : FVec Ideal S32x1024 .f32) (g : FVec Ideal S1x1024 .f32) (B : FVec Ideal S1024x2304 .bf16) (W : Fin 1024 → Fin 3400 → EReal)
    (hB : ∀ (k : Fin 1024) (c : Fin 2304), c.val < 192 ∨ 256 ≤ c.val → B (ix2 k c) = colAt W k (mainCol c.val))
    (r : Fin 32) (c : Fin 2304) (hc : c.val < 192 ∨ 256 ≤ c.val) :
    k0_pay4 (F := Ideal) X g B (ix2 r c) = projAt (normRow (fun k => X (ix2 r k)) (fun k => g (ix2 0 k))) W (mainCol c.val) := by
  unfold k0_pay4
  rw [shapeCast_self]
  exact (matmul_apply _ B r c).trans (Finset.sum_congr rfl fun k _ => congrArg₂ (· * ·) (normed_apply X g r k) (hB k c hc))

theorem qry_apply (X : FVec Ideal S32x1024 .f32) (g : FVec Ideal S1x1024 .f32) (B : FVec Ideal S1024x1280 .bf16) (W : Fin 1024 → Fin 3400 → EReal)
    (hQ : ∀ (k : Fin 1024) (c : Fin 1280), B (ix2 k c) = colAt W k (qryCol c.val)) (r : Fin 32) (c : Fin 1280) :
    k0_pay14 (F := Ideal) (k0_pay3 (F := Ideal) X g) B (ix2 r c) = projAt (normRow (fun k => X (ix2 r k)) (fun k => g (ix2 0 k))) W (qryCol c.val) := by
  unfold k0_pay14
  rw [shapeCast_self]
  exact (matmul_apply _ B r c).trans (Finset.sum_congr rfl fun k _ => congrArg₂ (· * ·) (normed_apply X g r k) (hQ k c))

/-! ## The keys' two heads -/

/-- The bit that holds of the first 64 columns. -/
theorem lane_apply (r : Fin 32) (j : Fin 128) : k0_pay8 (ix2 r j) = if j.val < 64 then 1#1 else 0#1 := by
  have h : ∀ j : Fin 128, IntOp.cmpi .slt (BitVec.ofNat 32 (0 * 128 + j.val)) 64#32 = if j.val < 64 then 1#1 else 0#1 := by decide +kernel
  exact h j

theorem lift_row128 (h : S32x128.Reduces [1] S32) (r : Fin 32) (k : Fin 128) : h.lift (ix1 r) k = ix2 r k := by
  funext a; apply Fin.ext
  match a with
  | ⟨0, _⟩ => rfl
  | ⟨1, _⟩ => rfl

theorem sum128 (X : FVec Ideal S32x128 .f32) (h : S32x128.Reduces [1] S32) (hf : FKind.Formats .f32)
    (ha : (0x00000000#32 : BitVec 32) = FKind.add.neutral .f32 hf) (r : Fin 32) :
    multiReduction .add [1] S32 X 0x00000000#32 h hf ha (ix1 r) = ∑ k : Fin 128, X (ix2 r k) := by
  refine (Ideal.multiReduction_add_single X _ h hf ha (ix1 r)).trans ?_
  exact Finset.sum_congr rfl fun k _ => congrArg X (lift_row128 h r k)

theorem two_heads (X : FVec Ideal S32x1024 .f32) (g : FVec Ideal S1x1024 .f32) (B : FVec Ideal S1024x2304 .bf16) (G : FVec Ideal S1x128 .f32)
    (y : ℕ → EReal) (gk : Fin 64 → EReal) (r : Fin 32) (hy : ∀ j : Fin 128, k0_pay5 (F := Ideal) X g B (ix2 r j) = y (512 + j.val))
    (hG : ∀ j : Fin 128, G (ix2 0 j) = gk ⟨j.val % 64, Nat.mod_lt _ (by decide)⟩) (j : Fin 128) :
    k0_pay11 (F := Ideal) (k0_pay5 (F := Ideal) X g B) (k0_pay6 (F := Ideal) G) k0_pay8 (k0_pay9 (F := Ideal) X g B) (k0_pay10 (F := Ideal) X g B) (Scalar.ofBits (F := Ideal) .f32 0x42800000#32) (ix2 r j)
      = headsAt y 512 gk j.val := by
  have hj := j.isLt
  have h7 : k0_pay9 (F := Ideal) X g B (ix2 r 0) = ∑ k : Fin 64, y (512 + 64 * 1 + k.val) * y (512 + 64 * 1 + k.val) := by
    unfold k0_pay9
    refine (shapeCast_a_a1_apply _ _ r 0).trans ((sum128 _ _ _ _ r).trans ((Cert.InprojIdeal.Hand.sum_high _ fun k hk => ?_).trans (Finset.sum_congr rfl fun k _ => ?_)))
    · rw [select_apply, lane_apply, if_pos hk]
      exact Ideal.ofBits_zero_f32
    · rw [select_apply, lane_apply, if_neg (by simp)]
      show k0_pay5 (F := Ideal) X g B (ix2 r _) * k0_pay5 (F := Ideal) X g B (ix2 r _) = _
      rw [hy]
      exact congrArg (fun n => y n * y n) (Nat.add_assoc 512 64 k.val).symm
  have h8 : k0_pay10 (F := Ideal) X g B (ix2 r 0) = Ideal.rsqrt (Ideal.div (∑ k : Fin 64, y (512 + 64 * 0 + k.val) * y (512 + 64 * 0 + k.val)) (Ideal.ofBits .f32 0x42800000#32) + Ideal.ofBits .f32 0x358637BD#32) := by
    unfold k0_pay10
    refine congrArg (fun z => Ideal.rsqrt (Ideal.div z (Ideal.ofBits .f32 0x42800000#32) + Ideal.ofBits .f32 0x358637BD#32)) ?_
    refine (shapeCast_a_a1_apply _ _ r 0).trans ((sum128 _ _ _ _ r).trans ((Cert.InprojIdeal.Hand.sum_low _ fun k hk => ?_).trans (Finset.sum_congr rfl fun k _ => ?_)))
    · rw [select_apply, lane_apply, if_neg hk]
      exact Ideal.ofBits_zero_f32
    · rw [select_apply, lane_apply, if_pos k.isLt]
      show k0_pay5 (F := Ideal) X g B (ix2 r _) * k0_pay5 (F := Ideal) X g B (ix2 r _) = _
      rw [hy]
  have h4 : k0_pay6 (F := Ideal) G (ix2 0 j) = gk ⟨j.val % 64, Nat.mod_lt _ (by decide)⟩ := by
    unfold k0_pay6
    rw [shapeCast_self]
    exact hG j
  unfold k0_pay11
  rw [shapeCast_self, shapeCast_self]
  rw [mulf_apply, mulf_apply, broadcastTo_1b_ab_apply, h4, hy, select_apply, lane_apply, bcast_col, bcast_col]
  unfold headsAt headNorm
  refine congrArg (· * gk ⟨j.val % 64, Nat.mod_lt _ (by decide)⟩) (congrArg₂ (· * ·) (congrArg y ?_) ?_)
  · show 512 + j.val = 512 + 64 * (j.val / 64) + j.val % 64
    omega
  · by_cases hl : j.val < 64
    · rw [if_pos hl, show j.val / 64 = 0 by omega]
      exact h8
    · rw [if_neg hl, show j.val / 64 = 1 by omega]
      exact congrArg (fun z => Ideal.rsqrt (Ideal.div z (Ideal.ofBits .f32 0x42800000#32) + Ideal.ofBits .f32 0x358637BD#32)) h7

/-! ## The blocks the body leaves -/

theorem hz2 : (![0, 0] : Fin 2 → ℕ) = fun _ => 0 := funext fun a => match a with | ⟨0, _⟩ => rfl | ⟨1, _⟩ => rfl

variable (x0 : Vec Ideal S32x1024 .f32) (x1 : Vec Ideal S1x1024 .f32) (x2 : Vec Ideal S1024x2304 .bf16) (x3 : Vec Ideal S1024x1280 .bf16)
  (x4 : Vec Ideal S1x128 .f32) (x5 : Vec Ideal S1x64 .f32) (W : Fin 1024 → Fin 3400 → EReal)

/-- The rows of the projection of the block's rows. -/
abbrev yBlk (r : Fin 32) : ℕ → EReal := projAt (normRow (fun k => x0 (ix2 r k)) (fun k => x1 (ix2 0 k))) W

theorem main_apply (hB : ∀ (k : Fin 1024) (c : Fin 2304), c.val < 192 ∨ 256 ≤ c.val → x2 (ix2 k c) = colAt W k (mainCol c.val))
    (r : Fin 32) (c : Fin 2304) (hc : c.val < 192 ∨ 256 ≤ c.val) :
    k0_pay18 (F := Ideal) x0 x1 x2 x3 x4 x5 (ix2 r c) = yBlk x0 x1 W r (mainCol c.val) := by
  unfold k0_pay18
  rw [View.ld_unit_zero hz2, View.ld_unit_zero hz2, View.ld_unit_zero hz2]
  exact prod_apply x0 x1 x2 W hB r c hc

theorem out6_apply (hB : ∀ (k : Fin 1024) (c : Fin 2304), c.val < 192 ∨ 256 ≤ c.val → x2 (ix2 k c) = colAt W k (mainCol c.val))
    (g : Fin 64 → EReal) (hG : ∀ j : Fin 128, x4 (ix2 0 j) = g ⟨j.val % 64, Nat.mod_lt _ (by decide)⟩) (r : Fin 32) (j : Fin 128) :
    out0_6 (F := Ideal) x0 x1 x2 x3 x4 x5 (ix2 r j) = headsAt (yBlk x0 x1 W r) 512 g j.val := by
  unfold out0_6
  rw [View.canon_unit_zero hz2, View.ld_unit_zero hz2, View.ld_unit_zero hz2, View.ld_unit_zero hz2, View.ld_unit_zero hz2]
  refine two_heads x0 x1 x2 x4 (yBlk x0 x1 W r) g r (fun j => ?_) hG j
  have hj := j.isLt
  unfold k0_pay5
  refine Eq.trans (slice2_axis1_apply 0 (k0_pay4 (F := Ideal) x0 x1 x2) slices_S32x2304_o0_0_S32x128 r j ⟨j.val, by omega⟩ (Nat.zero_add _).symm) ?_
  refine (prod_apply x0 x1 x2 W hB r ⟨j.val, by omega⟩ (Or.inl (show j.val < 192 by omega))).trans ?_
  exact congrArg (yBlk x0 x1 W r) (if_pos hj)

/-- The norm of the indexer's key, for any rows. -/
theorem ik_row (Y : FVec Ideal S32x2304 .f32) (G : FVec Ideal S1x64 .f32) (r : Fin 32) (d : Fin 64) :
    k0_pay12 (F := Ideal) Y G (ix2 r d) = headNorm (fun k => Y (ix2 r ⟨128 + k.val, by have := k.isLt; omega⟩)) (fun k => G (ix2 0 k)) d := by
  unfold k0_pay12
  refine Eq.trans (kernel_norm64 (n := 32) (extractStridedSlice S32x64 ![0, 128] Y slices_S32x2304_o0_128_S32x64) (shapeCast S1x64 G shapeCasts_S1x64_S1x64)
    reduces_S32x64_S32 (.inl rfl) rfl shapeCasts_S32_S32x1 broadcasts_S32x1_S32x64 broadcasts_S1x64_S32x64 r d) ?_
  rw [shapeCast_self]
  exact congrArg (fun v => headNorm v (fun k => G (ix2 0 k)) d) (funext fun k => slice2_axis1_apply 128 Y slices_S32x2304_o0_128_S32x64 r k ⟨128 + k.val, _⟩ rfl)

theorem out8_apply (hB : ∀ (k : Fin 1024) (c : Fin 2304), c.val < 192 ∨ 256 ≤ c.val → x2 (ix2 k c) = colAt W k (mainCol c.val))
    (g : Fin 64 → EReal) (hG : ∀ j : Fin 64, x5 (ix2 0 j) = g j) (r : Fin 32) (j : Fin 64) :
    out0_8 (F := Ideal) x0 x1 x2 x3 x4 x5 (ix2 r j) = headsAt (yBlk x0 x1 W r) 1280 g j.val := by
  unfold out0_8
  rw [View.canon_unit_zero hz2, View.ld_unit_zero hz2]
  refine (ik_row _ x5 r j).trans ?_
  refine Eq.trans (congrArg₂ (fun v g => headNorm v g j) (funext fun k => ?_) (funext hG)) (headNorm_headsAt _ 1280 g j)
  have hk := k.isLt
  refine (main_apply x0 x1 x2 x3 x4 x5 W hB r ⟨128 + k.val, by omega⟩ (Or.inl (show 128 + k.val < 192 by omega))).trans ?_
  refine congrArg (yBlk x0 x1 W r) ?_
  show mainCol (128 + k.val) = 1280 + k.val
  unfold mainCol; split_ifs <;> omega

theorem out9_apply (hB : ∀ (k : Fin 1024) (c : Fin 2304), c.val < 192 ∨ 256 ≤ c.val → x2 (ix2 k c) = colAt W k (mainCol c.val)) (r : Fin 32) (j : Fin 2048) :
    out0_9 (F := Ideal) x0 x1 x2 x3 x4 x5 (ix2 r j) = yBlk x0 x1 W r (1352 + j.val) := by
  unfold out0_9
  rw [View.canon_unit_zero hz2]
  unfold k0_pay13
  have hj := j.isLt
  refine (slice2_axis1_apply 256 _ _ r j ⟨256 + j.val, by omega⟩ rfl).trans ((main_apply x0 x1 x2 x3 x4 x5 W hB r _ (Or.inr (by dsimp only; omega))).trans ?_)
  refine congrArg (yBlk x0 x1 W r) ?_
  show mainCol (256 + j.val) = 1352 + j.val
  unfold mainCol; split_ifs <;> omega

theorem out10_eq (r : Fin 32) (j : Fin 512) :
    out0_10 (F := Ideal) x0 x1 x2 x3 x4 x5 (ix2 r j) = k0_pay14 (F := Ideal) (k0_pay3 (F := Ideal) x0 x1) x3 (ix2 r ⟨0 + j.val, by have := j.isLt; omega⟩) := by
  unfold out0_10 k0_pay15 k0_pay17
  rw [View.canon_unit_zero hz2, View.ld_unit_zero hz2, View.ld_unit_zero hz2, View.ld_unit_zero hz2]
  exact slice2_axis1_apply 0 (k0_pay14 (F := Ideal) (k0_pay3 (F := Ideal) x0 x1) x3) slices_S32x1280_o0_0_S32x512 r j ⟨0 + j.val, _⟩ rfl

theorem out11_eq (r : Fin 32) (j : Fin 512) :
    out0_11 (F := Ideal) x0 x1 x2 x3 x4 x5 (ix2 r j) = k0_pay14 (F := Ideal) (k0_pay3 (F := Ideal) x0 x1) x3 (ix2 r ⟨512 + j.val, by have := j.isLt; omega⟩) := by
  unfold out0_11 k0_pay16 k0_pay17
  rw [View.canon_unit_zero hz2, View.ld_unit_zero hz2, View.ld_unit_zero hz2, View.ld_unit_zero hz2]
  exact slice2_axis1_apply 512 (k0_pay14 (F := Ideal) (k0_pay3 (F := Ideal) x0 x1) x3) slices_S32x1280_o0_512_S32x512 r j ⟨512 + j.val, _⟩ rfl

theorem out7_eq (r : Fin 32) (j : Fin 128) :
    out0_7 (F := Ideal) x0 x1 x2 x3 x4 x5 (ix2 r j) = k0_pay14 (F := Ideal) (k0_pay3 (F := Ideal) x0 x1) x3 (ix2 r ⟨1024 + j.val, by have := j.isLt; omega⟩) := by
  unfold out0_7 k0_pay1 k0_pay19 k0_pay17
  rw [View.canon_unit_zero hz2, View.ld_unit_zero hz2, View.ld_unit_zero hz2, View.ld_unit_zero hz2]
  exact slice2_axis1_apply 1024 (k0_pay14 (F := Ideal) (k0_pay3 (F := Ideal) x0 x1) x3) slices_S32x1280_o0_1024_S32x128 r j ⟨1024 + j.val, _⟩ rfl

theorem out10_apply (hQ : ∀ (k : Fin 1024) (c : Fin 1280), x3 (ix2 k c) = colAt W k (qryCol c.val)) (r : Fin 32) (j : Fin 512) :
    out0_10 (F := Ideal) x0 x1 x2 x3 x4 x5 (ix2 r j) = yBlk x0 x1 W r (j.val) := by
  have hj := j.isLt
  refine (out10_eq x0 x1 x2 x3 x4 x5 r j).trans ((qry_apply x0 x1 x3 W hQ r ⟨0 + j.val, by omega⟩).trans (congrArg (yBlk x0 x1 W r) ?_))
  show qryCol (0 + j.val) = j.val
  unfold qryCol; split_ifs <;> omega

theorem out11_apply (hQ : ∀ (k : Fin 1024) (c : Fin 1280), x3 (ix2 k c) = colAt W k (qryCol c.val)) (r : Fin 32) (j : Fin 512) :
    out0_11 (F := Ideal) x0 x1 x2 x3 x4 x5 (ix2 r j) = yBlk x0 x1 W r (768 + j.val) := by
  have hj := j.isLt
  refine (out11_eq x0 x1 x2 x3 x4 x5 r j).trans ((qry_apply x0 x1 x3 W hQ r ⟨512 + j.val, by omega⟩).trans (congrArg (yBlk x0 x1 W r) ?_))
  show qryCol (512 + j.val) = 768 + j.val
  unfold qryCol; split_ifs <;> omega

theorem out7_apply (hQ : ∀ (k : Fin 1024) (c : Fin 1280), x3 (ix2 k c) = colAt W k (qryCol c.val)) (r : Fin 32) (j : Fin 128) :
    out0_7 (F := Ideal) x0 x1 x2 x3 x4 x5 (ix2 r j) = yBlk x0 x1 W r (640 + j.val) := by
  have hj := j.isLt
  refine (out7_eq x0 x1 x2 x3 x4 x5 r j).trans ((qry_apply x0 x1 x3 W hQ r ⟨1024 + j.val, by omega⟩).trans (congrArg (yBlk x0 x1 W r) ?_))
  show qryCol (1024 + j.val) = 640 + j.val
  unfold qryCol; split_ifs <;> omega

theorem out12_apply (hQ : ∀ (k : Fin 1024) (c : Fin 1280), x3 (ix2 k c) = colAt W k (qryCol c.val)) (r : Fin 32) (j : Fin 128) :
    out0_12 (F := Ideal) x0 x1 x2 x3 x4 x5 (ix2 r j) = yBlk x0 x1 W r (if j.val < 8 then 1344 + j.val else 3400) * Ideal.ofBits .f32 0x3D3504F3#32 := by
  have hj := j.isLt
  unfold out0_12 k0_pay2 k0_pay19 k0_pay17
  rw [View.canon_unit_zero hz2, View.ld_unit_zero hz2, View.ld_unit_zero hz2, View.ld_unit_zero hz2]
  refine (mulf_apply _ _ _).trans (congrArg (· * Ideal.ofBits .f32 0x3D3504F3#32) ?_)
  refine (slice2_axis1_apply 1152 (k0_pay14 (F := Ideal) (k0_pay3 (F := Ideal) x0 x1) x3) slices_S32x1280_o0_1152_S32x128 r j ⟨1152 + j.val, by omega⟩ rfl).trans ?_
  refine (qry_apply x0 x1 x3 W hQ r ⟨1152 + j.val, by omega⟩).trans (congrArg (yBlk x0 x1 W r) ?_)
  show qryCol (1152 + j.val) = _
  unfold qryCol; split_ifs <;> omega

end Cert.SinIdeal.Hand

end
-- ==== Proof.SinValue.lean ====
/-
  Hand-written, untrusted. The in-projection of the sample step: the operands as the call finds them, read off the
  arguments; the seven results; and the agreement with the reference. The call has one grid point.
-/
module

public import proofs.«01_k».proof.Proof.SinPay
public import proofs.«01_k».proof.Proof.InValue
public import Idealize.ShloMosaic.Lib.Claim
public import Idealize.ShloMosaic.Lib.StableHlo.RunRead
public import proofs.«01_k».proof.Defs

@[expose] public section

set_option maxRecDepth 16384

noncomputable section

namespace Cert.SinIdeal.Hand

open Idealize Idealize.ShloMosaic Idealize.ShloMosaic.ValueIdx Idealize.ShloMosaic.TcCoe Idealize.SL.Sem
open Idealize.ShloMosaic.Pipeline (Dat)
open Cert.SinIdeal Cert.SinIdeal.Gen Cert.SinIdeal.Value Cert.Rows
open Cert.InprojIdeal.Hand (mainCol mainCat cols_at rep_apply)

variable (m : (ℓ : Loc nD τ sig) → Buf (Elt Ideal) ℓ) (ρ : Dev nD → PrngReg)

/-! ## The arguments as functions of their coordinates -/

abbrev xRow (c : Dev nD) (r : Fin 32) : Fin 1024 → EReal := fun k => m ((c.tc : Thread nD τ).loc main_arg0) (ix2 r k)
abbrev gain (c : Dev nD) : Fin 1024 → EReal := fun k => m ((c.tc : Thread nD τ).loc main_arg1) (ix1 k)
abbrev wIn (c : Dev nD) : Fin 1024 → Fin 3400 → EReal := fun k j => m ((c.tc : Thread nD τ).loc main_arg2) (ix2 k j)
abbrev gk (c : Dev nD) : Fin 64 → EReal := fun k => m ((c.tc : Thread nD τ).loc main_arg3) (ix1 k)
abbrev gi (c : Dev nD) : Fin 64 → EReal := fun k => m ((c.tc : Thread nD τ).loc main_arg4) (ix1 k)
/-- The rows of the projection. -/
abbrev yRow (c : Dev nD) (r : Fin 32) : ℕ → EReal := projAt (normRow (xRow m c r) (gain m c)) (wIn m c)

/-! ## The weights in the two orders -/

theorem up12_v1 (c : Dev nD) (k : Fin 1024) (q : Fin 128) :
    StableHlo.upto (hostOps0 (F := Ideal)) (fun b => m (c, b)) 12 (Proc.devRef .tc main_v1) (ix2 k q) = colAt (wIn m c) k (512 + q.val) := by
  have hu : StableHlo.upto (hostOps0 (F := Ideal)) (fun b => m (c, b)) 1 (Proc.devRef .tc main_arg2) = m ((c.tc : Thread nD τ).loc main_arg2) :=
    StableHlo.upto_unwritten [main_v0] rfl (by decide) _
  refine Eq.trans (congrFun ((StableHlo.upto_last_write (i := 1) [main_v2, main_v3, main_v4, main_v5, main_v6, main_v7, main_v8, main_v9, main_cst, main_v10] rfl rfl (by decide) _).trans
    (StableHlo.unary_result main_arg2 main_v1 _ _ _ _)) (ix2 k q)) ?_
  rw [hu]
  exact cols_at (wIn m c) _ (fun _ _ => rfl) 512 slices_S1024x3400_S1024x128_0_512 k q _ rfl (by omega)

theorem up12_v4 (c : Dev nD) (k : Fin 1024) (q : Fin 64) :
    StableHlo.upto (hostOps0 (F := Ideal)) (fun b => m (c, b)) 12 (Proc.devRef .tc main_v4) (ix2 k q) = colAt (wIn m c) k (1280 + q.val) := by
  have hu : StableHlo.upto (hostOps0 (F := Ideal)) (fun b => m (c, b)) 4 (Proc.devRef .tc main_arg2) = m ((c.tc : Thread nD τ).loc main_arg2) :=
    StableHlo.upto_unwritten [main_v0, main_v1, main_v2, main_v3] rfl (by decide) _
  refine Eq.trans (congrFun ((StableHlo.upto_last_write (i := 4) [main_v5, main_v6, main_v7, main_v8, main_v9, main_cst, main_v10] rfl rfl (by decide) _).trans
    (StableHlo.unary_result main_arg2 main_v4 _ _ _ _)) (ix2 k q)) ?_
  rw [hu]
  exact cols_at (wIn m c) _ (fun _ _ => rfl) 1280 slices_S1024x3400_S1024x64_0_1280 k q _ rfl (by omega)

theorem up12_v6 (c : Dev nD) (k : Fin 1024) (q : Fin 512) :
    StableHlo.upto (hostOps0 (F := Ideal)) (fun b => m (c, b)) 12 (Proc.devRef .tc main_v6) (ix2 k q) = colAt (wIn m c) k (1352 + q.val) := by
  have hu : StableHlo.upto (hostOps0 (F := Ideal)) (fun b => m (c, b)) 6 (Proc.devRef .tc main_arg2) = m ((c.tc : Thread nD τ).loc main_arg2) :=
    StableHlo.upto_unwritten [main_v0, main_v1, main_v2, main_v3, main_v4, main_v5] rfl (by decide) _
  refine Eq.trans (congrFun ((StableHlo.upto_last_write (i := 6) [main_v7, main_v8, main_v9, main_cst, main_v10] rfl rfl (by decide) _).trans
    (StableHlo.unary_result main_arg2 main_v6 _ _ _ _)) (ix2 k q)) ?_
  rw [hu]
  exact cols_at (wIn m c) _ (fun _ _ => rfl) 1352 slices_S1024x3400_S1024x512_0_1352 k q _ rfl (by omega)

theorem up12_v7 (c : Dev nD) (k : Fin 1024) (q : Fin 512) :
    StableHlo.upto (hostOps0 (F := Ideal)) (fun b => m (c, b)) 12 (Proc.devRef .tc main_v7) (ix2 k q) = colAt (wIn m c) k (1864 + q.val) := by
  have hu : StableHlo.upto (hostOps0 (F := Ideal)) (fun b => m (c, b)) 7 (Proc.devRef .tc main_arg2) = m ((c.tc : Thread nD τ).loc main_arg2) :=
    StableHlo.upto_unwritten [main_v0, main_v1, main_v2, main_v3, main_v4, main_v5, main_v6] rfl (by decide) _
  refine Eq.trans (congrFun ((StableHlo.upto_last_write (i := 7) [main_v8, main_v9, main_cst, main_v10] rfl rfl (by decide) _).trans
    (StableHlo.unary_result main_arg2 main_v7 _ _ _ _)) (ix2 k q)) ?_
  rw [hu]
  exact cols_at (wIn m c) _ (fun _ _ => rfl) 1864 slices_S1024x3400_S1024x512_0_1864 k q _ rfl (by omega)

theorem up12_v8 (c : Dev nD) (k : Fin 1024) (q : Fin 512) :
    StableHlo.upto (hostOps0 (F := Ideal)) (fun b => m (c, b)) 12 (Proc.devRef .tc main_v8) (ix2 k q) = colAt (wIn m c) k (2376 + q.val) := by
  have hu : StableHlo.upto (hostOps0 (F := Ideal)) (fun b => m (c, b)) 8 (Proc.devRef .tc main_arg2) = m ((c.tc : Thread nD τ).loc main_arg2) :=
    StableHlo.upto_unwritten [main_v0, main_v1, main_v2, main_v3, main_v4, main_v5, main_v6, main_v7] rfl (by decide) _
  refine Eq.trans (congrFun ((StableHlo.upto_last_write (i := 8) [main_v9, main_cst, main_v10] rfl rfl (by decide) _).trans
    (StableHlo.unary_result main_arg2 main_v8 _ _ _ _)) (ix2 k q)) ?_
  rw [hu]
  exact cols_at (wIn m c) _ (fun _ _ => rfl) 2376 slices_S1024x3400_S1024x512_0_2376 k q _ rfl (by omega)

theorem up12_v9 (c : Dev nD) (k : Fin 1024) (q : Fin 512) :
    StableHlo.upto (hostOps0 (F := Ideal)) (fun b => m (c, b)) 12 (Proc.devRef .tc main_v9) (ix2 k q) = colAt (wIn m c) k (2888 + q.val) := by
  have hu : StableHlo.upto (hostOps0 (F := Ideal)) (fun b => m (c, b)) 9 (Proc.devRef .tc main_arg2) = m ((c.tc : Thread nD τ).loc main_arg2) :=
    StableHlo.upto_unwritten [main_v0, main_v1, main_v2, main_v3, main_v4, main_v5, main_v6, main_v7, main_v8] rfl (by decide) _
  refine Eq.trans (congrFun ((StableHlo.upto_last_write (i := 9) [main_cst, main_v10] rfl rfl (by decide) _).trans
    (StableHlo.unary_result main_arg2 main_v9 _ _ _ _)) (ix2 k q)) ?_
  rw [hu]
  exact cols_at (wIn m c) _ (fun _ _ => rfl) 2888 slices_S1024x3400_S1024x512_0_2888 k q _ rfl (by omega)

/-- The order of the columns of the queries' weights. -/
theorem qryCat (W : Fin 1024 → Fin 3400 → EReal) (p0 : S1024x512.Idx → EReal) (p1 : S1024x512.Idx → EReal) (p2 : S1024x128.Idx → EReal) (p3 : S1024x8.Idx → EReal) (p4 : S1024x120.Idx → EReal)
    (h0 : ∀ k q, p0 (ix2 k q) = colAt W k (0 + q.val)) (h1 : ∀ k q, p1 (ix2 k q) = colAt W k (768 + q.val)) (h2 : ∀ k q, p2 (ix2 k q) = colAt W k (640 + q.val)) (h3 : ∀ k q, p3 (ix2 k q) = colAt W k (1344 + q.val)) (h4 : ∀ k q, p4 (ix2 k q) = 0)
    (k : Fin 1024) (c : Fin 1280) :
    concatenate S1024x1280 1 [⟨S1024x512, p0⟩, ⟨S1024x512, p1⟩, ⟨S1024x128, p2⟩, ⟨S1024x8, p3⟩, ⟨S1024x120, p4⟩]
      concatenates_S1024x512_S1024x512_S1024x128_S1024x8_S1024x120_S1024x1280_d1 (ix2 k c) = colAt W k (qryCol c.val) := by
  have hlt := c.isLt
  by_cases c0 : c.val < 512
  · refine (cat_cols [⟨S1024x512, p0⟩, ⟨S1024x512, p1⟩, ⟨S1024x128, p2⟩, ⟨S1024x8, p3⟩, ⟨S1024x120, p4⟩]
      concatenates_S1024x512_S1024x512_S1024x128_S1024x8_S1024x120_S1024x1280_d1 0 (by simp) p0 rfl 0 rfl k c ⟨c.val - 0, by omega⟩ (by dsimp only; omega)).trans ((h0 k _).trans (congrArg (colAt W k) ?_))
    unfold qryCol; dsimp only; split_ifs <;> omega
  by_cases c1 : c.val < 1024
  · refine (cat_cols [⟨S1024x512, p0⟩, ⟨S1024x512, p1⟩, ⟨S1024x128, p2⟩, ⟨S1024x8, p3⟩, ⟨S1024x120, p4⟩]
      concatenates_S1024x512_S1024x512_S1024x128_S1024x8_S1024x120_S1024x1280_d1 1 (by simp) p1 rfl 512 rfl k c ⟨c.val - 512, by omega⟩ (by dsimp only; omega)).trans ((h1 k _).trans (congrArg (colAt W k) ?_))
    unfold qryCol; dsimp only; split_ifs <;> omega
  by_cases c2 : c.val < 1152
  · refine (cat_cols [⟨S1024x512, p0⟩, ⟨S1024x512, p1⟩, ⟨S1024x128, p2⟩, ⟨S1024x8, p3⟩, ⟨S1024x120, p4⟩]
      concatenates_S1024x512_S1024x512_S1024x128_S1024x8_S1024x120_S1024x1280_d1 2 (by simp) p2 rfl 1024 rfl k c ⟨c.val - 1024, by omega⟩ (by dsimp only; omega)).trans ((h2 k _).trans (congrArg (colAt W k) ?_))
    unfold qryCol; dsimp only; split_ifs <;> omega
  by_cases c3 : c.val < 1160
  · refine (cat_cols [⟨S1024x512, p0⟩, ⟨S1024x512, p1⟩, ⟨S1024x128, p2⟩, ⟨S1024x8, p3⟩, ⟨S1024x120, p4⟩]
      concatenates_S1024x512_S1024x512_S1024x128_S1024x8_S1024x120_S1024x1280_d1 3 (by simp) p3 rfl 1152 rfl k c ⟨c.val - 1152, by omega⟩ (by dsimp only; omega)).trans ((h3 k _).trans (congrArg (colAt W k) ?_))
    unfold qryCol; dsimp only; split_ifs <;> omega
  · refine (cat_cols [⟨S1024x512, p0⟩, ⟨S1024x512, p1⟩, ⟨S1024x128, p2⟩, ⟨S1024x8, p3⟩, ⟨S1024x120, p4⟩]
      concatenates_S1024x512_S1024x512_S1024x128_S1024x8_S1024x120_S1024x1280_d1 4 (by simp) p4 rfl 1160 rfl k c ⟨c.val - 1160, by omega⟩ (by dsimp only; omega)).trans ((h4 k _).trans ?_)
    rw [show qryCol c.val = 3400 by unfold qryCol; split_ifs <;> omega]
    unfold colAt
    rw [dif_neg (by omega)]

theorem up21_v0 (c : Dev nD) (k : Fin 1024) (q : Fin 512) :
    StableHlo.upto (hostOps0 (F := Ideal)) (fun b => m (c, b)) 21 (Proc.devRef .tc main_v0) (ix2 k q) = colAt (wIn m c) k (0 + q.val) := by
  have hu : StableHlo.upto (hostOps0 (F := Ideal)) (fun b => m (c, b)) 0 (Proc.devRef .tc main_arg2) = m ((c.tc : Thread nD τ).loc main_arg2) :=
    StableHlo.upto_unwritten [] rfl (by decide) _
  refine Eq.trans (congrFun ((StableHlo.upto_last_write (i := 0) [main_v1, main_v2, main_v3, main_v4, main_v5, main_v6, main_v7, main_v8, main_v9, main_cst, main_v10, main_v11, main_v12, main_cst_0, main_v13, main_v14, main_v15, main_v16, main_cst_1, main_v17] rfl rfl (by decide) _).trans
    (StableHlo.unary_result main_arg2 main_v0 _ _ _ _)) (ix2 k q)) ?_
  rw [hu]
  exact cols_at (wIn m c) _ (fun _ _ => rfl) 0 slices_S1024x3400_S1024x512_0_0 k q _ rfl (by omega)

theorem up21_v3 (c : Dev nD) (k : Fin 1024) (q : Fin 512) :
    StableHlo.upto (hostOps0 (F := Ideal)) (fun b => m (c, b)) 21 (Proc.devRef .tc main_v3) (ix2 k q) = colAt (wIn m c) k (768 + q.val) := by
  have hu : StableHlo.upto (hostOps0 (F := Ideal)) (fun b => m (c, b)) 3 (Proc.devRef .tc main_arg2) = m ((c.tc : Thread nD τ).loc main_arg2) :=
    StableHlo.upto_unwritten [main_v0, main_v1, main_v2] rfl (by decide) _
  refine Eq.trans (congrFun ((StableHlo.upto_last_write (i := 3) [main_v4, main_v5, main_v6, main_v7, main_v8, main_v9, main_cst, main_v10, main_v11, main_v12, main_cst_0, main_v13, main_v14, main_v15, main_v16, main_cst_1, main_v17] rfl rfl (by decide) _).trans
    (StableHlo.unary_result main_arg2 main_v3 _ _ _ _)) (ix2 k q)) ?_
  rw [hu]
  exact cols_at (wIn m c) _ (fun _ _ => rfl) 768 slices_S1024x3400_S1024x512_0_768 k q _ rfl (by omega)

theorem up21_v2 (c : Dev nD) (k : Fin 1024) (q : Fin 128) :
    StableHlo.upto (hostOps0 (F := Ideal)) (fun b => m (c, b)) 21 (Proc.devRef .tc main_v2) (ix2 k q) = colAt (wIn m c) k (640 + q.val) := by
  have hu : StableHlo.upto (hostOps0 (F := Ideal)) (fun b => m (c, b)) 2 (Proc.devRef .tc main_arg2) = m ((c.tc : Thread nD τ).loc main_arg2) :=
    StableHlo.upto_unwritten [main_v0, main_v1] rfl (by decide) _
  refine Eq.trans (congrFun ((StableHlo.upto_last_write (i := 2) [main_v3, main_v4, main_v5, main_v6, main_v7, main_v8, main_v9, main_cst, main_v10, main_v11, main_v12, main_cst_0, main_v13, main_v14, main_v15, main_v16, main_cst_1, main_v17] rfl rfl (by decide) _).trans
    (StableHlo.unary_result main_arg2 main_v2 _ _ _ _)) (ix2 k q)) ?_
  rw [hu]
  exact cols_at (wIn m c) _ (fun _ _ => rfl) 640 slices_S1024x3400_S1024x128_0_640 k q _ rfl (by omega)

theorem up21_v5 (c : Dev nD) (k : Fin 1024) (q : Fin 8) :
    StableHlo.upto (hostOps0 (F := Ideal)) (fun b => m (c, b)) 21 (Proc.devRef .tc main_v5) (ix2 k q) = colAt (wIn m c) k (1344 + q.val) := by
  have hu : StableHlo.upto (hostOps0 (F := Ideal)) (fun b => m (c, b)) 5 (Proc.devRef .tc main_arg2) = m ((c.tc : Thread nD τ).loc main_arg2) :=
    StableHlo.upto_unwritten [main_v0, main_v1, main_v2, main_v3, main_v4] rfl (by decide) _
  refine Eq.trans (congrFun ((StableHlo.upto_last_write (i := 5) [main_v6, main_v7, main_v8, main_v9, main_cst, main_v10, main_v11, main_v12, main_cst_0, main_v13, main_v14, main_v15, main_v16, main_cst_1, main_v17] rfl rfl (by decide) _).trans
    (StableHlo.unary_result main_arg2 main_v5 _ _ _ _)) (ix2 k q)) ?_
  rw [hu]
  exact cols_at (wIn m c) _ (fun _ _ => rfl) 1344 slices_S1024x3400_S1024x8_0_1344 k q _ rfl (by omega)

theorem up21_v17 (c : Dev nD) (k : Fin 1024) (q : Fin 120) :
    StableHlo.upto (hostOps0 (F := Ideal)) (fun b => m (c, b)) 21 (Proc.devRef .tc main_v17) (ix2 k q) = (0 : EReal) := by
  have hu : StableHlo.upto (hostOps0 (F := Ideal)) (fun b => m (c, b)) 20 (Proc.devRef .tc main_cst_1) = constant (F := Ideal) S_ .f32 0x00000000#32 :=
    (StableHlo.upto_last_write (i := 19) [] rfl rfl (by decide) _).trans (StableHlo.nullary_result main_cst_1 _ _ _)
  refine Eq.trans (congrFun ((StableHlo.upto_last_write (i := 20) [] rfl rfl (by decide) _).trans
    (StableHlo.unary_result main_cst_1 main_v17 _ _ _ _)) (ix2 k q)) ?_
  rw [hu]
  exact (broadcastInDim_scalar_apply bcast_S_S1024x120 _ _).trans ((constant_apply _ _).trans Ideal.ofBits_zero_f32)

/-! ## The operands as the call finds them -/

theorem wMain_apply (c : Dev nD) (k : Fin 1024) (q : Fin 2304) (hq : q.val < 192 ∨ 256 ≤ q.val) :
    V m c main_v12 (ix2 k q) = colAt (wIn m c) k (mainCol q.val) := by
  refine Eq.trans (congrFun ((StableHlo.after_last_write (i := 13) [main_cst_0, main_v13, main_v14, main_v15, main_v16, main_cst_1, main_v17, main_v18, main_v19, main_v20, main_v21, main_v22, main_v23, main_v24, main_v25] rfl rfl (by decide) _).trans
    (StableHlo.unary_result main_v11 main_v12 _ _ _ _)) (ix2 k q)) ?_
  refine (truncf_eq _ _ _).trans ?_
  refine Eq.trans (congrFun ((StableHlo.upto_last_write (i := 12) [] rfl rfl (by decide) _).trans
    (StableHlo.nary_result ![main_v1, main_v4, main_v10, main_v6, main_v7, main_v8, main_v9] main_v11 _ _ _ _)) (ix2 k q)) ?_
  exact mainCat (wIn m c) _ _ _ _ _ _ _ (up12_v1 m c) (up12_v4 m c) (up12_v6 m c) (up12_v7 m c) (up12_v8 m c) (up12_v9 m c) k q hq

theorem wQry_apply (c : Dev nD) (k : Fin 1024) (q : Fin 1280) :
    V m c main_v19 (ix2 k q) = colAt (wIn m c) k (qryCol q.val) := by
  refine Eq.trans (congrFun ((StableHlo.after_last_write (i := 22) [main_v20, main_v21, main_v22, main_v23, main_v24, main_v25] rfl rfl (by decide) _).trans
    (StableHlo.unary_result main_v18 main_v19 _ _ _ _)) (ix2 k q)) ?_
  refine (truncf_eq _ _ _).trans ?_
  refine Eq.trans (congrFun ((StableHlo.upto_last_write (i := 21) [] rfl rfl (by decide) _).trans
    (StableHlo.nary_result ![main_v0, main_v3, main_v2, main_v5, main_v17] main_v18 _ _ _ _)) (ix2 k q)) ?_
  exact qryCat (wIn m c) _ _ _ _ _ (up21_v0 m c) (up21_v3 m c) (up21_v2 m c) (up21_v5 m c) (up21_v17 m c) k q

theorem gkRow_apply (c : Dev nD) (j : Fin 128) : V m c main_v23 (ix2 0 j) = gk m c ⟨j.val % 64, Nat.mod_lt _ (by decide)⟩ := by
  entry_read
  refine (shapeCast_a_1a_apply _ shapeCasts_S128_S1x128 0 j).trans ?_
  exact rep_apply _ shapeCasts_S64_S1x64 bcast_S1x64_S2x64_0_1 shapeCasts_S2x64_S128 rfl j

theorem giRow_apply (c : Dev nD) (j : Fin 64) : V m c main_v25 (ix2 0 j) = gi m c j := by
  entry_read
  exact shapeCast_a_1a_apply _ shapeCasts_S64_S1x64 0 j

theorem gain_apply (c : Dev nD) (k : Fin 1024) : V m c main_v24 (ix2 0 k) = gain m c k := by
  entry_read
  exact shapeCast_a_1a_apply _ _ 0 k

/-! ## The grid's index maps -/

theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel
theorem idx10 : ∀ t : Fin grid0.N, win0_10.index t 0 = 0 ∧ win0_10.index t 1 = 0 := by decide +kernel
theorem idx11 : ∀ t : Fin grid0.N, win0_11.index t 0 = 0 ∧ win0_11.index t 1 = 0 := by decide +kernel
theorem idx12 : ∀ t : Fin grid0.N, win0_12.index t 0 = 0 ∧ win0_12.index t 1 = 0 := by decide +kernel

/-! ## The blocks -/

theorem blk0_apply (c : Dev nD) (t : Fin cfg0.N) (r : Fin 32) (k : Fin 1024) : iblk m c 0 t (ix2 r k) = xRow m c r k := by
  have e := idx0 t
  show V m c main_arg0 ((win0_0.rect t).emb (ix2 r k)) = _
  rw [V_main_arg0]
  refine congrArg (m ((c.tc : Thread nD τ).loc main_arg0)) (funext fun a => Fin.ext ?_)
  match a with
  | ⟨0, _⟩ => exact win0_0.rect_emb_val_of_index_zero t 0 e.1 (ix2 r k)
  | ⟨1, _⟩ => exact win0_0.rect_emb_val_of_index_zero t 1 e.2 (ix2 r k)

theorem blk1_apply (c : Dev nD) (t : Fin cfg0.N) (k : Fin 1024) : iblk m c 1 t (ix2 0 k) = gain m c k := by
  have e := idx1 t
  show V m c main_v24 ((win0_1.rect t).emb (ix2 0 k)) = _
  refine Eq.trans (congrArg (V m c main_v24) (funext fun a => Fin.ext ?_)) (gain_apply m c k)
  match a with
  | ⟨0, _⟩ => exact win0_1.rect_emb_val_of_index_zero t 0 e.1 (ix2 0 k)
  | ⟨1, _⟩ => exact win0_1.rect_emb_val_of_index_zero t 1 e.2 (ix2 0 k)

theorem blk2_apply (c : Dev nD) (t : Fin cfg0.N) (k : Fin 1024) (q : Fin 2304) (hq : q.val < 192 ∨ 256 ≤ q.val) : iblk m c 2 t (ix2 k q) = colAt (wIn m c) k (mainCol q.val) := by
  have e := idx2 t
  show V m c main_v12 ((win0_2.rect t).emb (ix2 k q)) = _
  refine Eq.trans (congrArg (V m c main_v12) (funext fun a => Fin.ext ?_)) (wMain_apply m c k q hq)
  match a with
  | ⟨0, _⟩ => exact win0_2.rect_emb_val_of_index_zero t 0 e.1 (ix2 k q)
  | ⟨1, _⟩ => exact win0_2.rect_emb_val_of_index_zero t 1 e.2 (ix2 k q)

theorem blk3_apply (c : Dev nD) (t : Fin cfg0.N) (k : Fin 1024) (q : Fin 1280) : iblk m c 3 t (ix2 k q) = colAt (wIn m c) k (qryCol q.val) := by
  have e := idx3 t
  show V m c main_v19 ((win0_3.rect t).emb (ix2 k q)) = _
  refine Eq.trans (congrArg (V m c main_v19) (funext fun a => Fin.ext ?_)) (wQry_apply m c k q)
  match a with
  | ⟨0, _⟩ => exact win0_3.rect_emb_val_of_index_zero t 0 e.1 (ix2 k q)
  | ⟨1, _⟩ => exact win0_3.rect_emb_val_of_index_zero t 1 e.2 (ix2 k q)

theorem blk4_apply (c : Dev nD) (t : Fin cfg0.N) (j : Fin 128) : iblk m c 4 t (ix2 0 j) = gk m c ⟨j.val % 64, Nat.mod_lt _ (by decide)⟩ := by
  have e := idx4 t
  show V m c main_v23 ((win0_4.rect t).emb (ix2 0 j)) = _
  refine Eq.trans (congrArg (V m c main_v23) (funext fun a => Fin.ext ?_)) (gkRow_apply m c j)
  match a with
  | ⟨0, _⟩ => exact win0_4.rect_emb_val_of_index_zero t 0 e.1 (ix2 0 j)
  | ⟨1, _⟩ => exact win0_4.rect_emb_val_of_index_zero t 1 e.2 (ix2 0 j)

theorem blk5_apply (c : Dev nD) (t : Fin cfg0.N) (j : Fin 64) : iblk m c 5 t (ix2 0 j) = gi m c j := by
  have e := idx5 t
  show V m c main_v25 ((win0_5.rect t).emb (ix2 0 j)) = _
  refine Eq.trans (congrArg (V m c main_v25) (funext fun a => Fin.ext ?_)) (giRow_apply m c j)
  match a with
  | ⟨0, _⟩ => exact win0_5.rect_emb_val_of_index_zero t 0 e.1 (ix2 0 j)
  | ⟨1, _⟩ => exact win0_5.rect_emb_val_of_index_zero t 1 e.2 (ix2 0 j)

/-- The projection of the block's rows is that of the array's. -/
theorem yBlk_eq (c : Dev nD) (t : Fin cfg0.N) (r : Fin 32) : yBlk (iblk m c 0 t) (iblk m c 1 t) (wIn m c) r = yRow m c r := by
  unfold yBlk yRow
  rw [show (fun k => iblk m c 0 t (ix2 r k)) = xRow m c r from funext fun k => blk0_apply m c t r k,
    show (fun k => iblk m c 1 t (ix2 0 k)) = gain m c from funext fun k => blk1_apply m c t k]

/-! ## The results -/

theorem flushed6_eq (c : Dev nD) (t : Fin cfg0.N) :
    (dats m 0 c).flushed 6 t = (win0_6.blk t).view.read (Elt Ideal) (sAk (yRow m c) (gk m c)) := by
  refine (flushed6 m c t).trans (funext fun i => ?_)
  have e := idx6 t
  obtain ⟨r, j, rfl⟩ : ∃ (r : Fin 32) (j : Fin 128), i = (ix2 r j : S32x128.Idx) := ⟨i 0, i 1, eq_ix2 i⟩
  have hi : ((win0_6.rect t).emb (ix2 r j : S32x128.Idx) : S32x128.Idx) = ix2 r j := by
    funext a; apply Fin.ext
    match a with
    | ⟨0, _⟩ => exact win0_6.rect_emb_val_of_index_zero t 0 e.1 (ix2 r j)
    | ⟨1, _⟩ => exact win0_6.rect_emb_val_of_index_zero t 1 e.2 (ix2 r j)
  show out0_6 (F := Ideal) (iblk m c 0 t) (iblk m c 1 t) (iblk m c 2 t) (iblk m c 3 t) (iblk m c 4 t) (iblk m c 5 t) (ix2 r j)
    = (sAk (yRow m c) (gk m c)) ((win0_6.rect t).emb (ix2 r j : S32x128.Idx))
  rw [hi]
  refine (out6_apply (iblk m c 0 t) (iblk m c 1 t) (iblk m c 2 t) (iblk m c 3 t) (iblk m c 4 t) (iblk m c 5 t) (wIn m c) (fun k q hq => blk2_apply m c t k q hq) (gk m c) (fun j => blk4_apply m c t j) r j).trans ?_
  exact congrArg (fun y : ℕ → EReal => headsAt y 512 (gk m c) j.val) (yBlk_eq m c t r)

theorem cover6 (i : S32x128.Idx) : ∃ t : Fin cfg0.N, (cfg0.win 6).flush t = true ∧ i ∈ ((cfg0.win 6).blk t).view.set := by
  have h0 : (i 0 : Nat) < 32 := (i 0).isLt
  have h1 : (i 1 : Nat) < 128 := (i 1).isLt
  have hN : cfg0.N = 1 := N_0
  have hlt : 0 < cfg0.N := by omega
  refine ⟨⟨0, hlt⟩, flush0_6 _, ?_⟩
  have e := idx6 ⟨0, hlt⟩
  show i ∈ ((View.whole main_v26_0).slice (win0_6.rect ⟨0, hlt⟩)).set
  rw [View.set_slice_whole, Rect.mem_set_unit]
  exact fun a => by
    match a with
    | ⟨0, _⟩ =>
      show win0_6.index ⟨0, hlt⟩ 0 * 32 ≤ (i 0 : Nat) ∧ (i 0 : Nat) < win0_6.index ⟨0, hlt⟩ 0 * 32 + 32
      rw [e.1]; omega
    | ⟨1, _⟩ =>
      show win0_6.index ⟨0, hlt⟩ 1 * 128 ≤ (i 1 : Nat) ∧ (i 1 : Nat) < win0_6.index ⟨0, hlt⟩ 1 * 128 + 128
      rw [e.2]; omega

theorem final6 (c : Dev nD) : (dats m 0 c).arrAt 6 cfg0.N = sAk (yRow m c) (gk m c) :=
  (dats m 0 c).arrAt_eq_of_cover 6 (sAk (yRow m c) (gk m c)) (fun t _ => flushed6_eq m c t) cover6

theorem flushed7_eq (c : Dev nD) (t : Fin cfg0.N) :
    (dats m 0 c).flushed 7 t = (win0_7.blk t).view.read (Elt Ideal) (sAv (yRow m c)) := by
  refine (flushed7 m c t).trans (funext fun i => ?_)
  have e := idx7 t
  obtain ⟨r, j, rfl⟩ : ∃ (r : Fin 32) (j : Fin 128), i = (ix2 r j : S32x128.Idx) := ⟨i 0, i 1, eq_ix2 i⟩
  have hi : ((win0_7.rect t).emb (ix2 r j : S32x128.Idx) : S32x128.Idx) = ix2 r j := by
    funext a; apply Fin.ext
    match a with
    | ⟨0, _⟩ => exact win0_7.rect_emb_val_of_index_zero t 0 e.1 (ix2 r j)
    | ⟨1, _⟩ => exact win0_7.rect_emb_val_of_index_zero t 1 e.2 (ix2 r j)
  show out0_7 (F := Ideal) (iblk m c 0 t) (iblk m c 1 t) (iblk m c 2 t) (iblk m c 3 t) (iblk m c 4 t) (iblk m c 5 t) (ix2 r j)
    = (sAv (yRow m c)) ((win0_7.rect t).emb (ix2 r j : S32x128.Idx))
  rw [hi]
  refine (out7_apply (iblk m c 0 t) (iblk m c 1 t) (iblk m c 2 t) (iblk m c 3 t) (iblk m c 4 t) (iblk m c 5 t) (wIn m c) (fun k q => blk3_apply m c t k q) r j).trans ?_
  exact congrArg (fun y : ℕ → EReal => y (640 + j.val)) (yBlk_eq m c t r)

theorem cover7 (i : S32x128.Idx) : ∃ t : Fin cfg0.N, (cfg0.win 7).flush t = true ∧ i ∈ ((cfg0.win 7).blk t).view.set := by
  have h0 : (i 0 : Nat) < 32 := (i 0).isLt
  have h1 : (i 1 : Nat) < 128 := (i 1).isLt
  have hN : cfg0.N = 1 := N_0
  have hlt : 0 < cfg0.N := by omega
  refine ⟨⟨0, hlt⟩, flush0_7 _, ?_⟩
  have e := idx7 ⟨0, hlt⟩
  show i ∈ ((View.whole main_v26_1).slice (win0_7.rect ⟨0, hlt⟩)).set
  rw [View.set_slice_whole, Rect.mem_set_unit]
  exact fun a => by
    match a with
    | ⟨0, _⟩ =>
      show win0_7.index ⟨0, hlt⟩ 0 * 32 ≤ (i 0 : Nat) ∧ (i 0 : Nat) < win0_7.index ⟨0, hlt⟩ 0 * 32 + 32
      rw [e.1]; omega
    | ⟨1, _⟩ =>
      show win0_7.index ⟨0, hlt⟩ 1 * 128 ≤ (i 1 : Nat) ∧ (i 1 : Nat) < win0_7.index ⟨0, hlt⟩ 1 * 128 + 128
      rw [e.2]; omega

theorem final7 (c : Dev nD) : (dats m 0 c).arrAt 7 cfg0.N = sAv (yRow m c) :=
  (dats m 0 c).arrAt_eq_of_cover 7 (sAv (yRow m c)) (fun t _ => flushed7_eq m c t) cover7

theorem flushed8_eq (c : Dev nD) (t : Fin cfg0.N) :
    (dats m 0 c).flushed 8 t = (win0_8.blk t).view.read (Elt Ideal) (sIk (yRow m c) (gi m c)) := by
  refine (flushed8 m c t).trans (funext fun i => ?_)
  have e := idx8 t
  obtain ⟨r, j, rfl⟩ : ∃ (r : Fin 32) (j : Fin 64), i = (ix2 r j : S32x64.Idx) := ⟨i 0, i 1, eq_ix2 i⟩
  have hi : ((win0_8.rect t).emb (ix2 r j : S32x64.Idx) : S32x64.Idx) = ix2 r j := by
    funext a; apply Fin.ext
    match a with
    | ⟨0, _⟩ => exact win0_8.rect_emb_val_of_index_zero t 0 e.1 (ix2 r j)
    | ⟨1, _⟩ => exact win0_8.rect_emb_val_of_index_zero t 1 e.2 (ix2 r j)
  show out0_8 (F := Ideal) (iblk m c 0 t) (iblk m c 1 t) (iblk m c 2 t) (iblk m c 3 t) (iblk m c 4 t) (iblk m c 5 t) (ix2 r j)
    = (sIk (yRow m c) (gi m c)) ((win0_8.rect t).emb (ix2 r j : S32x64.Idx))
  rw [hi]
  refine (out8_apply (iblk m c 0 t) (iblk m c 1 t) (iblk m c 2 t) (iblk m c 3 t) (iblk m c 4 t) (iblk m c 5 t) (wIn m c) (fun k q hq => blk2_apply m c t k q hq) (gi m c) (fun j => blk5_apply m c t j) r j).trans ?_
  exact congrArg (fun y : ℕ → EReal => headsAt y 1280 (gi m c) j.val) (yBlk_eq m c t r)

theorem cover8 (i : S32x64.Idx) : ∃ t : Fin cfg0.N, (cfg0.win 8).flush t = true ∧ i ∈ ((cfg0.win 8).blk t).view.set := by
  have h0 : (i 0 : Nat) < 32 := (i 0).isLt
  have h1 : (i 1 : Nat) < 64 := (i 1).isLt
  have hN : cfg0.N = 1 := N_0
  have hlt : 0 < cfg0.N := by omega
  refine ⟨⟨0, hlt⟩, flush0_8 _, ?_⟩
  have e := idx8 ⟨0, hlt⟩
  show i ∈ ((View.whole main_v26_2).slice (win0_8.rect ⟨0, hlt⟩)).set
  rw [View.set_slice_whole, Rect.mem_set_unit]
  exact fun a => by
    match a with
    | ⟨0, _⟩ =>
      show win0_8.index ⟨0, hlt⟩ 0 * 32 ≤ (i 0 : Nat) ∧ (i 0 : Nat) < win0_8.index ⟨0, hlt⟩ 0 * 32 + 32
      rw [e.1]; omega
    | ⟨1, _⟩ =>
      show win0_8.index ⟨0, hlt⟩ 1 * 64 ≤ (i 1 : Nat) ∧ (i 1 : Nat) < win0_8.index ⟨0, hlt⟩ 1 * 64 + 64
      rw [e.2]; omega

theorem final8 (c : Dev nD) : (dats m 0 c).arrAt 8 cfg0.N = sIk (yRow m c) (gi m c) :=
  (dats m 0 c).arrAt_eq_of_cover 8 (sIk (yRow m c) (gi m c)) (fun t _ => flushed8_eq m c t) cover8

theorem flushed9_eq (c : Dev nD) (t : Fin cfg0.N) :
    (dats m 0 c).flushed 9 t = (win0_9.blk t).view.read (Elt Ideal) (sRec (yRow m c)) := by
  refine (flushed9 m c t).trans (funext fun i => ?_)
  have e := idx9 t
  obtain ⟨r, j, rfl⟩ : ∃ (r : Fin 32) (j : Fin 2048), i = (ix2 r j : S32x2048.Idx) := ⟨i 0, i 1, eq_ix2 i⟩
  have hi : ((win0_9.rect t).emb (ix2 r j : S32x2048.Idx) : S32x2048.Idx) = ix2 r j := by
    funext a; apply Fin.ext
    match a with
    | ⟨0, _⟩ => exact win0_9.rect_emb_val_of_index_zero t 0 e.1 (ix2 r j)
    | ⟨1, _⟩ => exact win0_9.rect_emb_val_of_index_zero t 1 e.2 (ix2 r j)
  show out0_9 (F := Ideal) (iblk m c 0 t) (iblk m c 1 t) (iblk m c 2 t) (iblk m c 3 t) (iblk m c 4 t) (iblk m c 5 t) (ix2 r j)
    = (sRec (yRow m c)) ((win0_9.rect t).emb (ix2 r j : S32x2048.Idx))
  rw [hi]
  refine (out9_apply (iblk m c 0 t) (iblk m c 1 t) (iblk m c 2 t) (iblk m c 3 t) (iblk m c 4 t) (iblk m c 5 t) (wIn m c) (fun k q hq => blk2_apply m c t k q hq) r j).trans ?_
  exact congrArg (fun y : ℕ → EReal => y (1352 + j.val)) (yBlk_eq m c t r)

theorem cover9 (i : S32x2048.Idx) : ∃ t : Fin cfg0.N, (cfg0.win 9).flush t = true ∧ i ∈ ((cfg0.win 9).blk t).view.set := by
  have h0 : (i 0 : Nat) < 32 := (i 0).isLt
  have h1 : (i 1 : Nat) < 2048 := (i 1).isLt
  have hN : cfg0.N = 1 := N_0
  have hlt : 0 < cfg0.N := by omega
  refine ⟨⟨0, hlt⟩, flush0_9 _, ?_⟩
  have e := idx9 ⟨0, hlt⟩
  show i ∈ ((View.whole main_v26_3).slice (win0_9.rect ⟨0, hlt⟩)).set
  rw [View.set_slice_whole, Rect.mem_set_unit]
  exact fun a => by
    match a with
    | ⟨0, _⟩ =>
      show win0_9.index ⟨0, hlt⟩ 0 * 32 ≤ (i 0 : Nat) ∧ (i 0 : Nat) < win0_9.index ⟨0, hlt⟩ 0 * 32 + 32
      rw [e.1]; omega
    | ⟨1, _⟩ =>
      show win0_9.index ⟨0, hlt⟩ 1 * 2048 ≤ (i 1 : Nat) ∧ (i 1 : Nat) < win0_9.index ⟨0, hlt⟩ 1 * 2048 + 2048
      rw [e.2]; omega

theorem final9 (c : Dev nD) : (dats m 0 c).arrAt 9 cfg0.N = sRec (yRow m c) :=
  (dats m 0 c).arrAt_eq_of_cover 9 (sRec (yRow m c)) (fun t _ => flushed9_eq m c t) cover9

theorem flushed10_eq (c : Dev nD) (t : Fin cfg0.N) :
    (dats m 0 c).flushed 10 t = (win0_10.blk t).view.read (Elt Ideal) (sAq (yRow m c)) := by
  refine (flushed10 m c t).trans (funext fun i => ?_)
  have e := idx10 t
  obtain ⟨r, j, rfl⟩ : ∃ (r : Fin 32) (j : Fin 512), i = (ix2 r j : S32x512.Idx) := ⟨i 0, i 1, eq_ix2 i⟩
  have hi : ((win0_10.rect t).emb (ix2 r j : S32x512.Idx) : S32x512.Idx) = ix2 r j := by
    funext a; apply Fin.ext
    match a with
    | ⟨0, _⟩ => exact win0_10.rect_emb_val_of_index_zero t 0 e.1 (ix2 r j)
    | ⟨1, _⟩ => exact win0_10.rect_emb_val_of_index_zero t 1 e.2 (ix2 r j)
  show out0_10 (F := Ideal) (iblk m c 0 t) (iblk m c 1 t) (iblk m c 2 t) (iblk m c 3 t) (iblk m c 4 t) (iblk m c 5 t) (ix2 r j)
    = (sAq (yRow m c)) ((win0_10.rect t).emb (ix2 r j : S32x512.Idx))
  rw [hi]
  refine (out10_apply (iblk m c 0 t) (iblk m c 1 t) (iblk m c 2 t) (iblk m c 3 t) (iblk m c 4 t) (iblk m c 5 t) (wIn m c) (fun k q => blk3_apply m c t k q) r j).trans ?_
  exact congrArg (fun y : ℕ → EReal => y j.val) (yBlk_eq m c t r)

theorem cover10 (i : S32x512.Idx) : ∃ t : Fin cfg0.N, (cfg0.win 10).flush t = true ∧ i ∈ ((cfg0.win 10).blk t).view.set := by
  have h0 : (i 0 : Nat) < 32 := (i 0).isLt
  have h1 : (i 1 : Nat) < 512 := (i 1).isLt
  have hN : cfg0.N = 1 := N_0
  have hlt : 0 < cfg0.N := by omega
  refine ⟨⟨0, hlt⟩, flush0_10 _, ?_⟩
  have e := idx10 ⟨0, hlt⟩
  show i ∈ ((View.whole main_v26_4).slice (win0_10.rect ⟨0, hlt⟩)).set
  rw [View.set_slice_whole, Rect.mem_set_unit]
  exact fun a => by
    match a with
    | ⟨0, _⟩ =>
      show win0_10.index ⟨0, hlt⟩ 0 * 32 ≤ (i 0 : Nat) ∧ (i 0 : Nat) < win0_10.index ⟨0, hlt⟩ 0 * 32 + 32
      rw [e.1]; omega
    | ⟨1, _⟩ =>
      show win0_10.index ⟨0, hlt⟩ 1 * 512 ≤ (i 1 : Nat) ∧ (i 1 : Nat) < win0_10.index ⟨0, hlt⟩ 1 * 512 + 512
      rw [e.2]; omega

theorem final10 (c : Dev nD) : (dats m 0 c).arrAt 10 cfg0.N = sAq (yRow m c) :=
  (dats m 0 c).arrAt_eq_of_cover 10 (sAq (yRow m c)) (fun t _ => flushed10_eq m c t) cover10

theorem flushed11_eq (c : Dev nD) (t : Fin cfg0.N) :
    (dats m 0 c).flushed 11 t = (win0_11.blk t).view.read (Elt Ideal) (sIq (yRow m c)) := by
  refine (flushed11 m c t).trans (funext fun i => ?_)
  have e := idx11 t
  obtain ⟨r, j, rfl⟩ : ∃ (r : Fin 32) (j : Fin 512), i = (ix2 r j : S32x512.Idx) := ⟨i 0, i 1, eq_ix2 i⟩
  have hi : ((win0_11.rect t).emb (ix2 r j : S32x512.Idx) : S32x512.Idx) = ix2 r j := by
    funext a; apply Fin.ext
    match a with
    | ⟨0, _⟩ => exact win0_11.rect_emb_val_of_index_zero t 0 e.1 (ix2 r j)
    | ⟨1, _⟩ => exact win0_11.rect_emb_val_of_index_zero t 1 e.2 (ix2 r j)
  show out0_11 (F := Ideal) (iblk m c 0 t) (iblk m c 1 t) (iblk m c 2 t) (iblk m c 3 t) (iblk m c 4 t) (iblk m c 5 t) (ix2 r j)
    = (sIq (yRow m c)) ((win0_11.rect t).emb (ix2 r j : S32x512.Idx))
  rw [hi]
  refine (out11_apply (iblk m c 0 t) (iblk m c 1 t) (iblk m c 2 t) (iblk m c 3 t) (iblk m c 4 t) (iblk m c 5 t) (wIn m c) (fun k q => blk3_apply m c t k q) r j).trans ?_
  exact congrArg (fun y : ℕ → EReal => y (768 + j.val)) (yBlk_eq m c t r)

theorem cover11 (i : S32x512.Idx) : ∃ t : Fin cfg0.N, (cfg0.win 11).flush t = true ∧ i ∈ ((cfg0.win 11).blk t).view.set := by
  have h0 : (i 0 : Nat) < 32 := (i 0).isLt
  have h1 : (i 1 : Nat) < 512 := (i 1).isLt
  have hN : cfg0.N = 1 := N_0
  have hlt : 0 < cfg0.N := by omega
  refine ⟨⟨0, hlt⟩, flush0_11 _, ?_⟩
  have e := idx11 ⟨0, hlt⟩
  show i ∈ ((View.whole main_v26_5).slice (win0_11.rect ⟨0, hlt⟩)).set
  rw [View.set_slice_whole, Rect.mem_set_unit]
  exact fun a => by
    match a with
    | ⟨0, _⟩ =>
      show win0_11.index ⟨0, hlt⟩ 0 * 32 ≤ (i 0 : Nat) ∧ (i 0 : Nat) < win0_11.index ⟨0, hlt⟩ 0 * 32 + 32
      rw [e.1]; omega
    | ⟨1, _⟩ =>
      show win0_11.index ⟨0, hlt⟩ 1 * 512 ≤ (i 1 : Nat) ∧ (i 1 : Nat) < win0_11.index ⟨0, hlt⟩ 1 * 512 + 512
      rw [e.2]; omega

theorem final11 (c : Dev nD) : (dats m 0 c).arrAt 11 cfg0.N = sIq (yRow m c) :=
  (dats m 0 c).arrAt_eq_of_cover 11 (sIq (yRow m c)) (fun t _ => flushed11_eq m c t) cover11

theorem flushed12_eq (c : Dev nD) (t : Fin cfg0.N) :
    (dats m 0 c).flushed 12 t = (win0_12.blk t).view.read (Elt Ideal) (sIw (yRow m c)) := by
  refine (flushed12 m c t).trans (funext fun i => ?_)
  have e := idx12 t
  obtain ⟨r, j, rfl⟩ : ∃ (r : Fin 32) (j : Fin 128), i = (ix2 r j : S32x128.Idx) := ⟨i 0, i 1, eq_ix2 i⟩
  have hi : ((win0_12.rect t).emb (ix2 r j : S32x128.Idx) : S32x128.Idx) = ix2 r j := by
    funext a; apply Fin.ext
    match a with
    | ⟨0, _⟩ => exact win0_12.rect_emb_val_of_index_zero t 0 e.1 (ix2 r j)
    | ⟨1, _⟩ => exact win0_12.rect_emb_val_of_index_zero t 1 e.2 (ix2 r j)
  show out0_12 (F := Ideal) (iblk m c 0 t) (iblk m c 1 t) (iblk m c 2 t) (iblk m c 3 t) (iblk m c 4 t) (iblk m c 5 t) (ix2 r j)
    = (sIw (yRow m c)) ((win0_12.rect t).emb (ix2 r j : S32x128.Idx))
  rw [hi]
  refine (out12_apply (iblk m c 0 t) (iblk m c 1 t) (iblk m c 2 t) (iblk m c 3 t) (iblk m c 4 t) (iblk m c 5 t) (wIn m c) (fun k q => blk3_apply m c t k q) r j).trans ?_
  exact congrArg (fun y : ℕ → EReal => y (if j.val < 8 then 1344 + j.val else 3400) * Ideal.ofBits .f32 0x3D3504F3#32) (yBlk_eq m c t r)

theorem cover12 (i : S32x128.Idx) : ∃ t : Fin cfg0.N, (cfg0.win 12).flush t = true ∧ i ∈ ((cfg0.win 12).blk t).view.set := by
  have h0 : (i 0 : Nat) < 32 := (i 0).isLt
  have h1 : (i 1 : Nat) < 128 := (i 1).isLt
  have hN : cfg0.N = 1 := N_0
  have hlt : 0 < cfg0.N := by omega
  refine ⟨⟨0, hlt⟩, flush0_12 _, ?_⟩
  have e := idx12 ⟨0, hlt⟩
  show i ∈ ((View.whole main_v26_6).slice (win0_12.rect ⟨0, hlt⟩)).set
  rw [View.set_slice_whole, Rect.mem_set_unit]
  exact fun a => by
    match a with
    | ⟨0, _⟩ =>
      show win0_12.index ⟨0, hlt⟩ 0 * 32 ≤ (i 0 : Nat) ∧ (i 0 : Nat) < win0_12.index ⟨0, hlt⟩ 0 * 32 + 32
      rw [e.1]; omega
    | ⟨1, _⟩ =>
      show win0_12.index ⟨0, hlt⟩ 1 * 128 ≤ (i 1 : Nat) ∧ (i 1 : Nat) < win0_12.index ⟨0, hlt⟩ 1 * 128 + 128
      rw [e.2]; omega

theorem final12 (c : Dev nD) : (dats m 0 c).arrAt 12 cfg0.N = sIw (yRow m c) :=
  (dats m 0 c).arrAt_eq_of_cover 12 (sIw (yRow m c)) (fun t _ => flushed12_eq m c t) cover12

end Cert.SinIdeal.Hand

namespace Cert.Hand

open Idealize Idealize.ShloMosaic Idealize.ShloMosaic.ValueIdx Idealize.ShloMosaic.TcCoe Idealize.SL.Sem
open Cert.Rows

/-- The two programs leave the same seven results from the same arguments. -/
theorem algebraic_sin : Cert.algebraic_SinIdeal_SinReferenceIdeal (hSinIdeal := Cert.SinIdeal.Gen.facts) (hSinReferenceIdeal := Cert.SinReferenceIdeal.Gen.facts) := by
  intro m g m' g' _ hargs
  refine ⟨fun c => sAk (Cert.SinIdeal.Hand.yRow m c) (Cert.SinIdeal.Hand.gk m c), fun c => sAv (Cert.SinIdeal.Hand.yRow m c), fun c => sIk (Cert.SinIdeal.Hand.yRow m c) (Cert.SinIdeal.Hand.gi m c), fun c => sRec (Cert.SinIdeal.Hand.yRow m c), fun c => sAq (Cert.SinIdeal.Hand.yRow m c), fun c => sIq (Cert.SinIdeal.Hand.yRow m c), fun c => sIw (Cert.SinIdeal.Hand.yRow m c), ?_, ?_⟩
  · refine (θ_run _ _ _).mono (fun r h c => ?_) (Cert.SinIdeal.Value.run_blocks (F := Ideal) m g)
    obtain ⟨h0, h1, h2, h3, h4, h5, h6, ha⟩ := h c
    exact ⟨h0.trans (Cert.SinIdeal.Hand.final6 m c), h1.trans (Cert.SinIdeal.Hand.final7 m c), h2.trans (Cert.SinIdeal.Hand.final8 m c), h3.trans (Cert.SinIdeal.Hand.final9 m c), h4.trans (Cert.SinIdeal.Hand.final10 m c), h5.trans (Cert.SinIdeal.Hand.final11 m c), h6.trans (Cert.SinIdeal.Hand.final12 m c), ha⟩
  · refine (θ_run _ _ _).mono (fun r h c => ?_) (Cert.SinReferenceIdeal.Hand.run_rows m' g')
    obtain ⟨a0, a1, a2, a3, a4⟩ := hargs c
    have hk : Cert.SinReferenceIdeal.Hand.gk m' c = Cert.SinIdeal.Hand.gk m c := funext fun k => congrFun a3 (ix1 k)
    have hi : Cert.SinReferenceIdeal.Hand.gi m' c = Cert.SinIdeal.Hand.gi m c := funext fun k => congrFun a4 (ix1 k)
    have hy : Cert.SinReferenceIdeal.Hand.yRow m' c = Cert.SinIdeal.Hand.yRow m c := by
      funext r
      unfold Cert.SinReferenceIdeal.Hand.yRow Cert.SinReferenceIdeal.Hand.xRow Cert.SinReferenceIdeal.Hand.gain Cert.SinReferenceIdeal.Hand.wIn
      rw [a0, a1, a2]
    have hr := h c
    rw [hk, hi, hy] at hr
    exact hr

end Cert.Hand

end
-- ==== Proof.lean ====
/-
  Hand-written, untrusted. The proof of the claims, each from its module.
-/
module

public import proofs.«01_k».proof.Defs
public import proofs.«01_k».proof.Proof.Gen.Kernel
public import proofs.«01_k».proof.Proof.Gen.Kernel.Frame
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpReferenceIdeal
public import Idealize.ShloMosaic.Lib.Quiescent
public import proofs.«01_k».proof.Proof.Gen.MlpReferenceIdeal.Run
public import proofs.«01_k».proof.Proof.Gen.Inproj.Frame
public import proofs.«01_k».proof.Proof.Gen.InprojIdeal.Frame
public import proofs.«01_k».proof.Proof.Gen.InprojIdeal.Value
public import proofs.«01_k».proof.Proof.Gen.InprojReferenceIdeal.Run
public import proofs.«01_k».proof.Proof.Gen.Smlp.Frame
public import proofs.«01_k».proof.Proof.Gen.SmlpIdeal.Frame
public import proofs.«01_k».proof.Proof.Gen.SmlpIdeal.Value
public import proofs.«01_k».proof.Proof.Gen.SmlpReferenceIdeal.Run
public import proofs.«01_k».proof.Proof.Gen.Sin.Frame
public import proofs.«01_k».proof.Proof.Gen.SinIdeal.Frame
public import proofs.«01_k».proof.Proof.Gen.SinIdeal.Value
public import proofs.«01_k».proof.Proof.Gen.SinReferenceIdeal.Run
public import proofs.«01_k».proof.Proof.Body
public import proofs.«01_k».proof.Proof.MlpValue
public import proofs.«01_k».proof.Proof.InValue
public import proofs.«01_k».proof.Proof.SmlpValue
public import proofs.«01_k».proof.Proof.SinValue
public import Idealize.ShloMosaic.Adequacy
public import Idealize.ShloMosaic.Init

@[expose] public section

noncomputable section

namespace Cert.Proof

open Idealize.ShloMosaic Idealize.SL.Sem

/-- The reference of the projection and MLP ends with its arguments unchanged; it has no semaphore. -/
theorem quiescent_MlpReferenceIdeal : Cert.quiescent_MlpReferenceIdeal := fun m ρ _ =>
  (θ_run Cert.MlpReferenceIdeal.defs _ _).mono (fun r h => ⟨fun c => (h c).2, sem_eq_zero_of_no_sems rfl r.2⟩)
    (Cert.MlpReferenceIdeal.Value.run (F := Ideal) m ρ)

/-- The reference of the in-projection ends with its arguments unchanged; it has no semaphore. -/
theorem quiescent_InprojReferenceIdeal : Cert.quiescent_InprojReferenceIdeal := fun m ρ _ =>
  (θ_run Cert.InprojReferenceIdeal.defs _ _).mono (fun r h => ⟨fun c => (h c).2.2.2.2.2.2.2.2.2.2, sem_eq_zero_of_no_sems rfl r.2⟩)
    (Cert.InprojReferenceIdeal.Value.run (F := Ideal) m ρ)

/-- The reference of the sample step's projection and MLP ends with its arguments unchanged; it has no semaphore. -/
theorem quiescent_SmlpReferenceIdeal : Cert.quiescent_SmlpReferenceIdeal := fun m ρ _ =>
  (θ_run Cert.SmlpReferenceIdeal.defs _ _).mono (fun r h => ⟨fun c => (h c).2, sem_eq_zero_of_no_sems rfl r.2⟩)
    (Cert.SmlpReferenceIdeal.Value.run (F := Ideal) m ρ)

/-- The reference of the sample step's in-projection ends with its arguments unchanged; it has no semaphore. -/
theorem quiescent_SinReferenceIdeal : Cert.quiescent_SinReferenceIdeal := fun m ρ _ =>
  (θ_run Cert.SinReferenceIdeal.defs _ _).mono (fun r h => ⟨fun c => (h c).2.2.2.2.2.2.2, sem_eq_zero_of_no_sems rfl r.2⟩)
    (Cert.SinReferenceIdeal.Value.run (F := Ideal) m ρ)

theorem claim : Cert.Claim :=
  ⟨Cert.Kernel.Gen.facts, Cert.Mlp.Gen.facts, Cert.MlpIdeal.Gen.facts, Cert.MlpReferenceIdeal.Gen.facts,
    Cert.Inproj.Gen.facts, Cert.InprojIdeal.Gen.facts, Cert.InprojReferenceIdeal.Gen.facts,
    Cert.Smlp.Gen.facts, Cert.SmlpIdeal.Gen.facts, Cert.SmlpReferenceIdeal.Gen.facts,
    Cert.Sin.Gen.facts, Cert.SinIdeal.Gen.facts, Cert.SinReferenceIdeal.Gen.facts,
    fun m ρ _ => Cert.Kernel.Hand.frame_main (F := Bits) m ρ,
    fun m ρ _ => Cert.Mlp.Gen.frame m ρ,
    fun m ρ _ => Cert.MlpIdeal.Gen.frame m ρ,
    quiescent_MlpReferenceIdeal,
    fun m ρ _ => Cert.Inproj.Gen.frame m ρ,
    fun m ρ _ => Cert.InprojIdeal.Gen.frame m ρ,
    quiescent_InprojReferenceIdeal,
    fun m ρ _ => Cert.Smlp.Gen.frame m ρ,
    fun m ρ _ => Cert.SmlpIdeal.Gen.frame m ρ,
    quiescent_SmlpReferenceIdeal,
    fun m ρ _ => Cert.Sin.Gen.frame m ρ,
    fun m ρ _ => Cert.SinIdeal.Gen.frame m ρ,
    quiescent_SinReferenceIdeal,
    trivial,
    Cert.Hand.algebraic_mlp,
    trivial,
    Cert.Hand.algebraic_inproj,
    trivial,
    Cert.Hand.algebraic_smlp,
    trivial,
    Cert.Hand.algebraic_sin⟩

end Cert.Proof

end
